-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_operands [hPre_finite_operands : Cert.Pre_finite_operands.Facts] (m : (ℓ : Loc Cert.AttnIdeal.nD Cert.AttnIdeal.τ Cert.AttnIdeal.sig) → Buf (Elt Ideal) ℓ) : Prop :=
  ∀ c : Dev Cert.AttnIdeal.nD,
    (Cert.Pre_finite_operands.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_operands [hPre_finite_operands : Cert.Pre_finite_operands.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_operands.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_V (m : (ℓ : Loc Cert.V.nD Cert.V.τ Cert.V.sig) → Buf (Elt Bits) ℓ) : Prop :=
  True

def Pre_VIdeal (m : (ℓ : Loc Cert.VIdeal.nD Cert.VIdeal.τ Cert.VIdeal.sig) → Buf (Elt Ideal) ℓ) : Prop :=
  True

def Pre_VRefIdeal (m : (ℓ : Loc Cert.VRefIdeal.nD Cert.VRefIdeal.τ Cert.VRefIdeal.sig) → Buf (Elt Ideal) ℓ) : Prop :=
  True

def Pre_Lruin (m : (ℓ : Loc Cert.Lruin.nD Cert.Lruin.τ Cert.Lruin.sig) → Buf (Elt Bits) ℓ) : Prop :=
  True

def Pre_LruinIdeal (m : (ℓ : Loc Cert.LruinIdeal.nD Cert.LruinIdeal.τ Cert.LruinIdeal.sig) → Buf (Elt Ideal) ℓ) : Prop :=
  True

def Pre_LruinRefIdeal (m : (ℓ : Loc Cert.LruinRefIdeal.nD Cert.LruinRefIdeal.τ Cert.LruinRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_operands [hAttnIdeal : Cert.AttnIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_operands m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_operands [hAttnRefIdeal : Cert.AttnRefIdeal.Facts] [hPre_finite_operands : Cert.Pre_finite_operands.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_operands m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2))
      ∧ r.2.sem = fun _ => 0)

def quiescent_V [hV : Cert.V.Facts] : Prop :=
  ∀ (m : (ℓ : Loc Cert.V.nD Cert.V.τ Cert.V.sig) → Buf (Elt Bits) ℓ) (g : Dev Cert.V.nD → PrngReg), Pre_V m →
    θ_run (Cert.V.defs (F := Bits)) (onTc (τ := Cert.V.τ) (Cert.V.main (F := Bits))) ⟨m, fun _ => 0, g⟩ (fun r => (∀ c : Dev Cert.V.nD,
      r.2.mem ((c.tc : Thread Cert.V.nD Cert.V.τ).loc Cert.V.main_arg0) = m ((c.tc : Thread Cert.V.nD Cert.V.τ).loc Cert.V.main_arg0)
      ∧ r.2.mem ((c.tc : Thread Cert.V.nD Cert.V.τ).loc Cert.V.main_arg1) = m ((c.tc : Thread Cert.V.nD Cert.V.τ).loc Cert.V.main_arg1)
      ∧ r.2.mem ((c.tc : Thread Cert.V.nD Cert.V.τ).loc Cert.V.main_arg2) = m ((c.tc : Thread Cert.V.nD Cert.V.τ).loc Cert.V.main_arg2))
      ∧ r.2.sem = fun _ => 0)

def quiescent_VIdeal [hVIdeal : Cert.VIdeal.Facts] : Prop :=
  ∀ (m : (ℓ : Loc Cert.VIdeal.nD Cert.VIdeal.τ Cert.VIdeal.sig) → Buf (Elt Ideal) ℓ) (g : Dev Cert.VIdeal.nD → PrngReg), Pre_VIdeal m →
    θ_run (Cert.VIdeal.defs (F := Ideal)) (onTc (τ := Cert.VIdeal.τ) (Cert.VIdeal.main (F := Ideal))) ⟨m, fun _ => 0, g⟩ (fun r => (∀ c : Dev Cert.VIdeal.nD,
      r.2.mem ((c.tc : Thread Cert.VIdeal.nD Cert.VIdeal.τ).loc Cert.VIdeal.main_arg0) = m ((c.tc : Thread Cert.VIdeal.nD Cert.VIdeal.τ).loc Cert.VIdeal.main_arg0)
      ∧ r.2.mem ((c.tc : Thread Cert.VIdeal.nD Cert.VIdeal.τ).loc Cert.VIdeal.main_arg1) = m ((c.tc : Thread Cert.VIdeal.nD Cert.VIdeal.τ).loc Cert.VIdeal.main_arg1)
      ∧ r.2.mem ((c.tc : Thread Cert.VIdeal.nD Cert.VIdeal.τ).loc Cert.VIdeal.main_arg2) = m ((c.tc : Thread Cert.VIdeal.nD Cert.VIdeal.τ).loc Cert.VIdeal.main_arg2))
      ∧ r.2.sem = fun _ => 0)

def quiescent_VRefIdeal [hVRefIdeal : Cert.VRefIdeal.Facts] : Prop :=
  ∀ (m : (ℓ : Loc Cert.VRefIdeal.nD Cert.VRefIdeal.τ Cert.VRefIdeal.sig) → Buf (Elt Ideal) ℓ) (g : Dev Cert.VRefIdeal.nD → PrngReg), Pre_VRefIdeal m →
    θ_run (Cert.VRefIdeal.defs (F := Ideal)) (onTc (τ := Cert.VRefIdeal.τ) (Cert.VRefIdeal.main (F := Ideal))) ⟨m, fun _ => 0, g⟩ (fun r => (∀ c : Dev Cert.VRefIdeal.nD,
      r.2.mem ((c.tc : Thread Cert.VRefIdeal.nD Cert.VRefIdeal.τ).loc Cert.VRefIdeal.main_arg0) = m ((c.tc : Thread Cert.VRefIdeal.nD Cert.VRefIdeal.τ).loc Cert.VRefIdeal.main_arg0)
      ∧ r.2.mem ((c.tc : Thread Cert.VRefIdeal.nD Cert.VRefIdeal.τ).loc Cert.VRefIdeal.main_arg1) = m ((c.tc : Thread Cert.VRefIdeal.nD Cert.VRefIdeal.τ).loc Cert.VRefIdeal.main_arg1)
      ∧ r.2.mem ((c.tc : Thread Cert.VRefIdeal.nD Cert.VRefIdeal.τ).loc Cert.VRefIdeal.main_arg2) = m ((c.tc : Thread Cert.VRefIdeal.nD Cert.VRefIdeal.τ).loc Cert.VRefIdeal.main_arg2))
      ∧ r.2.sem = fun _ => 0)

def quiescent_Lruin [hLruin : Cert.Lruin.Facts] : Prop :=
  ∀ (m : (ℓ : Loc Cert.Lruin.nD Cert.Lruin.τ Cert.Lruin.sig) → Buf (Elt Bits) ℓ) (g : Dev Cert.Lruin.nD → PrngReg), Pre_Lruin m →
    θ_run (Cert.Lruin.defs (F := Bits)) (onTc (τ := Cert.Lruin.τ) (Cert.Lruin.main (F := Bits))) ⟨m, fun _ => 0, g⟩ (fun r => (∀ c : Dev Cert.Lruin.nD,
      r.2.mem ((c.tc : Thread Cert.Lruin.nD Cert.Lruin.τ).loc Cert.Lruin.main_arg0) = m ((c.tc : Thread Cert.Lruin.nD Cert.Lruin.τ).loc Cert.Lruin.main_arg0)
      ∧ r.2.mem ((c.tc : Thread Cert.Lruin.nD Cert.Lruin.τ).loc Cert.Lruin.main_arg1) = m ((c.tc : Thread Cert.Lruin.nD Cert.Lruin.τ).loc Cert.Lruin.main_arg1)
      ∧ r.2.mem ((c.tc : Thread Cert.Lruin.nD Cert.Lruin.τ).loc Cert.Lruin.main_arg2) = m ((c.tc : Thread Cert.Lruin.nD Cert.Lruin.τ).loc Cert.Lruin.main_arg2))
      ∧ r.2.sem = fun _ => 0)

def quiescent_LruinIdeal [hLruinIdeal : Cert.LruinIdeal.Facts] : Prop :=
  ∀ (m : (ℓ : Loc Cert.LruinIdeal.nD Cert.LruinIdeal.τ Cert.LruinIdeal.sig) → Buf (Elt Ideal) ℓ) (g : Dev Cert.LruinIdeal.nD → PrngReg), Pre_LruinIdeal m →
    θ_run (Cert.LruinIdeal.defs (F := Ideal)) (onTc (τ := Cert.LruinIdeal.τ) (Cert.LruinIdeal.main (F := Ideal))) ⟨m, fun _ => 0, g⟩ (fun r => (∀ c : Dev Cert.LruinIdeal.nD,
      r.2.mem ((c.tc : Thread Cert.LruinIdeal.nD Cert.LruinIdeal.τ).loc Cert.LruinIdeal.main_arg0) = m ((c.tc : Thread Cert.LruinIdeal.nD Cert.LruinIdeal.τ).loc Cert.LruinIdeal.main_arg0)
      ∧ r.2.mem ((c.tc : Thread Cert.LruinIdeal.nD Cert.LruinIdeal.τ).loc Cert.LruinIdeal.main_arg1) = m ((c.tc : Thread Cert.LruinIdeal.nD Cert.LruinIdeal.τ).loc Cert.LruinIdeal.main_arg1)
      ∧ r.2.mem ((c.tc : Thread Cert.LruinIdeal.nD Cert.LruinIdeal.τ).loc Cert.LruinIdeal.main_arg2) = m ((c.tc : Thread Cert.LruinIdeal.nD Cert.LruinIdeal.τ).loc Cert.LruinIdeal.main_arg2))
      ∧ r.2.sem = fun _ => 0)

def quiescent_LruinRefIdeal [hLruinRefIdeal : Cert.LruinRefIdeal.Facts] : Prop :=
  ∀ (m : (ℓ : Loc Cert.LruinRefIdeal.nD Cert.LruinRefIdeal.τ Cert.LruinRefIdeal.sig) → Buf (Elt Ideal) ℓ) (g : Dev Cert.LruinRefIdeal.nD → PrngReg), Pre_LruinRefIdeal m →
    θ_run (Cert.LruinRefIdeal.defs (F := Ideal)) (onTc (τ := Cert.LruinRefIdeal.τ) (Cert.LruinRefIdeal.main (F := Ideal))) ⟨m, fun _ => 0, g⟩ (fun r => (∀ c : Dev Cert.LruinRefIdeal.nD,
      r.2.mem ((c.tc : Thread Cert.LruinRefIdeal.nD Cert.LruinRefIdeal.τ).loc Cert.LruinRefIdeal.main_arg0) = m ((c.tc : Thread Cert.LruinRefIdeal.nD Cert.LruinRefIdeal.τ).loc Cert.LruinRefIdeal.main_arg0)
      ∧ r.2.mem ((c.tc : Thread Cert.LruinRefIdeal.nD Cert.LruinRefIdeal.τ).loc Cert.LruinRefIdeal.main_arg1) = m ((c.tc : Thread Cert.LruinRefIdeal.nD Cert.LruinRefIdeal.τ).loc Cert.LruinRefIdeal.main_arg1)
      ∧ r.2.mem ((c.tc : Thread Cert.LruinRefIdeal.nD Cert.LruinRefIdeal.τ).loc Cert.LruinRefIdeal.main_arg2) = m ((c.tc : Thread Cert.LruinRefIdeal.nD Cert.LruinRefIdeal.τ).loc Cert.LruinRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_operands [hAttnIdeal : Cert.AttnIdeal.Facts] [hAttnRefIdeal : Cert.AttnRefIdeal.Facts] [hPre_finite_operands : Cert.Pre_finite_operands.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_operands m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)) →
    ∃ (v0 : (c : Dev Cert.QkIdeal.nD) → Buf (Elt Ideal) ((c.tc : Thread Cert.QkIdeal.nD Cert.QkIdeal.τ).loc Cert.QkIdeal.main_v36)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v36) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v77) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2))

def preserves_V_VIdeal : Prop :=
  True

def algebraic_VIdeal_VRefIdeal [hVIdeal : Cert.VIdeal.Facts] [hVRefIdeal : Cert.VRefIdeal.Facts] : Prop :=
  ∀ (m : (ℓ : Loc Cert.VIdeal.nD Cert.VIdeal.τ Cert.VIdeal.sig) → Buf (Elt Ideal) ℓ) (g : Dev Cert.VIdeal.nD → PrngReg)
    (m' : (ℓ : Loc Cert.VRefIdeal.nD Cert.VRefIdeal.τ Cert.VRefIdeal.sig) → Buf (Elt Ideal) ℓ) (g' : Dev Cert.VRefIdeal.nD → PrngReg), Pre_VIdeal m →
    (∀ c : Dev Cert.VIdeal.nD,
      m' ((c.tc : Thread Cert.VRefIdeal.nD Cert.VRefIdeal.τ).loc Cert.VRefIdeal.main_arg0) = m ((c.tc : Thread Cert.VIdeal.nD Cert.VIdeal.τ).loc Cert.VIdeal.main_arg0)
      ∧ m' ((c.tc : Thread Cert.VRefIdeal.nD Cert.VRefIdeal.τ).loc Cert.VRefIdeal.main_arg1) = m ((c.tc : Thread Cert.VIdeal.nD Cert.VIdeal.τ).loc Cert.VIdeal.main_arg1)
      ∧ m' ((c.tc : Thread Cert.VRefIdeal.nD Cert.VRefIdeal.τ).loc Cert.VRefIdeal.main_arg2) = m ((c.tc : Thread Cert.VIdeal.nD Cert.VIdeal.τ).loc Cert.VIdeal.main_arg2)) →
    ∃ (v0 : (c : Dev Cert.VIdeal.nD) → Buf (Elt Ideal) ((c.tc : Thread Cert.VIdeal.nD Cert.VIdeal.τ).loc Cert.VIdeal.main_v2)),
      θ_run (Cert.VIdeal.defs (F := Ideal)) (onTc (τ := Cert.VIdeal.τ) (Cert.VIdeal.main (F := Ideal))) ⟨m, fun _ => 0, g⟩ (fun r => ∀ c : Dev Cert.VIdeal.nD,
          r.2.mem ((c.tc : Thread Cert.VIdeal.nD Cert.VIdeal.τ).loc Cert.VIdeal.main_v2) = v0 c
          ∧ r.2.mem ((c.tc : Thread Cert.VIdeal.nD Cert.VIdeal.τ).loc Cert.VIdeal.main_arg0) = m ((c.tc : Thread Cert.VIdeal.nD Cert.VIdeal.τ).loc Cert.VIdeal.main_arg0)
          ∧ r.2.mem ((c.tc : Thread Cert.VIdeal.nD Cert.VIdeal.τ).loc Cert.VIdeal.main_arg1) = m ((c.tc : Thread Cert.VIdeal.nD Cert.VIdeal.τ).loc Cert.VIdeal.main_arg1)
          ∧ r.2.mem ((c.tc : Thread Cert.VIdeal.nD Cert.VIdeal.τ).loc Cert.VIdeal.main_arg2) = m ((c.tc : Thread Cert.VIdeal.nD Cert.VIdeal.τ).loc Cert.VIdeal.main_arg2))
      ∧ θ_run (Cert.VRefIdeal.defs (F := Ideal)) (onTc (τ := Cert.VRefIdeal.τ) (Cert.VRefIdeal.main (F := Ideal))) ⟨m', fun _ => 0, g'⟩ (fun r => ∀ c : Dev Cert.VRefIdeal.nD,
          r.2.mem ((c.tc : Thread Cert.VRefIdeal.nD Cert.VRefIdeal.τ).loc Cert.VRefIdeal.main_v19) = v0 c
          ∧ r.2.mem ((c.tc : Thread Cert.VRefIdeal.nD Cert.VRefIdeal.τ).loc Cert.VRefIdeal.main_arg0) = m' ((c.tc : Thread Cert.VRefIdeal.nD Cert.VRefIdeal.τ).loc Cert.VRefIdeal.main_arg0)
          ∧ r.2.mem ((c.tc : Thread Cert.VRefIdeal.nD Cert.VRefIdeal.τ).loc Cert.VRefIdeal.main_arg1) = m' ((c.tc : Thread Cert.VRefIdeal.nD Cert.VRefIdeal.τ).loc Cert.VRefIdeal.main_arg1)
          ∧ r.2.mem ((c.tc : Thread Cert.VRefIdeal.nD Cert.VRefIdeal.τ).loc Cert.VRefIdeal.main_arg2) = m' ((c.tc : Thread Cert.VRefIdeal.nD Cert.VRefIdeal.τ).loc Cert.VRefIdeal.main_arg2))

def preserves_Lruin_LruinIdeal : Prop :=
  True

def algebraic_LruinIdeal_LruinRefIdeal [hLruinIdeal : Cert.LruinIdeal.Facts] [hLruinRefIdeal : Cert.LruinRefIdeal.Facts] : Prop :=
  ∀ (m : (ℓ : Loc Cert.LruinIdeal.nD Cert.LruinIdeal.τ Cert.LruinIdeal.sig) → Buf (Elt Ideal) ℓ) (g : Dev Cert.LruinIdeal.nD → PrngReg)
    (m' : (ℓ : Loc Cert.LruinRefIdeal.nD Cert.LruinRefIdeal.τ Cert.LruinRefIdeal.sig) → Buf (Elt Ideal) ℓ) (g' : Dev Cert.LruinRefIdeal.nD → PrngReg), Pre_LruinIdeal m →
    (∀ c : Dev Cert.LruinIdeal.nD,
      m' ((c.tc : Thread Cert.LruinRefIdeal.nD Cert.LruinRefIdeal.τ).loc Cert.LruinRefIdeal.main_arg0) = m ((c.tc : Thread Cert.LruinIdeal.nD Cert.LruinIdeal.τ).loc Cert.LruinIdeal.main_arg0)
      ∧ m' ((c.tc : Thread Cert.LruinRefIdeal.nD Cert.LruinRefIdeal.τ).loc Cert.LruinRefIdeal.main_arg1) = m ((c.tc : Thread Cert.LruinIdeal.nD Cert.LruinIdeal.τ).loc Cert.LruinIdeal.main_arg1)
      ∧ m' ((c.tc : Thread Cert.LruinRefIdeal.nD Cert.LruinRefIdeal.τ).loc Cert.LruinRefIdeal.main_arg2) = m ((c.tc : Thread Cert.LruinIdeal.nD Cert.LruinIdeal.τ).loc Cert.LruinIdeal.main_arg2)) →
    ∃ (v0 : (c : Dev Cert.LruinIdeal.nD) → Buf (Elt Ideal) ((c.tc : Thread Cert.LruinIdeal.nD Cert.LruinIdeal.τ).loc Cert.LruinIdeal.main_v2)),
      θ_run (Cert.LruinIdeal.defs (F := Ideal)) (onTc (τ := Cert.LruinIdeal.τ) (Cert.LruinIdeal.main (F := Ideal))) ⟨m, fun _ => 0, g⟩ (fun r => ∀ c : Dev Cert.LruinIdeal.nD,
          r.2.mem ((c.tc : Thread Cert.LruinIdeal.nD Cert.LruinIdeal.τ).loc Cert.LruinIdeal.main_v2) = v0 c
          ∧ r.2.mem ((c.tc : Thread Cert.LruinIdeal.nD Cert.LruinIdeal.τ).loc Cert.LruinIdeal.main_arg0) = m ((c.tc : Thread Cert.LruinIdeal.nD Cert.LruinIdeal.τ).loc Cert.LruinIdeal.main_arg0)
          ∧ r.2.mem ((c.tc : Thread Cert.LruinIdeal.nD Cert.LruinIdeal.τ).loc Cert.LruinIdeal.main_arg1) = m ((c.tc : Thread Cert.LruinIdeal.nD Cert.LruinIdeal.τ).loc Cert.LruinIdeal.main_arg1)
          ∧ r.2.mem ((c.tc : Thread Cert.LruinIdeal.nD Cert.LruinIdeal.τ).loc Cert.LruinIdeal.main_arg2) = m ((c.tc : Thread Cert.LruinIdeal.nD Cert.LruinIdeal.τ).loc Cert.LruinIdeal.main_arg2))
      ∧ θ_run (Cert.LruinRefIdeal.defs (F := Ideal)) (onTc (τ := Cert.LruinRefIdeal.τ) (Cert.LruinRefIdeal.main (F := Ideal))) ⟨m', fun _ => 0, g'⟩ (fun r => ∀ c : Dev Cert.LruinRefIdeal.nD,
          r.2.mem ((c.tc : Thread Cert.LruinRefIdeal.nD Cert.LruinRefIdeal.τ).loc Cert.LruinRefIdeal.main_v18) = v0 c
          ∧ r.2.mem ((c.tc : Thread Cert.LruinRefIdeal.nD Cert.LruinRefIdeal.τ).loc Cert.LruinRefIdeal.main_arg0) = m' ((c.tc : Thread Cert.LruinRefIdeal.nD Cert.LruinRefIdeal.τ).loc Cert.LruinRefIdeal.main_arg0)
          ∧ r.2.mem ((c.tc : Thread Cert.LruinRefIdeal.nD Cert.LruinRefIdeal.τ).loc Cert.LruinRefIdeal.main_arg1) = m' ((c.tc : Thread Cert.LruinRefIdeal.nD Cert.LruinRefIdeal.τ).loc Cert.LruinRefIdeal.main_arg1)
          ∧ r.2.mem ((c.tc : Thread Cert.LruinRefIdeal.nD Cert.LruinRefIdeal.τ).loc Cert.LruinRefIdeal.main_arg2) = m' ((c.tc : Thread Cert.LruinRefIdeal.nD Cert.LruinRefIdeal.τ).loc Cert.LruinRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v29) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v33)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v33) = v0 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v111) = v0 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v13) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hQk : Cert.Qk.Facts) (hQkIdeal : Cert.QkIdeal.Facts) (hQkRefIdeal : Cert.QkRefIdeal.Facts) (hV : Cert.V.Facts) (hVIdeal : Cert.VIdeal.Facts) (hVRefIdeal : Cert.VRefIdeal.Facts) (hLruin : Cert.Lruin.Facts) (hLruinIdeal : Cert.LruinIdeal.Facts) (hLruinRefIdeal : Cert.LruinRefIdeal.Facts) (hGate : Cert.Gate.Facts) (hGateIdeal : Cert.GateIdeal.Facts) (hGateRefIdeal : Cert.GateRefIdeal.Facts) (hLru : Cert.Lru.Facts) (hLruIdeal : Cert.LruIdeal.Facts) (hLruRefIdeal : Cert.LruRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hPre_finite_operands : Cert.Pre_finite_operands.Facts),
    quiescent_Attn (hAttn := hAttn)
    ∧ quiescent_AttnIdeal (hAttnIdeal := hAttnIdeal)
    ∧ quiescent_AttnIdeal_pre_finite_operands (hAttnIdeal := hAttnIdeal) (hPre_finite_operands := hPre_finite_operands)
    ∧ quiescent_AttnRefIdeal (hAttnRefIdeal := hAttnRefIdeal)
    ∧ quiescent_AttnRefIdeal_pre_finite_operands (hAttnRefIdeal := hAttnRefIdeal) (hPre_finite_operands := hPre_finite_operands)
    ∧ quiescent_Ffn (hFfn := hFfn)
    ∧ quiescent_FfnIdeal (hFfnIdeal := hFfnIdeal)
    ∧ quiescent_FfnRefIdeal (hFfnRefIdeal := hFfnRefIdeal)
    ∧ quiescent_Qk (hQk := hQk)
    ∧ quiescent_QkIdeal (hQkIdeal := hQkIdeal)
    ∧ quiescent_QkRefIdeal (hQkRefIdeal := hQkRefIdeal)
    ∧ quiescent_V (hV := hV)
    ∧ quiescent_VIdeal (hVIdeal := hVIdeal)
    ∧ quiescent_VRefIdeal (hVRefIdeal := hVRefIdeal)
    ∧ quiescent_Lruin (hLruin := hLruin)
    ∧ quiescent_LruinIdeal (hLruinIdeal := hLruinIdeal)
    ∧ quiescent_LruinRefIdeal (hLruinRefIdeal := hLruinRefIdeal)
    ∧ quiescent_Gate (hGate := hGate)
    ∧ quiescent_GateIdeal (hGateIdeal := hGateIdeal)
    ∧ quiescent_GateRefIdeal (hGateRefIdeal := hGateRefIdeal)
    ∧ quiescent_Lru (hLru := hLru)
    ∧ quiescent_LruIdeal (hLruIdeal := hLruIdeal)
    ∧ quiescent_LruRefIdeal (hLruRefIdeal := hLruRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ preserves_Attn_AttnIdeal
    ∧ algebraic_AttnIdeal_AttnRefIdeal_pre_finite_operands (hAttnIdeal := hAttnIdeal) (hAttnRefIdeal := hAttnRefIdeal) (hPre_finite_operands := hPre_finite_operands)
    ∧ preserves_Ffn_FfnIdeal
    ∧ algebraic_FfnIdeal_FfnRefIdeal (hFfnIdeal := hFfnIdeal) (hFfnRefIdeal := hFfnRefIdeal)
    ∧ preserves_Qk_QkIdeal
    ∧ algebraic_QkIdeal_QkRefIdeal (hQkIdeal := hQkIdeal) (hQkRefIdeal := hQkRefIdeal)
    ∧ preserves_V_VIdeal
    ∧ algebraic_VIdeal_VRefIdeal (hVIdeal := hVIdeal) (hVRefIdeal := hVRefIdeal)
    ∧ preserves_Lruin_LruinIdeal
    ∧ algebraic_LruinIdeal_LruinRefIdeal (hLruinIdeal := hLruinIdeal) (hLruinRefIdeal := hLruinRefIdeal)
    ∧ preserves_Gate_GateIdeal
    ∧ algebraic_GateIdeal_GateRefIdeal (hGateIdeal := hGateIdeal) (hGateRefIdeal := hGateRefIdeal)
    ∧ preserves_Lru_LruIdeal
    ∧ algebraic_LruIdeal_LruRefIdeal (hLruIdeal := hLruIdeal) (hLruRefIdeal := hLruRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
-- ==== Pre_finite_operands.lean ====
abbrev S16896x4096 : Shape := ⟨2, ![16896, 4096]⟩
abbrev S16896x2048 : Shape := ⟨2, ![16896, 2048]⟩
abbrev S4x128 : Shape := ⟨2, ![4, 128]⟩
abbrev S4x256 : Shape := ⟨2, ![4, 256]⟩
abbrev S_ : Shape := ⟨0, ![]⟩

class Facts : Prop where
  bitsLt_bf16_f32 : FTy.bits .bf16 < FTy.bits .f32
  bcast_S_S16896x4096 : S_.BroadcastsInDim S16896x4096 (![] : Fin 0 → Fin S16896x4096.rank)
  reducesTo_S16896x4096_S_d0_1 : S16896x4096.ReducesTo [0, 1] S_
  h_S_ : 0 < S_.numel
  bcast_S_S16896x2048 : S_.BroadcastsInDim S16896x2048 (![] : Fin 0 → Fin S16896x2048.rank)
  reducesTo_S16896x2048_S_d0_1 : S16896x2048.ReducesTo [0, 1] S_
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_arg4 : FVec F S4x128 .f32) (main_arg5 : FVec F S4x128 .f32) (main_v15 : IVec S_ 1) (main_v16 : FVec F S4x128 .f32) (main_cst_4 : FVec F S_ .f32) : IVec S_ 1 :=
  let main_v17 : FVec F S4x128 .f32 := broadcastInDim S4x128 ![] bcast_S_S4x128 main_cst_4
  let main_v18 : IVec S4x128 1 := cmpf .olt main_v16 main_v17
  let main_c_5 : IVec S_ 1 := constantI S_ 1 1#1
  let main_v19 : IVec S_ 1 := (fun x v => Host.reduce IntOp.andi x v reducesTo_S4x128_S_d0_1 h_S_) main_v18 main_c_5
  let main_v20 : IVec S_ 1 := andi main_v15 main_v19
  let main_v21 : FVec F S4x128 .f32 := Host.absf main_arg4
  let main_cst_6 : FVec F S_ .f32 := constant S_ .f32 0x7F800000#32
  let main_v22 : FVec F S4x128 .f32 := broadcastInDim S4x128 ![] bcast_S_S4x128 main_cst_6
  let main_v23 : IVec S4x128 1 := cmpf .olt main_v21 main_v22
  let main_c_7 : IVec S_ 1 := constantI S_ 1 1#1
  let main_v24 : IVec S_ 1 := (fun x v => Host.reduce IntOp.andi x v reducesTo_S4x128_S_d0_1 h_S_) main_v23 main_c_7
  let main_v25 : IVec S_ 1 := andi main_v20 main_v24
  let main_v26 : FVec F S4x128 .f32 := Host.absf main_arg5
  let main_cst_8 : FVec F S_ .f32 := constant S_ .f32 0x7F800000#32
  let main_v27 : FVec F S4x128 .f32 := broadcastInDim S4x128 ![] bcast_S_S4x128 main_cst_8
  let main_v28 : IVec S4x128 1 := cmpf .olt main_v26 main_v27
  let main_c_9 : IVec S_ 1 := constantI S_ 1 1#1
  let main_v29 : IVec S_ 1 := (fun x v => Host.reduce IntOp.andi x v reducesTo_S4x128_S_d0_1 h_S_) main_v28 main_c_9
  let main_v30 : IVec S_ 1 := andi main_v25 main_v29
  main_v30

def fn {F : FTy → Type} [FloatOps F] (main_arg0 : FVec F S16896x4096 .bf16) (main_arg1 : FVec F S16896x2048 .bf16) (main_arg2 : FVec F S4x128 .f32) (main_arg3 : FVec F S4x128 .f32) (main_arg4 : FVec F S4x128 .f32) (main_arg5 : FVec F S4x128 .f32) (main_arg6 : FVec F S4x256 .f32) : IVec S_ 1 :=
  let main_v0 : FVec F S16896x4096 .f32 := (extf .f32 · bitsLt_bf16_f32) main_arg0
  let main_v1 : FVec F S16896x4096 .f32 := Host.absf main_v0
  let main_cst : FVec F S_ .f32 := constant S_ .f32 0x7F800000#32
  let main_v2 : FVec F S16896x4096 .f32 := broadcastInDim S16896x4096 ![] bcast_S_S16896x4096 main_cst
  let main_v3 : IVec S16896x4096 1 := cmpf .olt main_v1 main_v2
  let main_c : IVec S_ 1 := constantI S_ 1 1#1
  let main_v4 : IVec S_ 1 := (fun x v => Host.reduce IntOp.andi x v reducesTo_S16896x4096_S_d0_1 h_S_) main_v3 main_c
  let main_v5 : FVec F S16896x2048 .f32 := (extf .f32 · bitsLt_bf16_f32) main_arg1
  let main_v6 : FVec F S16896x2048 .f32 := Host.absf main_v5
  let main_cst_0 : FVec F S_ .f32 := constant S_ .f32 0x7F800000#32
  let main_v7 : FVec F S16896x2048 .f32 := broadcastInDim S16896x2048 ![] bcast_S_S16896x2048 main_cst_0
  let main_v8 : IVec S16896x2048 1 := cmpf .olt main_v6 main_v7
  let main_c_1 : IVec S_ 1 := constantI S_ 1 1#1
  let main_v9 : IVec S_ 1 := (fun x v => Host.reduce IntOp.andi x v reducesTo_S16896x2048_S_d0_1 h_S_) main_v8 main_c_1
  let main_v10 : IVec S_ 1 := andi main_v4 main_v9
  let main_v11 : FVec F S4x128 .f32 := Host.absf main_arg2
  let main_cst_2 : FVec F S_ .f32 := constant S_ .f32 0x7F800000#32
  let main_v12 : FVec F S4x128 .f32 := broadcastInDim S4x128 ![] bcast_S_S4x128 main_cst_2
  let main_v13 : IVec S4x128 1 := cmpf .olt main_v11 main_v12
  let main_c_3 : IVec S_ 1 := constantI S_ 1 1#1
  let main_v14 : IVec S_ 1 := (fun x v => Host.reduce IntOp.andi x v reducesTo_S4x128_S_d0_1 h_S_) main_v13 main_c_3
  let main_v15 : IVec S_ 1 := andi main_v10 main_v14
  let main_v16 : FVec F S4x128 .f32 := Host.absf main_arg3
  let main_cst_4 : FVec F S_ .f32 := constant S_ .f32 0x7F800000#32
  fn_part1 (F := F) main_arg4 main_arg5 main_v15 main_v16 main_cst_4
-- ==== Attn.lean ====
abbrev S16896x4096 : Shape := ⟨2, ![16896, 4096]⟩
abbrev S16896x2048 : Shape := ⟨2, ![16896, 2048]⟩
abbrev S4x128 : Shape := ⟨2, ![4, 128]⟩
abbrev S4x256 : Shape := ⟨2, ![4, 256]⟩
abbrev S4x1x128 : Shape := ⟨3, ![4, 1, 128]⟩
abbrev S4x1x256 : Shape := ⟨3, ![4, 1, 256]⟩
abbrev S384x256 : Shape := ⟨2, ![384, 256]⟩
abbrev S4224x256 : Shape := ⟨2, ![4224, 256]⟩
abbrev S1x1x128 : Shape := ⟨3, ![1, 1, 128]⟩
abbrev S1x1x256 : Shape := ⟨3, ![1, 1, 256]⟩
abbrev S2x384x1 : Shape := ⟨3, ![2, 384, 1]⟩
abbrev S2x384x256 : Shape := ⟨3, ![2, 384, 256]⟩
abbrev S384x128 : Shape := ⟨2, ![384, 128]⟩
abbrev S384x384 : Shape := ⟨2, ![384, 384]⟩
abbrev S1x384x1 : Shape := ⟨3, ![1, 384, 1]⟩
abbrev S384x1 : Shape := ⟨2, ![384, 1]⟩
abbrev S384 : Shape := ⟨1, ![384]⟩
abbrev S1x384x256 : Shape := ⟨3, ![1, 384, 256]⟩
abbrev S1x128 : Shape := ⟨2, ![1, 128]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩

abbrev nBuf : Space → Nat
  | .hbm => 13
  | .vmem => 16
  | .smem => 0
  | _ => 0

abbrev bufTy : (tb : Table) → Fin (tcTables nBuf tb) → BufTy
  | .hbm, ⟨0, _⟩ => ⟨S16896x4096, .bf16⟩
  | .hbm, ⟨1, _⟩ => ⟨S16896x2048, .bf16⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x256, .f32⟩
  | .hbm, ⟨7, _⟩ => ⟨S4x1x128, .f32⟩
  | .hbm, ⟨8, _⟩ => ⟨S4x1x128, .f32⟩
  | .hbm, ⟨9, _⟩ => ⟨S4x1x128, .f32⟩
  | .hbm, ⟨10, _⟩ => ⟨S4x1x128, .f32⟩
  | .hbm, ⟨11, _⟩ => ⟨S4x1x256, .f32⟩
  | .hbm, ⟨12, _⟩ => ⟨S16896x2048, .bf16⟩
  | .local _ .vmem, ⟨0, _⟩ => ⟨S384x256, .bf16⟩
  | .local _ .vmem, ⟨1, _⟩ => ⟨S384x256, .bf16⟩
  | .local _ .vmem, ⟨2, _⟩ => ⟨S4224x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x256, .f32⟩
  | .local _ .vmem, ⟨11, _⟩ => ⟨S384x256, .bf16⟩
  | .local _ .vmem, ⟨12, _⟩ => ⟨S384x256, .bf16⟩
  | .local _ .vmem, ⟨13, _⟩ => ⟨S2x384x1, .f32⟩
  | .local _ .vmem, ⟨14, _⟩ => ⟨S2x384x1, .f32⟩
  | .local _ .vmem, ⟨15, _⟩ => ⟨S2x384x256, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![4, 8, 11], ![false, false, false]⟩

@[reducible] def k0_t1_loop (i : grid0.Coords) : Scf.Loop 32 :=
  let c0_i32_12 : BitVec 32 := 0#32
  let arg2 : BitVec 32 := BitVec.ofNat 32 (i 2).val
  let v15 : BitVec 32 := Scalar.subi arg2 c0_i32_12
  let c1_i32 : BitVec 32 := 1#32
  let v17 : BitVec 32 := Scalar.divsi v15 c1_i32
  let v18 : BitVec 32 := Scalar.muli v17 c1_i32
  let v19 : BitVec 32 := Scalar.addi c0_i32_12 v18
  let c1_i32_13 : BitVec 32 := 1#32
  ⟨c0_i32_12, v19, c1_i32_13⟩
def k0_mult1 (i : grid0.Coords) (k0_t1 : Fin (k0_t1_loop i).trips) : BitVec 32 :=
  let c0_i32_12 : BitVec 32 := 0#32
  let c1_i32_13 : BitVec 32 := 1#32
  let arg15 : BitVec 32 := Scf.iv c0_i32_12 c1_i32_13 k0_t1
  let c384_i32_98 : BitVec 32 := 384#32
  let v162 : BitVec 32 := Scalar.muli arg15 c384_i32_98
  v162
def k0_off1 (i : grid0.Coords) (k0_t1 : Fin (k0_t1_loop i).trips) : Fin 2 → Nat :=
  let c0_i32_12 : BitVec 32 := 0#32
  let c1_i32_13 : BitVec 32 := 1#32
  let arg15 : BitVec 32 := Scf.iv c0_i32_12 c1_i32_13 k0_t1
  let c384_i32_98 : BitVec 32 := 384#32
  let v162 : BitVec 32 := Scalar.muli arg15 c384_i32_98
  let v163 : BitVec 32 := v162
  let v164 : Index := Scalar.indexCast v163
  let c0_99 : Index := 0#32
  ![v164.toNat, 0]
@[reducible] def k0_t2_loop (i : grid0.Coords) : Scf.Loop 32 :=
  let c0_i32_12 : BitVec 32 := 0#32
  let arg2 : BitVec 32 := BitVec.ofNat 32 (i 2).val
  let v15 : BitVec 32 := Scalar.subi arg2 c0_i32_12
  let c1_i32 : BitVec 32 := 1#32
  let v17 : BitVec 32 := Scalar.divsi v15 c1_i32
  let v18 : BitVec 32 := Scalar.muli v17 c1_i32
  let v19 : BitVec 32 := Scalar.addi c0_i32_12 v18
  let v16 : BitVec 32 := Scalar.addi c0_i32_12 v15
  let c1_i32_14 : BitVec 32 := 1#32
  ⟨v19, v16, c1_i32_14⟩
def k0_mult2 (i : grid0.Coords) (k0_t2 : Fin (k0_t2_loop i).trips) : BitVec 32 :=
  let c0_i32_12 : BitVec 32 := 0#32
  let arg2 : BitVec 32 := BitVec.ofNat 32 (i 2).val
  let v15 : BitVec 32 := Scalar.subi arg2 c0_i32_12
  let c1_i32 : BitVec 32 := 1#32
  let v17 : BitVec 32 := Scalar.divsi v15 c1_i32
  let v18 : BitVec 32 := Scalar.muli v17 c1_i32
  let v19 : BitVec 32 := Scalar.addi c0_i32_12 v18
  let c1_i32_14 : BitVec 32 := 1#32
  let arg15 : BitVec 32 := Scf.iv v19 c1_i32_14 k0_t2
  let c384_i32_98 : BitVec 32 := 384#32
  let v162 : BitVec 32 := Scalar.muli arg15 c384_i32_98
  v162
def k0_off2 (i : grid0.Coords) (k0_t2 : Fin (k0_t2_loop i).trips) : Fin 2 → Nat :=
  let c0_i32_12 : BitVec 32 := 0#32
  let arg2 : BitVec 32 := BitVec.ofNat 32 (i 2).val
  let v15 : BitVec 32 := Scalar.subi arg2 c0_i32_12
  let c1_i32 : BitVec 32 := 1#32
  let v17 : BitVec 32 := Scalar.divsi v15 c1_i32
  let v18 : BitVec 32 := Scalar.muli v17 c1_i32
  let v19 : BitVec 32 := Scalar.addi c0_i32_12 v18
  let c1_i32_14 : BitVec 32 := 1#32
  let arg15 : BitVec 32 := Scf.iv v19 c1_i32_14 k0_t2
  let c384_i32_98 : BitVec 32 := 384#32
  let v162 : BitVec 32 := Scalar.muli arg15 c384_i32_98
  let v163 : BitVec 32 := v162
  let v164 : Index := Scalar.indexCast v163
  let c0_99 : Index := 0#32
  ![v164.toNat, 0]
def k0_mult3 (i : grid0.Coords) : BitVec 32 :=
  let arg2 : BitVec 32 := BitVec.ofNat 32 (i 2).val
  let c384_i32 : BitVec 32 := 384#32
  let v20 : BitVec 32 := Scalar.muli arg2 c384_i32
  v20
def k0_off3 (i : grid0.Coords) : Fin 2 → Nat :=
  let arg2 : BitVec 32 := BitVec.ofNat 32 (i 2).val
  let c384_i32 : BitVec 32 := 384#32
  let v20 : BitVec 32 := Scalar.muli arg2 c384_i32
  let v21 : BitVec 32 := v20
  let v22 : Index := Scalar.indexCast v21
  let c0_15 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S384x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16896x4096 : Shape := ⟨2, ![16896, 4096]⟩
abbrev S16896x2048 : Shape := ⟨2, ![16896, 2048]⟩
abbrev S4x128 : Shape := ⟨2, ![4, 128]⟩
abbrev S4x256 : Shape := ⟨2, ![4, 256]⟩
abbrev S4x4224x8x2x128 : Shape := ⟨5, ![4, 4224, 8, 2, 128]⟩
abbrev S4x4224x8x256 : Shape := ⟨4, ![4, 4224, 8, 256]⟩
abbrev S1x128 : Shape := ⟨2, ![1, 128]⟩
abbrev S128 : Shape := ⟨1, ![128]⟩
abbrev S_ : Shape := ⟨0, ![]⟩
abbrev S4x8x2x4224x4224 : Shape := ⟨5, ![4, 8, 2, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S4x8x2x4224 : Shape := ⟨4, ![4, 8, 2, 4224]⟩
abbrev S4x8x2x4224x1 : Shape := ⟨5, ![4, 8, 2, 4224, 1]⟩
abbrev S4x8x1x4224x4224 : Shape := ⟨5, ![4, 8, 1, 4224, 4224]⟩
abbrev S4x8x4224x4224 : Shape := ⟨4, ![4, 8, 4224, 4224]⟩
abbrev S4x8x256x4224 : Shape := ⟨4, ![4, 8, 256, 4224]⟩
abbrev S4x4224x8 : Shape := ⟨3, ![4, 4224, 8]⟩
abbrev S4x4224x8x1 : Shape := ⟨4, ![4, 4224, 8, 1]⟩
abbrev S1x256 : Shape := ⟨2, ![1, 256]⟩
abbrev S256 : Shape := ⟨1, ![256]⟩
abbrev S1x1x1x256 : Shape := ⟨4, ![1, 1, 1, 256]⟩

abbrev nBuf : Space → Nat
  | .hbm => 93
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S16896x2048, .bf16⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x256, .f32⟩
  | .hbm, ⟨7, _⟩ => ⟨S16896x2048, .bf16⟩
  | .hbm, ⟨8, _⟩ => ⟨S4x4224x8x2x128, .bf16⟩
  | .hbm, ⟨9, _⟩ => ⟨S4x4224x8x2x128, .f32⟩
  | .hbm, ⟨10, _⟩ => ⟨S16896x2048, .bf16⟩
  | .hbm, ⟨11, _⟩ => ⟨S4x4224x8x2x128, .bf16⟩
  | .hbm, ⟨12, _⟩ => ⟨S4x4224x8x2x128, .f32⟩
  | .hbm, ⟨13, _⟩ => ⟨S4x4224x8x256, .bf16⟩
  | .hbm, ⟨14, _⟩ => ⟨S4x4224x8x256, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x8x2x4224x4224, .f32⟩
  | .hbm, ⟨35, _⟩ => ⟨S4224, .i32⟩
  | .hbm, ⟨36, _⟩ => ⟨S1x4224, .i32⟩
  | .hbm, ⟨37, _⟩ => ⟨S4224, .i32⟩
  | .hbm, ⟨38, _⟩ => ⟨S4224x1, .i32⟩
  | .hbm, ⟨39, _⟩ => ⟨S4224x4224, .i32⟩
  | .hbm, ⟨40, _⟩ => ⟨S4224x4224, .i32⟩
  | .hbm, ⟨41, _⟩ => ⟨S4224x4224, .i1⟩
  | .hbm, ⟨42, _⟩ => ⟨S_, .f32⟩
  | .hbm, ⟨43, _⟩ => ⟨S_, .f32⟩
  | .hbm, ⟨44, _⟩ => ⟨S4x8x2x4224x4224, .i1⟩
  | .hbm, ⟨45, _⟩ => ⟨S4x8x2x4224x4224, .f32⟩
  | .hbm, ⟨46, _⟩ => ⟨S4x8x2x4224x4224, .f32⟩
  | .hbm, ⟨47, _⟩ => ⟨S_, .f32⟩
  | .hbm, ⟨48, _⟩ => ⟨S4x8x2x4224, .f32⟩
  | .hbm, ⟨49, _⟩ => ⟨S_, .f32⟩
  | .hbm, ⟨50, _⟩ => ⟨S4x8x2x4224, .f32⟩
  | .hbm, ⟨51, _⟩ => ⟨S4x8x2x4224, .f32⟩
  | .hbm, ⟨52, _⟩ => ⟨S4x8x2x4224x1, .f32⟩
  | .hbm, ⟨53, _⟩ => ⟨S4x8x2x4224x4224, .f32⟩
  | .hbm, ⟨54, _⟩ => ⟨S4x8x2x4224x4224, .f32⟩
  | .hbm, ⟨55, _⟩ => ⟨S4x8x2x4224x4224, .f32⟩
  | .hbm, ⟨56, _⟩ => ⟨S_, .f32⟩
  | .hbm, ⟨57, _⟩ => ⟨S4x8x2x4224, .f32⟩
  | .hbm, ⟨58, _⟩ => ⟨S4x8x2x4224x1, .f32⟩
  | .hbm, ⟨59, _⟩ => ⟨S4x8x2x4224x4224, .f32⟩
  | .hbm, ⟨60, _⟩ => ⟨S4x8x2x4224x4224, .f32⟩
  | .hbm, ⟨61, _⟩ => ⟨S4x8x1x4224x4224, .f32⟩
  | .hbm, ⟨62, _⟩ => ⟨S4x8x4224x4224, .f32⟩
  | .hbm, ⟨63, _⟩ => ⟨S4x8x1x4224x4224, .f32⟩
  | .hbm, ⟨64, _⟩ => ⟨S4x8x4224x4224, .f32⟩
  | .hbm, ⟨65, _⟩ => ⟨S4x8x4224x4224, .f32⟩
  | .hbm, ⟨66, _⟩ => ⟨S4x8x4224x4224, .f32⟩
  | .hbm, ⟨67, _⟩ => ⟨S4x8x4224x4224, .f32⟩
  | .hbm, ⟨68, _⟩ => ⟨S4x8x256x4224, .f32⟩
  | .hbm, ⟨69, _⟩ => ⟨S4x4224x8x256, .f32⟩
  | .hbm, ⟨70, _⟩ => ⟨S4x4224x8x256, .f32⟩
  | .hbm, ⟨71, _⟩ => ⟨S_, .f32⟩
  | .hbm, ⟨72, _⟩ => ⟨S4x4224x8, .f32⟩
  | .hbm, ⟨73, _⟩ => ⟨S4x4224x8x1, .f32⟩
  | .hbm, ⟨74, _⟩ => ⟨S_, .f32⟩
  | .hbm, ⟨75, _⟩ => ⟨S4x4224x8x1, .f32⟩
  | .hbm, ⟨76, _⟩ => ⟨S4x4224x8x1, .f32⟩
  | .hbm, ⟨77, _⟩ => ⟨S_, .f32⟩
  | .hbm, ⟨78, _⟩ => ⟨S4x4224x8x1, .f32⟩
  | .hbm, ⟨79, _⟩ => ⟨S4x4224x8x1, .f32⟩
  | .hbm, ⟨80, _⟩ => ⟨S4x4224x8x1, .f32⟩
  | .hbm, ⟨81, _⟩ => ⟨S4x4224x8x256, .f32⟩
  | .hbm, ⟨82, _⟩ => ⟨S4x4224x8x256, .f32⟩
  | .hbm, ⟨83, _⟩ => ⟨S1x256, .f32⟩
  | .hbm, ⟨84, _⟩ => ⟨S256, .f32⟩
  | .hbm, ⟨85, _⟩ => ⟨S1x1x1x256, .f32⟩
  | .hbm, ⟨86, _⟩ => ⟨S4x4224x8x256, .f32⟩
  | .hbm, ⟨87, _⟩ => ⟨S4x4224x8x256, .f32⟩
  | .hbm, ⟨88, _⟩ => ⟨S_, .f32⟩
  | .hbm, ⟨89, _⟩ => ⟨S4x4224x8x256, .f32⟩
  | .hbm, ⟨90, _⟩ => ⟨S4x4224x8x256, .f32⟩
  | .hbm, ⟨91, _⟩ => ⟨S16896x2048, .f32⟩
  | .hbm, ⟨92, _⟩ => ⟨S16896x2048, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Ffn.lean ====
abbrev S16896x2048 : Shape := ⟨2, ![16896, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S4x1x2048 : Shape := ⟨3, ![4, 1, 2048]⟩
abbrev S1x2048x512 : Shape := ⟨3, ![1, 2048, 512]⟩
abbrev S1056x2048 : Shape := ⟨2, ![1056, 2048]⟩
abbrev S1x1x2048 : Shape := ⟨3, ![1, 1, 2048]⟩
abbrev S1x512x2048 : Shape := ⟨3, ![1, 512, 2048]⟩
abbrev S1x2048 : Shape := ⟨2, ![1, 2048]⟩
abbrev S1056 : Shape := ⟨1, ![1056]⟩
abbrev S1056x1 : Shape := ⟨2, ![1056, 1]⟩
abbrev S2048x512 : Shape := ⟨2, ![2048, 512]⟩
abbrev S1056x512 : Shape := ⟨2, ![1056, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x1x2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S16896x2048, .f32⟩
  | .local _ .vmem, ⟨0, _⟩ => ⟨S1x2048x512, .bf16⟩
  | .local _ .vmem, ⟨1, _⟩ => ⟨S1x2048x512, .bf16⟩
  | .local _ .vmem, ⟨2, _⟩ => ⟨S1056x2048, .f32⟩
  | .local _ .vmem, ⟨3, _⟩ => ⟨S1x1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1056x2048, .f32⟩
  | .local _ .vmem, ⟨9, _⟩ => ⟨S1056x2048, .f32⟩
  | .local _ .vmem, ⟨10, _⟩ => ⟨S1056x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1056x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1056x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16896x2048 : Shape := ⟨2, ![16896, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x5632 : Shape := ⟨3, ![1, 2048, 5632]⟩
abbrev S2048x5632 : Shape := ⟨2, ![2048, 5632]⟩
abbrev S16896x5632 : Shape := ⟨2, ![16896, 5632]⟩
abbrev S1x5632x2048 : Shape := ⟨3, ![1, 5632, 2048]⟩
abbrev S5632x2048 : Shape := ⟨2, ![5632, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S1x2048, .f32⟩
  | .hbm, ⟨6, _⟩ => ⟨S2048, .f32⟩
  | .hbm, ⟨7, _⟩ => ⟨S16896x2048, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x2048, .f32⟩
  | .hbm, ⟨19, _⟩ => ⟨S16896x2048, .f32⟩
  | .hbm, ⟨20, _⟩ => ⟨S1x2048, .f32⟩
  | .hbm, ⟨21, _⟩ => ⟨S16896x2048, .f32⟩
  | .hbm, ⟨22, _⟩ => ⟨S16896x2048, .f32⟩
  | .hbm, ⟨23, _⟩ => ⟨S1x2048x5632, .f32⟩
  | .hbm, ⟨24, _⟩ => ⟨S2048x5632, .f32⟩
  | .hbm, ⟨25, _⟩ => ⟨S16896x5632, .f32⟩
  | .hbm, ⟨26, _⟩ => ⟨S16896x5632, .f32⟩
  | .hbm, ⟨27, _⟩ => ⟨S16896x5632, .f32⟩
  | .hbm, ⟨28, _⟩ => ⟨S_, .f32⟩
  | .hbm, ⟨29, _⟩ => ⟨S16896x5632, .f32⟩
  | .hbm, ⟨30, _⟩ => ⟨S16896x5632, .f32⟩
  | .hbm, ⟨31, _⟩ => ⟨S_, .f32⟩
  | .hbm, ⟨32, _⟩ => ⟨S16896x5632, .f32⟩
  | .hbm, ⟨33, _⟩ => ⟨S16896x5632, .f32⟩
  | .hbm, ⟨34, _⟩ => ⟨S16896x5632, .f32⟩
  | .hbm, ⟨35, _⟩ => ⟨S1x2048x5632, .f32⟩
  | .hbm, ⟨36, _⟩ => ⟨S2048x5632, .f32⟩
  | .hbm, ⟨37, _⟩ => ⟨S16896x5632, .f32⟩
  | .hbm, ⟨38, _⟩ => ⟨S16896x5632, .f32⟩
  | .hbm, ⟨39, _⟩ => ⟨S1x5632x2048, .f32⟩
  | .hbm, ⟨40, _⟩ => ⟨S5632x2048, .f32⟩
  | .hbm, ⟨41, _⟩ => ⟨S16896x2048, .f32⟩
  | .hbm, ⟨42, _⟩ => ⟨S_, .f32⟩
  | .hbm, ⟨43, _⟩ => ⟨S16896x2048, .f32⟩
  | .hbm, ⟨44, _⟩ => ⟨S16896x2048, .f32⟩
  | .hbm, ⟨45, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Qk.lean ====
abbrev S16896x2048 : Shape := ⟨2, ![16896, 2048]⟩
abbrev S4x2048 : Shape := ⟨2, ![4, 2048]⟩
abbrev S4x2048x15360 : Shape := ⟨3, ![4, 2048, 15360]⟩
abbrev S4x1x2048 : Shape := ⟨3, ![4, 1, 2048]⟩
abbrev S16 : Shape := ⟨1, ![16]⟩
abbrev S_ : Shape := ⟨0, ![]⟩
abbrev S4224 : Shape := ⟨1, ![4224]⟩
abbrev S4224x1 : Shape := ⟨2, ![4224, 1]⟩
abbrev S1x16 : Shape := ⟨2, ![1, 16]⟩
abbrev S4224x16 : Shape := ⟨2, ![4224, 16]⟩
abbrev S4224x96 : Shape := ⟨2, ![4224, 96]⟩
abbrev S4224x128 : Shape := ⟨2, ![4224, 128]⟩
abbrev S1x4224x128 : Shape := ⟨3, ![1, 4224, 128]⟩
abbrev S3x4224x128 : Shape := ⟨3, ![3, 4224, 128]⟩
abbrev S1x3x4224x128 : Shape := ⟨4, ![1, 3, 4224, 128]⟩
abbrev S2x3x4224x128 : Shape := ⟨4, ![2, 3, 4224, 128]⟩
abbrev S16896x4096 : Shape := ⟨2, ![16896, 4096]⟩
abbrev S1x2048x512 : Shape := ⟨3, ![1, 2048, 512]⟩
abbrev S1408x2048 : Shape := ⟨2, ![1408, 2048]⟩
abbrev S1x1x2048 : Shape := ⟨3, ![1, 1, 2048]⟩
abbrev S1x3x1408x128 : Shape := ⟨4, ![1, 3, 1408, 128]⟩
abbrev S1408x512 : Shape := ⟨2, ![1408, 512]⟩
abbrev S1x2048 : Shape := ⟨2, ![1, 2048]⟩
abbrev S1408 : Shape := ⟨1, ![1408]⟩
abbrev S1408x1 : Shape := ⟨2, ![1408, 1]⟩
abbrev S2048x512 : Shape := ⟨2, ![2048, 512]⟩
abbrev S1x1x1408x128 : Shape := ⟨4, ![1, 1, 1408, 128]⟩
abbrev S1408x128 : Shape := ⟨2, ![1408, 128]⟩

abbrev nBuf : Space → Nat
  | .hbm => 48
  | .vmem => 9
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S4x1x2048, .f32⟩
  | .hbm, ⟨4, _⟩ => ⟨S4x2048x15360, .bf16⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S4224, .f32⟩
  | .hbm, ⟨20, _⟩ => ⟨S4224x1, .f32⟩
  | .hbm, ⟨21, _⟩ => ⟨S1x16, .f32⟩
  | .hbm, ⟨22, _⟩ => ⟨S4224x16, .f32⟩
  | .hbm, ⟨23, _⟩ => ⟨S4224x16, .f32⟩
  | .hbm, ⟨24, _⟩ => ⟨S4224x16, .f32⟩
  | .hbm, ⟨25, _⟩ => ⟨S4224x16, .f32⟩
  | .hbm, ⟨26, _⟩ => ⟨S4224x16, .f32⟩
  | .hbm, ⟨27, _⟩ => ⟨S_, .f32⟩
  | .hbm, ⟨28, _⟩ => ⟨S4224x96, .f32⟩
  | .hbm, ⟨29, _⟩ => ⟨S_, .f32⟩
  | .hbm, ⟨30, _⟩ => ⟨S4224x96, .f32⟩
  | .hbm, ⟨31, _⟩ => ⟨S_, .f32⟩
  | .hbm, ⟨32, _⟩ => ⟨S4224x16, .f32⟩
  | .hbm, ⟨33, _⟩ => ⟨S4224x128, .f32⟩
  | .hbm, ⟨34, _⟩ => ⟨S4224x128, .f32⟩
  | .hbm, ⟨35, _⟩ => ⟨S4224x16, .f32⟩
  | .hbm, ⟨36, _⟩ => ⟨S4224x128, .f32⟩
  | .hbm, ⟨37, _⟩ => ⟨S1x4224x128, .f32⟩
  | .hbm, ⟨38, _⟩ => ⟨S1x4224x128, .f32⟩
  | .hbm, ⟨39, _⟩ => ⟨S1x4224x128, .f32⟩
  | .hbm, ⟨40, _⟩ => ⟨S3x4224x128, .f32⟩
  | .hbm, ⟨41, _⟩ => ⟨S_, .f32⟩
  | .hbm, ⟨42, _⟩ => ⟨S3x4224x128, .f32⟩
  | .hbm, ⟨43, _⟩ => ⟨S3x4224x128, .f32⟩
  | .hbm, ⟨44, _⟩ => ⟨S1x3x4224x128, .f32⟩
  | .hbm, ⟨45, _⟩ => ⟨S1x3x4224x128, .f32⟩
  | .hbm, ⟨46, _⟩ => ⟨S2x3x4224x128, .f32⟩
  | .hbm, ⟨47, _⟩ => ⟨S16896x4096, .bf16⟩
  | .local _ .vmem, ⟨0, _⟩ => ⟨S1x2048x512, .bf16⟩
  | .local _ .vmem, ⟨1, _⟩ => ⟨S1x2048x512, .bf16⟩
  | .local _ .vmem, ⟨2, _⟩ => ⟨S1408x2048, .f32⟩
  | .local _ .vmem, ⟨3, _⟩ => ⟨S1x1x2048, .f32⟩
  | .local _ .vmem, ⟨4, _⟩ => ⟨S1x3x1408x128, .f32⟩
  | .local _ .vmem, ⟨5, _⟩ => ⟨S1x3x1408x128, .f32⟩
  | .local _ .vmem, ⟨6, _⟩ => ⟨S1408x512, .bf16⟩
  | .local _ .vmem, ⟨7, _⟩ => ⟨S1408x512, .bf16⟩
  | .local _ .vmem, ⟨8, _⟩ => ⟨S1408x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let v17 : BitVec 1 := Scalar.cmpi .eq c3_i32 c0_i32_4
  let c1_i32_5 : BitVec 32 := 1#32
  let v18 : BitVec 32 := Scalar.select v17 c1_i32_5 c3_i32
  let v19 : BitVec 32 := Scalar.remsi arg0 v18
  let c0_i32_6 : BitVec 32 := 0#32
  let v20 : BitVec 1 := Scalar.cmpi .ne v19 c0_i32_6
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let v24 : BitVec 1 := Scalar.andi v23 v20
  let v25 : BitVec 32 := Scalar.addi v19 v18
  let v26 : BitVec 32 := Scalar.select v24 v25 v19
  let c0_i32_9 : BitVec 32 := 0#32
  let c0_i32_10 : BitVec 32 := 0#32
  let c0_i32_11 : BitVec 32 := 0#32
  ![v16.toNat, c0_i32_9.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x1408x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkRefIdeal.lean ====
abbrev S16896x2048 : Shape := ⟨2, ![16896, 2048]⟩
abbrev S4x2048 : Shape := ⟨2, ![4, 2048]⟩
abbrev S4x2048x15360 : Shape := ⟨3, ![4, 2048, 15360]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x15360 : Shape := ⟨3, ![1, 2048, 15360]⟩
abbrev S2048x15360 : Shape := ⟨2, ![2048, 15360]⟩
abbrev S16896x15360 : Shape := ⟨2, ![16896, 15360]⟩
abbrev S16 : Shape := ⟨1, ![16]⟩
abbrev S4224 : Shape := ⟨1, ![4224]⟩
abbrev S4224x1 : Shape := ⟨2, ![4224, 1]⟩
abbrev S1x16 : Shape := ⟨2, ![1, 16]⟩
abbrev S4224x16 : Shape := ⟨2, ![4224, 16]⟩
abbrev S4x4224x8x2x128 : Shape := ⟨5, ![4, 4224, 8, 2, 128]⟩
abbrev S4x4224x8x2x16 : Shape := ⟨5, ![4, 4224, 8, 2, 16]⟩
abbrev S1x4224x1x1x16 : Shape := ⟨5, ![1, 4224, 1, 1, 16]⟩
abbrev S4x4224x8x2x96 : Shape := ⟨5, ![4, 4224, 8, 2, 96]⟩
abbrev S16896x4096 : Shape := ⟨2, ![16896, 4096]⟩

abbrev nBuf : Space → Nat
  | .hbm => 89
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S1x2048, .f32⟩
  | .hbm, ⟨4, _⟩ => ⟨S2048, .f32⟩
  | .hbm, ⟨5, _⟩ => ⟨S16896x2048, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x2048, .f32⟩
  | .hbm, ⟨17, _⟩ => ⟨S16896x2048, .f32⟩
  | .hbm, ⟨18, _⟩ => ⟨S1x2048, .f32⟩
  | .hbm, ⟨19, _⟩ => ⟨S16896x2048, .f32⟩
  | .hbm, ⟨20, _⟩ => ⟨S16896x2048, .f32⟩
  | .hbm, ⟨21, _⟩ => ⟨S1x2048x15360, .f32⟩
  | .hbm, ⟨22, _⟩ => ⟨S2048x15360, .f32⟩
  | .hbm, ⟨23, _⟩ => ⟨S16896x15360, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S4224, .f32⟩
  | .hbm, ⟨39, _⟩ => ⟨S4224x1, .f32⟩
  | .hbm, ⟨40, _⟩ => ⟨S1x16, .f32⟩
  | .hbm, ⟨41, _⟩ => ⟨S4224x16, .f32⟩
  | .hbm, ⟨42, _⟩ => ⟨S4224x16, .f32⟩
  | .hbm, ⟨43, _⟩ => ⟨S4224x16, .f32⟩
  | .hbm, ⟨44, _⟩ => ⟨S4224x16, .f32⟩
  | .hbm, ⟨45, _⟩ => ⟨S4224x16, .f32⟩
  | .hbm, ⟨46, _⟩ => ⟨S16896x2048, .f32⟩
  | .hbm, ⟨47, _⟩ => ⟨S4x4224x8x2x128, .f32⟩
  | .hbm, ⟨48, _⟩ => ⟨S4x4224x8x2x16, .f32⟩
  | .hbm, ⟨49, _⟩ => ⟨S4x4224x8x2x16, .f32⟩
  | .hbm, ⟨50, _⟩ => ⟨S1x4224x1x1x16, .f32⟩
  | .hbm, ⟨51, _⟩ => ⟨S1x4224x1x1x16, .f32⟩
  | .hbm, ⟨52, _⟩ => ⟨S4x4224x8x2x16, .f32⟩
  | .hbm, ⟨53, _⟩ => ⟨S4x4224x8x2x16, .f32⟩
  | .hbm, ⟨54, _⟩ => ⟨S4x4224x8x2x16, .f32⟩
  | .hbm, ⟨55, _⟩ => ⟨S4x4224x8x2x16, .f32⟩
  | .hbm, ⟨56, _⟩ => ⟨S4x4224x8x2x16, .f32⟩
  | .hbm, ⟨57, _⟩ => ⟨S4x4224x8x2x16, .f32⟩
  | .hbm, ⟨58, _⟩ => ⟨S4x4224x8x2x16, .f32⟩
  | .hbm, ⟨59, _⟩ => ⟨S4x4224x8x2x16, .f32⟩
  | .hbm, ⟨60, _⟩ => ⟨S4x4224x8x2x16, .f32⟩
  | .hbm, ⟨61, _⟩ => ⟨S4x4224x8x2x16, .f32⟩
  | .hbm, ⟨62, _⟩ => ⟨S4x4224x8x2x96, .f32⟩
  | .hbm, ⟨63, _⟩ => ⟨S4x4224x8x2x128, .f32⟩
  | .hbm, ⟨64, _⟩ => ⟨S_, .f32⟩
  | .hbm, ⟨65, _⟩ => ⟨S4x4224x8x2x128, .f32⟩
  | .hbm, ⟨66, _⟩ => ⟨S4x4224x8x2x128, .f32⟩
  | .hbm, ⟨67, _⟩ => ⟨S16896x2048, .f32⟩
  | .hbm, ⟨68, _⟩ => ⟨S4x4224x8x2x128, .f32⟩
  | .hbm, ⟨69, _⟩ => ⟨S4x4224x8x2x16, .f32⟩
  | .hbm, ⟨70, _⟩ => ⟨S4x4224x8x2x16, .f32⟩
  | .hbm, ⟨71, _⟩ => ⟨S1x4224x1x1x16, .f32⟩
  | .hbm, ⟨72, _⟩ => ⟨S1x4224x1x1x16, .f32⟩
  | .hbm, ⟨73, _⟩ => ⟨S4x4224x8x2x16, .f32⟩
  | .hbm, ⟨74, _⟩ => ⟨S4x4224x8x2x16, .f32⟩
  | .hbm, ⟨75, _⟩ => ⟨S4x4224x8x2x16, .f32⟩
  | .hbm, ⟨76, _⟩ => ⟨S4x4224x8x2x16, .f32⟩
  | .hbm, ⟨77, _⟩ => ⟨S4x4224x8x2x16, .f32⟩
  | .hbm, ⟨78, _⟩ => ⟨S4x4224x8x2x16, .f32⟩
  | .hbm, ⟨79, _⟩ => ⟨S4x4224x8x2x16, .f32⟩
  | .hbm, ⟨80, _⟩ => ⟨S4x4224x8x2x16, .f32⟩
  | .hbm, ⟨81, _⟩ => ⟨S4x4224x8x2x16, .f32⟩
  | .hbm, ⟨82, _⟩ => ⟨S4x4224x8x2x16, .f32⟩
  | .hbm, ⟨83, _⟩ => ⟨S4x4224x8x2x96, .f32⟩
  | .hbm, ⟨84, _⟩ => ⟨S4x4224x8x2x128, .f32⟩
  | .hbm, ⟨85, _⟩ => ⟨S16896x2048, .f32⟩
  | .hbm, ⟨86, _⟩ => ⟨S16896x2048, .f32⟩
  | .hbm, ⟨87, _⟩ => ⟨S16896x4096, .f32⟩
  | .hbm, ⟨88, _⟩ => ⟨S16896x4096, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== V.lean ====
abbrev S16896x2048 : Shape := ⟨2, ![16896, 2048]⟩
abbrev S4x2048 : Shape := ⟨2, ![4, 2048]⟩
abbrev S4x2048x15360 : Shape := ⟨3, ![4, 2048, 15360]⟩
abbrev S4x1x2048 : Shape := ⟨3, ![4, 1, 2048]⟩
abbrev S1x2048x512 : Shape := ⟨3, ![1, 2048, 512]⟩
abbrev S1408x2048 : Shape := ⟨2, ![1408, 2048]⟩
abbrev S1x1x2048 : Shape := ⟨3, ![1, 1, 2048]⟩
abbrev S1408x512 : Shape := ⟨2, ![1408, 512]⟩
abbrev S1x2048 : Shape := ⟨2, ![1, 2048]⟩
abbrev S1408 : Shape := ⟨1, ![1408]⟩
abbrev S1408x1 : Shape := ⟨2, ![1408, 1]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S4x1x2048, .f32⟩
  | .hbm, ⟨4, _⟩ => ⟨S4x2048x15360, .bf16⟩
  | .hbm, ⟨5, _⟩ => ⟨S16896x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1408x2048, .f32⟩
  | .local _ .vmem, ⟨3, _⟩ => ⟨S1x1x2048, .f32⟩
  | .local _ .vmem, ⟨4, _⟩ => ⟨S1408x512, .bf16⟩
  | .local _ .vmem, ⟨5, _⟩ => ⟨S1408x512, .bf16⟩
  | .local _ .vmem, ⟨6, _⟩ => ⟨S1408x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![12, 4], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VRefIdeal.lean ====
abbrev S16896x2048 : Shape := ⟨2, ![16896, 2048]⟩
abbrev S4x2048 : Shape := ⟨2, ![4, 2048]⟩
abbrev S4x2048x15360 : Shape := ⟨3, ![4, 2048, 15360]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x15360 : Shape := ⟨3, ![1, 2048, 15360]⟩
abbrev S2048x15360 : Shape := ⟨2, ![2048, 15360]⟩
abbrev S16896x15360 : Shape := ⟨2, ![16896, 15360]⟩

abbrev nBuf : Space → Nat
  | .hbm => 26
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S1x2048, .f32⟩
  | .hbm, ⟨4, _⟩ => ⟨S2048, .f32⟩
  | .hbm, ⟨5, _⟩ => ⟨S16896x2048, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x2048, .f32⟩
  | .hbm, ⟨17, _⟩ => ⟨S16896x2048, .f32⟩
  | .hbm, ⟨18, _⟩ => ⟨S1x2048, .f32⟩
  | .hbm, ⟨19, _⟩ => ⟨S16896x2048, .f32⟩
  | .hbm, ⟨20, _⟩ => ⟨S16896x2048, .f32⟩
  | .hbm, ⟨21, _⟩ => ⟨S1x2048x15360, .f32⟩
  | .hbm, ⟨22, _⟩ => ⟨S2048x15360, .f32⟩
  | .hbm, ⟨23, _⟩ => ⟨S16896x15360, .f32⟩
  | .hbm, ⟨24, _⟩ => ⟨S16896x2048, .f32⟩
  | .hbm, ⟨25, _⟩ => ⟨S16896x2048, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Lruin.lean ====
abbrev S16896x2048 : Shape := ⟨2, ![16896, 2048]⟩
abbrev S4x2048 : Shape := ⟨2, ![4, 2048]⟩
abbrev S4x2048x15360 : Shape := ⟨3, ![4, 2048, 15360]⟩
abbrev S4x1x2048 : Shape := ⟨3, ![4, 1, 2048]⟩
abbrev S16896x5120 : Shape := ⟨2, ![16896, 5120]⟩
abbrev S1x2048x512 : Shape := ⟨3, ![1, 2048, 512]⟩
abbrev S1408x2048 : Shape := ⟨2, ![1408, 2048]⟩
abbrev S1x1x2048 : Shape := ⟨3, ![1, 1, 2048]⟩
abbrev S1408x512 : Shape := ⟨2, ![1408, 512]⟩
abbrev S1x2048 : Shape := ⟨2, ![1, 2048]⟩
abbrev S1408 : Shape := ⟨1, ![1408]⟩
abbrev S1408x1 : Shape := ⟨2, ![1408, 1]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S4x1x2048, .f32⟩
  | .hbm, ⟨4, _⟩ => ⟨S4x2048x15360, .bf16⟩
  | .hbm, ⟨5, _⟩ => ⟨S16896x5120, .f32⟩
  | .local _ .vmem, ⟨0, _⟩ => ⟨S1x2048x512, .bf16⟩
  | .local _ .vmem, ⟨1, _⟩ => ⟨S1x2048x512, .bf16⟩
  | .local _ .vmem, ⟨2, _⟩ => ⟨S1408x2048, .f32⟩
  | .local _ .vmem, ⟨3, _⟩ => ⟨S1x1x2048, .f32⟩
  | .local _ .vmem, ⟨4, _⟩ => ⟨S1408x512, .f32⟩
  | .local _ .vmem, ⟨5, _⟩ => ⟨S1408x512, .f32⟩
  | .local _ .vmem, ⟨6, _⟩ => ⟨S1408x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![12, 10], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c1_i32 : BitVec 32 := 1#32
  let c0_i32 : BitVec 32 := 0#32
  let c0_i32_0 : BitVec 32 := 0#32
  ![c1_i32.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruinRefIdeal.lean ====
abbrev S16896x2048 : Shape := ⟨2, ![16896, 2048]⟩
abbrev S4x2048 : Shape := ⟨2, ![4, 2048]⟩
abbrev S4x2048x15360 : Shape := ⟨3, ![4, 2048, 15360]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x15360 : Shape := ⟨3, ![1, 2048, 15360]⟩
abbrev S2048x15360 : Shape := ⟨2, ![2048, 15360]⟩
abbrev S16896x15360 : Shape := ⟨2, ![16896, 15360]⟩
abbrev S16896x5120 : Shape := ⟨2, ![16896, 5120]⟩

abbrev nBuf : Space → Nat
  | .hbm => 25
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S1x2048, .f32⟩
  | .hbm, ⟨4, _⟩ => ⟨S2048, .f32⟩
  | .hbm, ⟨5, _⟩ => ⟨S16896x2048, .f32⟩
  | .hbm, ⟨6, _⟩ => ⟨S_, .f32⟩
  | .hbm, ⟨7, _⟩ => ⟨S16896, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S_, .f32⟩
  | .hbm, ⟨13, _⟩ => ⟨S16896x1, .f32⟩
  | .hbm, ⟨14, _⟩ => ⟨S16896x1, .f32⟩
  | .hbm, ⟨15, _⟩ => ⟨S16896x1, .f32⟩
  | .hbm, ⟨16, _⟩ => ⟨S16896x2048, .f32⟩
  | .hbm, ⟨17, _⟩ => ⟨S16896x2048, .f32⟩
  | .hbm, ⟨18, _⟩ => ⟨S1x2048, .f32⟩
  | .hbm, ⟨19, _⟩ => ⟨S16896x2048, .f32⟩
  | .hbm, ⟨20, _⟩ => ⟨S16896x2048, .f32⟩
  | .hbm, ⟨21, _⟩ => ⟨S1x2048x15360, .f32⟩
  | .hbm, ⟨22, _⟩ => ⟨S2048x15360, .f32⟩
  | .hbm, ⟨23, _⟩ => ⟨S16896x15360, .f32⟩
  | .hbm, ⟨24, _⟩ => ⟨S16896x5120, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Gate.lean ====
abbrev S16896x2048 : Shape := ⟨2, ![16896, 2048]⟩
abbrev S4x2048 : Shape := ⟨2, ![4, 2048]⟩
abbrev S4x2048x15360 : Shape := ⟨3, ![4, 2048, 15360]⟩
abbrev S4x4096 : Shape := ⟨2, ![4, 4096]⟩
abbrev S4x1x2048 : Shape := ⟨3, ![4, 1, 2048]⟩
abbrev S4x1x4096 : Shape := ⟨3, ![4, 1, 4096]⟩
abbrev S16896x4096 : Shape := ⟨2, ![16896, 4096]⟩
abbrev S1x2048x512 : Shape := ⟨3, ![1, 2048, 512]⟩
abbrev S1408x2048 : Shape := ⟨2, ![1408, 2048]⟩
abbrev S1x1x2048 : Shape := ⟨3, ![1, 1, 2048]⟩
abbrev S1x1x512 : Shape := ⟨3, ![1, 1, 512]⟩
abbrev S1408x512 : Shape := ⟨2, ![1408, 512]⟩
abbrev S1x2048 : Shape := ⟨2, ![1, 2048]⟩
abbrev S1408 : Shape := ⟨1, ![1408]⟩
abbrev S1408x1 : Shape := ⟨2, ![1408, 1]⟩
abbrev S2048x512 : Shape := ⟨2, ![2048, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S4x4096, .f32⟩
  | .hbm, ⟨4, _⟩ => ⟨S4x1x2048, .f32⟩
  | .hbm, ⟨5, _⟩ => ⟨S4x2048x15360, .bf16⟩
  | .hbm, ⟨6, _⟩ => ⟨S4x1x4096, .f32⟩
  | .hbm, ⟨7, _⟩ => ⟨S16896x4096, .f32⟩
  | .local _ .vmem, ⟨0, _⟩ => ⟨S1x2048x512, .bf16⟩
  | .local _ .vmem, ⟨1, _⟩ => ⟨S1x2048x512, .bf16⟩
  | .local _ .vmem, ⟨2, _⟩ => ⟨S1408x2048, .f32⟩
  | .local _ .vmem, ⟨3, _⟩ => ⟨S1x1x2048, .f32⟩
  | .local _ .vmem, ⟨4, _⟩ => ⟨S1x1x512, .f32⟩
  | .local _ .vmem, ⟨5, _⟩ => ⟨S1x1x512, .f32⟩
  | .local _ .vmem, ⟨6, _⟩ => ⟨S1408x512, .f32⟩
  | .local _ .vmem, ⟨7, _⟩ => ⟨S1408x512, .f32⟩
  | .local _ .vmem, ⟨8, _⟩ => ⟨S1408x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![12, 8], ![false, false]⟩

def cc0_transform_0 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c1_i32 : BitVec 32 := 1#32
  let c0_i32 : BitVec 32 := 0#32
  let c0_i32_0 : BitVec 32 := 0#32
  ![c1_i32.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1408x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S16896x2048 : Shape := ⟨2, ![16896, 2048]⟩
abbrev S4x2048 : Shape := ⟨2, ![4, 2048]⟩
abbrev S4x2048x15360 : Shape := ⟨3, ![4, 2048, 15360]⟩
abbrev S4x4096 : Shape := ⟨2, ![4, 4096]⟩
abbrev S1x2048 : Shape := ⟨2, ![1, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048x15360 : Shape := ⟨3, ![1, 2048, 15360]⟩
abbrev S2048x15360 : Shape := ⟨2, ![2048, 15360]⟩
abbrev S16896x15360 : Shape := ⟨2, ![16896, 15360]⟩
abbrev S16896x4096 : Shape := ⟨2, ![16896, 4096]⟩
abbrev S1x4096 : Shape := ⟨2, ![1, 4096]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S4x2048, .f32⟩
  | .hbm, ⟨2, _⟩ => ⟨S4x2048x15360, .f32⟩
  | .hbm, ⟨3, _⟩ => ⟨S4x4096, .f32⟩
  | .hbm, ⟨4, _⟩ => ⟨S1x2048, .f32⟩
  | .hbm, ⟨5, _⟩ => ⟨S2048, .f32⟩
  | .hbm, ⟨6, _⟩ => ⟨S16896x2048, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x2048, .f32⟩
  | .hbm, ⟨18, _⟩ => ⟨S16896x2048, .f32⟩
  | .hbm, ⟨19, _⟩ => ⟨S1x2048, .f32⟩
  | .hbm, ⟨20, _⟩ => ⟨S16896x2048, .f32⟩
  | .hbm, ⟨21, _⟩ => ⟨S16896x2048, .f32⟩
  | .hbm, ⟨22, _⟩ => ⟨S1x2048x15360, .f32⟩
  | .hbm, ⟨23, _⟩ => ⟨S2048x15360, .f32⟩
  | .hbm, ⟨24, _⟩ => ⟨S16896x15360, .f32⟩
  | .hbm, ⟨25, _⟩ => ⟨S16896x4096, .f32⟩
  | .hbm, ⟨26, _⟩ => ⟨S1x4096, .f32⟩
  | .hbm, ⟨27, _⟩ => ⟨S4096, .f32⟩
  | .hbm, ⟨28, _⟩ => ⟨S1x4096, .f32⟩
  | .hbm, ⟨29, _⟩ => ⟨S16896x4096, .f32⟩
  | .hbm, ⟨30, _⟩ => ⟨S16896x4096, .f32⟩
  | .hbm, ⟨31, _⟩ => ⟨S16896x4096, .f32⟩
  | .hbm, ⟨32, _⟩ => ⟨S16896x4096, .f32⟩
  | .hbm, ⟨33, _⟩ => ⟨S_, .f32⟩
  | .hbm, ⟨34, _⟩ => ⟨S16896x4096, .f32⟩
  | .hbm, ⟨35, _⟩ => ⟨S16896x4096, .f32⟩
  | .hbm, ⟨36, _⟩ => ⟨S_, .f32⟩
  | .hbm, ⟨37, _⟩ => ⟨S16896x4096, .f32⟩
  | .hbm, ⟨38, _⟩ => ⟨S16896x4096, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Lru.lean ====
abbrev S16896x5120 : Shape := ⟨2, ![16896, 5120]⟩
abbrev S4x4x2560 : Shape := ⟨3, ![4, 4, 2560]⟩
abbrev S4x2560 : Shape := ⟨2, ![4, 2560]⟩
abbrev S4x16x160x160 : Shape := ⟨4, ![4, 16, 160, 160]⟩
abbrev S4x4x4x160x160 : Shape := ⟨5, ![4, 4, 4, 160, 160]⟩
abbrev S4x4 : Shape := ⟨2, ![4, 4]⟩
abbrev S_ : Shape := ⟨0, ![]⟩
abbrev S4x4x4x160x1x160 : Shape := ⟨6, ![4, 4, 4, 160, 1, 160]⟩
abbrev S1x1x4x1x4x1 : Shape := ⟨6, ![1, 1, 4, 1, 4, 1]⟩
abbrev S4x4x4x160x4x160 : Shape := ⟨6, ![4, 4, 4, 160, 4, 160]⟩
abbrev S4x4x640x640 : Shape := ⟨4, ![4, 4, 640, 640]⟩
abbrev S4x4x640x1280 : Shape := ⟨4, ![4, 4, 640, 1280]⟩
abbrev S4x1x2560 : Shape := ⟨3, ![4, 1, 2560]⟩
abbrev S4x8x2560 : Shape := ⟨3, ![4, 8, 2560]⟩
abbrev S16896x2560 : Shape := ⟨2, ![16896, 2560]⟩
abbrev S384x640 : Shape := ⟨2, ![384, 640]⟩
abbrev S1x8x640 : Shape := ⟨3, ![1, 8, 640]⟩
abbrev S1x1x640x1280 : Shape := ⟨4, ![1, 1, 640, 1280]⟩
abbrev S392x640 : Shape := ⟨2, ![392, 640]⟩
abbrev S1x640 : Shape := ⟨2, ![1, 640]⟩
abbrev S8x640 : Shape := ⟨2, ![8, 640]⟩
abbrev S640x1280 : Shape := ⟨2, ![640, 1280]⟩
abbrev S384x1280 : Shape := ⟨2, ![384, 1280]⟩

abbrev nBuf : Space → Nat
  | .hbm => 44
  | .vmem => 15
  | .smem => 0
  | _ => 0

abbrev bufTy : (tb : Table) → Fin (tcTables nBuf tb) → BufTy
  | .hbm, ⟨0, _⟩ => ⟨S16896x5120, .f32⟩
  | .hbm, ⟨1, _⟩ => ⟨S4x4x2560, .f32⟩
  | .hbm, ⟨2, _⟩ => ⟨S4x2560, .f32⟩
  | .hbm, ⟨3, _⟩ => ⟨S4x16x160x160, .f32⟩
  | .hbm, ⟨4, _⟩ => ⟨S4x2560, .f32⟩
  | .hbm, ⟨5, _⟩ => ⟨S4x16x160x160, .f32⟩
  | .hbm, ⟨6, _⟩ => ⟨S4x2560, .f32⟩
  | .hbm, ⟨7, _⟩ => ⟨S4x2560, .f32⟩
  | .hbm, ⟨8, _⟩ => ⟨S4x4x4x160x160, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x4x4x160x1x160, .f32⟩
  | .hbm, ⟨17, _⟩ => ⟨S1x1x4x1x4x1, .f32⟩
  | .hbm, ⟨18, _⟩ => ⟨S4x4x4x160x4x160, .f32⟩
  | .hbm, ⟨19, _⟩ => ⟨S4x4x4x160x4x160, .f32⟩
  | .hbm, ⟨20, _⟩ => ⟨S4x4x4x160x4x160, .f32⟩
  | .hbm, ⟨21, _⟩ => ⟨S4x4x640x640, .f32⟩
  | .hbm, ⟨22, _⟩ => ⟨S4x4x4x160x160, .f32⟩
  | .hbm, ⟨23, _⟩ => ⟨S4x4, .i32⟩
  | .hbm, ⟨24, _⟩ => ⟨S4x4, .i32⟩
  | .hbm, ⟨25, _⟩ => ⟨S_, .i32⟩
  | .hbm, ⟨26, _⟩ => ⟨S4x4, .i32⟩
  | .hbm, ⟨27, _⟩ => ⟨S4x4, .i32⟩
  | .hbm, ⟨28, _⟩ => ⟨S4x4, .i1⟩
  | .hbm, ⟨29, _⟩ => ⟨S4x4, .f32⟩
  | .hbm, ⟨30, _⟩ => ⟨S4x4x4x160x1x160, .f32⟩
  | .hbm, ⟨31, _⟩ => ⟨S1x1x4x1x4x1, .f32⟩
  | .hbm, ⟨32, _⟩ => ⟨S4x4x4x160x4x160, .f32⟩
  | .hbm, ⟨33, _⟩ => ⟨S4x4x4x160x4x160, .f32⟩
  | .hbm, ⟨34, _⟩ => ⟨S4x4x4x160x4x160, .f32⟩
  | .hbm, ⟨35, _⟩ => ⟨S4x4x640x640, .f32⟩
  | .hbm, ⟨36, _⟩ => ⟨S4x4x640x1280, .f32⟩
  | .hbm, ⟨37, _⟩ => ⟨S4x4x640x1280, .bf16⟩
  | .hbm, ⟨38, _⟩ => ⟨S4x1x2560, .f32⟩
  | .hbm, ⟨39, _⟩ => ⟨S4x1x2560, .f32⟩
  | .hbm, ⟨40, _⟩ => ⟨S4x1x2560, .f32⟩
  | .hbm, ⟨41, _⟩ => ⟨S4x1x2560, .f32⟩
  | .hbm, ⟨42, _⟩ => ⟨S4x8x2560, .f32⟩
  | .hbm, ⟨43, _⟩ => ⟨S16896x2560, .bf16⟩
  | .local _ .vmem, ⟨0, _⟩ => ⟨S384x640, .f32⟩
  | .local _ .vmem, ⟨1, _⟩ => ⟨S384x640, .f32⟩
  | .local _ .vmem, ⟨2, _⟩ => ⟨S384x640, .f32⟩
  | .local _ .vmem, ⟨3, _⟩ => ⟨S384x640, .f32⟩
  | .local _ .vmem, ⟨4, _⟩ => ⟨S1x8x640, .f32⟩
  | .local _ .vmem, ⟨5, _⟩ => ⟨S1x8x640, .f32⟩
  | .local _ .vmem, ⟨6, _⟩ => ⟨S1x1x640x1280, .bf16⟩
  | .local _ .vmem, ⟨7, _⟩ => ⟨S1x1x640x1280, .bf16⟩
  | .local _ .vmem, ⟨8, _⟩ => ⟨S384x640, .bf16⟩
  | .local _ .vmem, ⟨9, _⟩ => ⟨S384x640, .bf16⟩
  | .local _ .vmem, ⟨10, _⟩ => ⟨S392x640, .f32⟩
  | .local _ .vmem, ⟨11, _⟩ => ⟨S1x640, .f32⟩
  | .local _ .vmem, ⟨12, _⟩ => ⟨S384x640, .f32⟩
  | .local _ .vmem, ⟨13, _⟩ => ⟨S384x640, .f32⟩
  | .local _ .vmem, ⟨14, _⟩ => ⟨S384x640, .f32⟩
  | _, _ => ⟨S16896x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg2
  let c0_i32 : BitVec 32 := 0#32
  ![v1.toNat, arg1.toNat]

abbrev stage0_0 : Fin 2 → Memref sig .tc .vmem S384x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S384x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x640x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S384x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== LruRefIdeal.lean ====
abbrev S16896x5120 : Shape := ⟨2, ![16896, 5120]⟩
abbrev S4x4x2560 : Shape := ⟨3, ![4, 4, 2560]⟩
abbrev S4x2560 : Shape := ⟨2, ![4, 2560]⟩
abbrev S4x16x160x160 : Shape := ⟨4, ![4, 16, 160, 160]⟩
abbrev S16896x2560 : Shape := ⟨2, ![16896, 2560]⟩
abbrev S4x4224x2560 : Shape := ⟨3, ![4, 4224, 2560]⟩
abbrev S_ : Shape := ⟨0, ![]⟩
abbrev S4x4227x2560 : Shape := ⟨3, ![4, 4227, 2560]⟩
abbrev S1x2560 : Shape := ⟨2, ![1, 2560]⟩
abbrev S2560 : Shape := ⟨1, ![2560]⟩
abbrev S1x1x2560 : Shape := ⟨3, ![1, 1, 2560]⟩
abbrev S4x4224x16x160 : Shape := ⟨4, ![4, 4224, 16, 160]⟩
abbrev S1x16x160x160 : Shape := ⟨4, ![1, 16, 160, 160]⟩
abbrev S16x160x160 : Shape := ⟨3, ![16, 160, 160]⟩
abbrev S16x160x4x4224 : Shape := ⟨4, ![16, 160, 4, 4224]⟩
abbrev S4224x4x2560 : Shape := ⟨3, ![4224, 4, 2560]⟩
abbrev S1x4x2560 : Shape := ⟨3, ![1, 4, 2560]⟩

abbrev nBuf : Space → Nat
  | .hbm => 171
  | .vmem => 0
  | .smem => 0
  | _ => 0

abbrev hbmTy0_0 (i : Nat) : BufTy := match i % 128 with
  | 0 => ⟨S16896x5120, .f32⟩
  | 1 => ⟨S4x4x2560, .f32⟩
  | 2 => ⟨S4x2560, .f32⟩
  | 3 => ⟨S4x16x160x160, .f32⟩
  | 4 => ⟨S4x2560, .f32⟩
  | 5 => ⟨S4x16x160x160, .f32⟩
  | 6 => ⟨S4x2560, .f32⟩
  | 7 => ⟨S4x2560, .f32⟩
  | 8 => ⟨S16896x2560, .f32⟩
  | 9 => ⟨S4x4224x2560, .f32⟩
  | 10 => ⟨S_, .i32⟩
  | 11 => ⟨S_, .f32⟩
  | 12 => ⟨S4x4227x2560, .f32⟩
  | 13 => ⟨S1x2560, .f32⟩
  | 14 => ⟨S2560, .f32⟩
  | 15 => ⟨S4x4224x2560, .f32⟩
  | 16 => ⟨S1x1x2560, .f32⟩
  | 17 => ⟨S2560, .f32⟩
  | 18 => ⟨S1x1x2560, .f32⟩
  | 19 => ⟨S4x4224x2560, .f32⟩
  | 20 => ⟨S4x4224x2560, .f32⟩
  | 21 => ⟨S_, .f32⟩
  | 22 => ⟨S4x4224x2560, .f32⟩
  | 23 => ⟨S4x4224x2560, .f32⟩
  | 24 => ⟨S4x4224x2560, .f32⟩
  | 25 => ⟨S1x1x2560, .f32⟩
  | 26 => ⟨S2560, .f32⟩
  | 27 => ⟨S1x1x2560, .f32⟩
  | 28 => ⟨S4x4224x2560, .f32⟩
  | 29 => ⟨S4x4224x2560, .f32⟩
  | 30 => ⟨S4x4224x2560, .f32⟩
  | 31 => ⟨S4x4224x2560, .f32⟩
  | 32 => ⟨S1x1x2560, .f32⟩
  | 33 => ⟨S2560, .f32⟩
  | 34 => ⟨S1x1x2560, .f32⟩
  | 35 => ⟨S4x4224x2560, .f32⟩
  | 36 => ⟨S4x4224x2560, .f32⟩
  | 37 => ⟨S4x4224x2560, .f32⟩
  | 38 => ⟨S4x4224x2560, .f32⟩
  | 39 => ⟨S1x1x2560, .f32⟩
  | 40 => ⟨S2560, .f32⟩
  | 41 => ⟨S1x1x2560, .f32⟩
  | 42 => ⟨S4x4224x2560, .f32⟩
  | 43 => ⟨S4x4224x2560, .f32⟩
  | 44 => ⟨S4x4224x2560, .f32⟩
  | 45 => ⟨S1x1x2560, .f32⟩
  | 46 => ⟨S4x4224x2560, .f32⟩
  | 47 => ⟨S4x4224x2560, .f32⟩
  | 48 => ⟨S4x4224x16x160, .f32⟩
  | 49 => ⟨S1x16x160x160, .f32⟩
  | 50 => ⟨S16x160x160, .f32⟩
  | 51 => ⟨S16x160x4x4224, .f32⟩
  | 52 => ⟨S4x4224x16x160, .f32⟩
  | 53 => ⟨S4x4224x2560, .f32⟩
  | 54 => ⟨S1x2560, .f32⟩
  | 55 => ⟨S2560, .f32⟩
  | 56 => ⟨S1x1x2560, .f32⟩
  | 57 => ⟨S4x4224x2560, .f32⟩
  | 58 => ⟨S4x4224x2560, .f32⟩
  | 59 => ⟨S4x4224x2560, .f32⟩
  | 60 => ⟨S4x4224x2560, .f32⟩
  | 61 => ⟨S_, .f32⟩
  | 62 => ⟨S4x4224x2560, .f32⟩
  | 63 => ⟨S4x4224x2560, .f32⟩
  | 64 => ⟨S_, .f32⟩
  | 65 => ⟨S4x4224x2560, .f32⟩
  | 66 => ⟨S4x4224x2560, .f32⟩
  | 67 => ⟨S1x16x160x160, .f32⟩
  | 68 => ⟨S16x160x160, .f32⟩
  | 69 => ⟨S16x160x4x4224, .f32⟩
  | 70 => ⟨S4x4224x16x160, .f32⟩
  | 71 => ⟨S4x4224x2560, .f32⟩
  | 72 => ⟨S1x2560, .f32⟩
  | 73 => ⟨S2560, .f32⟩
  | 74 => ⟨S1x1x2560, .f32⟩
  | 75 => ⟨S4x4224x2560, .f32⟩
  | 76 => ⟨S4x4224x2560, .f32⟩
  | 77 => ⟨S4x4224x2560, .f32⟩
  | 78 => ⟨S4x4224x2560, .f32⟩
  | 79 => ⟨S_, .f32⟩
  | 80 => ⟨S4x4224x2560, .f32⟩
  | 81 => ⟨S4x4224x2560, .f32⟩
  | 82 => ⟨S_, .f32⟩
  | 83 => ⟨S4x4224x2560, .f32⟩
  | 84 => ⟨S4x4224x2560, .f32⟩
  | 85 => ⟨S_, .f32⟩
  | 86 => ⟨S4x4224x2560, .f32⟩
  | 87 => ⟨S4x4224x2560, .f32⟩
  | 88 => ⟨S1x2560, .f32⟩
  | 89 => ⟨S2560, .f32⟩
  | 90 => ⟨S2560, .f32⟩
  | 91 => ⟨S_, .f32⟩
  | 92 => ⟨S2560, .f32⟩
  | 93 => ⟨S2560, .f32⟩
  | 94 => ⟨S2560, .f32⟩
  | 95 => ⟨S2560, .f32⟩
  | 96 => ⟨S2560, .i1⟩
  | 97 => ⟨S2560, .f32⟩
  | 98 => ⟨S2560, .f32⟩
  | 99 => ⟨S2560, .f32⟩
  | 100 => ⟨S2560, .f32⟩
  | 101 => ⟨S2560, .f32⟩
  | 102 => ⟨S2560, .f32⟩
  | 103 => ⟨S2560, .f32⟩
  | 104 => ⟨S2560, .f32⟩
  | 105 => ⟨S2560, .f32⟩
  | 106 => ⟨S1x1x2560, .f32⟩
  | 107 => ⟨S4x4224x2560, .f32⟩
  | 108 => ⟨S4x4224x2560, .f32⟩
  | 109 => ⟨S4x4224x2560, .f32⟩
  | 110 => ⟨S_, .f32⟩
  | 111 => ⟨S4x4224x2560, .f32⟩
  | 112 => ⟨S4x4224x2560, .f32⟩
  | 113 => ⟨S4x4224x2560, .f32⟩
  | 114 => ⟨S4x4224x2560, .f32⟩
  | 115 => ⟨S4x4224x2560, .f32⟩
  | 116 => ⟨S4x4224x2560, .f32⟩
  | 117 => ⟨S4x4224x2560, .f32⟩
  | 118 => ⟨S_, .f32⟩
  | 119 => ⟨S4x2560, .f32⟩
  | 120 => ⟨S4224x4x2560, .f32⟩
  | 121 => ⟨S4224x4x2560, .f32⟩
  | 122 => ⟨S_, .f32⟩
  | 123 => ⟨S4224x4x2560, .f32⟩
  | 124 => ⟨S_, .i32⟩
  | 125 => ⟨S4224x4x2560, .f32⟩
  | 126 => ⟨S4224x4x2560, .f32⟩
  | 127 => ⟨S_, .i32⟩
  | _ => ⟨S16896x5120, .f32⟩

abbrev hbmTy0_1 (i : Nat) : BufTy := match i % 128 with
  | 0 => ⟨S4x2560, .f32⟩
  | 1 => ⟨S4224x4x2560, .f32⟩
  | 2 => ⟨S_, .i32⟩
  | 3 => ⟨S_, .i1⟩
  | 4 => ⟨S_, .i32⟩
  | 5 => ⟨S_, .i32⟩
  | 6 => ⟨S1x4x2560, .f32⟩
  | 7 => ⟨S4x2560, .f32⟩
  | 8 => ⟨S_, .i32⟩
  | 9 => ⟨S_, .i32⟩
  | 10 => ⟨S1x4x2560, .f32⟩
  | 11 => ⟨S4x2560, .f32⟩
  | 12 => ⟨S4x2560, .f32⟩
  | 13 => ⟨S4x2560, .f32⟩
  | 14 => ⟨S1x4x2560, .f32⟩
  | 15 => ⟨S_, .i32⟩
  | 16 => ⟨S_, .i32⟩
  | 17 => ⟨S4224x4x2560, .f32⟩
  | 18 => ⟨S_, .i32⟩
  | 19 => ⟨S_, .i32⟩
  | 20 => ⟨S4x4224x2560, .f32⟩
  | 21 => ⟨S16896x2560, .f32⟩
  | 22 => ⟨S4x4224x2560, .f32⟩
  | 23 => ⟨S4x4224x2560, .f32⟩
  | 24 => ⟨S4x4224x2560, .f32⟩
  | 25 => ⟨S_, .f32⟩
  | 26 => ⟨S4x4224x2560, .f32⟩
  | 27 => ⟨S4x4224x2560, .f32⟩
  | 28 => ⟨S4x4224x2560, .f32⟩
  | 29 => ⟨S_, .f32⟩
  | 30 => ⟨S4x4224x2560, .f32⟩
  | 31 => ⟨S4x4224x2560, .f32⟩
  | 32 => ⟨S4x4224x2560, .f32⟩
  | 33 => ⟨S_, .f32⟩
  | 34 => ⟨S4x4224x2560, .f32⟩
  | 35 => ⟨S4x4224x2560, .f32⟩
  | 36 => ⟨S_, .f32⟩
  | 37 => ⟨S4x4224x2560, .f32⟩
  | 38 => ⟨S4x4224x2560, .f32⟩
  | 39 => ⟨S4x4224x2560, .f32⟩
  | 40 => ⟨S4x4224x2560, .f32⟩
  | 41 => ⟨S16896x2560, .f32⟩
  | 42 => ⟨S16896x2560, .bf16⟩
  | _ => ⟨S16896x5120, .f32⟩

abbrev hbmTy (i : Nat) : BufTy := match i / 128 with
  | 0 => hbmTy0_0 i
  | 1 => hbmTy0_1 i
  | _ => ⟨S16896x5120, .f32⟩

abbrev bufTy : (tb : Table) → Fin (tcTables nBuf tb) → BufTy
  | .hbm, ⟨i, _⟩ => hbmTy i
  | _, _ => ⟨S16896x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_0 : Ref sig .tc := ⟨.hbm, 61, rfl⟩
abbrev main_v50 : Ref sig .tc := ⟨.hbm, 62, rfl⟩
abbrev main_v51 : Ref sig .tc := ⟨.hbm, 63, rfl⟩
abbrev main_cst_1 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_2 : Ref sig .tc := ⟨.hbm, 79, rfl⟩
abbrev main_v66 : Ref sig .tc := ⟨.hbm, 80, rfl⟩
abbrev main_v67 : Ref sig .tc := ⟨.hbm, 81, rfl⟩
abbrev main_cst_3 : Ref sig .tc := ⟨.hbm, 82, rfl⟩
abbrev main_v68 : Ref sig .tc := ⟨.hbm, 83, rfl⟩
abbrev main_v69 : Ref sig .tc := ⟨.hbm, 84, rfl⟩
abbrev main_cst_4 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_call1_v5 : Ref sig .tc := ⟨.hbm, 97, rfl⟩
abbrev main_call1_v6 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_5 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_6 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_7 : Ref sig .tc := ⟨.hbm, 122, rfl⟩
abbrev main_v91 : Ref sig .tc := ⟨.hbm, 123, rfl⟩
abbrev main_c_8 : Ref sig .tc := ⟨.hbm, 124, rfl⟩
abbrev main_v92_0 : Ref sig .tc := ⟨.hbm, 125, rfl⟩
abbrev main_v92_1 : Ref sig .tc := ⟨.hbm, 126, rfl⟩
abbrev main_v92_2 : Ref sig .tc := ⟨.hbm, 127, rfl⟩
abbrev main_v92_3 : Ref sig .tc := ⟨.hbm, 128, rfl⟩
abbrev main_v92_4 : Ref sig .tc := ⟨.hbm, 129, rfl⟩
abbrev main_while0c_c_17 : Ref sig .tc := ⟨.hbm, 130, rfl⟩
abbrev main_while0c_v112 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_v0 : Ref sig .tc := ⟨.hbm, 134, rfl⟩
abbrev main_while0b_v112 : Ref sig .tc := ⟨.hbm, 135, rfl⟩
abbrev main_while0b_call3_c : Ref sig .tc := ⟨.hbm, 136, rfl⟩
abbrev main_while0b_call3_c_0 : Ref sig .tc := ⟨.hbm, 137, rfl⟩
abbrev main_while0b_call3_v0 : Ref sig .tc := ⟨.hbm, 138, rfl⟩
abbrev main_while0b_v113 : Ref sig .tc := ⟨.hbm, 139, rfl⟩
abbrev main_while0b_v114 : Ref sig .tc := ⟨.hbm, 140, rfl⟩
abbrev main_while0b_v115 : Ref sig .tc := ⟨.hbm, 141, rfl⟩
abbrev main_while0b_call4_v0 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_v116 : Ref sig .tc := ⟨.hbm, 145, rfl⟩
abbrev main_while0b_c_17 : Ref sig .tc := ⟨.hbm, 146, rfl⟩
abbrev main_while0b_v117 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_9 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_cst_10 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_11 : Ref sig .tc := ⟨.hbm, 161, rfl⟩
abbrev main_v104 : Ref sig .tc := ⟨.hbm, 162, rfl⟩
abbrev main_v105 : Ref sig .tc := ⟨.hbm, 163, rfl⟩
abbrev main_cst_12 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩

abbrev nD : Nat := 1
abbrev τ : Topo := Topo.v7x

variable {F : FTy → Type} [FloatOps F]

abbrev main_while0_count : Scf.Loop 32 := ⟨0#32, 4224#32, 1#32⟩
-- ==== Mix.lean ====
abbrev S16896x2048 : Shape := ⟨2, ![16896, 2048]⟩
abbrev S16896x2560 : Shape := ⟨2, ![16896, 2560]⟩
abbrev S4x2048x2048 : Shape := ⟨3, ![4, 2048, 2048]⟩
abbrev S4x2560x2048 : Shape := ⟨3, ![4, 2560, 2048]⟩
abbrev S16896x4096 : Shape := ⟨2, ![16896, 4096]⟩
abbrev S1x2048x512 : Shape := ⟨3, ![1, 2048, 512]⟩
abbrev S1056x2048 : Shape := ⟨2, ![1056, 2048]⟩
abbrev S1056x2560 : Shape := ⟨2, ![1056, 2560]⟩
abbrev S1x2560x512 : Shape := ⟨3, ![1, 2560, 512]⟩
abbrev S1056x512 : Shape := ⟨2, ![1056, 512]⟩
abbrev S2048x512 : Shape := ⟨2, ![2048, 512]⟩
abbrev S2560x512 : Shape := ⟨2, ![2560, 512]⟩

abbrev nBuf : Space → Nat
  | .hbm => 8
  | .vmem => 12
  | .smem => 0
  | _ => 0

abbrev bufTy : (tb : Table) → Fin (tcTables nBuf tb) → BufTy
  | .hbm, ⟨0, _⟩ => ⟨S16896x2048, .bf16⟩
  | .hbm, ⟨1, _⟩ => ⟨S16896x2560, .bf16⟩
  | .hbm, ⟨2, _⟩ => ⟨S4x2048x2048, .f32⟩
  | .hbm, ⟨3, _⟩ => ⟨S4x2560x2048, .f32⟩
  | .hbm, ⟨4, _⟩ => ⟨S16896x4096, .f32⟩
  | .hbm, ⟨5, _⟩ => ⟨S4x2048x2048, .bf16⟩
  | .hbm, ⟨6, _⟩ => ⟨S4x2560x2048, .bf16⟩
  | .hbm, ⟨7, _⟩ => ⟨S16896x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1056x2048, .bf16⟩
  | .local _ .vmem, ⟨3, _⟩ => ⟨S1056x2560, .bf16⟩
  | .local _ .vmem, ⟨4, _⟩ => ⟨S1x2560x512, .bf16⟩
  | .local _ .vmem, ⟨5, _⟩ => ⟨S1x2560x512, .bf16⟩
  | .local _ .vmem, ⟨6, _⟩ => ⟨S1056x512, .f32⟩
  | .local _ .vmem, ⟨7, _⟩ => ⟨S1056x512, .f32⟩
  | .local _ .vmem, ⟨8, _⟩ => ⟨S1056x512, .f32⟩
  | .local _ .vmem, ⟨9, _⟩ => ⟨S1056x512, .f32⟩
  | .local _ .vmem, ⟨10, _⟩ => ⟨S1056x512, .bf16⟩
  | .local _ .vmem, ⟨11, _⟩ => ⟨S1056x512, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1056x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1056x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixRefIdeal.lean ====
abbrev S16896x2048 : Shape := ⟨2, ![16896, 2048]⟩
abbrev S16896x2560 : Shape := ⟨2, ![16896, 2560]⟩
abbrev S4x2048x2048 : Shape := ⟨3, ![4, 2048, 2048]⟩
abbrev S4x2560x2048 : Shape := ⟨3, ![4, 2560, 2048]⟩
abbrev S16896x4096 : Shape := ⟨2, ![16896, 4096]⟩
abbrev S1x2048x2048 : Shape := ⟨3, ![1, 2048, 2048]⟩
abbrev S2048x2048 : Shape := ⟨2, ![2048, 2048]⟩
abbrev S1x2560x2048 : Shape := ⟨3, ![1, 2560, 2048]⟩
abbrev S2560x2048 : Shape := ⟨2, ![2560, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2560, .bf16⟩
  | .hbm, ⟨2, _⟩ => ⟨S4x2048x2048, .f32⟩
  | .hbm, ⟨3, _⟩ => ⟨S4x2560x2048, .f32⟩
  | .hbm, ⟨4, _⟩ => ⟨S16896x4096, .f32⟩
  | .hbm, ⟨5, _⟩ => ⟨S16896x2048, .f32⟩
  | .hbm, ⟨6, _⟩ => ⟨S1x2048x2048, .f32⟩
  | .hbm, ⟨7, _⟩ => ⟨S2048x2048, .f32⟩
  | .hbm, ⟨8, _⟩ => ⟨S16896x2048, .f32⟩
  | .hbm, ⟨9, _⟩ => ⟨S16896x2560, .f32⟩
  | .hbm, ⟨10, _⟩ => ⟨S1x2560x2048, .f32⟩
  | .hbm, ⟨11, _⟩ => ⟨S2560x2048, .f32⟩
  | .hbm, ⟨12, _⟩ => ⟨S16896x2048, .f32⟩
  | .hbm, ⟨13, _⟩ => ⟨S16896x2048, .f32⟩
  | .hbm, ⟨14, _⟩ => ⟨S16896x2048, .f32⟩
  | .hbm, ⟨15, _⟩ => ⟨S16896x2048, .f32⟩
  | .hbm, ⟨16, _⟩ => ⟨S16896x2048, .f32⟩
  | .hbm, ⟨17, _⟩ => ⟨S16896x2048, .f32⟩
  | .hbm, ⟨18, _⟩ => ⟨S16896x2048, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Out.lean ====
abbrev S16896x2048 : Shape := ⟨2, ![16896, 2048]⟩
abbrev S4x2048x2048 : Shape := ⟨3, ![4, 2048, 2048]⟩
abbrev S1056x2048 : Shape := ⟨2, ![1056, 2048]⟩
abbrev S1x2048x512 : Shape := ⟨3, ![1, 2048, 512]⟩
abbrev S1056x512 : Shape := ⟨2, ![1056, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16896x2048, .bf16⟩
  | .hbm, ⟨1, _⟩ => ⟨S4x2048x2048, .f32⟩
  | .hbm, ⟨2, _⟩ => ⟨S16896x2048, .f32⟩
  | .hbm, ⟨3, _⟩ => ⟨S4x2048x2048, .bf16⟩
  | .hbm, ⟨4, _⟩ => ⟨S16896x2048, .f32⟩
  | .local _ .vmem, ⟨0, _⟩ => ⟨S1056x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1056x512, .f32⟩
  | .local _ .vmem, ⟨4, _⟩ => ⟨S1056x512, .f32⟩
  | .local _ .vmem, ⟨5, _⟩ => ⟨S1056x512, .f32⟩
  | .local _ .vmem, ⟨6, _⟩ => ⟨S1056x512, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1056x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1056x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16896x2048 : Shape := ⟨2, ![16896, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S4x2048x2048, .f32⟩
  | .hbm, ⟨2, _⟩ => ⟨S16896x2048, .f32⟩
  | .hbm, ⟨3, _⟩ => ⟨S16896x2048, .f32⟩
  | .hbm, ⟨4, _⟩ => ⟨S1x2048x2048, .f32⟩
  | .hbm, ⟨5, _⟩ => ⟨S2048x2048, .f32⟩
  | .hbm, ⟨6, _⟩ => ⟨S16896x2048, .f32⟩
  | .hbm, ⟨7, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Final.lean ====
abbrev S16896x2048 : Shape := ⟨2, ![16896, 2048]⟩
abbrev S2048 : Shape := ⟨1, ![2048]⟩
abbrev S1x2048 : Shape := ⟨2, ![1, 2048]⟩
abbrev S1056x2048 : Shape := ⟨2, ![1056, 2048]⟩
abbrev S1056 : Shape := ⟨1, ![1056]⟩
abbrev S1056x1 : Shape := ⟨2, ![1056, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S1x2048, .f32⟩
  | .hbm, ⟨3, _⟩ => ⟨S16896x2048, .f32⟩
  | .local _ .vmem, ⟨0, _⟩ => ⟨S1056x2048, .f32⟩
  | .local _ .vmem, ⟨1, _⟩ => ⟨S1056x2048, .f32⟩
  | .local _ .vmem, ⟨2, _⟩ => ⟨S1x2048, .f32⟩
  | .local _ .vmem, ⟨3, _⟩ => ⟨S1056x2048, .f32⟩
  | .local _ .vmem, ⟨4, _⟩ => ⟨S1056x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16896x2048 : Shape := ⟨2, ![16896, 2048]⟩
abbrev S2048 : Shape := ⟨1, ![2048]⟩
abbrev S_ : Shape := ⟨0, ![]⟩
abbrev S16896 : Shape := ⟨1, ![16896]⟩
abbrev S16896x1 : Shape := ⟨2, ![16896, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S16896x2048, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x2048, .f32⟩
  | .hbm, ⟨14, _⟩ => ⟨S16896x2048, .f32⟩
  | .hbm, ⟨15, _⟩ => ⟨S1x2048, .f32⟩
  | .hbm, ⟨16, _⟩ => ⟨S16896x2048, .f32⟩
  | .hbm, ⟨17, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.OnlineSoftmax.lean ====
/-
  Softmax over the extended reals, computed block by block. A row of scores `S : ℕ → EReal` (below `⊤`; a masked column
  is `⊥`) has, over its first `n` columns, a maximum `mx S n`, a normalizer `nrm S m n = ∑ exp (S c - m)` and a weighted
  sum `wsum S V m n = ∑ exp (S c - m) * V c`. `nrm_step` and `wsum_step`: rescaling both by `exp (m - m')` and adding the
  next block at the new maximum `m'` gives them over the longer prefix. `weights_combine`: two such rows subtracted after
  their sums are divided, or before.
-/
module

public import Idealize.ShloMosaic.PureOps.Ideal.Laws
public import Idealize.ShloMosaic.Lib.IdealHost

@[expose] public section

noncomputable section

namespace Cert.Online

open Idealize.ShloMosaic

/-- Multiplying by a nonnegative real distributes over a finite sum, whatever the terms. -/
theorem mul_sum_coe {ι : Type*} (s : Finset ι) (a : EReal) (ha : 0 ≤ a) (ha' : a ≠ ⊤) (f : ι → EReal) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top ha ha', ih]

/-- The exponential is never negative. -/
theorem exp_nonneg (x : EReal) : 0 ≤ Ideal.exp x := by
  induction x using EReal.rec with
  | bot => exact le_refl _
  | top => exact le_top
  | coe r => exact EReal.coe_nonneg.mpr (Real.exp_pos r).le

/-- A difference from something at least as large and below `⊤` has a real exponential. -/
theorem exp_sub_ne_top {a m : EReal} (h : a ≤ m) (hm : m ≠ ⊤) : Ideal.exp (a - m) ≠ ⊤ := by
  induction m using EReal.rec with
  | top => exact absurd rfl hm
  | bot =>
    obtain rfl := le_bot_iff.mp h
    exact EReal.zero_ne_top
  | coe m =>
    induction a using EReal.rec with
    | top => exact absurd (top_le_iff.mp h) (EReal.coe_ne_top m)
    | bot => exact EReal.zero_ne_top
    | coe a => exact EReal.coe_ne_top _

/-- The rescaling of one weight: from the maximum `m` to the maximum `m'`. -/
theorem exp_rescale {a m m' : EReal} (h : a ≤ m) (h' : m ≤ m') (hm' : m' ≠ ⊤) :
    Ideal.exp (m - m') * Ideal.exp (a - m) = Ideal.exp (a - m') := by
  induction a using EReal.rec with
  | top => exact absurd (top_le_iff.mp (h.trans h')) hm'
  | bot =>
    have e : ∀ x : EReal, Ideal.exp (⊥ - x) = 0 := fun x => by
      rw [sub_eq_add_neg, EReal.bot_add]; rfl
    rw [e, e, mul_zero]
  | coe a =>
    induction m using EReal.rec with
    | top => exact absurd (top_le_iff.mp h') hm'
    | bot => exact absurd (le_bot_iff.mp h) (EReal.coe_ne_bot a)
    | coe m =>
      induction m' using EReal.rec with
      | top => exact absurd rfl hm'
      | bot => exact absurd (le_bot_iff.mp h') (EReal.coe_ne_bot m)
      | coe m' =>
        show ((Real.exp (m - m') : ℝ) : EReal) * ((Real.exp (a - m) : ℝ) : EReal) = ((Real.exp (a - m') : ℝ) : EReal)
        rw [← EReal.coe_mul, ← Real.exp_add]
        congr 2
        ring

/-- The largest of the first `n` scores. -/
def mx (S : ℕ → EReal) (n : ℕ) : EReal := (Finset.range n).sup S

/-- The normalizer of the first `n` scores at the maximum `m`. -/
def nrm (S : ℕ → EReal) (m : EReal) (n : ℕ) : EReal := ∑ c ∈ Finset.range n, Ideal.exp (S c - m)

/-- The values weighted by the first `n` scores at the maximum `m`. -/
def wsum (S V : ℕ → EReal) (m : EReal) (n : ℕ) : EReal := ∑ c ∈ Finset.range n, Ideal.exp (S c - m) * V c

variable {S : ℕ → EReal}

theorem le_mx {n c : ℕ} (h : c < n) : S c ≤ mx S n := Finset.le_sup (f := S) (Finset.mem_range.mpr h)

theorem mx_ne_top (hS : ∀ c, S c ≠ ⊤) (n : ℕ) : mx S n ≠ ⊤ := by
  refine ne_of_lt ((Finset.sup_lt_iff (bot_lt_top)).mpr fun c _ => lt_of_le_of_ne le_top (hS c))

/-- The maximum over `B` more columns. -/
theorem mx_add (n B : ℕ) : mx S (n + B) = max (mx S n) ((Finset.univ : Finset (Fin B)).sup fun t => S (n + t)) := by
  apply le_antisymm
  · refine Finset.sup_le fun c hc => ?_
    rw [Finset.mem_range] at hc
    by_cases h : c < n
    · exact le_max_of_le_left (le_mx h)
    · refine le_max_of_le_right ?_
      have := Finset.le_sup (f := fun t : Fin B => S (n + t)) (Finset.mem_univ ⟨c - n, by omega⟩)
      simpa [show n + (c - n) = c by omega] using this
  · refine max_le (Finset.sup_mono (Finset.range_mono (by omega))) (Finset.sup_le fun t _ => le_mx (by omega))

theorem mx_le_add (n B : ℕ) : mx S n ≤ mx S (n + B) := Finset.sup_mono (Finset.range_mono (by omega))

/-- The normalizer over `B` more columns: the old one rescaled, plus the block's. -/
theorem nrm_step (hS : ∀ c, S c ≠ ⊤) (n B : ℕ) :
    Ideal.exp (mx S n - mx S (n + B)) * nrm S (mx S n) n + ∑ t : Fin B, Ideal.exp (S (n + t) - mx S (n + B))
      = nrm S (mx S (n + B)) (n + B) := by
  unfold nrm
  rw [mul_sum_coe _ _ (exp_nonneg _) (exp_sub_ne_top (mx_le_add n B) (mx_ne_top hS _)), Finset.sum_range_add,
    Finset.sum_range (n := B)]
  congr 1
  exact Finset.sum_congr rfl fun c hc =>
    exp_rescale (le_mx (Finset.mem_range.mp hc)) (mx_le_add n B) (mx_ne_top hS _)

/-- The weighted values over `B` more columns: the old ones rescaled, plus the block's. -/
theorem wsum_step (hS : ∀ c, S c ≠ ⊤) (V : ℕ → EReal) (n B : ℕ) :
    Ideal.exp (mx S n - mx S (n + B)) * wsum S V (mx S n) n
        + ∑ t : Fin B, Ideal.exp (S (n + t) - mx S (n + B)) * V (n + t)
      = wsum S V (mx S (n + B)) (n + B) := by
  unfold wsum
  rw [mul_sum_coe _ _ (exp_nonneg _) (exp_sub_ne_top (mx_le_add n B) (mx_ne_top hS _)), Finset.sum_range_add,
    Finset.sum_range (n := B)]
  congr 1
  refine Finset.sum_congr rfl fun c hc => ?_
  rw [← mul_assoc, exp_rescale (le_mx (Finset.mem_range.mp hc)) (mx_le_add n B) (mx_ne_top hS _)]

theorem exp_bot_sub (x : EReal) : Ideal.exp (⊥ - x) = 0 := by
  rw [sub_eq_add_neg, EReal.bot_add]; rfl

/-- Masked columns after the first `n` change neither the maximum, -/
theorem mx_of_masked {n N : ℕ} (h : n ≤ N) (hm : ∀ c, n ≤ c → S c = ⊥) : mx S N = mx S n := by
  apply le_antisymm
  · refine Finset.sup_le fun c hc => ?_
    by_cases h : c < n
    · exact le_mx h
    · rw [hm c (by omega)]; exact bot_le
  · exact Finset.sup_mono (Finset.range_mono h)

/-- nor the normalizer, -/
theorem nrm_of_masked {n N : ℕ} (h : n ≤ N) (hm : ∀ c, n ≤ c → S c = ⊥) (m : EReal) : nrm S m N = nrm S m n := by
  unfold nrm
  refine (Finset.sum_subset (Finset.range_mono h) fun c _ hc => ?_).symm
  rw [Finset.mem_range] at hc
  rw [hm c (by omega), exp_bot_sub]

/-- nor the weighted values. -/
theorem wsum_of_masked {n N : ℕ} (h : n ≤ N) (hm : ∀ c, n ≤ c → S c = ⊥) (V : ℕ → EReal) (m : EReal) :
    wsum S V m N = wsum S V m n := by
  unfold wsum
  refine (Finset.sum_subset (Finset.range_mono h) fun c _ hc => ?_).symm
  rw [Finset.mem_range] at hc
  rw [hm c (by omega), exp_bot_sub, zero_mul]

/-- A finite sum of reals is the real of the sum. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- When the first column is finite, the weights over `n ≥ 1` columns are real and their sum is a positive real. -/
theorem weights_real (hS : ∀ c, S c ≠ ⊤) {n : ℕ} (h0 : S 0 ≠ ⊥) (hn : 0 < n) :
    ∃ (e : ℕ → ℝ) (L : ℝ), (∀ c, c < n → Ideal.exp (S c - mx S n) = (e c : EReal)) ∧ nrm S (mx S n) n = (L : EReal)
      ∧ L ≠ 0 := by
  have hm := mx_ne_top hS n
  have hr : ∀ c, c < n → Ideal.exp (S c - mx S n) = ((Ideal.exp (S c - mx S n)).toReal : EReal) := fun c hc =>
    (EReal.coe_toReal (exp_sub_ne_top (le_mx hc) hm) (ne_bot_of_le_ne_bot EReal.zero_ne_bot (exp_nonneg _))).symm
  refine ⟨fun c => (Ideal.exp (S c - mx S n)).toReal, ∑ c ∈ Finset.range n, (Ideal.exp (S c - mx S n)).toReal, hr, ?_, ?_⟩
  · rw [coe_sum]
    exact Finset.sum_congr rfl fun c hc => hr c (Finset.mem_range.mp hc)
  · refine ne_of_gt (Finset.sum_pos' (fun c _ => EReal.toReal_nonneg (exp_nonneg _)) ⟨0, Finset.mem_range.mpr hn, ?_⟩)
    have h1 : mx S n ≠ ⊥ := ne_bot_of_le_ne_bot h0 (le_mx hn)
    generalize mx S n = m at *
    generalize hs : S 0 = s at *
    have hs' : s ≠ ⊤ := hs ▸ hS 0
    lift s to ℝ using ⟨hs', h0⟩
    lift m to ℝ using ⟨hm, h1⟩
    exact Real.exp_pos (s - m)

/-- Dividing by a nonzero real. -/
theorem div_coe_coe (x y : ℝ) (hy : y ≠ 0) : Ideal.div (x : EReal) (y : EReal) = ((x * y⁻¹ : ℝ) : EReal) := by
  unfold Ideal.div
  rw [if_neg (fun h => hy (EReal.coe_eq_zero.mp h)), EReal.coe_mul, EReal.coe_inv]

/-- Two rows of weights over real values: the difference of the two normalized sums is the sum weighted by the difference
    of the two normalized weights. -/
theorem weights_combine {S T : ℕ → EReal} (hS : ∀ c, S c ≠ ⊤) (hT : ∀ c, T c ≠ ⊤) (hS0 : S 0 ≠ ⊥) (hT0 : T 0 ≠ ⊥)
    {n : ℕ} (hn : 0 < n) (V : ℕ → EReal) (hV : ∀ c, V c ≠ ⊤ ∧ V c ≠ ⊥) (lam : EReal) (hl : lam ≠ ⊤ ∧ lam ≠ ⊥) :
    Ideal.div (wsum S V (mx S n) n) (nrm S (mx S n) n) - lam * Ideal.div (wsum T V (mx T n) n) (nrm T (mx T n) n)
      = ∑ c ∈ Finset.range n, V c * (Ideal.div (Ideal.exp (S c - mx S n)) (nrm S (mx S n) n)
          - lam * Ideal.div (Ideal.exp (T c - mx T n)) (nrm T (mx T n) n)) := by
  obtain ⟨e, L, he, hL, hL0⟩ := weights_real hS hS0 hn
  obtain ⟨f, M, hf, hM, hM0⟩ := weights_real hT hT0 hn
  lift lam to ℝ using hl
  have hv : ∀ c, V c = ((V c).toReal : EReal) := fun c => (EReal.coe_toReal (hV c).1 (hV c).2).symm
  rw [hL, hM]
  have w1 : wsum S V (mx S n) n = ((∑ c ∈ Finset.range n, e c * (V c).toReal : ℝ) : EReal) := by
    rw [coe_sum]
    refine Finset.sum_congr rfl fun c hc => ?_
    rw [he c (Finset.mem_range.mp hc), EReal.coe_mul, ← hv]
  have w2 : wsum T V (mx T n) n = ((∑ c ∈ Finset.range n, f c * (V c).toReal : ℝ) : EReal) := by
    rw [coe_sum]
    refine Finset.sum_congr rfl fun c hc => ?_
    rw [hf c (Finset.mem_range.mp hc), EReal.coe_mul, ← hv]
  have r : ∑ c ∈ Finset.range n, V c * (Ideal.div (Ideal.exp (S c - mx S n)) (L : EReal)
          - (lam : EReal) * Ideal.div (Ideal.exp (T c - mx T n)) (M : EReal))
      = ((∑ c ∈ Finset.range n, (V c).toReal * (e c * L⁻¹ - lam * (f c * M⁻¹)) : ℝ) : EReal) := by
    rw [coe_sum]
    refine Finset.sum_congr rfl fun c hc => ?_
    rw [he c (Finset.mem_range.mp hc), hf c (Finset.mem_range.mp hc), div_coe_coe _ _ hL0, div_coe_coe _ _ hM0,
      ← EReal.coe_mul, ← EReal.coe_sub, EReal.coe_mul, ← hv]
  rw [r, w1, w2, div_coe_coe _ _ hL0, div_coe_coe _ _ hM0, ← EReal.coe_mul, ← EReal.coe_sub]
  congr 1
  rw [Finset.sum_mul, Finset.sum_mul, Finset.mul_sum, ← Finset.sum_sub_distrib]
  exact Finset.sum_congr rfl fun c _ => by ring

end Cert.Online

end
-- ==== Proof.AttnStep.lean ====
/-
  Attention, one tile of columns: what the body's payloads leave in the running maximum, the running normalizer and the
  running weighted values of a row, for the tiles before the diagonal and for the masked diagonal tile.
-/
module

public import proofs.«01_k».proof.Proof.Gen.AttnIdeal.Frame
public import proofs.«01_k».proof.Proof.OnlineSoftmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe

namespace Cert.AttnIdeal.Proof

open Cert.AttnIdeal Cert.AttnIdeal.Gen

/-- The maximum after a tile of scores `s`. -/
def newM (s : Fin 384 → EReal) (mo : EReal) : EReal := max mo (Finset.univ.sup s)

/-- The normalizer after a tile of scores `s`. -/
def newL (s : Fin 384 → EReal) (mo lo : EReal) : EReal :=
  Ideal.exp (mo - newM s mo) * lo + ∑ j, Ideal.exp (s j - newM s mo)

/-- A weighted value after a tile of scores `s` over the values `v`. -/
def newA (s v : Fin 384 → EReal) (mo ao : EReal) : EReal :=
  Ideal.exp (mo - newM s mo) * ao + ∑ j, Ideal.exp (s j - newM s mo) * v j

/-- The score of query row `r` and key row `j` in half `c` of the head. -/
def sc (q kt : Vec Ideal S384x256 .bf16) (c : Fin 2) (r j : Fin 384) : EReal :=
  ∑ k : Fin 128, q (ix2 r ⟨c.val * 128 + k.val, by omega⟩) * kt (ix2 j ⟨c.val * 128 + k.val, by omega⟩)

/-- The score on the diagonal tile: columns after the row are masked. -/
def scD (q kt : Vec Ideal S384x256 .bf16) (c : Fin 2) (r j : Fin 384) : EReal :=
  if j.val ≤ r.val then sc q kt c r j else ⊥

/-- The word of the maximum's start is `⊥`. -/
theorem negInf : Ideal.ofBits .f32 0xFF800000#32 = ⊥ := by
  simp [Ideal.ofBits, Ideal.ieee]

/-- The mask's named word is `⊥`. -/
theorem mask_bot : (Named.named (F := Ideal) κ "mask" 0xF149F2CA#32 : Ideal .f32) = (⊥ : EReal) :=
  IdealRules.named_const.ideal_named_scalar _ _ _ _ rfl

theorem fold_max (s : Fin 384 → EReal) :
    Finset.fold max (Ideal.ofBits FTy.f32 4286578688#32) s Finset.univ = Finset.univ.sup s := by
  rw [negInf]; rfl

variable (q kt vt : Vec Ideal S384x256 .bf16) (mo lo : Vec Ideal S1x384x1 .f32) (ao : Vec Ideal S1x384x256 .f32)
  (r j : Fin 384) (d : Fin 256)

/-- A score kept where the column is not after the row, `⊥` elsewhere. -/
theorem masked (r j : Fin 384) (x y : EReal) (h : x = y) :
    Scalar.select (IntOp.cmpi .sle (BitVec.ofNat 32 j.val) (BitVec.ofNat 32 r.val)) x
      (Named.named (F := Ideal) κ "mask" 0xF149F2CA#32 : Ideal .f32) = if j.val ≤ r.val then y else ⊥ := by
  rw [mask_bot, WordCmp.cmpi_sle_ofNat (by omega) (by omega), h]
  by_cases hjr : j.val ≤ r.val <;> simp [hjr, Scalar.select]

theorem score0 : k0_pay2 (k0_pay34 q) kt (ix2 r j) = sc q kt 0 r j := by
  unfold k0_pay2 k0_pay34
  pointwise
  exact Finset.sum_congr rfl fun k _ => by congr 2 <;> exact congrArg _ (Fin.ext (by simp))

theorem score1 : k0_pay11 (k0_pay35 q) kt (ix2 r j) = sc q kt 1 r j := by
  unfold k0_pay11 k0_pay35
  pointwise
  exact Finset.sum_congr rfl fun k _ => rfl

theorem scoreD0 (v28) (hv : v28 = iota Kind.tc S384x384 32 [0] iota_S384x384_d0_w32) : k0_pay42 (k0_pay41 q kt) v28 (ix2 r j) = scD q kt 0 r j := by
  subst hv
  unfold k0_pay42 k0_pay41 k0_pay34
  pointwise
  refine masked r j _ _ ?_
  exact Finset.sum_congr rfl fun k _ => by congr 2 <;> exact congrArg _ (Fin.ext (by simp))

theorem scoreD1 : k0_pay50 (k0_pay35 q) kt (ix2 r j) = scD q kt 1 r j := by
  unfold k0_pay50 k0_pay35
  pointwise
  exact masked r j _ _ (Finset.sum_congr rfl fun k _ => rfl)

theorem m0' : k0_pay4 (k0_pay34 q) kt mo (ix2 r 0) = newM (sc q kt 0 r) (mo (ix3 0 r 0)) := by
  unfold k0_pay4 k0_pay3
  pointwise
  rw [fold_max]; simp only [score0]; rfl

theorem m0 : k0_pay10 (k0_pay4 (k0_pay34 q) kt mo) (ix3 0 r 0) = newM (sc q kt 0 r) (mo (ix3 0 r 0)) := by
  unfold k0_pay10
  pointwise
  exact m0' q kt mo r

theorem l0 : k0_pay7 (k0_pay34 q) kt mo lo (ix3 0 r 0) = newL (sc q kt 0 r) (mo (ix3 0 r 0)) (lo (ix3 0 r 0)) := by
  unfold k0_pay7 k0_pay6 k0_pay5 k0_pay3
  pointwise
  simp only [score0, m0']; rfl

theorem a0 : k0_pay9 (k0_pay8 (k0_pay34 q) kt vt mo ao) (ix3 0 r d)
    = newA (sc q kt 0 r) (fun j => vt (ix2 j d)) (mo (ix3 0 r 0)) (ao (ix3 0 r d)) := by
  unfold k0_pay9 k0_pay8 k0_pay6 k0_pay5 k0_pay3
  pointwise
  simp only [score0, m0']; rfl

theorem m1' : k0_pay13 (k0_pay35 q) kt mo (ix2 r 0) = newM (sc q kt 1 r) (mo (ix3 0 r 0)) := by
  unfold k0_pay13 k0_pay12
  pointwise
  rw [fold_max]; simp only [score1]; rfl

theorem m1 : k0_pay39 (k0_pay13 (k0_pay35 q) kt mo) (ix3 0 r 0) = newM (sc q kt 1 r) (mo (ix3 0 r 0)) := by
  unfold k0_pay39
  pointwise
  exact m1' q kt mo r

theorem l1 : k0_pay16 (k0_pay35 q) kt mo lo (ix3 0 r 0) = newL (sc q kt 1 r) (mo (ix3 0 r 0)) (lo (ix3 0 r 0)) := by
  unfold k0_pay16 k0_pay15 k0_pay14 k0_pay12
  pointwise
  simp only [score1, m1']; rfl

theorem a1 : k0_pay17 (k0_pay35 q) kt vt mo ao (ix3 0 r d)
    = newA (sc q kt 1 r) (fun j => vt (ix2 j d)) (mo (ix3 0 r 0)) (ao (ix3 0 r d)) := by
  unfold k0_pay17 k0_pay15 k0_pay14 k0_pay12
  pointwise
  simp only [score1, m1']; rfl

theorem mD0' (v28) (hv : v28 = iota Kind.tc S384x384 32 [0] iota_S384x384_d0_w32) : k0_pay44 (k0_pay41 q kt) v28 mo (ix2 r 0)
    = newM (scD q kt 0 r) (mo (ix3 0 r 0)) := by
  unfold k0_pay44 k0_pay43
  pointwise
  rw [fold_max]
  simp only [scoreD0 q kt _ _ v28 hv]; rfl

theorem mD0 (v28) (hv : v28 = iota Kind.tc S384x384 32 [0] iota_S384x384_d0_w32) : k0_pay49 (k0_pay41 q kt) v28 mo (ix3 0 r 0)
    = newM (scD q kt 0 r) (mo (ix3 0 r 0)) := by
  unfold k0_pay49
  pointwise
  exact mD0' q kt mo r v28 hv

theorem lD0 (v28) (hv : v28 = iota Kind.tc S384x384 32 [0] iota_S384x384_d0_w32) : k0_pay47 (k0_pay41 q kt) v28 mo lo (ix3 0 r 0)
    = newL (scD q kt 0 r) (mo (ix3 0 r 0)) (lo (ix3 0 r 0)) := by
  unfold k0_pay47 k0_pay46 k0_pay45 k0_pay43
  pointwise
  simp only [scoreD0 q kt _ _ v28 hv, mD0' q kt mo _ v28 hv]; rfl

theorem aD0 (v28) (hv : v28 = iota Kind.tc S384x384 32 [0] iota_S384x384_d0_w32) : k0_pay48 vt (k0_pay41 q kt) v28 mo ao (ix3 0 r d)
    = newA (scD q kt 0 r) (fun j => vt (ix2 j d)) (mo (ix3 0 r 0)) (ao (ix3 0 r d)) := by
  unfold k0_pay48 k0_pay46 k0_pay45 k0_pay43
  pointwise
  simp only [scoreD0 q kt _ _ v28 hv, mD0' q kt mo _ v28 hv]; rfl

theorem mD1' : k0_pay52 (k0_pay35 q) kt mo (ix2 r 0) = newM (scD q kt 1 r) (mo (ix3 0 r 0)) := by
  unfold k0_pay52 k0_pay51
  pointwise
  rw [fold_max]; simp only [scoreD1]; rfl

theorem mD1 : k0_pay57 (k0_pay52 (k0_pay35 q) kt mo) (ix3 0 r 0) = newM (scD q kt 1 r) (mo (ix3 0 r 0)) := by
  unfold k0_pay57
  pointwise
  exact mD1' q kt mo r

theorem lD1 : k0_pay55 (k0_pay35 q) kt mo lo (ix3 0 r 0)
    = newL (scD q kt 1 r) (mo (ix3 0 r 0)) (lo (ix3 0 r 0)) := by
  unfold k0_pay55 k0_pay54 k0_pay53 k0_pay51
  pointwise
  simp only [scoreD1, mD1']; rfl

theorem aD1 : k0_pay56 (k0_pay35 q) kt vt mo ao (ix3 0 r d)
    = newA (scD q kt 1 r) (fun j => vt (ix2 j d)) (mo (ix3 0 r 0)) (ao (ix3 0 r d)) := by
  unfold k0_pay56 k0_pay54 k0_pay53 k0_pay51
  pointwise
  simp only [scoreD1, mD1']; rfl

end Cert.AttnIdeal.Proof

end
-- ==== Proof.AttnPlanes.lean ====
/-
  A scratch of two planes: what two stores, one to each plane, leave, and what a load of one plane reads.
-/
module

public import proofs.«01_k».proof.Proof.Gen.AttnIdeal.Frame
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe

namespace Cert.AttnIdeal.Proof

variable {sig : RefSig} {κ : Kind} {sp : Space} {n : ℕ} {e : EltTy}

/-- Earlier writes first: the writes of an appended list. -/
theorem writes_append' {s : Shape} (v : View sig κ sp s e) (f : v.ty.Contents (Elt Ideal)) (L' : List (View.Piece (Elt Ideal) s e)) :
    ∀ L : List (View.Piece (Elt Ideal) s e),
      v.writes (Elt Ideal) f (L ++ L') = v.writes (Elt Ideal) (v.writes (Elt Ideal) f L') L
  | [] => rfl
  | p :: L => by
    rw [List.cons_append, View.writes_cons, View.writes_cons, writes_append' v f L' L]

/-- A store to plane 0 is found in plane 0. -/
theorem read_plane0 (v : View sig κ sp (⟨3, ![2, 384, n]⟩ : Shape) e) (f : v.ty.Contents (Elt Ideal))
    (L : List (View.Piece (Elt Ideal) (⟨3, ![2, 384, n]⟩ : Shape) e)) (inb)
    (w : (⟨3, ![1, 384, n]⟩ : Shape).Idx → Elt Ideal e) (r : Fin 384) (d : Fin n) :
    v.read (Elt Ideal) (v.writes (Elt Ideal) f (⟨Rect.unit ![0, 0, 0] ![1, 384, n] inb, w⟩ :: L)) (ix3 0 r d) = w (ix3 0 r d) :=
  View.read_writes_cons_unit_of_mem (Val := Elt Ideal) v f inb w L (ix3 0 r d) (ix3 0 r d) rfl (by
    intro a
    fin_cases a
    · rfl
    · show r.val = 0 + r.val
      omega
    · show d.val = 0 + d.val
      omega)

/-- A store to plane 0 leaves plane 1. -/
theorem read_plane1_skip (v : View sig κ sp (⟨3, ![2, 384, n]⟩ : Shape) e) (f : v.ty.Contents (Elt Ideal))
    (L : List (View.Piece (Elt Ideal) (⟨3, ![2, 384, n]⟩ : Shape) e)) (inb)
    (w : (⟨3, ![1, 384, n]⟩ : Shape).Idx → Elt Ideal e) (r : Fin 384) (d : Fin n) :
    v.read (Elt Ideal) (v.writes (Elt Ideal) f (⟨Rect.unit ![0, 0, 0] ![1, 384, n] inb, w⟩ :: L)) (ix3 1 r d)
      = v.read (Elt Ideal) (v.writes (Elt Ideal) f L) (ix3 1 r d) :=
  View.read_writes_cons_unit_of_not_mem (Val := Elt Ideal) v f inb w L (ix3 1 r d) rfl (0 : Fin 3) (Or.inr (by
    show 0 + 1 ≤ 1
    omega))

/-- A store to plane 1 is found in plane 1. -/
theorem read_plane1 (v : View sig κ sp (⟨3, ![2, 384, n]⟩ : Shape) e) (f : v.ty.Contents (Elt Ideal))
    (L : List (View.Piece (Elt Ideal) (⟨3, ![2, 384, n]⟩ : Shape) e)) (inb)
    (w : (⟨3, ![1, 384, n]⟩ : Shape).Idx → Elt Ideal e) (r : Fin 384) (d : Fin n) :
    v.read (Elt Ideal) (v.writes (Elt Ideal) f (⟨Rect.unit ![1, 0, 0] ![1, 384, n] inb, w⟩ :: L)) (ix3 1 r d) = w (ix3 0 r d) :=
  View.read_writes_cons_unit_of_mem (Val := Elt Ideal) v f inb w L (ix3 1 r d) (ix3 0 r d) rfl (by
    intro a
    fin_cases a
    · rfl
    · show r.val = 0 + r.val
      omega
    · show d.val = 0 + d.val
      omega)

/-- A store to plane 1 leaves plane 0. -/
theorem read_plane0_skip (v : View sig κ sp (⟨3, ![2, 384, n]⟩ : Shape) e) (f : v.ty.Contents (Elt Ideal))
    (L : List (View.Piece (Elt Ideal) (⟨3, ![2, 384, n]⟩ : Shape) e)) (inb)
    (w : (⟨3, ![1, 384, n]⟩ : Shape).Idx → Elt Ideal e) (r : Fin 384) (d : Fin n) :
    v.read (Elt Ideal) (v.writes (Elt Ideal) f (⟨Rect.unit ![1, 0, 0] ![1, 384, n] inb, w⟩ :: L)) (ix3 0 r d)
      = v.read (Elt Ideal) (v.writes (Elt Ideal) f L) (ix3 0 r d) :=
  View.read_writes_cons_unit_of_not_mem (Val := Elt Ideal) v f inb w L (ix3 0 r d) rfl (0 : Fin 3) (Or.inl (by
    show 0 < 1
    omega))

/-- A load of plane 0. -/
theorem load_plane0 (v : View sig κ sp (⟨3, ![2, 384, n]⟩ : Shape) e) (f : v.ty.Contents (Elt Ideal)) (inb) (r : Fin 384) (d : Fin n) :
    v.readAt (Elt Ideal) (Rect.unit (s := (⟨3, ![2, 384, n]⟩ : Shape)) ![0, 0, 0] ![1, 384, n] inb).toLoadRect f (ix3 0 r d) = v.read (Elt Ideal) f (ix3 0 r d) := by
  refine congrArg (v.read (Elt Ideal) f) ?_
  funext a
  apply Fin.ext
  fin_cases a
  · rfl
  · show 0 + 1 * r.val = r.val
    omega
  · show 0 + 1 * d.val = d.val
    omega

/-- A load of plane 1. -/
theorem load_plane1 (v : View sig κ sp (⟨3, ![2, 384, n]⟩ : Shape) e) (f : v.ty.Contents (Elt Ideal)) (inb) (r : Fin 384) (d : Fin n) :
    v.readAt (Elt Ideal) (Rect.unit (s := (⟨3, ![2, 384, n]⟩ : Shape)) ![1, 0, 0] ![1, 384, n] inb).toLoadRect f (ix3 0 r d) = v.read (Elt Ideal) f (ix3 1 r d) := by
  refine congrArg (v.read (Elt Ideal) f) ?_
  funext a
  apply Fin.ext
  fin_cases a
  · rfl
  · show 0 + 1 * r.val = r.val
    omega
  · show 0 + 1 * d.val = d.val
    omega

/-- A store of the whole scratch is found everywhere. -/
theorem read_fill (v : View sig κ sp (⟨3, ![2, 384, n]⟩ : Shape) e) (f : v.ty.Contents (Elt Ideal))
    (L : List (View.Piece (Elt Ideal) (⟨3, ![2, 384, n]⟩ : Shape) e)) (inb)
    (w : (⟨3, ![2, 384, n]⟩ : Shape).Idx → Elt Ideal e) (h : Fin 2) (r : Fin 384) (d : Fin n) :
    v.read (Elt Ideal) (v.writes (Elt Ideal) f (⟨Rect.unit ![0, 0, 0] ![2, 384, n] inb, w⟩ :: L)) (ix3 h r d) = w (ix3 h r d) :=
  View.read_writes_cons_unit_of_mem (Val := Elt Ideal) v f inb w L (ix3 h r d) (ix3 h r d) rfl (by
    intro a
    fin_cases a
    · show h.val = 0 + h.val
      omega
    · show r.val = 0 + r.val
      omega
    · show d.val = 0 + d.val
      omega)

/-- A load of 384 rows of a block. -/
theorem load_rows (v : View sig κ sp (⟨2, ![4224, 256]⟩ : Shape) e) (f : v.ty.Contents (Elt Ideal)) (off : Fin 2 → ℕ) (o : ℕ)
    (ho : off = ![o, 0]) (inb) (r : Fin 384) (d : Fin 256) (hr : o + r.val < 4224) :
    v.readAt (Elt Ideal) (Rect.unit (s := (⟨2, ![4224, 256]⟩ : Shape)) off ![384, 256] inb).toLoadRect f (ix2 r d)
      = v.read (Elt Ideal) f (ix2 ⟨o + r.val, hr⟩ d) := by
  subst ho
  refine congrArg (v.read (Elt Ideal) f) ?_
  funext a
  apply Fin.ext
  fin_cases a
  · show o + 1 * r.val = o + r.val
    omega
  · show 0 + 1 * d.val = d.val
    omega

end Cert.AttnIdeal.Proof

end
-- ==== Proof.AttnLoop.lean ====
/-
  The attention's loop over the tiles of columns before the diagonal: after `k` trips the scratch of each row holds the
  running maximum, normalizer and weighted values of the first `384 * k` columns.
-/
module

public import proofs.«01_k».proof.Proof.AttnStep
public import proofs.«01_k».proof.Proof.AttnPlanes
public import Idealize.ShloMosaic.Lib.LoopRemainder

@[expose] public section

set_option maxRecDepth 16384
set_option maxHeartbeats 2000000

noncomputable section

open Idealize.ShloMosaic Idealize.ShloMosaic.TcCoe
open Cert.Online

namespace Cert.AttnIdeal.Proof

open Cert.AttnIdeal Cert.AttnIdeal.Gen

/-- The first loop makes one trip per tile before the diagonal, -/
theorem trips1 (i : grid0.Coords) : (k0_t1_loop i).trips = (i 2).val := by
  have key : ∀ x : Fin 11, Scf.trips 0#32 (Scalar.addi 0#32 (Scalar.muli (Scalar.divsi (Scalar.subi (BitVec.ofNat 32 x.val) 0#32) 1#32) 1#32)) 1#32
      = x.val := by decide
  exact key (i 2)

/-- the second none. -/
theorem trips2 (i : grid0.Coords) : (k0_t2_loop i).trips = 0 := by
  have key : ∀ x : Fin 11, Scf.trips (Scalar.addi 0#32 (Scalar.muli (Scalar.divsi (Scalar.subi (BitVec.ofNat 32 x.val) 0#32) 1#32) 1#32))
      (Scalar.addi 0#32 (Scalar.subi (BitVec.ofNat 32 x.val) 0#32)) 1#32 = 0 := by decide
  exact key (i 2)

/-- The offset of a tile. -/
theorem off1 (i : grid0.Coords) (k : Fin (k0_t1_loop i).trips) : k0_off1 i k = ![k.val * 384, 0] := by
  have hk : k.val < 11 := by have := lt_of_lt_of_eq k.isLt (trips1 i); have h := (i 2).isLt; change _ < 11 at h; omega
  have key : ∀ x : Fin 11, (Scalar.indexCast (Scalar.muli (Scf.iv 0#32 1#32 x.val) 384#32)).toNat = x.val * 384 := by decide
  unfold k0_off1
  dsimp only
  exact congrArg (fun n => ![n, 0]) (key ⟨k.val, hk⟩)

/-- The offset of the diagonal tile. -/
theorem off3 (i : grid0.Coords) : k0_off3 i = ![(i 2).val * 384, 0] := by
  have key : ∀ x : Fin 11, (Scalar.indexCast (Scalar.muli (BitVec.ofNat 32 x.val) 384#32)).toNat = x.val * 384 := by decide
  unfold k0_off3
  dsimp only
  exact congrArg (fun n => ![n, 0]) (key (i 2))

/-- Trip `k`'s tile of the keys or of the values. -/
abbrev tile (arg4 : Memref sig .tc .vmem S4224x256 .bf16) (X : BufTy.Contents (Elt Ideal) arg4.view.ty) (i : grid0.Coords)
    (k : Fin (k0_t1_loop i).trips) : Vec Ideal S384x256 .bf16 :=
  arg4.view.readAt (Elt Ideal) (Rect.unit (s := S4224x256) (k0_off1 i k) S384x256.size (k0_off1_inb i k)).toLoadRect X

/-- What the scratch holds of row `r` in half `h` when `n` columns of the scores `T` over the values `W` are done. -/
def Holds (arg12 : Memref sig .tc .vmem S2x384x1 .f32) (arg13 : Memref sig .tc .vmem S2x384x1 .f32)
    (arg14 : Memref sig .tc .vmem S2x384x256 .f32) (T : Fin 2 → Fin 384 → ℕ → EReal) (W : Fin 256 → ℕ → EReal) (n : ℕ)
    (f12 : BufTy.Contents (Elt Ideal) arg12.view.ty) (f13 : BufTy.Contents (Elt Ideal) arg13.view.ty)
    (f14 : BufTy.Contents (Elt Ideal) arg14.view.ty) : Prop :=
  ∀ (h : Fin 2) (r : Fin 384), arg12.view.read (Elt Ideal) f12 (ix3 h r (0 : Fin 1)) = mx (T h r) n
    ∧ arg13.view.read (Elt Ideal) f13 (ix3 h r (0 : Fin 1)) = nrm (T h r) (mx (T h r) n) n
    ∧ ∀ d : Fin 256, arg14.view.read (Elt Ideal) f14 (ix3 h r d) = wsum (T h r) (W d) (mx (T h r) n) n

section
variable (𝒱 : Variants) (c : Dev nD) (bd : Option 𝒱.V) (i : grid0.Coords) (arg3 : Memref sig .tc .vmem S384x256 .bf16) (harg3 : arg3.IsWhole) (arg4 : Memref sig .tc .vmem S4224x256 .bf16) (harg4 : arg4.IsWhole) (arg5 : Memref sig .tc .vmem S4224x256 .bf16) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x256 .f32) (harg10 : arg10.IsWhole) (arg11 : Memref sig .tc .vmem S384x256 .bf16) (harg11 : arg11.IsWhole) (arg12 : Memref sig .tc .vmem S2x384x1 .f32) (harg12 : arg12.IsWhole) (arg13 : Memref sig .tc .vmem S2x384x1 .f32) (harg13 : arg13.IsWhole) (arg14 : Memref sig .tc .vmem S2x384x256 .f32) (harg14 : arg14.IsWhole) (v0 : Vec Ideal S384x256 .bf16) (X_arg4 : BufTy.Contents (Elt Ideal) arg4.view.ty) (X_arg5 : BufTy.Contents (Elt Ideal) arg5.view.ty)

/-- The stores of one trip. -/
theorem trip_eq (k : Fin (k0_t1_loop i).trips) (f12 : BufTy.Contents (Elt Ideal) arg12.view.ty)
    (f13 : BufTy.Contents (Elt Ideal) arg13.view.ty) (f14 : BufTy.Contents (Elt Ideal) arg14.view.ty) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 k f12 f13 f14
      = ([⟨Rect.unit (s := S2x384x1) ![1, 0, 0] S1x384x1.size inb_S2x384x1_S1x384x1_1_0_0, k0_pay39 (k0_pay13 (k0_pay35 v0) (tile arg4 X_arg4 i k) (arg12.view.readAt (Elt Ideal) (Rect.unit (s := S2x384x1) ![1, 0, 0] S1x384x1.size inb_S2x384x1_S1x384x1_1_0_0).toLoadRect f12))⟩,
        ⟨Rect.unit (s := S2x384x1) ![0, 0, 0] S1x384x1.size inb_S2x384x1_S1x384x1_0_0_0, k0_pay10 (k0_pay4 (k0_pay34 v0) (tile arg4 X_arg4 i k) (arg12.view.readAt (Elt Ideal) (Rect.unit (s := S2x384x1) ![0, 0, 0] S1x384x1.size inb_S2x384x1_S1x384x1_0_0_0).toLoadRect f12))⟩],
        [⟨Rect.unit (s := S2x384x1) ![1, 0, 0] S1x384x1.size inb_S2x384x1_S1x384x1_1_0_0, k0_pay16 (k0_pay35 v0) (tile arg4 X_arg4 i k) (arg12.view.readAt (Elt Ideal) (Rect.unit (s := S2x384x1) ![1, 0, 0] S1x384x1.size inb_S2x384x1_S1x384x1_1_0_0).toLoadRect f12) (arg13.view.readAt (Elt Ideal) (Rect.unit (s := S2x384x1) ![1, 0, 0] S1x384x1.size inb_S2x384x1_S1x384x1_1_0_0).toLoadRect f13)⟩,
        ⟨Rect.unit (s := S2x384x1) ![0, 0, 0] S1x384x1.size inb_S2x384x1_S1x384x1_0_0_0, k0_pay7 (k0_pay34 v0) (tile arg4 X_arg4 i k) (arg12.view.readAt (Elt Ideal) (Rect.unit (s := S2x384x1) ![0, 0, 0] S1x384x1.size inb_S2x384x1_S1x384x1_0_0_0).toLoadRect f12) (arg13.view.readAt (Elt Ideal) (Rect.unit (s := S2x384x1) ![0, 0, 0] S1x384x1.size inb_S2x384x1_S1x384x1_0_0_0).toLoadRect f13)⟩],
        [⟨Rect.unit (s := S2x384x256) ![1, 0, 0] S1x384x256.size inb_S2x384x256_S1x384x256_1_0_0, k0_pay17 (k0_pay35 v0) (tile arg4 X_arg4 i k) (tile arg5 X_arg5 i k) (arg12.view.readAt (Elt Ideal) (Rect.unit (s := S2x384x1) ![1, 0, 0] S1x384x1.size inb_S2x384x1_S1x384x1_1_0_0).toLoadRect f12) (arg14.view.readAt (Elt Ideal) (Rect.unit (s := S2x384x256) ![1, 0, 0] S1x384x256.size inb_S2x384x256_S1x384x256_1_0_0).toLoadRect f14)⟩,
        ⟨Rect.unit (s := S2x384x256) ![0, 0, 0] S1x384x256.size inb_S2x384x256_S1x384x256_0_0_0, k0_pay9 (k0_pay8 (k0_pay34 v0) (tile arg4 X_arg4 i k) (tile arg5 X_arg5 i k) (arg12.view.readAt (Elt Ideal) (Rect.unit (s := S2x384x1) ![0, 0, 0] S1x384x1.size inb_S2x384x1_S1x384x1_0_0_0).toLoadRect f12) (arg14.view.readAt (Elt Ideal) (Rect.unit (s := S2x384x256) ![0, 0, 0] S1x384x256.size inb_S2x384x256_S1x384x256_0_0_0).toLoadRect f14))⟩]) := by
  unfold tripL_k0_t1 trip_k0_t1
  rfl

/-- One trip: the columns of its tile are added. -/
theorem trip_holds (k : Fin (k0_t1_loop i).trips) (T : Fin 2 → Fin 384 → ℕ → EReal) (W : Fin 256 → ℕ → EReal)
    (hT : ∀ h r c, T h r c ≠ ⊤)
    (hk : ∀ h r (j : Fin 384), T h r (384 * k.val + j.val) = sc v0 (tile arg4 X_arg4 i k) h r j)
    (hw : ∀ d (j : Fin 384), W d (384 * k.val + j.val) = (tile arg5 X_arg5 i k) (ix2 j d))
    (f12 : BufTy.Contents (Elt Ideal) arg12.view.ty)
    (f13 : BufTy.Contents (Elt Ideal) arg13.view.ty) (f14 : BufTy.Contents (Elt Ideal) arg14.view.ty)
    (H : Holds arg12 arg13 arg14 T W (384 * k.val) f12 f13 f14) :
    Holds arg12 arg13 arg14 T W (384 * (k.val + 1))
      (arg12.view.writes (Elt Ideal) f12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 k f12 f13 f14).1)
      (arg13.view.writes (Elt Ideal) f13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 k f12 f13 f14).2.1)
      (arg14.view.writes (Elt Ideal) f14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 k f12 f13 f14).2.2) := by
  have sM : ∀ h r, newM (sc v0 (tile arg4 X_arg4 i k) h r) (mx (T h r) (384 * k.val)) = mx (T h r) (384 * k.val + 384) := fun h r => by
    rw [mx_add]; unfold newM; simp only [hk]
  have sL : ∀ h r, newL (sc v0 (tile arg4 X_arg4 i k) h r) (mx (T h r) (384 * k.val)) (nrm (T h r) (mx (T h r) (384 * k.val)) (384 * k.val))
      = nrm (T h r) (mx (T h r) (384 * k.val + 384)) (384 * k.val + 384) := fun h r => by
    rw [← nrm_step (hT h r)]; unfold newL; rw [sM]; simp only [hk]
  have sA : ∀ h r d, newA (sc v0 (tile arg4 X_arg4 i k) h r) (fun j => (tile arg5 X_arg5 i k) (ix2 j d)) (mx (T h r) (384 * k.val))
        (wsum (T h r) (W d) (mx (T h r) (384 * k.val)) (384 * k.val))
      = wsum (T h r) (W d) (mx (T h r) (384 * k.val + 384)) (384 * k.val + 384) := fun h r d => by
    rw [← wsum_step (hT h r)]; unfold newA; rw [sM]; simp only [hk, hw]
  rw [trip_eq, Nat.mul_succ]
  dsimp only
  intro h r
  obtain ⟨hm, hl, ha⟩ := H h r
  match h with
  | ⟨0, _⟩ =>
    refine ⟨?_, ?_, fun d => ?_⟩
    · refine (read_plane0_skip ..).trans ((read_plane0 ..).trans ((m0 ..).trans ?_))
      rw [load_plane0]
      exact (congrArg _ hm).trans (sM 0 r)
    · refine (read_plane0_skip ..).trans ((read_plane0 ..).trans ((l0 ..).trans ?_))
      rw [load_plane0, load_plane0]
      exact (congrArg₂ _ hm hl).trans (sL 0 r)
    · refine (read_plane0_skip ..).trans ((read_plane0 ..).trans ((a0 ..).trans ?_))
      rw [load_plane0, load_plane0]
      exact (congrArg₂ _ hm (ha d)).trans (sA 0 r d)
  | ⟨1, _⟩ =>
    refine ⟨?_, ?_, fun d => ?_⟩
    · refine (read_plane1 ..).trans ((m1 ..).trans ?_)
      rw [load_plane1]
      exact (congrArg _ hm).trans (sM 1 r)
    · refine (read_plane1 ..).trans ((l1 ..).trans ?_)
      rw [load_plane1, load_plane1]
      exact (congrArg₂ _ hm hl).trans (sL 1 r)
    · refine (read_plane1 ..).trans ((a1 ..).trans ?_)
      rw [load_plane1, load_plane1]
      exact (congrArg₂ _ hm (ha d)).trans (sA 1 r d)

/-- The first `k` trips: the columns of the first `k` tiles. -/
theorem loop_holds (T : Fin 2 → Fin 384 → ℕ → EReal) (W : Fin 256 → ℕ → EReal) (hT : ∀ h r c, T h r c ≠ ⊤)
    (hk : ∀ (k : Fin (k0_t1_loop i).trips) h r (j : Fin 384), T h r (384 * k.val + j.val) = sc v0 (tile arg4 X_arg4 i k) h r j)
    (hw : ∀ (k : Fin (k0_t1_loop i).trips) d (j : Fin 384), W d (384 * k.val + j.val) = (tile arg5 X_arg5 i k) (ix2 j d))
    (G_arg12 : BufTy.Contents (Elt Ideal) arg12.view.ty)
    (G_arg13 : BufTy.Contents (Elt Ideal) arg13.view.ty) (G_arg14 : BufTy.Contents (Elt Ideal) arg14.view.ty)
    (H : Holds arg12 arg13 arg14 T W 0 G_arg12 G_arg13 G_arg14) (k : ℕ) (hn : k ≤ (k0_t1_loop i).trips) :
    Holds arg12 arg13 arg14 T W (384 * k)
      (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 G_arg12 G_arg13 G_arg14 k).1)
      (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 G_arg12 G_arg13 G_arg14 k).2.1)
      (arg14.view.writes (Elt Ideal) G_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 G_arg12 G_arg13 G_arg14 k).2.2) := by
  induction k with
  | zero => exact H
  | succ k ih =>
    have := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 v0 X_arg4 X_arg5 G_arg12 G_arg13 G_arg14 ⟨k, hn⟩
    dsimp only at this
    rw [this, writes_append', writes_append', writes_append']
    exact trip_holds 𝒱 c bd i arg3 harg3 arg4 harg4 arg5 harg5 arg6 harg6 arg7 harg7 arg8 harg8 arg9 harg9 arg10 harg10 arg11 harg11 arg12 harg12 arg13 harg13 arg14 harg14 v0 X_arg4 X_arg5 ⟨k, hn⟩ T W hT (hk ⟨k, hn⟩) (hw ⟨k, hn⟩) _ _ _ (ih (by omega))
end

end Cert.AttnIdeal.Proof

end
-- ==== Proof.AttnScratch.lean ====
/-
  The attention's scratch at the end of a block: the loop's tiles and then the masked diagonal tile.
-/
module

public import proofs.«01_k».proof.Proof.AttnLoop

@[expose] public section

set_option maxRecDepth 16384
set_option maxHeartbeats 2000000

noncomputable section

open Idealize.ShloMosaic Idealize.ShloMosaic.TcCoe
open Cert.Online

namespace Cert.AttnIdeal.Proof

open Cert.AttnIdeal Cert.AttnIdeal.Gen

/-- The maximum starts at `⊥`, -/
theorem start_m (h : Fin 2) (r : Fin 384) : k0_pay36 (F := Ideal) (ix3 h r (0 : Fin 1)) = ⊥ := by
  unfold k0_pay36
  pointwise
  exact negInf

/-- the normalizer at zero -/
theorem start_l (h : Fin 2) (r : Fin 384) : k0_pay37 (F := Ideal) (ix3 h r (0 : Fin 1)) = 0 := by
  unfold k0_pay37
  pointwise

/-- and the weighted values at zero. -/
theorem start_a (h : Fin 2) (r : Fin 384) (d : Fin 256) : k0_pay38 (F := Ideal) (ix3 h r d) = 0 := by
  unfold k0_pay38
  pointwise

section
variable {F : FTy → Type} [FloatOps F] [Named F]

/-- The second loop stores nothing. -/
theorem pb2_nil (𝒱 : Variants) (c : Dev nD) (bd : Option 𝒱.V) (i : grid0.Coords) (arg3 : Memref sig .tc .vmem S384x256 .bf16) (harg3 : arg3.IsWhole) (arg4 : Memref sig .tc .vmem S4224x256 .bf16) (harg4 : arg4.IsWhole) (arg5 : Memref sig .tc .vmem S4224x256 .bf16) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x256 .f32) (harg10 : arg10.IsWhole) (arg11 : Memref sig .tc .vmem S384x256 .bf16) (harg11 : arg11.IsWhole) (arg12 : Memref sig .tc .vmem S2x384x1 .f32) (harg12 : arg12.IsWhole) (arg13 : Memref sig .tc .vmem S2x384x1 .f32) (harg13 : arg13.IsWhole) (arg14 : Memref sig .tc .vmem S2x384x256 .f32) (harg14 : arg14.IsWhole) (v0 : Vec F S384x256 .bf16) (v19 : BitVec 32) (X_arg4 : BufTy.Contents (Elt F) arg4.view.ty) (X_arg5 : BufTy.Contents (Elt F) arg5.view.ty)
    (G_arg12 : BufTy.Contents (Elt F) arg12.view.ty) (G_arg13 : BufTy.Contents (Elt F) arg13.view.ty) (G_arg14 : BufTy.Contents (Elt F) arg14.view.ty) :
    pb_k0_t2 (F := F) 𝒱 c bd i arg3 harg3 arg4 harg4 arg5 harg5 arg6 harg6 arg7 harg7 arg8 harg8 arg9 harg9 arg10 harg10 arg11 harg11 arg12 harg12 arg13 harg13 arg14 harg14 v0 v19 X_arg4 X_arg5 G_arg12 G_arg13 G_arg14 (Scf.trips (k0_t2_loop i).lb (k0_t2_loop i).ub (k0_t2_loop i).st) = ([], [], []) := by
  have h : Scf.trips (k0_t2_loop i).lb (k0_t2_loop i).ub (k0_t2_loop i).st = 0 := trips2 i
  rw [h]
  rfl
end

section
variable (c : Dev nD) (i : grid0.Coords) (arg3 : Memref sig .tc .vmem S384x256 .bf16) (harg3 : arg3.IsWhole) (arg4 : Memref sig .tc .vmem S4224x256 .bf16) (harg4 : arg4.IsWhole) (arg5 : Memref sig .tc .vmem S4224x256 .bf16) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x256 .f32) (harg10 : arg10.IsWhole) (arg11 : Memref sig .tc .vmem S384x256 .bf16) (harg11 : arg11.IsWhole) (arg12 : Memref sig .tc .vmem S2x384x1 .f32) (harg12 : arg12.IsWhole) (arg13 : Memref sig .tc .vmem S2x384x1 .f32) (harg13 : arg13.IsWhole) (arg14 : Memref sig .tc .vmem S2x384x256 .f32) (harg14 : arg14.IsWhole) (x0 : Vec Ideal S384x256 .bf16) (x1 : Vec Ideal S4224x256 .bf16) (x2 : Vec Ideal S4224x256 .bf16)

/-- What the loop leaves of the maximum in plane 0, -/
theorem v33_eq : kernelRun0_A.sl.v33 (F := Ideal) c i arg3 harg3 arg4 harg4 arg5 harg5 arg6 harg6 arg7 harg7 arg8 harg8 arg9 harg9 arg10 harg10 arg11 harg11 arg12 harg12 arg13 harg13 arg14 harg14 x0 x1 x2 = arg12.view.readAt (Elt Ideal) (Rect.unit (s := S2x384x1) ![0, 0, 0] S1x384x1.size inb_S2x384x1_S1x384x1_0_0_0).toLoadRect (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).1 ++ [⟨Rect.unit (s := S2x384x1) ![0, 0, 0] S2x384x1.size inb_S2x384x1_S2x384x1_0_0_0, k0_pay36 (F := Ideal)⟩])) := by
  unfold kernelRun0_A.sl.v33
  rw [pb2_nil]
  rfl

/-- of the normalizer, -/
theorem v43_eq : kernelRun0_A.sl.v43 (F := Ideal) c i arg3 harg3 arg4 harg4 arg5 harg5 arg6 harg6 arg7 harg7 arg8 harg8 arg9 harg9 arg10 harg10 arg11 harg11 arg12 harg12 arg13 harg13 arg14 harg14 x0 x1 x2 = arg13.view.readAt (Elt Ideal) (Rect.unit (s := S2x384x1) ![0, 0, 0] S1x384x1.size inb_S2x384x1_S1x384x1_0_0_0).toLoadRect (arg13.view.writes (Elt Ideal) arg13.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.1 ++ [⟨Rect.unit (s := S2x384x1) ![0, 0, 0] S2x384x1.size inb_S2x384x1_S2x384x1_0_0_0, k0_pay37 (F := Ideal)⟩])) := by
  unfold kernelRun0_A.sl.v43
  rw [pb2_nil]
  rfl

/-- of the weighted values, -/
theorem v52_eq : kernelRun0_A.sl.v52 (F := Ideal) c i arg3 harg3 arg4 harg4 arg5 harg5 arg6 harg6 arg7 harg7 arg8 harg8 arg9 harg9 arg10 harg10 arg11 harg11 arg12 harg12 arg13 harg13 arg14 harg14 x0 x1 x2 = arg14.view.readAt (Elt Ideal) (Rect.unit (s := S2x384x256) ![0, 0, 0] S1x384x256.size inb_S2x384x256_S1x384x256_0_0_0).toLoadRect (arg14.view.writes (Elt Ideal) arg14.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.2 ++ [⟨Rect.unit (s := S2x384x256) ![0, 0, 0] S2x384x256.size inb_S2x384x256_S2x384x256_0_0_0, k0_pay38 (F := Ideal)⟩])) := by
  unfold kernelRun0_A.sl.v52
  rw [pb2_nil]
  rfl

variable (r : Fin 384) (d : Fin 256)

/-- and in plane 1, of the maximum, -/
theorem v72_eq : kernelRun0_A.sl.v72 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1)) = arg12.view.read (Elt Ideal) (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).1 ++ [⟨Rect.unit (s := S2x384x1) ![0, 0, 0] S2x384x1.size inb_S2x384x1_S2x384x1_0_0_0, k0_pay36 (F := Ideal)⟩])) (ix3 1 r (0 : Fin 1)) := by
  unfold kernelRun0_A.sl.v72 kernelRun0_A.sl.HS0_1_1 View.readCov
  rw [pb2_nil]
  exact (load_plane1 ..).trans (read_plane1_skip ..)

/-- of the normalizer, -/
theorem v82_eq : kernelRun0_A.sl.v82 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1)) = arg13.view.read (Elt Ideal) (arg13.view.writes (Elt Ideal) arg13.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.1 ++ [⟨Rect.unit (s := S2x384x1) ![0, 0, 0] S2x384x1.size inb_S2x384x1_S2x384x1_0_0_0, k0_pay37 (F := Ideal)⟩])) (ix3 1 r (0 : Fin 1)) := by
  unfold kernelRun0_A.sl.v82 kernelRun0_A.sl.HS1_1_1 View.readCov
  rw [pb2_nil]
  exact (load_plane1 ..).trans (read_plane1_skip ..)

/-- of the weighted values. -/
theorem v91_eq : kernelRun0_A.sl.v91 (F := Ideal) c i arg3 harg3 arg4 harg4 arg5 harg5 arg6 harg6 arg7 harg7 arg8 harg8 arg9 harg9 arg10 harg10 arg11 harg11 arg12 harg12 arg13 harg13 arg14 harg14 x0 x1 x2 (ix3 0 r d) = arg14.view.read (Elt Ideal) (arg14.view.writes (Elt Ideal) arg14.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.2 ++ [⟨Rect.unit (s := S2x384x256) ![0, 0, 0] S2x384x256.size inb_S2x384x256_S2x384x256_0_0_0, k0_pay38 (F := Ideal)⟩])) (ix3 1 r d) := by
  unfold kernelRun0_A.sl.v91 kernelRun0_A.sl.HS2_1_1 View.readCov
  rw [pb2_nil]
  exact (load_plane1 ..).trans (read_plane1_skip ..)

/-- The scratch after the loop. -/
theorem after_loop (T : Fin 2 → Fin 384 → ℕ → EReal) (W : Fin 256 → ℕ → EReal) (hT : ∀ h r c, T h r c ≠ ⊤)
    (hk : ∀ (k : Fin (k0_t1_loop i).trips) h r (j : Fin 384), T h r (384 * k.val + j.val) = sc (arg3.view.readAt (Elt Ideal) (Rect.unit (s := S384x256) ![0, 0] S384x256.size inb_S384x256_S384x256_0_0).toLoadRect (harg3.unread x0)) (tile arg4 (harg4.unread x1) i k) h r j)
    (hw : ∀ (k : Fin (k0_t1_loop i).trips) d (j : Fin 384), W d (384 * k.val + j.val) = (tile arg5 (harg5.unread x2) i k) (ix2 j d)) :
    Holds arg12 arg13 arg14 T W (384 * (i 2).val) (arg12.view.writes (Elt Ideal) arg12.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).1 ++ [⟨Rect.unit (s := S2x384x1) ![0, 0, 0] S2x384x1.size inb_S2x384x1_S2x384x1_0_0_0, k0_pay36 (F := Ideal)⟩])) (arg13.view.writes (Elt Ideal) arg13.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.1 ++ [⟨Rect.unit (s := S2x384x1) ![0, 0, 0] S2x384x1.size inb_S2x384x1_S2x384x1_0_0_0, k0_pay37 (F := Ideal)⟩])) (arg14.view.writes (Elt Ideal) arg14.view.junk ((pb_k0_t1 (F := Ideal) Variants.none c none i arg3 harg3 arg4 harg4 arg5 harg5 arg6 harg6 arg7 harg7 arg8 harg8 arg9 harg9 arg10 harg10 arg11 harg11 arg12 harg12 arg13 harg13 arg14 harg14 (arg3.view.readAt (Elt Ideal) (Rect.unit (s := S384x256) ![0, 0] S384x256.size inb_S384x256_S384x256_0_0).toLoadRect (harg3.unread x0)) (harg4.unread x1) (harg5.unread x2) (arg12.view.writes (Elt Ideal) arg12.view.junk [⟨Rect.unit (s := S2x384x1) ![0, 0, 0] S2x384x1.size inb_S2x384x1_S2x384x1_0_0_0, k0_pay36 (F := Ideal)⟩]) (arg13.view.writes (Elt Ideal) arg13.view.junk [⟨Rect.unit (s := S2x384x1) ![0, 0, 0] S2x384x1.size inb_S2x384x1_S2x384x1_0_0_0, k0_pay37 (F := Ideal)⟩]) (arg14.view.writes (Elt Ideal) arg14.view.junk [⟨Rect.unit (s := S2x384x256) ![0, 0, 0] S2x384x256.size inb_S2x384x256_S2x384x256_0_0_0, k0_pay38 (F := Ideal)⟩]) (k0_t1_loop i).trips).2.2 ++ [⟨Rect.unit (s := S2x384x256) ![0, 0, 0] S2x384x256.size inb_S2x384x256_S2x384x256_0_0_0, k0_pay38 (F := Ideal)⟩])) := by
  have hn : (i 2).val = (k0_t1_loop i).trips := (trips1 i).symm
  rw [writes_append', writes_append', writes_append', hn]
  refine loop_holds Variants.none c none i arg3 harg3 arg4 harg4 arg5 harg5 arg6 harg6 arg7 harg7 arg8 harg8 arg9 harg9 arg10 harg10 arg11 harg11 arg12 harg12 arg13 harg13 arg14 harg14 _ (harg4.unread x1) (harg5.unread x2) T W hT hk hw _ _ _ ?_ _ le_rfl
  intro h r
  refine ⟨(read_fill ..).trans ((start_m h r).trans ?_), (read_fill ..).trans ((start_l h r).trans ?_),
    fun d => (read_fill ..).trans ((start_a h r d).trans ?_)⟩
  · exact Finset.sup_empty.symm
  · exact Finset.sum_empty.symm
  · exact Finset.sum_empty.symm

variable (T : Fin 2 → Fin 384 → ℕ → EReal) (W : Fin 256 → ℕ → EReal) (hT : ∀ h r c, T h r c ≠ ⊤)
    (hk : ∀ (k : Fin (k0_t1_loop i).trips) h r (j : Fin 384), T h r (384 * k.val + j.val) = sc (arg3.view.readAt (Elt Ideal) (Rect.unit (s := S384x256) ![0, 0] S384x256.size inb_S384x256_S384x256_0_0).toLoadRect (harg3.unread x0)) (tile arg4 (harg4.unread x1) i k) h r j)
    (hw : ∀ (k : Fin (k0_t1_loop i).trips) d (j : Fin 384), W d (384 * k.val + j.val) = (tile arg5 (harg5.unread x2) i k) (ix2 j d))
    (hkD : ∀ h r (j : Fin 384), T h r (384 * (i 2).val + j.val) = scD (arg3.view.readAt (Elt Ideal) (Rect.unit (s := S384x256) ![0, 0] S384x256.size inb_S384x256_S384x256_0_0).toLoadRect (harg3.unread x0)) (arg4.view.readAt (Elt Ideal) (Rect.unit (s := S4224x256) (k0_off3 i) S384x256.size (k0_off3_inb i)).toLoadRect (harg4.unread x1)) h r j)
    (hwD : ∀ d (j : Fin 384), W d (384 * (i 2).val + j.val) = (arg5.view.readAt (Elt Ideal) (Rect.unit (s := S4224x256) (k0_off3 i) S384x256.size (k0_off3_inb i)).toLoadRect (harg5.unread x2)) (ix2 j d))

include hT hkD in
/-- The diagonal tile's maximum, -/
theorem diag_m (h : Fin 2) : newM (scD (arg3.view.readAt (Elt Ideal) (Rect.unit (s := S384x256) ![0, 0] S384x256.size inb_S384x256_S384x256_0_0).toLoadRect (harg3.unread x0)) (arg4.view.readAt (Elt Ideal) (Rect.unit (s := S4224x256) (k0_off3 i) S384x256.size (k0_off3_inb i)).toLoadRect (harg4.unread x1)) h r) (mx (T h r) (384 * (i 2).val)) = mx (T h r) (384 * (i 2).val + 384) := by
  rw [mx_add]; unfold newM; simp only [hkD]

include hT hkD in
/-- normalizer -/
theorem diag_l (h : Fin 2) : newL (scD (arg3.view.readAt (Elt Ideal) (Rect.unit (s := S384x256) ![0, 0] S384x256.size inb_S384x256_S384x256_0_0).toLoadRect (harg3.unread x0)) (arg4.view.readAt (Elt Ideal) (Rect.unit (s := S4224x256) (k0_off3 i) S384x256.size (k0_off3_inb i)).toLoadRect (harg4.unread x1)) h r) (mx (T h r) (384 * (i 2).val)) (nrm (T h r) (mx (T h r) (384 * (i 2).val)) (384 * (i 2).val))
    = nrm (T h r) (mx (T h r) (384 * (i 2).val + 384)) (384 * (i 2).val + 384) := by
  rw [← nrm_step (hT h r)]; unfold newL; rw [diag_m (T := T) (hT := hT) (hkD := hkD)]; simp only [hkD]

include hT hkD hwD in
/-- and weighted values. -/
theorem diag_a (h : Fin 2) : newA (scD (arg3.view.readAt (Elt Ideal) (Rect.unit (s := S384x256) ![0, 0] S384x256.size inb_S384x256_S384x256_0_0).toLoadRect (harg3.unread x0)) (arg4.view.readAt (Elt Ideal) (Rect.unit (s := S4224x256) (k0_off3 i) S384x256.size (k0_off3_inb i)).toLoadRect (harg4.unread x1)) h r) (fun j => (arg5.view.readAt (Elt Ideal) (Rect.unit (s := S4224x256) (k0_off3 i) S384x256.size (k0_off3_inb i)).toLoadRect (harg5.unread x2)) (ix2 j d)) (mx (T h r) (384 * (i 2).val)) (wsum (T h r) (W d) (mx (T h r) (384 * (i 2).val)) (384 * (i 2).val))
    = wsum (T h r) (W d) (mx (T h r) (384 * (i 2).val + 384)) (384 * (i 2).val + 384) := by
  rw [← wsum_step (hT h r)]; unfold newA; rw [diag_m (T := T) (hT := hT) (hkD := hkD)]; simp only [hkD, hwD]

include hT hk hw hkD hwD

/-- At the end: the weighted values of half 0, -/
theorem v129_eq : kernelRun0_A.sl.v129 (F := Ideal) c i arg3 harg3 arg4 harg4 arg5 harg5 arg6 harg6 arg7 harg7 arg8 harg8 arg9 harg9 arg10 harg10 arg11 harg11 arg12 harg12 arg13 harg13 arg14 harg14 x0 x1 x2 (ix3 0 r d)
    = wsum (T 0 r) (W d) (mx (T 0 r) (384 * (i 2).val + 384)) (384 * (i 2).val + 384) := by
  have H := after_loop (T := T) (W := W) (hT := hT) (hk := hk) (hw := hw) c i arg3 harg3 arg4 harg4 arg5 harg5 arg6 harg6 arg7 harg7 arg8 harg8 arg9 harg9 arg10 harg10 arg11 harg11 arg12 harg12 arg13 harg13 arg14 harg14 x0 x1 x2
  unfold kernelRun0_A.sl.v129 kernelRun0_A.sl.HS2_2 kernelRun0_A.sl.HS2_1_1 View.readCov
  refine (load_plane0 ..).trans ((read_plane0_skip ..).trans ((read_plane0 ..).trans ((aD0 _ _ _ _ _ r d _ rfl).trans ?_)))
  rw [v33_eq, v52_eq, load_plane0, load_plane0, (H 0 r).1, (H 0 r).2.2 d]
  exact diag_a (hT := hT) (hkD := hkD) (hwD := hwD) ..

/-- the normalizer of half 0, -/
theorem v131_eq : kernelRun0_A.sl.v131 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1))
    = nrm (T 0 r) (mx (T 0 r) (384 * (i 2).val + 384)) (384 * (i 2).val + 384) := by
  have H := after_loop (T := T) (W := W) (hT := hT) (hk := hk) (hw := hw) c i arg3 harg3 arg4 harg4 arg5 harg5 arg6 harg6 arg7 harg7 arg8 harg8 arg9 harg9 arg10 harg10 arg11 harg11 arg12 harg12 arg13 harg13 arg14 harg14 x0 x1 x2
  unfold kernelRun0_A.sl.v131 kernelRun0_A.sl.HS1_2 kernelRun0_A.sl.HS1_1_1 View.readCov
  refine (load_plane0 ..).trans ((read_plane0_skip ..).trans ((read_plane0 ..).trans ((lD0 _ _ _ _ r _ rfl).trans ?_)))
  rw [v33_eq, v43_eq, load_plane0, load_plane0, (H 0 r).1, (H 0 r).2.1]
  exact diag_l (hT := hT) (hkD := hkD) ..

/-- the weighted values of half 1 -/
theorem v135_eq : kernelRun0_A.sl.v135 (F := Ideal) c i arg3 harg3 arg4 harg4 arg5 harg5 arg6 harg6 arg7 harg7 arg8 harg8 arg9 harg9 arg10 harg10 arg11 harg11 arg12 harg12 arg13 harg13 arg14 harg14 x0 x1 x2 (ix3 0 r d)
    = wsum (T 1 r) (W d) (mx (T 1 r) (384 * (i 2).val + 384)) (384 * (i 2).val + 384) := by
  have H := after_loop (T := T) (W := W) (hT := hT) (hk := hk) (hw := hw) c i arg3 harg3 arg4 harg4 arg5 harg5 arg6 harg6 arg7 harg7 arg8 harg8 arg9 harg9 arg10 harg10 arg11 harg11 arg12 harg12 arg13 harg13 arg14 harg14 x0 x1 x2
  unfold kernelRun0_A.sl.v135 kernelRun0_A.sl.HS2_2 View.readCov
  refine (load_plane1 ..).trans ((read_plane1 ..).trans ((aD1 _ _ _ _ _ r d).trans ?_))
  rw [v72_eq, v91_eq, (H 1 r).1, (H 1 r).2.2 d]
  exact diag_a (hT := hT) (hkD := hkD) (hwD := hwD) ..

/-- and the normalizer of half 1. -/
theorem v137_eq : kernelRun0_A.sl.v137 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1))
    = nrm (T 1 r) (mx (T 1 r) (384 * (i 2).val + 384)) (384 * (i 2).val + 384) := by
  have H := after_loop (T := T) (W := W) (hT := hT) (hk := hk) (hw := hw) c i arg3 harg3 arg4 harg4 arg5 harg5 arg6 harg6 arg7 harg7 arg8 harg8 arg9 harg9 arg10 harg10 arg11 harg11 arg12 harg12 arg13 harg13 arg14 harg14 x0 x1 x2
  unfold kernelRun0_A.sl.v137 kernelRun0_A.sl.HS1_2 View.readCov
  refine (load_plane1 ..).trans ((read_plane1 ..).trans ((lD1 _ _ _ _ r).trans ?_))
  rw [v72_eq, v82_eq, (H 1 r).1, (H 1 r).2.1]
  exact diag_l (hT := hT) (hkD := hkD) ..

end

end Cert.AttnIdeal.Proof

end
-- ==== Proof.AttnRef.lean ====
/-
  The attention of the reference at an element: masked scores, their softmax over the keys, the difference of the two
  halves' weights, the values they weigh.
-/
module

public import proofs.«01_k».proof.Proof.Gen.AttnRefIdeal.Read
public import proofs.«01_k».proof.Proof.OnlineSoftmax
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe
open Cert.Online

namespace Cert.AttnRefIdeal.Proof

open Cert.AttnRefIdeal Cert.AttnRefIdeal.Read

variable (x0 : FVec Ideal S16896x4096 .bf16) (x1 : FVec Ideal S16896x2048 .bf16)

/-- The score of query row `r` and key row `n` in half `c` of head `h` of batch element `b`. -/
def score (b : Fin 4) (h : Fin 8) (c : Fin 2) (r n : Fin 4224) : EReal :=
  ∑ k : Fin 128, (x0 (ix2 ⟨b.val * 4224 + r.val, by omega⟩ ⟨h.val * 256 + c.val * 128 + k.val, by omega⟩) : EReal)
    * x0 (ix2 ⟨b.val * 4224 + n.val, by omega⟩ ⟨2048 + (h.val * 256 + c.val * 128 + k.val), by omega⟩)

/-- The scores of a row over all key positions: `⊥` after the row and past the sequence. -/
def scores (b : Fin 4) (h : Fin 8) (c : Fin 2) (r : Fin 4224) (n : ℕ) : EReal :=
  if hn : n < 4224 then (if n ≤ r.val then score x0 b h c r ⟨n, hn⟩ else ⊥) else ⊥

/-- A value column over all key positions: zero past the sequence. -/
def values (b : Fin 4) (h : Fin 8) (d : Fin 256) (n : ℕ) : EReal :=
  if hn : n < 4224 then x1 (ix2 ⟨b.val * 4224 + n, by omega⟩ ⟨h.val * 256 + d.val, by omega⟩) else 0

theorem negInf : Ideal.ofBits .f32 0xFF800000#32 = ⊥ := by
  simp [Ideal.ofBits, Ideal.ieee]

theorem q_at (b : Fin 4) (r : Fin 4224) (h : Fin 8) (c : Fin 2) (k : Fin 128) :
    val_main_v2 (F := Ideal) x0 (ix5 b r h c k) = x0 (ix2 ⟨b.val * 4224 + r.val, by omega⟩ ⟨h.val * 256 + c.val * 128 + k.val, by omega⟩) := by
  pointwise [val_main_v2, val_main_v1, val_main_v0]
  blk_ext [val_main_v2]

theorem k_at (b : Fin 4) (r : Fin 4224) (h : Fin 8) (c : Fin 2) (k : Fin 128) :
    val_main_v5 (F := Ideal) x0 (ix5 b r h c k) = x0 (ix2 ⟨b.val * 4224 + r.val, by omega⟩ ⟨2048 + (h.val * 256 + c.val * 128 + k.val), by omega⟩) := by
  pointwise [val_main_v5, val_main_v4, val_main_v3]
  blk_ext [val_main_v5]

theorem v_at (b : Fin 4) (r : Fin 4224) (h : Fin 8) (d : Fin 256) :
    val_main_v7 (F := Ideal) x1 (ix4 b r h d) = x1 (ix2 ⟨b.val * 4224 + r.val, by omega⟩ ⟨h.val * 256 + d.val, by omega⟩) := by
  pointwise [val_main_v7, val_main_v6]
  blk_ext [val_main_v7]

/-- The reference's scores. -/
theorem score_at (b : Fin 4) (h : Fin 8) (c : Fin 2) (r n : Fin 4224) :
    val_main_v24 (F := Ideal) x0 (ix5 b h c r n) = score x0 b h c r n := by
  pointwise [val_main_v24]
  unfold score
  exact Finset.sum_congr rfl fun k _ => congrArg₂ _ (q_at ..) (k_at ..)

/-- The reference's masked scores. -/
theorem masked_at (b : Fin 4) (h : Fin 8) (c : Fin 2) (r n : Fin 4224) :
    val_main_v32 (F := Ideal) x0 (ix5 b h c r n) = scores x0 b h c r n.val := by
  pointwise [val_main_v32, val_main_call0_v0, val_main_call0_v1, val_main_call0_v2, val_main_cst_2, val_main_v31, val_main_v30, val_main_v29, val_main_v28, val_main_v27, val_main_v26, val_main_v25]
  unfold scores
  rw [WordCmp.cmpi_sle_ofNat (by omega) (by omega), dif_pos n.isLt, score_at]
  by_cases hc : n.val ≤ r.val
  · simp [hc, Scalar.select]
  · simp [hc, negInf, constant, Scalar.select]

/-- A row maximum of the host from `⊥`, at any sizes. -/
theorem rowMax {n0 n1 n2 n3 n4 : ℕ} {u : Shape} (x : FVec Ideal (⟨5, ![n0, n1, n2, n3, n4]⟩ : Shape) .f32) (init : FVec Ideal u .f32)
    (hr : (⟨5, ![n0, n1, n2, n3, n4]⟩ : Shape).ReducesTo [4] (⟨4, ![n0, n1, n2, n3]⟩ : Shape)) (hu : 0 < u.numel)
    (hi : init (Shape.Idx.first hu) = (⊥ : EReal)) (a : Fin n0) (b : Fin n1) (c : Fin n2) (d : Fin n3) :
    Host.reduce (FloatOps.maximumf (F := Ideal) (φ := .f32)) x init hr hu (ix4 a b c d) = (Finset.univ.sup fun k : Fin n4 => (x (ix5 a b c d k) : EReal)) := by
  rw [Host.reduce_eq_fold, hr.fold_fiber_r5_a4, hi]
  rfl

theorem sup_range (S : ℕ → EReal) (n : ℕ) : (Finset.univ.sup fun k : Fin n => S k.val) = mx S n := by
  apply le_antisymm
  · exact Finset.sup_le fun k _ => le_mx k.isLt
  · exact Finset.sup_le fun k hk => Finset.le_sup (f := fun k : Fin n => S k.val) (Finset.mem_univ ⟨k, Finset.mem_range.1 hk⟩)

theorem max_raw (b : Fin 4) (h : Fin 8) (c : Fin 2) (r : Fin 4224) :
    val_main_v33 (F := Ideal) x0 (ix4 b h c r) = mx (scores x0 b h c r) 4224 := by
  unfold val_main_v33
  rw [← sup_range]
  refine (rowMax (val_main_v32 (F := Ideal) x0) _ _ _ (by unfold val_main_cst_3; exact negInf) b h c r).trans ?_
  exact Finset.sup_congr rfl fun k _ => masked_at ..

theorem max_at (b : Fin 4) (h : Fin 8) (c : Fin 2) (r : Fin 4224) :
    val_main_v35 (F := Ideal) x0 (ix4 b h c r) = mx (scores x0 b h c r) 4224 := by
  rw [val_main_v35_apply, max_raw, val_main_v34_apply]
  unfold val_main_cst_4
  exact (congrArg (fun z => max z _) negInf).trans (max_eq_right bot_le)

theorem weight_at (b : Fin 4) (h : Fin 8) (c : Fin 2) (r n : Fin 4224) :
    val_main_v39 (F := Ideal) x0 (ix5 b h c r n) = Ideal.exp (scores x0 b h c r n.val - mx (scores x0 b h c r) 4224) := by
  pointwise [val_main_v39, val_main_v38, val_main_v37, val_main_v36]
  rw [masked_at, max_at]

theorem norm_at (b : Fin 4) (h : Fin 8) (c : Fin 2) (r : Fin 4224) :
    val_main_v40 (F := Ideal) x0 (ix4 b h c r) = nrm (scores x0 b h c r) (mx (scores x0 b h c r) 4224) 4224 := by
  pointwise [val_main_v40, val_main_cst_5]
  unfold nrm
  rw [Finset.sum_range]
  exact Finset.sum_congr rfl fun k _ => weight_at ..

variable (x2 x3 x4 x5 : FVec Ideal S4x128 .f32) (x6 : FVec Ideal S4x256 .f32)

/-- The weight of the second half's attention, of layer one's vectors. -/
def lam : EReal :=
  Ideal.exp (∑ k : Fin 128, (x2 (ix2 1 k) : EReal) * x3 (ix2 1 k)) - Ideal.exp (∑ k : Fin 128, (x4 (ix2 1 k) : EReal) * x5 (ix2 1 k))
    + Ideal.ofBits .f32 0x3EB60549#32

theorem lam_at : val_main_v23 (F := Ideal) x2 x3 x4 x5 ix0 = lam x2 x3 x4 x5 := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  unfold lam
  rfl

/-- The softmax of one half at a key position. -/
def weight (b : Fin 4) (h : Fin 8) (c : Fin 2) (r : Fin 4224) (n : ℕ) : EReal :=
  Ideal.div (Ideal.exp (scores x0 b h c r n - mx (scores x0 b h c r) 4224)) (nrm (scores x0 b h c r) (mx (scores x0 b h c r) 4224) 4224)

theorem soft_at (b : Fin 4) (h : Fin 8) (c : Fin 2) (r n : Fin 4224) :
    val_main_v43 (F := Ideal) x0 (ix5 b h c r n) = weight x0 b h c r n.val := by
  pointwise [val_main_v43, val_main_v42, val_main_v41]
  rw [weight_at, norm_at]
  rfl

theorem half_at (y : FVec Ideal S4x8x1x4224x4224 .f32) (hs : S4x8x1x4224x4224.ShapeCasts S4x8x4224x4224) (b : Fin 4) (h : Fin 8) (r n : Fin 4224) :
    shapeCast S4x8x4224x4224 y hs (ix4 b h r n) = y (ix5 b h 0 r n) := by
  refine shapeCast_apply y hs (ix4 b h r n) (ix5 b h 0 r n) ?_
  rw [Shape.rowMajor_val_five, Shape.rowMajor_val_four]
  show ((((b.val * 8 + h.val) * 1 + 0) * 4224 + r.val) * 4224 + n.val) = (((b.val * 8 + h.val) * 4224 + r.val) * 4224 + n.val)
  omega

theorem first_at (b : Fin 4) (h : Fin 8) (r n : Fin 4224) :
    val_main_v45 (F := Ideal) x0 (ix4 b h r n) = weight x0 b h 0 r n.val := by
  rw [← soft_at]
  refine (half_at (val_main_v44 (F := Ideal) x0) _ b h r n).trans ?_
  rw [val_main_v44_apply]
  generalize val_main_v43 (F := Ideal) x0 = y
  refine congrArg y (funext fun a => ?_)
  match a with
  | ⟨0, _⟩ => rfl
  | ⟨1, _⟩ => rfl
  | ⟨2, _⟩ => rfl
  | ⟨3, _⟩ => rfl
  | ⟨4, _⟩ => rfl

theorem second_at (b : Fin 4) (h : Fin 8) (r n : Fin 4224) :
    val_main_v47 (F := Ideal) x0 (ix4 b h r n) = weight x0 b h 1 r n.val := by
  rw [← soft_at]
  refine (half_at (val_main_v46 (F := Ideal) x0) _ b h r n).trans ?_
  rw [val_main_v46_apply]
  generalize val_main_v43 (F := Ideal) x0 = y
  refine congrArg y (funext fun a => ?_)
  match a with
  | ⟨0, _⟩ => rfl
  | ⟨1, _⟩ => rfl
  | ⟨2, _⟩ => rfl
  | ⟨3, _⟩ => rfl
  | ⟨4, _⟩ => rfl

theorem factor_at (b : Fin 4) (h : Fin 8) (r n : Fin 4224) :
    val_main_v48 (F := Ideal) x2 x3 x4 x5 (ix4 b h r n) = lam x2 x3 x4 x5 := by
  rw [val_main_v48_apply, ← lam_at]
  generalize val_main_v23 (F := Ideal) x2 x3 x4 x5 = y
  exact congrArg y (funext fun a => a.elim0)

theorem diff_at (b : Fin 4) (h : Fin 8) (r n : Fin 4224) :
    val_main_v50 (F := Ideal) x0 x2 x3 x4 x5 (ix4 b h r n) = weight x0 b h 0 r n.val - lam x2 x3 x4 x5 * weight x0 b h 1 r n.val := by
  rw [val_main_v50_apply, val_main_v49_apply, first_at, second_at, factor_at]
  rfl

/-- The difference of the two halves' attention, before the norm. -/
def mixed (b : Fin 4) (h : Fin 8) (r : Fin 4224) (d : Fin 256) : EReal :=
  Ideal.div (wsum (scores x0 b h 0 r) (values x1 b h d) (mx (scores x0 b h 0 r) 4224) 4224) (nrm (scores x0 b h 0 r) (mx (scores x0 b h 0 r) 4224) 4224)
    - lam x2 x3 x4 x5
      * Ideal.div (wsum (scores x0 b h 1 r) (values x1 b h d) (mx (scores x0 b h 1 r) 4224) 4224) (nrm (scores x0 b h 1 r) (mx (scores x0 b h 1 r) 4224) 4224)

theorem sum_at (b : Fin 4) (h : Fin 8) (r : Fin 4224) (d : Fin 256) :
    val_main_v52 (F := Ideal) x0 x1 x2 x3 x4 x5 (ix4 b r h d)
      = ∑ n ∈ Finset.range 4224, values x1 b h d n * (weight x0 b h 0 r n - lam x2 x3 x4 x5 * weight x0 b h 1 r n) := by
  rw [Finset.sum_range]
  pointwise [val_main_v52, val_main_v51]
  refine Finset.sum_congr rfl fun n _ => ?_
  unfold values
  rw [dif_pos n.isLt]
  exact congrArg₂ _ (v_at ..) (diff_at ..)

/-- The norm of a head and its scale, at a column. -/
def headNorm (o g : Fin 256 → EReal) (d : Fin 256) : EReal :=
  o d * Ideal.rsqrt (Ideal.div (∑ e : Fin 256, o e * o e) (Ideal.ofBits .f32 0x43800000#32) + Ideal.ofBits .f32 0x358637BD#32) * g d
    * Ideal.ofBits .f32 0x3F24FD5C#32

theorem norm4_at (b : Fin 4) (h : Fin 8) (r : Fin 4224) (d : Fin 256) :
    val_main_v69 (F := Ideal) x0 x1 x2 x3 x4 x5 x6 (ix4 b r h d)
      = headNorm (fun e => val_main_v52 (F := Ideal) x0 x1 x2 x3 x4 x5 (ix4 b r h e)) (fun e => x6 (ix2 1 e)) d := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_6, val_main_cst_7, val_main_cst_8, val_main_cst_9]
  unfold headNorm
  rfl

theorem out_at (b : Fin 4) (h : Fin 8) (r : Fin 4224) (d : Fin 256) :
    val_main_v71 (F := Ideal) x0 x1 x2 x3 x4 x5 x6 (ix2 ⟨b.val * 4224 + r.val, by omega⟩ ⟨h.val * 256 + d.val, by omega⟩)
      = headNorm (fun e => val_main_v52 (F := Ideal) x0 x1 x2 x3 x4 x5 (ix4 b r h e)) (fun e => x6 (ix2 1 e)) d := by
  rw [← norm4_at]
  pointwise [val_main_v71, val_main_v70]
  blk_ext [val_main_v71]

end Cert.AttnRefIdeal.Proof

end
-- ==== Proof.AttnFinite.lean ====
/-
  The attention over real operands: its scores are real where they are not masked, its values and the weight of the
  second half are real; then the reference's difference of weights over the values is the difference of the two halves'
  weighted means.
-/
module

public import proofs.«01_k».proof.Proof.AttnRef

@[expose] public section

set_option maxRecDepth 16384

noncomputable section

open Idealize.ShloMosaic Idealize.ShloMosaic.TcCoe
open Cert.Online

namespace Cert.AttnRefIdeal.Proof

open Cert.AttnRefIdeal Cert.AttnRefIdeal.Read

/-- A value that is a real number. -/
def IsReal (x : EReal) : Prop := x ≠ ⊤ ∧ x ≠ ⊥

theorem IsReal.exists {x : EReal} (h : IsReal x) : ∃ a : ℝ, x = a := ⟨x.toReal, (EReal.coe_toReal h.1 h.2).symm⟩

theorem real_coe (a : ℝ) : IsReal (a : EReal) := ⟨EReal.coe_ne_top a, EReal.coe_ne_bot a⟩

theorem real_mul {x y : EReal} (hx : IsReal x) (hy : IsReal y) : IsReal (x * y) := by
  obtain ⟨a, rfl⟩ := hx.exists
  obtain ⟨b, rfl⟩ := hy.exists
  rw [← EReal.coe_mul]
  exact real_coe _

theorem real_add {x y : EReal} (hx : IsReal x) (hy : IsReal y) : IsReal (x + y) := by
  obtain ⟨a, rfl⟩ := hx.exists
  obtain ⟨b, rfl⟩ := hy.exists
  rw [← EReal.coe_add]
  exact real_coe _

theorem real_sub {x y : EReal} (hx : IsReal x) (hy : IsReal y) : IsReal (x - y) := by
  obtain ⟨a, rfl⟩ := hx.exists
  obtain ⟨b, rfl⟩ := hy.exists
  rw [← EReal.coe_sub]
  exact real_coe _

theorem real_sum {ι : Type} (s : Finset ι) (f : ι → EReal) (hf : ∀ i, IsReal (f i)) : IsReal (∑ i ∈ s, f i) :=
  Finset.sum_induction f IsReal (fun _ _ => real_add) (real_coe 0) fun i _ => hf i

theorem real_exp {x : EReal} (hx : IsReal x) : IsReal (Ideal.exp x) := by
  obtain ⟨a, rfl⟩ := hx.exists
  exact real_coe (Real.exp a)

variable (x0 : FVec Ideal S16896x4096 .bf16) (x1 : FVec Ideal S16896x2048 .bf16)
variable (x2 x3 x4 x5 : FVec Ideal S4x128 .f32)

theorem score_real (hq : ∀ i, IsReal (x0 i)) (b : Fin 4) (h : Fin 8) (c : Fin 2) (r n : Fin 4224) : IsReal (score x0 b h c r n) :=
  real_sum _ _ fun k => real_mul (hq _) (hq _)

theorem scores_ne_top (hq : ∀ i, IsReal (x0 i)) (b : Fin 4) (h : Fin 8) (c : Fin 2) (r : Fin 4224) (n : ℕ) : scores x0 b h c r n ≠ ⊤ := by
  unfold scores
  split_ifs
  · exact (score_real x0 hq ..).1
  · exact bot_ne_top
  · exact bot_ne_top

theorem scores_zero (hq : ∀ i, IsReal (x0 i)) (b : Fin 4) (h : Fin 8) (c : Fin 2) (r : Fin 4224) : scores x0 b h c r 0 ≠ ⊥ := by
  unfold scores
  rw [dif_pos (by norm_num), if_pos (Nat.zero_le _)]
  exact (score_real x0 hq ..).2

theorem values_real (hv : ∀ i, IsReal (x1 i)) (b : Fin 4) (h : Fin 8) (d : Fin 256) (n : ℕ) : IsReal (values x1 b h d n) := by
  unfold values
  split_ifs
  · exact hv _
  · exact real_coe 0

theorem lam_real (h2 : ∀ i, IsReal (x2 i)) (h3 : ∀ i, IsReal (x3 i)) (h4 : ∀ i, IsReal (x4 i)) (h5 : ∀ i, IsReal (x5 i)) :
    IsReal (lam x2 x3 x4 x5) := by
  refine real_add (real_sub (real_exp ?_) (real_exp ?_)) ?_
  · exact real_sum _ _ fun k => real_mul (h2 _) (h3 _)
  · exact real_sum _ _ fun k => real_mul (h4 _) (h5 _)
  · have e : Ideal.ofBits .f32 0x3EB60549#32 = ((11928905 : ℝ) : EReal) * ((((2 : ℝ) ^ 25)⁻¹ : ℝ) : EReal) := by
      simp [Ideal.ofBits, Ideal.ieee]
    rw [e]
    exact real_mul (real_coe _) (real_coe _)

/-- The reference's head output before the norm, over real operands. -/
theorem mixed_at (hq : ∀ i, IsReal (x0 i)) (hv : ∀ i, IsReal (x1 i)) (h2 : ∀ i, IsReal (x2 i)) (h3 : ∀ i, IsReal (x3 i)) (h4 : ∀ i, IsReal (x4 i)) (h5 : ∀ i, IsReal (x5 i))
    (b : Fin 4) (h : Fin 8) (r : Fin 4224) (d : Fin 256) :
    val_main_v52 (F := Ideal) x0 x1 x2 x3 x4 x5 (ix4 b r h d) = mixed x0 x1 x2 x3 x4 x5 b h r d := by
  rw [sum_at]
  unfold mixed
  rw [weights_combine (scores_ne_top x0 hq b h 0 r) (scores_ne_top x0 hq b h 1 r) (scores_zero x0 hq b h 0 r) (scores_zero x0 hq b h 1 r)
    (by norm_num) (values x1 b h d) (values_real x1 hv b h d) _ (lam_real x2 x3 x4 x5 h2 h3 h4 h5)]
  rfl

end Cert.AttnRefIdeal.Proof

end
-- ==== Proof.AttnTile.lean ====
/-
  Attention, a grid point over the arrays: with the point's blocks read off the queries and keys and the values, the
  scratch at the end holds the sums of the reference's softmax over all key positions.
-/
module

public import proofs.«01_k».proof.Proof.AttnScratch
public import proofs.«01_k».proof.Proof.AttnFinite

@[expose] public section

set_option maxRecDepth 16384
set_option backward.proofsInPublic true

noncomputable section

open Idealize.ShloMosaic Idealize.ShloMosaic.TcCoe
open Cert.Online

namespace Cert.AttnIdeal.Proof

open Cert.AttnIdeal Cert.AttnIdeal.Gen
open Cert.AttnRefIdeal.Proof (scores score values scores_ne_top IsReal)

theorem tile_lt (i : grid0.Coords) : (i 2).val < 11 := (i 2).isLt

theorem row_lt (i : grid0.Coords) (r : Fin 384) : (i 2).val * 384 + r.val < 4224 := by
  have := tile_lt i
  omega

theorem past_le (i : grid0.Coords) : 384 * (i 2).val + 384 ≤ 4224 := by
  have := tile_lt i
  omega

variable (X0 : FVec Ideal S16896x4096 .bf16) (X1 : FVec Ideal S16896x2048 .bf16)

/-- Past the diagonal tile every score of the tile's rows is masked. -/
theorem masked_past (b : Fin 4) (hd : Fin 8) (h : Fin 2) (i : grid0.Coords) (r : Fin 384) (n : ℕ) (hn : 384 * (i 2).val + 384 ≤ n) :
    scores X0 b hd h ⟨(i 2).val * 384 + r.val, row_lt i r⟩ n = ⊥ := by
  unfold scores
  split_ifs with h1 h2
  · exfalso
    have h3 : n ≤ (i 2).val * 384 + r.val := h2
    omega
  · rfl
  · rfl

/-- A score within the sequence and not after the row. -/
theorem scores_at (b : Fin 4) (hd : Fin 8) (h : Fin 2) (R : Fin 4224) (n : ℕ) (hn : n < 4224) (hr : n ≤ R.val) :
    scores X0 b hd h R n = score X0 b hd h R ⟨n, hn⟩ := by
  unfold scores
  rw [dif_pos hn, if_pos hr]

/-- The score of two rows from rows that hold them. -/
theorem score_of (b : Fin 4) (hd : Fin 8) (h : Fin 2) (R n : Fin 4224) (q kt : Vec Ideal S384x256 .bf16) (r j : Fin 384)
    (hq : ∀ l : Fin 256, q (ix2 r l) = X0 (ix2 ⟨b.val * 4224 + R.val, by omega⟩ ⟨hd.val * 256 + l.val, by omega⟩))
    (hkt : ∀ l : Fin 256, kt (ix2 j l) = X0 (ix2 ⟨b.val * 4224 + n.val, by omega⟩ ⟨2048 + (hd.val * 256 + l.val), by omega⟩)) :
    score X0 b hd h R n = sc q kt h r j := by
  unfold score sc
  refine Finset.sum_congr rfl fun k _ => ?_
  rw [hq, hkt]
  refine congrArg₂ (· * ·) (congrArg X0 ?_) (congrArg X0 ?_)
  · exact congrArg (ix2 _) (Fin.ext (Nat.add_assoc _ _ _))
  · exact congrArg (ix2 _) (Fin.ext (congrArg (2048 + ·) (Nat.add_assoc _ _ _)))

variable (i : grid0.Coords) (arg3 : Memref sig .tc .vmem S384x256 .bf16) (harg3 : arg3.IsWhole) (arg4 : Memref sig .tc .vmem S4224x256 .bf16) (harg4 : arg4.IsWhole)
  (arg5 : Memref sig .tc .vmem S4224x256 .bf16) (harg5 : arg5.IsWhole) (x0 : Vec Ideal S384x256 .bf16) (x1 x2 : Vec Ideal S4224x256 .bf16)

theorem whole_q (r : Fin 384) (l : Fin 256) : (arg3.view.readAt (Elt Ideal) (Rect.unit (s := S384x256) ![0, 0] S384x256.size inb_S384x256_S384x256_0_0).toLoadRect (harg3.unread x0)) (ix2 r l) = x0 (ix2 r l) := by
  have e := congrFun (harg3.read_unread x0) (ix2 r l)
  refine Eq.trans (congrArg (arg3.view.read (Elt Ideal) (harg3.unread x0)) ?_) e
  funext a
  match a with
  | ⟨0, _⟩ => exact Fin.ext (by show 0 + 1 * r.val = r.val; omega)
  | ⟨1, _⟩ => exact Fin.ext (by show 0 + 1 * l.val = l.val; omega)

theorem tile_at (k : Fin (k0_t1_loop i).trips) (j : Fin 384) (l : Fin 256) (hr : k.val * 384 + j.val < 4224) :
    tile arg4 (harg4.unread x1) i k (ix2 j l) = x1 (ix2 ⟨k.val * 384 + j.val, hr⟩ l) :=
  (load_rows arg4.view (harg4.unread x1) (k0_off1 i k) (k.val * 384) (off1 i k) _ j l hr).trans (congrFun (harg4.read_unread x1) _)

theorem diag_at (j : Fin 384) (l : Fin 256) :
    (arg4.view.readAt (Elt Ideal) (Rect.unit (s := S4224x256) (k0_off3 i) S384x256.size (k0_off3_inb i)).toLoadRect (harg4.unread x1)) (ix2 j l) = x1 (ix2 ⟨(i 2).val * 384 + j.val, row_lt i j⟩ l) :=
  (load_rows arg4.view (harg4.unread x1) (k0_off3 i) ((i 2).val * 384) (off3 i) _ j l (row_lt i j)).trans (congrFun (harg4.read_unread x1) _)

variable (b : Fin 4) (hd : Fin 8)
  (bq : ∀ (r : Fin 384) (l : Fin 256), x0 (ix2 r l) = X0 (ix2 ⟨b.val * 4224 + ((i 2).val * 384 + r.val), by have := row_lt i r; omega⟩ ⟨hd.val * 256 + l.val, by omega⟩))
  (bk : ∀ (n : Fin 4224) (l : Fin 256), x1 (ix2 n l) = X0 (ix2 ⟨b.val * 4224 + n.val, by omega⟩ ⟨2048 + (hd.val * 256 + l.val), by omega⟩))
  (bv : ∀ (n : Fin 4224) (d : Fin 256), x2 (ix2 n d) = X1 (ix2 ⟨b.val * 4224 + n.val, by omega⟩ ⟨hd.val * 256 + d.val, by omega⟩))

theorem k_lt (k : Fin (k0_t1_loop i).trips) : k.val < (i 2).val := by
  have h := k.isLt
  have e := trips1 i
  omega

include bq bk in
/-- The scores of a tile before the diagonal. -/
theorem hk_of (k : Fin (k0_t1_loop i).trips) (h : Fin 2) (r j : Fin 384) :
    scores X0 b hd h ⟨(i 2).val * 384 + r.val, row_lt i r⟩ (384 * k.val + j.val) = sc (arg3.view.readAt (Elt Ideal) (Rect.unit (s := S384x256) ![0, 0] S384x256.size inb_S384x256_S384x256_0_0).toLoadRect (harg3.unread x0)) (tile arg4 (harg4.unread x1) i k) h r j := by
  have h1 := k_lt i k
  have h2 := tile_lt i
  rw [scores_at X0 b hd h _ _ (by omega) (by show _ ≤ (i 2).val * 384 + r.val; omega)]
  refine score_of X0 b hd h _ _ _ _ r j (fun l => (whole_q ..).trans (bq r l)) fun l => (tile_at (j := j) (hr := by omega) ..).trans ((bk _ l).trans ?_)
  exact congrArg X0 (congrArg (fun z => ix2 z _) (Fin.ext (congrArg (b.val * 4224 + ·) (by show k.val * 384 + j.val = 384 * k.val + j.val; omega))))

include bq bk in
/-- The scores of the diagonal tile. -/
theorem hkD_of (h : Fin 2) (r j : Fin 384) :
    scores X0 b hd h ⟨(i 2).val * 384 + r.val, row_lt i r⟩ (384 * (i 2).val + j.val) = scD (arg3.view.readAt (Elt Ideal) (Rect.unit (s := S384x256) ![0, 0] S384x256.size inb_S384x256_S384x256_0_0).toLoadRect (harg3.unread x0)) (arg4.view.readAt (Elt Ideal) (Rect.unit (s := S4224x256) (k0_off3 i) S384x256.size (k0_off3_inb i)).toLoadRect (harg4.unread x1)) h r j := by
  have h2 := tile_lt i
  unfold scD
  by_cases hj : j.val ≤ r.val
  · rw [if_pos hj, scores_at X0 b hd h _ _ (by omega) (by show _ ≤ (i 2).val * 384 + r.val; omega)]
    refine score_of X0 b hd h _ _ _ _ r j (fun l => (whole_q ..).trans (bq r l)) fun l => (diag_at ..).trans ((bk _ l).trans ?_)
    exact congrArg X0 (congrArg (fun z => ix2 z _) (Fin.ext (congrArg (b.val * 4224 + ·) (by show (i 2).val * 384 + j.val = 384 * (i 2).val + j.val; omega))))
  · rw [if_neg hj]
    unfold scores
    split_ifs with h3 h4
    · exfalso
      have h5 : 384 * (i 2).val + j.val ≤ (i 2).val * 384 + r.val := h4
      omega
    · rfl
    · rfl

include bv in
/-- The values of a tile before the diagonal. -/
theorem hw_of (k : Fin (k0_t1_loop i).trips) (d : Fin 256) (j : Fin 384) :
    values X1 b hd d (384 * k.val + j.val) = (tile arg5 (harg5.unread x2) i k) (ix2 j d) := by
  have h1 := k_lt i k
  have h2 := tile_lt i
  unfold values
  rw [dif_pos (by omega), tile_at (j := j) (hr := by omega), bv]
  exact congrArg X1 (congrArg (fun z => ix2 z _) (Fin.ext (congrArg (b.val * 4224 + ·) (by show 384 * k.val + j.val = k.val * 384 + j.val; omega))))

include bv in
/-- The values of the diagonal tile. -/
theorem hwD_of (d : Fin 256) (j : Fin 384) :
    values X1 b hd d (384 * (i 2).val + j.val) = (arg5.view.readAt (Elt Ideal) (Rect.unit (s := S4224x256) (k0_off3 i) S384x256.size (k0_off3_inb i)).toLoadRect (harg5.unread x2)) (ix2 j d) := by
  have h2 := tile_lt i
  unfold values
  rw [dif_pos (by omega), diag_at, bv]
  exact congrArg X1 (congrArg (fun z => ix2 z _) (Fin.ext (congrArg (b.val * 4224 + ·) (by show 384 * (i 2).val + j.val = (i 2).val * 384 + j.val; omega))))

end Cert.AttnIdeal.Proof

end
-- ==== Proof.AttnBlocks.lean ====
/-
  Attention, the blocks of a grid point: the tile of queries, the keys and values of the head, the vectors of layer one.
-/
module

public import proofs.«01_k».proof.Proof.AttnTile
public import Idealize.ShloMosaic.Lib.Claim

@[expose] public section

set_option maxRecDepth 16384
set_option backward.proofsInPublic true

noncomputable section

open Idealize.ShloMosaic Idealize.ShloMosaic.TcCoe Idealize.SL.Sem

namespace Cert.AttnIdeal.Proof

open Cert.AttnIdeal Cert.AttnIdeal.Gen

variable (m : (ℓ : Loc nD τ sig) → Buf (Elt Ideal) ℓ)

/-- The block each window shows at each grid point. -/
theorem idx : ∀ t : Fin cfg0.N, win0_0.index t = ![t.val / 88 * 11 + t.val % 11, t.val / 11 % 8]
    ∧ win0_1.index t = ![t.val / 88, 8 + t.val / 11 % 8]
    ∧ win0_2.index t = ![t.val / 88, t.val / 11 % 8]
    ∧ win0_3.index t = ![1, 0, 0]
    ∧ win0_4.index t = ![1, 0, 0]
    ∧ win0_5.index t = ![1, 0, 0]
    ∧ win0_6.index t = ![1, 0, 0]
    ∧ win0_7.index t = ![1, 0, 0]
    ∧ win0_8.index t = ![t.val / 88 * 11 + t.val % 11, t.val / 11 % 8] :=
  (by decide +kernel : ∀ t : Fin grid0.N, _)

/-- The last grid coordinate: the tile of rows. -/
theorem coord : ∀ t : Fin cfg0.N, (grid0.coords t 2).val = t.val % 11 :=
  (by decide +kernel : ∀ t : Fin grid0.N, _)

theorem points (t : Fin cfg0.N) : t.val < 352 := t.isLt

/-- The batch element of a point. -/
abbrev bOf (t : Fin cfg0.N) : Fin 4 := ⟨t.val / 88, by have := points t; omega⟩

/-- The head of a point. -/
abbrev hOf (t : Fin cfg0.N) : Fin 8 := ⟨t.val / 11 % 8, by omega⟩

/-- The tile of queries. -/
theorem bq (c : Dev nD) (t : Fin cfg0.N) (r : Fin 384) (l : Fin 256) : iblk m c 0 t (ix2 r l)
    = m ((c : Thread nD τ).loc main_arg0) (ix2 ⟨(bOf t).val * 4224 + ((grid0.coords t 2).val * 384 + r.val), by have := row_lt (grid0.coords t) r; omega⟩ ⟨(hOf t).val * 256 + l.val, by omega⟩) := by
  have hp := points t
  have e : (⟨(bOf t).val * 4224 + ((grid0.coords t 2).val * 384 + r.val), by have := row_lt (grid0.coords t) r; omega⟩ : Fin 16896)
      = ⟨(t.val / 88 * 11 + t.val % 11) * 384 + r.val, by omega⟩ := Fin.ext (by
    show t.val / 88 * 4224 + ((grid0.coords t 2).val * 384 + r.val) = _
    rw [coord t]
    show _ = (t.val / 88 * 11 + t.val % 11) * 384 + r.val
    omega)
  rw [e]
  blk_ext [iblk, V, idx t]

/-- The keys of the head. -/
theorem bk (c : Dev nD) (t : Fin cfg0.N) (n : Fin 4224) (l : Fin 256) : iblk m c 1 t (ix2 n l)
    = m ((c : Thread nD τ).loc main_arg0) (ix2 ⟨(bOf t).val * 4224 + n.val, by omega⟩ ⟨2048 + ((hOf t).val * 256 + l.val), by omega⟩) := by
  have hp := points t
  have e : (⟨2048 + ((hOf t).val * 256 + l.val), by omega⟩ : Fin 4096) = ⟨(8 + t.val / 11 % 8) * 256 + l.val, by omega⟩ := Fin.ext (by
    show 2048 + (t.val / 11 % 8 * 256 + l.val) = (8 + t.val / 11 % 8) * 256 + l.val
    omega)
  rw [e]
  blk_ext [iblk, V, idx t]

/-- The values of the head. -/
theorem bv (c : Dev nD) (t : Fin cfg0.N) (n : Fin 4224) (l : Fin 256) : iblk m c 2 t (ix2 n l)
    = m ((c : Thread nD τ).loc main_arg1) (ix2 ⟨(bOf t).val * 4224 + n.val, by omega⟩ ⟨(hOf t).val * 256 + l.val, by omega⟩) := by
  blk_ext [iblk, V, idx t]

set_option maxHeartbeats 1000000 in
theorem V_0 (c : Dev nD) : V m c main_v0 = broadcastInDim S4x1x128 ![0, 2] bcast_S4x128_S4x1x128_0_2 (m ((c : Thread nD τ).loc main_arg2)) := by
  unfold V; after_results

set_option maxHeartbeats 1000000 in
theorem V_1 (c : Dev nD) : V m c main_v1 = broadcastInDim S4x1x128 ![0, 2] bcast_S4x128_S4x1x128_0_2 (m ((c : Thread nD τ).loc main_arg3)) := by
  unfold V; after_results

set_option maxHeartbeats 1000000 in
theorem V_2 (c : Dev nD) : V m c main_v2 = broadcastInDim S4x1x128 ![0, 2] bcast_S4x128_S4x1x128_0_2 (m ((c : Thread nD τ).loc main_arg4)) := by
  unfold V; after_results

set_option maxHeartbeats 1000000 in
theorem V_3 (c : Dev nD) : V m c main_v3 = broadcastInDim S4x1x128 ![0, 2] bcast_S4x128_S4x1x128_0_2 (m ((c : Thread nD τ).loc main_arg5)) := by
  unfold V; after_results

set_option maxHeartbeats 1000000 in
theorem V_4 (c : Dev nD) : V m c main_v4 = broadcastInDim S4x1x256 ![0, 2] bcast_S4x256_S4x1x256_0_2 (m ((c : Thread nD τ).loc main_arg6)) := by
  unfold V; after_results

theorem vec_at (x : FVec Ideal S4x128 .f32) (k : Fin 128) : broadcastInDim S4x1x128 ![0, 2] bcast_S4x128_S4x1x128_0_2 x (ix3 1 0 k) = x (ix2 1 k) := by
  pointwise

theorem vec256_at (x : FVec Ideal S4x256 .f32) (k : Fin 256) : broadcastInDim S4x1x256 ![0, 2] bcast_S4x256_S4x1x256_0_2 x (ix3 1 0 k) = x (ix2 1 k) := by
  pointwise

theorem b3 (c : Dev nD) (t : Fin cfg0.N) (k : Fin 128) : iblk m c 3 t (ix3 0 0 k) = m ((c : Thread nD τ).loc main_arg2) (ix2 1 k) := by
  refine Eq.trans ?_ (vec_at (m ((c : Thread nD τ).loc main_arg2)) k)
  rw [← V_0 m c]
  blk_ext [iblk, idx t]

theorem b4 (c : Dev nD) (t : Fin cfg0.N) (k : Fin 128) : iblk m c 4 t (ix3 0 0 k) = m ((c : Thread nD τ).loc main_arg3) (ix2 1 k) := by
  refine Eq.trans ?_ (vec_at (m ((c : Thread nD τ).loc main_arg3)) k)
  rw [← V_1 m c]
  blk_ext [iblk, idx t]

theorem b5 (c : Dev nD) (t : Fin cfg0.N) (k : Fin 128) : iblk m c 5 t (ix3 0 0 k) = m ((c : Thread nD τ).loc main_arg4) (ix2 1 k) := by
  refine Eq.trans ?_ (vec_at (m ((c : Thread nD τ).loc main_arg4)) k)
  rw [← V_2 m c]
  blk_ext [iblk, idx t]

theorem b6 (c : Dev nD) (t : Fin cfg0.N) (k : Fin 128) : iblk m c 6 t (ix3 0 0 k) = m ((c : Thread nD τ).loc main_arg5) (ix2 1 k) := by
  refine Eq.trans ?_ (vec_at (m ((c : Thread nD τ).loc main_arg5)) k)
  rw [← V_3 m c]
  blk_ext [iblk, idx t]

theorem b7 (c : Dev nD) (t : Fin cfg0.N) (k : Fin 256) : iblk m c 7 t (ix3 0 0 k) = m ((c : Thread nD τ).loc main_arg6) (ix2 1 k) := by
  refine Eq.trans ?_ (vec256_at (m ((c : Thread nD τ).loc main_arg6)) k)
  rw [← V_4 m c]
  blk_ext [iblk, idx t]

/-- Where an element of the written block lies. -/
theorem out_emb (t : Fin cfg0.N) (r : Fin 384) (d : Fin 256) : (((cfg0.win 8).blk t).view.emb (ix2 r d) : S16896x2048.Idx)
    = ix2 ⟨(bOf t).val * 4224 + ((grid0.coords t 2).val * 384 + r.val), by have := row_lt (grid0.coords t) r; omega⟩ ⟨(hOf t).val * 256 + d.val, by omega⟩ := by
  have hp := points t
  have e : (⟨(bOf t).val * 4224 + ((grid0.coords t 2).val * 384 + r.val), by have := row_lt (grid0.coords t) r; omega⟩ : Fin 16896)
      = ⟨(t.val / 88 * 11 + t.val % 11) * 384 + r.val, by omega⟩ := Fin.ext (by
    show t.val / 88 * 4224 + ((grid0.coords t 2).val * 384 + r.val) = _
    rw [coord t]
    show _ = (t.val / 88 * 11 + t.val % 11) * 384 + r.val
    omega)
  rw [e]
  blk_ext [idx t]

end Cert.AttnIdeal.Proof

end
-- ==== Proof.AttnSums.lean ====
/-
  Attention, the scratch at the end of a grid point: the sums of the reference's softmax over all key positions.
-/
module

public import proofs.«01_k».proof.Proof.AttnTile

@[expose] public section

set_option maxRecDepth 16384
set_option backward.proofsInPublic true

noncomputable section

open Idealize.ShloMosaic Idealize.ShloMosaic.TcCoe
open Cert.Online

namespace Cert.AttnIdeal.Proof

open Cert.AttnIdeal Cert.AttnIdeal.Gen
open Cert.AttnRefIdeal.Proof (scores score values scores_ne_top IsReal)

variable (c : Dev nD) (i : grid0.Coords) (arg3 : Memref sig .tc .vmem S384x256 .bf16) (harg3 : arg3.IsWhole) (arg4 : Memref sig .tc .vmem S4224x256 .bf16) (harg4 : arg4.IsWhole) (arg5 : Memref sig .tc .vmem S4224x256 .bf16) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x1x256 .f32) (harg10 : arg10.IsWhole) (arg11 : Memref sig .tc .vmem S384x256 .bf16) (harg11 : arg11.IsWhole) (arg12 : Memref sig .tc .vmem S2x384x1 .f32) (harg12 : arg12.IsWhole) (arg13 : Memref sig .tc .vmem S2x384x1 .f32) (harg13 : arg13.IsWhole) (arg14 : Memref sig .tc .vmem S2x384x256 .f32) (harg14 : arg14.IsWhole) (x0 : Vec Ideal S384x256 .bf16) (x1 : Vec Ideal S4224x256 .bf16) (x2 : Vec Ideal S4224x256 .bf16)
variable (X0 : FVec Ideal S16896x4096 .bf16) (X1 : FVec Ideal S16896x2048 .bf16) (hX : ∀ i, IsReal (X0 i)) (b : Fin 4) (hd : Fin 8)
  (bq : ∀ (r : Fin 384) (l : Fin 256), x0 (ix2 r l) = X0 (ix2 ⟨b.val * 4224 + ((i 2).val * 384 + r.val), by have := row_lt i r; omega⟩ ⟨hd.val * 256 + l.val, by omega⟩))
  (bk : ∀ (n : Fin 4224) (l : Fin 256), x1 (ix2 n l) = X0 (ix2 ⟨b.val * 4224 + n.val, by omega⟩ ⟨2048 + (hd.val * 256 + l.val), by omega⟩))
  (bv : ∀ (n : Fin 4224) (d : Fin 256), x2 (ix2 n d) = X1 (ix2 ⟨b.val * 4224 + n.val, by omega⟩ ⟨hd.val * 256 + d.val, by omega⟩))

include hX bq bk bv in
/-- The weighted values of half 0. -/
theorem v129_at (r : Fin 384) (d : Fin 256) : kernelRun0_A.sl.v129 (F := Ideal) c i arg3 harg3 arg4 harg4 arg5 harg5 arg6 harg6 arg7 harg7 arg8 harg8 arg9 harg9 arg10 harg10 arg11 harg11 arg12 harg12 arg13 harg13 arg14 harg14 x0 x1 x2 (ix3 0 r d) = wsum (scores X0 b hd 0 ⟨(i 2).val * 384 + r.val, row_lt i r⟩) (values X1 b hd d) (mx (scores X0 b hd 0 ⟨(i 2).val * 384 + r.val, row_lt i r⟩) 4224) 4224 := by
  rw [mx_of_masked (past_le i) (masked_past X0 b hd 0 i r), wsum_of_masked (past_le i) (masked_past X0 b hd 0 i r) (values X1 b hd d) _]
  exact v129_eq c i arg3 harg3 arg4 harg4 arg5 harg5 arg6 harg6 arg7 harg7 arg8 harg8 arg9 harg9 arg10 harg10 arg11 harg11 arg12 harg12 arg13 harg13 arg14 harg14 x0 x1 x2 r d (T := (fun h (r : Fin 384) => scores X0 b hd h ⟨(i 2).val * 384 + r.val, row_lt i r⟩)) (W := (fun d => values X1 b hd d)) (hT := fun h r n => scores_ne_top X0 hX b hd h _ n) (hk := hk_of X0 i arg3 harg3 arg4 harg4 x0 x1 b hd bq bk) (hw := hw_of X1 i arg5 harg5 x2 b hd bv) (hkD := hkD_of X0 i arg3 harg3 arg4 harg4 x0 x1 b hd bq bk) (hwD := hwD_of X1 i arg5 harg5 x2 b hd bv)

include hX bq bk bv in
/-- The normalizer of half 0. -/
theorem v131_at (r : Fin 384) : kernelRun0_A.sl.v131 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1)) = nrm (scores X0 b hd 0 ⟨(i 2).val * 384 + r.val, row_lt i r⟩) (mx (scores X0 b hd 0 ⟨(i 2).val * 384 + r.val, row_lt i r⟩) 4224) 4224 := by
  rw [mx_of_masked (past_le i) (masked_past X0 b hd 0 i r), nrm_of_masked (past_le i) (masked_past X0 b hd 0 i r) _]
  exact v131_eq c i arg3 harg3 arg4 harg4 arg5 harg5 arg6 harg6 arg7 harg7 arg8 harg8 arg9 harg9 arg10 harg10 arg11 harg11 arg12 harg12 arg13 harg13 arg14 harg14 x0 x1 x2 r (T := (fun h (r : Fin 384) => scores X0 b hd h ⟨(i 2).val * 384 + r.val, row_lt i r⟩)) (W := (fun d => values X1 b hd d)) (hT := fun h r n => scores_ne_top X0 hX b hd h _ n) (hk := hk_of X0 i arg3 harg3 arg4 harg4 x0 x1 b hd bq bk) (hw := hw_of X1 i arg5 harg5 x2 b hd bv) (hkD := hkD_of X0 i arg3 harg3 arg4 harg4 x0 x1 b hd bq bk) (hwD := hwD_of X1 i arg5 harg5 x2 b hd bv)

include hX bq bk bv in
/-- The weighted values of half 1. -/
theorem v135_at (r : Fin 384) (d : Fin 256) : kernelRun0_A.sl.v135 (F := Ideal) c i arg3 harg3 arg4 harg4 arg5 harg5 arg6 harg6 arg7 harg7 arg8 harg8 arg9 harg9 arg10 harg10 arg11 harg11 arg12 harg12 arg13 harg13 arg14 harg14 x0 x1 x2 (ix3 0 r d) = wsum (scores X0 b hd 1 ⟨(i 2).val * 384 + r.val, row_lt i r⟩) (values X1 b hd d) (mx (scores X0 b hd 1 ⟨(i 2).val * 384 + r.val, row_lt i r⟩) 4224) 4224 := by
  rw [mx_of_masked (past_le i) (masked_past X0 b hd 1 i r), wsum_of_masked (past_le i) (masked_past X0 b hd 1 i r) (values X1 b hd d) _]
  exact v135_eq c i arg3 harg3 arg4 harg4 arg5 harg5 arg6 harg6 arg7 harg7 arg8 harg8 arg9 harg9 arg10 harg10 arg11 harg11 arg12 harg12 arg13 harg13 arg14 harg14 x0 x1 x2 r d (T := (fun h (r : Fin 384) => scores X0 b hd h ⟨(i 2).val * 384 + r.val, row_lt i r⟩)) (W := (fun d => values X1 b hd d)) (hT := fun h r n => scores_ne_top X0 hX b hd h _ n) (hk := hk_of X0 i arg3 harg3 arg4 harg4 x0 x1 b hd bq bk) (hw := hw_of X1 i arg5 harg5 x2 b hd bv) (hkD := hkD_of X0 i arg3 harg3 arg4 harg4 x0 x1 b hd bq bk) (hwD := hwD_of X1 i arg5 harg5 x2 b hd bv)

include hX bq bk bv in
/-- The normalizer of half 1. -/
theorem v137_at (r : Fin 384) : kernelRun0_A.sl.v137 (F := Ideal) c i arg3 harg3 arg4 harg4 arg5 harg5 arg6 harg6 arg7 harg7 arg8 harg8 arg9 harg9 arg10 harg10 arg11 harg11 arg12 harg12 arg13 harg13 arg14 harg14 x0 x1 x2 (ix3 0 r (0 : Fin 1)) = nrm (scores X0 b hd 1 ⟨(i 2).val * 384 + r.val, row_lt i r⟩) (mx (scores X0 b hd 1 ⟨(i 2).val * 384 + r.val, row_lt i r⟩) 4224) 4224 := by
  rw [mx_of_masked (past_le i) (masked_past X0 b hd 1 i r), nrm_of_masked (past_le i) (masked_past X0 b hd 1 i r) _]
  exact v137_eq c i arg3 harg3 arg4 harg4 arg5 harg5 arg6 harg6 arg7 harg7 arg8 harg8 arg9 harg9 arg10 harg10 arg11 harg11 arg12 harg12 arg13 harg13 arg14 harg14 x0 x1 x2 r (T := (fun h (r : Fin 384) => scores X0 b hd h ⟨(i 2).val * 384 + r.val, row_lt i r⟩)) (W := (fun d => values X1 b hd d)) (hT := fun h r n => scores_ne_top X0 hX b hd h _ n) (hk := hk_of X0 i arg3 harg3 arg4 harg4 x0 x1 b hd bq bk) (hw := hw_of X1 i arg5 harg5 x2 b hd bv) (hkD := hkD_of X0 i arg3 harg3 arg4 harg4 x0 x1 b hd bq bk) (hwD := hwD_of X1 i arg5 harg5 x2 b hd bv)

end Cert.AttnIdeal.Proof

end
-- ==== Proof.AttnPay.lean ====
/-
  Attention, the end of a grid point at an element: the two halves' means, their difference at the second half's weight,
  the norm of the head.
-/
module

public import proofs.«01_k».proof.Proof.AttnStep
public import proofs.«01_k».proof.Proof.AttnFinite

@[expose] public section

set_option maxRecDepth 16384

noncomputable section

open Idealize.ShloMosaic Idealize.ShloMosaic.TcCoe
open Cert.Online

namespace Cert.AttnIdeal.Proof

open Cert.AttnIdeal Cert.AttnIdeal.Gen
open Cert.AttnRefIdeal.Proof (headNorm lam)

/-- The block a point writes, at an element. -/
theorem pay1_at (v128 : FVec Ideal S1x1 .f32) (v134 : FVec Ideal S384x256 .f32) (v135 : Vec Ideal S1x384x256 .f32) (v137 : Vec Ideal S1x384x1 .f32)
    (v154 : Vec Ideal S1x1x256 .f32) (r : Fin 384) (d : Fin 256) :
    k0_pay1 v128 v134 v135 v137 v154 (ix2 r d)
      = headNorm (fun e => v134 (ix2 r e) - v128 (ix2 0 0) * Ideal.div (v135 (ix3 0 r e)) (v137 (ix3 0 r 0))) (fun e => v154 (ix3 0 0 e)) d := by
  pointwise [k0_pay1]
  unfold headNorm
  rfl

/-- The mean of the first half. -/
theorem pay59_at (v129 : Vec Ideal S1x384x256 .f32) (v131 : Vec Ideal S1x384x1 .f32) (r : Fin 384) (d : Fin 256) :
    k0_pay59 v129 v131 (ix2 r d) = Ideal.div (v129 (ix3 0 r d)) (v131 (ix3 0 r 0)) := by
  pointwise [k0_pay59]

/-- The weight of the second half. -/
theorem pay58_at (a b c d : Vec Ideal S1x1x128 .f32) (y2 y3 y4 y5 : FVec Ideal S4x128 .f32) (h2 : ∀ k, a (ix3 0 0 k) = y2 (ix2 1 k))
    (h3 : ∀ k, b (ix3 0 0 k) = y3 (ix2 1 k)) (h4 : ∀ k, c (ix3 0 0 k) = y4 (ix2 1 k)) (h5 : ∀ k, d (ix3 0 0 k) = y5 (ix2 1 k)) :
    k0_pay58 a b c d (ix2 0 0) = lam y2 y3 y4 y5 := by
  unfold lam
  simp only [← h2, ← h3, ← h4, ← h5]
  pointwise [k0_pay58]
  simp only [Finset.univ_unique, Finset.sum_singleton]

end Cert.AttnIdeal.Proof

end
-- ==== Proof.Attention.lean ====
/-
  The attention: over real operands every grid point writes the reference's block, and the array after the run is the
  reference's.
-/
module

public import proofs.«01_k».proof.Proof.AttnBlocks
public import proofs.«01_k».proof.Proof.AttnSums
public import proofs.«01_k».proof.Proof.AttnPay
public import proofs.«01_k».proof.Proof.AttnFinite

@[expose] public section

set_option maxRecDepth 16384
set_option backward.proofsInPublic true

noncomputable section

open Idealize.ShloMosaic Idealize.ShloMosaic.TcCoe Idealize.SL.Sem
open Cert.Online

namespace Cert.AttnIdeal.Proof

open Cert.AttnIdeal Cert.AttnIdeal.Gen
open Cert.AttnRefIdeal.Proof (scores score values scores_ne_top IsReal headNorm lam mixed mixed_at out_at)

variable (m : (ℓ : Loc nD τ sig) → Buf (Elt Ideal) ℓ)

/-- The reference's result as a term over the arguments. -/
abbrev Ref (x0 : FVec Ideal S16896x4096 .bf16) (x1 : FVec Ideal S16896x2048 .bf16) (x2 x3 x4 x5 : FVec Ideal S4x128 .f32) (x6 : FVec Ideal S4x256 .f32) :
    FVec Ideal S16896x2048 .bf16 :=
  Cert.AttnRefIdeal.Read.val_main_v71 (F := Ideal) x0 x1 x2 x3 x4 x5 x6

/-- A whole vector of three axes read through its memref. -/
theorem whole3 {n : ℕ} (a : Memref sig .tc .vmem (⟨3, ![1, 1, n]⟩ : Shape) .f32) (ha : a.IsWhole) (x : Vec Ideal (⟨3, ![1, 1, n]⟩ : Shape) .f32) (inb) (k : Fin n) :
    a.view.readAt (Elt Ideal) (Rect.unit (s := (⟨3, ![1, 1, n]⟩ : Shape)) ![0, 0, 0] ![1, 1, n] inb).toLoadRect (ha.unread x) (ix3 0 0 k) = x (ix3 0 0 k) := by
  have e := congrFun (ha.read_unread x) (ix3 0 0 k)
  refine Eq.trans (congrArg (a.view.read (Elt Ideal) (ha.unread x)) ?_) e
  funext i
  match i with
  | ⟨0, _⟩ => rfl
  | ⟨1, _⟩ => rfl
  | ⟨2, _⟩ => exact Fin.ext (by show 0 + 1 * k.val = k.val; omega)

set_option maxHeartbeats 2000000 in
/-- One element of the block a point writes: the head's norm of the two halves' difference. -/
theorem block (hX : ∀ (c : Dev nD) i, IsReal ((m ((c : Thread nD τ).loc main_arg0) : FVec Ideal S16896x4096 .bf16) i)) (c : Dev nD) (t : Fin cfg0.N) (r : Fin 384) (d : Fin 256) :
    outsAt0 m c t (ix2 r d)
      = headNorm (fun e => mixed (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (bOf t) (hOf t)
            ⟨(grid0.coords t 2).val * 384 + r.val, row_lt (grid0.coords t) r⟩ e)
          (fun e => (m ((c : Thread nD τ).loc main_arg6) : FVec Ideal S4x256 .f32) (ix2 1 e)) d := by
  unfold outsAt0 out0_A_8
  rw [View.read_writes_eq_canon _ _ _ (fun y => cover0_A_8 (y := y) ..)]
  unfold kernelRun0_A
  dsimp only
  rw [View.canon_cons_unit_lit _ _ _ (by decide)]
  refine (pay1_at ..).trans ?_
  congr 1
  · funext e
    unfold mixed
    refine congrArg₂ (· - ·) ?_ (congrArg₂ (· * ·) ?_ (congrArg₂ Ideal.div ?_ ?_))
    · unfold kernelRun0_A.sl.r_7
      refine (pay59_at ..).trans (congrArg₂ Ideal.div ?_ ?_)
      · exact v129_at (X0 := m ((c : Thread nD τ).loc main_arg0)) (X1 := m ((c : Thread nD τ).loc main_arg1)) (hX := hX c) (b := bOf t) (hd := hOf t) (bq := bq m c t) (bk := bk m c t) (bv := bv m c t) ..
      · exact v131_at (X0 := m ((c : Thread nD τ).loc main_arg0)) (X1 := m ((c : Thread nD τ).loc main_arg1)) (hX := hX c) (b := bOf t) (hd := hOf t) (bq := bq m c t) (bk := bk m c t) (bv := bv m c t) ..
    · unfold kernelRun0_A.sl.r_6
      exact pay58_at _ _ _ _ _ _ _ _ (fun k => (whole3 ..).trans (b3 m c t k)) (fun k => (whole3 ..).trans (b4 m c t k))
        (fun k => (whole3 ..).trans (b5 m c t k)) (fun k => (whole3 ..).trans (b6 m c t k))
    · exact v135_at (X0 := m ((c : Thread nD τ).loc main_arg0)) (X1 := m ((c : Thread nD τ).loc main_arg1)) (hX := hX c) (b := bOf t) (hd := hOf t) (bq := bq m c t) (bk := bk m c t) (bv := bv m c t) ..
    · exact v137_at (X0 := m ((c : Thread nD τ).loc main_arg0)) (X1 := m ((c : Thread nD τ).loc main_arg1)) (hX := hX c) (b := bOf t) (hd := hOf t) (bq := bq m c t) (bk := bk m c t) (bv := bv m c t) ..
  · funext e
    exact (whole3 ..).trans (b7 m c t e)

/-- Every argument of the attention but the last is real. -/
def Operands : Prop := ∀ c : Dev nD,
  (∀ i, IsReal ((m ((c : Thread nD τ).loc main_arg0) : FVec Ideal S16896x4096 .bf16) i))
  ∧ (∀ i, IsReal ((m ((c : Thread nD τ).loc main_arg1) : FVec Ideal S16896x2048 .bf16) i))
  ∧ (∀ i, IsReal ((m ((c : Thread nD τ).loc main_arg2) : FVec Ideal S4x128 .f32) i))
  ∧ (∀ i, IsReal ((m ((c : Thread nD τ).loc main_arg3) : FVec Ideal S4x128 .f32) i))
  ∧ (∀ i, IsReal ((m ((c : Thread nD τ).loc main_arg4) : FVec Ideal S4x128 .f32) i))
  ∧ (∀ i, IsReal ((m ((c : Thread nD τ).loc main_arg5) : FVec Ideal S4x128 .f32) i))

/-- A point writes the reference's block. -/
theorem point (hm : Operands m) (c : Dev nD) (t : Fin cfg0.N) (y : S384x256.Idx) :
    outsAt0 m c t y = Ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb y) := by
  obtain ⟨r, d, rfl⟩ : ∃ (r : Fin 384) (d : Fin 256), y = ix2 r d := ⟨_, _, eq_ix2 y⟩
  obtain ⟨h0, h1, h2, h3, h4, h5⟩ := hm c
  rw [block m (fun c => (hm c).1) c t r d]
  refine Eq.trans ?_ (congrArg _ (out_emb t r d)).symm
  refine Eq.trans ?_ (out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bOf t) (hOf t) ⟨(grid0.coords t 2).val * 384 + r.val, row_lt (grid0.coords t) r⟩ d).symm
  congr 1
  funext e
  exact (mixed_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) h0 h1 h2 h3 h4 h5 ..).symm

/-- The array after the run is the reference's. -/
theorem final (hm : Operands m) (c : Dev nD) : (dats m 0 c).arrAt 8 (cfgs 0).N
    = Ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact point m hm c t y

end Cert.AttnIdeal.Proof

end
-- ==== Proof.AttnPre.lean ====
/-
  The attention's precondition read back: every entry of the arguments it speaks of is a real number.
-/
module

public import proofs.«01_k».proof.Proof.AttnFinite
public import proofs.«01_k».proof.Pre_finite_operands
public import Idealize.ShloMosaic.Lib.ReduceAll
public import Idealize.ShloMosaic.PureOps.Ideal.Laws

@[expose] public section

set_option maxRecDepth 16384

noncomputable section

open Idealize.ShloMosaic Idealize.ShloMosaic.TcCoe

namespace Cert.AttnRefIdeal.Proof

abbrev S0 : Shape := ⟨0, ![]⟩

/-- An absolute value below infinity is a real number's. -/
theorem real_of_lt (a : EReal) (h : max a (-a) < ⊤) : IsReal a := by
  refine ⟨fun e => ?_, fun e => ?_⟩
  · rw [e] at h; simp at h
  · rw [e] at h; simp at h

/-- An array whose absolute values are all below infinity holds real numbers. -/
theorem all_real {s : Shape} {axes : List (Fin s.rank)} {φ : FTy} (x : FVec Ideal s φ) (y : FVec Ideal s .f32) (hxy : ∀ i, (y i : EReal) = x i)
    (bc : S0.BroadcastsInDim s (![] : Fin 0 → Fin s.rank)) (hr : s.ReducesTo axes S0) (hu : 0 < S0.numel)
    (e : Host.reduce IntOp.andi (cmpf .olt (Host.absf y) (broadcastInDim s ![] bc (constant (F := Ideal) S0 .f32 0x7F800000#32)))
      (constantI S0 1 1#1) hr hu ix0 = 1#1) (i : s.Idx) : IsReal (x i) := by
  haveI : Subsingleton S0.Idx := ⟨fun a b => funext fun k => k.elim0⟩
  have h := Host.reduce_andi_all _ _ _ _ ix0 e i
  rw [← hxy]
  apply real_of_lt
  have h2 : (BitVec.ofBool (decide (max (y i : EReal) (-(y i : EReal)) < Ideal.ofBits .f32 0x7F800000#32))) = 1#1 := h
  have e2 : Ideal.ofBits .f32 0x7F800000#32 = ⊤ := by simp [Ideal.ofBits, Ideal.ieee]
  rw [e2] at h2
  by_contra hn
  rw [decide_eq_false hn] at h2
  exact absurd h2 (by decide)

/-- The precondition: the queries and keys, the values and the four weight vectors are real. -/
theorem pre_real [Cert.Pre_finite_operands.Facts] (x0 : FVec Ideal Cert.Pre_finite_operands.S16896x4096 .bf16) (x1 : FVec Ideal Cert.Pre_finite_operands.S16896x2048 .bf16)
    (x2 x3 x4 x5 : FVec Ideal Cert.Pre_finite_operands.S4x128 .f32) (x6 : FVec Ideal Cert.Pre_finite_operands.S4x256 .f32)
    (h : Cert.Pre_finite_operands.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have e := congrFun h ix0
  unfold Cert.Pre_finite_operands.fn Cert.Pre_finite_operands.fn_part1 at e
  dsimp only at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real x0 _ (fun _ => rfl) _ _ _ e0, all_real x1 _ (fun _ => rfl) _ _ _ e1, all_real x2 _ (fun _ => rfl) _ _ _ e2,
    all_real x3 _ (fun _ => rfl) _ _ _ e3, all_real x4 _ (fun _ => rfl) _ _ _ e4, all_real x5 _ (fun _ => rfl) _ _ _ e5⟩

end Cert.AttnRefIdeal.Proof

end
-- ==== Proof.AttentionClaim.lean ====
/-
  The attention's claims: the named constant's preservation, the reference's frame, and over finite operands the equality of the kernel's and the
  reference's arrays.
-/
module

public import proofs.«01_k».proof.Defs
public import proofs.«01_k».proof.Proof.Gen.AttnIdeal.Value
public import proofs.«01_k».proof.Proof.Gen.AttnRefIdeal.Run
public import proofs.«01_k».proof.Proof.Attention
public import proofs.«01_k».proof.Proof.AttnPre
public import Idealize.ShloMosaic.Lib.Claim

@[expose] public section

set_option maxRecDepth 16384

noncomputable section

open Idealize.ShloMosaic Idealize.ShloMosaic.TcCoe Idealize.SL.Sem

namespace Cert.Claims

/-- The mask's literal stands for `⊥`. -/
theorem Attn_preserves : Cert.preserves_Attn_AttnIdeal :=
  IdealRules.named_const.statement Cert.AttnIdeal.κ "mask" .f32 0xF149F2CA#32 ⊥ rfl

/-- The precondition says that the operands are real. -/
theorem Attn_operands [Cert.Pre_finite_operands.Facts] (m : (ℓ : Loc Cert.AttnIdeal.nD Cert.AttnIdeal.τ Cert.AttnIdeal.sig) → Buf (Elt Ideal) ℓ)
    (h : Cert.Pre_AttnIdeal_finite_operands m) : Cert.AttnIdeal.Proof.Operands m := fun c =>
  Cert.AttnRefIdeal.Proof.pre_real _ _ _ _ _ _ _ (h c)

/-- The value claim of the attention: over finite operands kernel and reference leave equal arrays. -/
theorem Attn_algebraic [Cert.Pre_finite_operands.Facts] : Cert.algebraic_AttnIdeal_AttnRefIdeal_pre_finite_operands := by
  pair_intro
  · run_from Cert.AttnIdeal.Gen.run_main m g
  · run_from Cert.AttnRefIdeal.Value.run m' g'
    refine (Cert.AttnRefIdeal.Read.val_main_v71_eq m' c).trans ?_
    rw [(hagree c).1, (hagree c).2.1, (hagree c).2.2.1, (hagree c).2.2.2.1, (hagree c).2.2.2.2.1, (hagree c).2.2.2.2.2.1, (hagree c).2.2.2.2.2.2]
    exact (Cert.AttnIdeal.Proof.final m (Attn_operands m hpre) c).symm

/-- The reference of the attention runs and leaves its arguments unchanged. -/
theorem Attn_ref_frame : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run (F := Ideal) m g)

end Cert.Claims

end
-- ==== Proof.FfnScratch.lean ====
/-
  The feed-forward layer's scratch: the first of the eleven points of a row block normalizes the block's 1056 rows, and
  the later ones find them there.
-/
module

public import proofs.«01_k».proof.Proof.Gen.FfnIdeal.Frame
public import proofs.«01_k».proof.Proof.Gen.FfnRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIdeal.Proof

open Cert.FfnIdeal Cert.FfnIdeal.Gen

variable (m : (ℓ : Loc nD τ sig) → Buf (Elt Ideal) ℓ)

/-- The block each window shows at each grid point. -/
theorem idx : ∀ t : Fin cfg0.N, win0_0.index t = ![1, 0, t.val % 11]
    ∧ win0_1.index t = ![t.val / 11, 0]
    ∧ win0_2.index t = ![1, 0, 0]
    ∧ win0_3.index t = ![1, 0, t.val % 11]
    ∧ win0_4.index t = ![1, t.val % 11, 0]
    ∧ win0_5.index t = ![t.val / 11, 0] :=
  (by decide +kernel : ∀ t : Fin grid0.N, _)

/-- The normalized rows the reference contracts with the weights. -/
abbrev Xn (x0 : FVec Ideal S16896x2048 .f32) (x1 : FVec Ideal S4x2048 .f32) : FVec Ideal S16896x2048 .f32 :=
  Cert.FfnRefIdeal.Read.val_main_v14 (F := Ideal) x0 x1

/-- The array row that row `r` of a point's block is. -/
abbrev row (t : Fin cfg0.N) (r : Fin 1056) : Fin 16896 :=
  ⟨t.val / 11 * 1056 + r.val, by have := t.isLt; have h : cfg0.N = 176 := rfl; omega⟩

open Cert.FfnRefIdeal.Read in
/-- What the first point of a row block keeps in the scratch: the block's rows, normalized. -/
theorem scratch_first (c : Dev nD) (t : Fin cfg0.N) (r : Fin 1056) (k : Fin 2048) :
    k0_pay1 (iblk m c 1 t) (iblk m c 2 t) (ix2 r k)
      = Xn (m ((c : Thread nD τ).loc main_arg0)) (m ((c : Thread nD τ).loc main_arg1)) (ix2 (row t r) k) := by
  pointwise [k0_pay1, Xn, val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14]
  blk_point [iblk, V, idx t]

/-- At every point the scratch holds the normalized rows of the point's row block. -/
theorem scratch (c : Dev nD) (r : Fin 1056) (k : Fin 2048) : ∀ (n : ℕ) (h : n < cfg0.N), (outsAt0 m c n h).2 (ix2 r k)
      = Xn (m ((c : Thread nD τ).loc main_arg0)) (m ((c : Thread nD τ).loc main_arg1)) (ix2 (row ⟨n, h⟩ r) k) := by
  intro n
  induction n with
  | zero =>
    intro h
    rw [show outsAt0 m c 0 h = _ from outsAt0_A m c ⟨0, h⟩ (Nat.zero_mod _)]
    frame_out
    exact scratch_first m c ⟨0, h⟩ r k
  | succ n ih =>
    intro h
    by_cases h0 : (n + 1) % 11 = 0
    · rw [show outsAt0 m c (n + 1) h = _ from outsAt0_A m c ⟨n + 1, h⟩ h0]
      frame_out
      exact scratch_first m c ⟨n + 1, h⟩ r k
    · rw [show outsAt0 m c (n + 1) h = _ from outsAt0_B m c ⟨n + 1, h⟩ h0]
      frame_out
      refine (ih (Nat.lt_of_succ_lt h)).trans ?_
      congr 2
      refine Fin.ext ?_
      show n / 11 * 1056 + r.val = (n + 1) / 11 * 1056 + r.val
      have : n / 11 = (n + 1) / 11 := by omega
      rw [this]

end Cert.FfnIdeal.Proof

end
-- ==== Proof.FfnPart.lean ====
/-
  The feed-forward layer: the hidden state plus half of the gated activation times the down weights. A row block of 1056
  rows is revisited by eleven grid points, each adding the contribution of 512 of the 5632 inner columns.
-/
module

public import proofs.«01_k».proof.Proof.Gen.FfnIdeal.Frame
public import proofs.«01_k».proof.Proof.Gen.FfnRefIdeal.Read
public import proofs.«01_k».proof.Proof.FfnScratch
public import proofs.«01_k».proof.Proof.OnlineSoftmax
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIdeal.Proof

open Cert.FfnIdeal Cert.FfnIdeal.Gen

variable (m : (ℓ : Loc nD τ sig) → Buf (Elt Ideal) ℓ)

/-- The reference's result as a term over the arguments. -/
abbrev Ref (x0 : FVec Ideal S16896x2048 .f32) (x1 : FVec Ideal S4x2048 .f32) (x2 : FVec Ideal S4x2048x5632 .f32) (x3 : FVec Ideal S4x2048x5632 .f32) (x4 : FVec Ideal S4x5632x2048 .f32) : FVec Ideal S16896x2048 .f32 :=
  Cert.FfnRefIdeal.Read.val_main_v28 (F := Ideal) x0 x1 x2 x3 x4

/-- The kernel's inner activation of a row: half of the gate's sigmoid unit, times the up projection. -/
def act (x0 : FVec Ideal S16896x2048 .f32) (x1 : FVec Ideal S4x2048 .f32) (x2 x3 : FVec Ideal S4x2048x5632 .f32)
    (R : Fin 16896) (f : Fin 5632) : EReal :=
  Ideal.ofBits .f32 0x3F000000#32 * Cert.FfnRefIdeal.Read.val_main_v18 (F := Ideal) x0 x1 x2 (ix2 R f)
    * Cert.FfnRefIdeal.Read.val_main_v21 (F := Ideal) x0 x1 x3 (ix2 R f)

/-- The inner column that column `f` of a point's weight block is. -/
abbrev col (t : Fin cfg0.N) (f : Fin 512) : Fin 5632 := ⟨t.val % 11 * 512 + f.val, by omega⟩

/-- What a grid point adds to its row block. -/
def part (c : Dev nD) (t : Fin cfg0.N) (r : Fin 1056) (l : Fin 2048) : EReal :=
  ∑ f : Fin 512, act (m ((c : Thread nD τ).loc main_arg0)) (m ((c : Thread nD τ).loc main_arg1)) (m ((c : Thread nD τ).loc main_arg2)) (m ((c : Thread nD τ).loc main_arg3)) (row t r) (col t f)
    * (m ((c : Thread nD τ).loc main_arg4) : FVec Ideal S4x5632x2048 .f32) (ix3 1 (col t f) l)

open Cert.FfnRefIdeal.Read in
/-- The body's last payload adds the point's contribution to what the block holds. -/
theorem pay_part (c : Dev nD) (t : Fin cfg0.N) (x : FVec Ideal S1056x2048 .bf16) (acc : FVec Ideal S1056x2048 .f32)
    (r : Fin 1056) (l : Fin 2048)
    (hx : ∀ k, x (ix2 r k) = Xn (m ((c : Thread nD τ).loc main_arg0)) (m ((c : Thread nD τ).loc main_arg1)) (ix2 (row t r) k)) :
    k0_pay2 x (iblk m c 0 t) (iblk m c 3 t) acc (iblk m c 4 t) (ix2 r l) = acc (ix2 r l) + part m c t r l := by
  pointwise [k0_pay2, part, act, Xn, val_main_v15, val_main_v16, val_main_v17, val_main_call0_v0, val_main_call0_v1,
    val_main_call0_cst, val_main_call0_v2, val_main_call0_v3, val_main_call0_cst_0, val_main_call0_v4,
    val_main_call0_v5, val_main_v18, val_main_v19, val_main_v20, val_main_v21]
  simp only [hx, Xn, Ideal.logistic]
  blk_point [iblk, V, idx t]

end Cert.FfnIdeal.Proof

end
-- ==== Proof.FfnBlock.lean ====
/-
  The feed-forward layer: the eleven contributions to a row block added up are the reference's one contraction over the
  5632 inner columns, half of it taken column by column or at the end.
-/
module

public import proofs.«01_k».proof.Proof.Gen.FfnIdeal.Frame
public import proofs.«01_k».proof.Proof.Gen.FfnRefIdeal.Read
public import proofs.«01_k».proof.Proof.FfnPart
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIdeal.Proof

open Cert.FfnIdeal Cert.FfnIdeal.Gen

variable (m : (ℓ : Loc nD τ sig) → Buf (Elt Ideal) ℓ)

/-- The hidden state's element. -/
abbrev hid (c : Dev nD) (R : Fin 16896) (l : Fin 2048) : EReal := m ((c : Thread nD τ).loc main_arg0) (ix2 R l)

/-- The contribution of grid point `n`, zero past the grid. -/
def partN (c : Dev nD) (n : ℕ) (r : Fin 1056) (l : Fin 2048) : EReal :=
  if h : n < cfg0.N then part m c ⟨n, h⟩ r l else 0

theorem partN_of_lt (c : Dev nD) {n : ℕ} (h : n < cfg0.N) (r : Fin 1056) (l : Fin 2048) :
    partN m c n r l = part m c ⟨n, h⟩ r l := dif_pos h

/-- What the first point of a row block leaves: the hidden state plus its contribution. -/
theorem block_first (c : Dev nD) (t : Fin cfg0.N) (h0 : t.val % 11 = 0) (r : Fin 1056) (l : Fin 2048) :
    (outsAt0 m c t.val t.isLt).1 (ix2 r l)
      = hid m c (row t r) l + part m c t r l := by
  rw [outsAt0_A m c t h0]
  frame_out
  refine (pay_part m c t _ _ r l (scratch_first m c t r)).trans ?_
  congr 1
  blk_ext [iblk, V, idx t]

/-- What a later point leaves: what it found plus its contribution. -/
theorem block_next (c : Dev nD) (t : Fin cfg0.N) (h0 : ¬t.val % 11 = 0) (h : t.val - 1 < cfg0.N) (r : Fin 1056) (l : Fin 2048) :
    (outsAt0 m c t.val t.isLt).1 (ix2 r l) = (outsAt0 m c (t.val - 1) h).1 (ix2 r l) + part m c t r l := by
  rw [outsAt0_B m c t h0]
  frame_out
  refine pay_part m c t _ _ r l fun k =>
    (congrFun ((Memref.isWhole_whole _).read_unread _) _).trans ((scratch m c r k (t.val - 1) h).trans ?_)
  congr 2
  refine Fin.ext ?_
  show (t.val - 1) / 11 * 1056 + r.val = t.val / 11 * 1056 + r.val
  have : (t.val - 1) / 11 = t.val / 11 := by omega
  rw [this]

/-- What every point leaves: the hidden state plus the contributions so far. -/
theorem block (c : Dev nD) (r : Fin 1056) (l : Fin 2048) : ∀ (n : ℕ) (h : n < cfg0.N), (outsAt0 m c n h).1 (ix2 r l)
      = hid m c (row ⟨n, h⟩ r) l
        + ∑ s ∈ Finset.range (n % 11 + 1), partN m c (11 * (n / 11) + s) r l := by
  intro n
  induction n with
  | zero =>
    intro h
    refine (block_first m c ⟨0, h⟩ rfl r l).trans ?_
    simp [partN_of_lt m c h]
  | succ n ih =>
    intro h
    by_cases h0 : (n + 1) % 11 = 0
    · refine (block_first m c ⟨n + 1, h⟩ h0 r l).trans ?_
      have e : 11 * ((n + 1) / 11) = n + 1 := by omega
      rw [h0, zero_add, Finset.sum_range_one, e, add_zero, partN_of_lt m c h]
    · refine (block_next m c ⟨n + 1, h⟩ h0 (Nat.lt_of_succ_lt h) r l).trans ?_
      refine (congrArg (· + part m c ⟨n + 1, h⟩ r l) (ih (Nat.lt_of_succ_lt h))).trans ?_
      have e1 : (n + 1) / 11 = n / 11 := by omega
      have e2 : (n + 1) % 11 = n % 11 + 1 := by omega
      have e3 : 11 * (n / 11) + (n % 11 + 1) = n + 1 := by omega
      have e4 : row ⟨n + 1, h⟩ r = row ⟨n, Nat.lt_of_succ_lt h⟩ r := Fin.ext (by
        show (n + 1) / 11 * 1056 + r.val = n / 11 * 1056 + r.val
        rw [e1])
      rw [e1, e2, Finset.sum_range_succ _ (n % 11 + 1), e3, partN_of_lt m c h, e4, add_assoc]

end Cert.FfnIdeal.Proof

end
-- ==== Proof.FeedForward.lean ====
/-
  The feed-forward layer: the eleven contributions to a row block added up are the reference's one contraction over the
  5632 inner columns, half of it taken column by column or at the end.
-/
module

public import proofs.«01_k».proof.Proof.Gen.FfnIdeal.Frame
public import proofs.«01_k».proof.Proof.Gen.FfnRefIdeal.Read
public import proofs.«01_k».proof.Proof.FfnBlock
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIdeal.Proof

open Cert.FfnIdeal Cert.FfnIdeal.Gen

variable (m : (ℓ : Loc nD τ sig) → Buf (Elt Ideal) ℓ)

/-- The literal one half is a nonnegative real. -/
theorem half_nonneg : (0 : EReal) ≤ Ideal.ofBits .f32 0x3F000000#32 := by
  simp [Ideal.ofBits, Ideal.ieee]
  rw [← EReal.coe_mul]
  exact EReal.coe_nonneg.mpr (by norm_num)

theorem half_ne_top : Ideal.ofBits .f32 0x3F000000#32 ≠ (⊤ : EReal) := by
  simp [Ideal.ofBits, Ideal.ieee]
  rw [← EReal.coe_mul]
  exact EReal.coe_ne_top _

open Cert.FfnRefIdeal.Read in
/-- The reference at an element: the hidden state plus the contraction of the kernel's activations. -/
theorem ref_at (x0 : FVec Ideal S16896x2048 .f32) (x1 : FVec Ideal S4x2048 .f32) (x2 x3 : FVec Ideal S4x2048x5632 .f32)
    (x4 : FVec Ideal S4x5632x2048 .f32) (R : Fin 16896) (l : Fin 2048) :
    Ref x0 x1 x2 x3 x4 (ix2 R l) = x0 (ix2 R l) + ∑ f : Fin 5632, act x0 x1 x2 x3 R f * x4 (ix3 1 f l) := by
  pointwise [Ref, val_main_v22, val_main_v23, val_main_v24, val_main_v25, val_main_cst_2, val_main_v26, val_main_v27,
    val_main_v28]
  rw [Cert.Online.mul_sum_coe _ _ half_nonneg half_ne_top]
  refine congrArg (x0 (ix2 R l) + ·) (Finset.sum_congr rfl fun f _ => ?_)
  unfold act
  rw [mul_assoc, mul_assoc, mul_assoc]

/-- The block a flushing point writes back is the reference's. -/
theorem point (c : Dev nD) (t : Fin cfg0.N) (hf : t.val % 11 = 10) (y : S1056x2048.Idx) : (outsAt0 m c t.val t.isLt).1 y
    = Ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  obtain ⟨r, l, rfl⟩ : ∃ (r : Fin 1056) (l : Fin 2048), y = ix2 r l := ⟨_, _, eq_ix2 y⟩

  rw [block m c r l t.val t.isLt, hf, Finset.sum_range]
  have e : (((cfg0.win 5).blk t).view.emb (ix2 r l)) = ix2 (row t r) l := by
    blk_ext [idx t]
  refine Eq.trans ?_ ((congrArg _ e).trans (ref_at _ _ _ _ _ (row t r) l)).symm
  congr 1
  refine Eq.trans (Finset.sum_congr rfl fun s _ => ?_) (Fin.sum_mul_add_fin (S := 11) (n := 512) (L := 5632)
    (fun f => act (m ((c : Thread nD τ).loc main_arg0)) (m ((c : Thread nD τ).loc main_arg1)) (m ((c : Thread nD τ).loc main_arg2)) (m ((c : Thread nD τ).loc main_arg3)) (row t r) f
      * (m ((c : Thread nD τ).loc main_arg4) : FVec Ideal S4x5632x2048 .f32) (ix3 1 f l)))
  have hN : cfg0.N = 176 := rfl
  have ht := t.isLt
  have hs : 11 * (t.val / 11) + s.val < cfg0.N := by omega
  rw [partN_of_lt m c hs]
  unfold part
  refine Finset.sum_congr rfl fun f _ => ?_
  have e1 : row ⟨11 * (t.val / 11) + s.val, hs⟩ r = row t r := Fin.ext (by
    show (11 * (t.val / 11) + s.val) / 11 * 1056 + r.val = t.val / 11 * 1056 + r.val
    have : (11 * (t.val / 11) + s.val) / 11 = t.val / 11 := by omega
    rw [this])
  have e2 : col ⟨11 * (t.val / 11) + s.val, hs⟩ f = ⟨s.val * 512 + f.val, by omega⟩ := Fin.ext (by
    show (11 * (t.val / 11) + s.val) % 11 * 512 + f.val = s.val * 512 + f.val
    have : (11 * (t.val / 11) + s.val) % 11 = s.val := by omega
    rw [this])
  rw [e1, e2]

/-- The array after the run is the reference's. -/
theorem final (c : Dev nD) : (dats m 0 c).arrAt 5 (cfgs 0).N
    = Ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact point m c t ((flush0_5 t).mp hf) y

end Cert.FfnIdeal.Proof

end
-- ==== Proof.RopeTable.lean ====
/-
  The table of rotary factors that the host builds for the queries' and keys' projection, read at an index, and the
  scalar identities that turn "element, lower neighbour, upper neighbour, each times its factor" into the rotation.
-/
module

public import proofs.«01_k».proof.Proof.Gen.QkIdeal.Frame
public import proofs.«01_k».proof.Proof.Gen.QkRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.QkIdeal.Proof

open Cert.QkIdeal Cert.QkIdeal.Gen

variable (m : (ℓ : Loc nD τ sig) → Buf (Elt Ideal) ℓ)

/-- The cosines of the rotary angles, position by frequency, as the reference computes them. -/
abbrev Cos : FVec Ideal S4224x16 .f32 := Cert.QkRefIdeal.Read.val_main_v34 (F := Ideal)

/-- The sines of the rotary angles. -/
abbrev Sin : FVec Ideal S4224x16 .f32 := Cert.QkRefIdeal.Read.val_main_v35 (F := Ideal)

/-- Sixteen columns of one literal. -/
def fill16 (b : BitVec 32) : FVec Ideal S4224x16 .f32 := broadcastInDim S4224x16 ![] bcast_S_S4224x16 (constant S_ .f32 b)

/-- The 96 columns past the rotary ones, of one literal. -/
def fill96 (b : BitVec 32) : FVec Ideal S4224x96 .f32 := broadcastInDim S4224x96 ![] bcast_S_S4224x96 (constant S_ .f32 b)

/-- Three pieces side by side in the 128 columns of a head. -/
def lanes (a b : FVec Ideal S4224x16 .f32) (z : FVec Ideal S4224x96 .f32) : FVec Ideal S1x4224x128 .f32 :=
  broadcastInDim S1x4224x128 ![1, 2] bcast_S4224x128_S1x4224x128_1_2
    (concatenate S4224x128 1 [⟨S4224x16, a⟩, ⟨S4224x16, b⟩, ⟨S4224x96, z⟩] concatenates_S4224x16_S4224x16_S4224x96_S4224x128_d1)

/-- The host's table of the keys: the factors of an element, of its lower and of its upper neighbour. -/
def tabK : FVec Ideal S3x4224x128 .f32 :=
  concatenate S3x4224x128 0 [⟨S1x4224x128, lanes Cos Cos (fill96 0x3F800000#32)⟩,
      ⟨S1x4224x128, lanes (fill16 0x00000000#32) Sin (fill96 0x00000000#32)⟩,
      ⟨S1x4224x128, lanes (Host.negf Sin) (fill16 0x00000000#32) (fill96 0x00000000#32)⟩]
    concatenates_S1x4224x128_S1x4224x128_S1x4224x128_S3x4224x128_d0

/-- The host's whole table: the queries' is the keys', scaled. -/
def tab : FVec Ideal S2x3x4224x128 .f32 :=
  concatenate S2x3x4224x128 0
    [⟨S1x3x4224x128, broadcastInDim S1x3x4224x128 ![1, 2, 3] bcast_S3x4224x128_S1x3x4224x128_1_2_3
        (mulf tabK (broadcastInDim S3x4224x128 ![] bcast_S_S3x4224x128 (constant S_ .f32 0x3DB504F3#32)))⟩,
      ⟨S1x3x4224x128, broadcastInDim S1x3x4224x128 ![1, 2, 3] bcast_S3x4224x128_S1x3x4224x128_1_2_3 tabK⟩]
    concatenates_S1x3x4224x128_S1x3x4224x128_S2x3x4224x128_d0

set_option maxHeartbeats 1000000 in
/-- The array the rope window stages is that table. -/
theorem V_tab (c : Dev nD) : V m c main_v35 = tab := by
  unfold V
  after_results
  rfl

/-- The queries' scale as the literal's value. -/
abbrev scale : EReal := Ideal.ofBits FTy.f32 0x3DB504F3#32

theorem scale_nonneg : 0 ≤ scale := by
  simp [scale, Ideal.ofBits, Ideal.ieee]
  rw [← EReal.coe_mul]
  exact EReal.coe_nonneg.mpr (by norm_num)

theorem scale_ne_top : scale ≠ ⊤ := by
  simp [scale, Ideal.ofBits, Ideal.ieee]
  rw [← EReal.coe_mul]
  exact EReal.coe_ne_top _

/-- The keys' factors of column `q`: of the element, of the column 16 below, of the column 16 above. -/
def factor (j : Fin 3) (p : Fin 4224) (q : Fin 128) : EReal :=
  if h : q.val < 16 then
    (if j.val = 0 then Cos (ix2 p ⟨q.val, h⟩) else if j.val = 1 then 0 else -Sin (ix2 p ⟨q.val, h⟩))
  else if h : q.val - 16 < 16 then
    (if j.val = 0 then Cos (ix2 p ⟨q.val - 16, h⟩) else if j.val = 1 then Sin (ix2 p ⟨q.val - 16, h⟩) else 0)
  else if j.val = 0 then 1 else 0

/-- An entry of the host's table. -/
theorem tab_at (s : Fin 2) (j : Fin 3) (p : Fin 4224) (q : Fin 128) :
    tab (ix4 s j p q) = if s.val < 1 then factor j p q * scale else factor j p q := by
  pointwise [tab, tabK, lanes, fill16, fill96]
  unfold factor
  fin_cases j <;> simp <;> split_ifs <;> rfl

/-- The rotation of a column below 16, from the three products. -/
theorem rot_lo (z a b c s : EReal) : z * c + a * 0 + b * -s = z * c - b * s := by
  rw [mul_zero, add_zero, mul_neg, ← sub_eq_add_neg]

/-- A common finite nonnegative factor of three products and a difference. -/
theorem factor3 (z a b x y w : EReal) :
    z * (x * scale) + a * (y * scale) + b * (w * scale) = (z * x + a * y + b * w) * scale := by
  rw [EReal.right_distrib_of_nonneg_of_ne_top scale_nonneg scale_ne_top, EReal.right_distrib_of_nonneg_of_ne_top scale_nonneg scale_ne_top,
    mul_assoc, mul_assoc, mul_assoc]

/-- Four copies of 128 columns side by side, read at a column. -/
theorem copies (f : Fin 128 → EReal) (l : Fin 512) :
    (if h : l.val < 128 then f ⟨l.val, h⟩ else if h : l.val - 128 < 128 then f ⟨l.val - 128, h⟩
      else if h : l.val - 128 - 128 < 128 then f ⟨l.val - 128 - 128, h⟩ else f ⟨l.val - 128 - 128 - 128, by omega⟩)
      = f ⟨l.val % 128, Nat.mod_lt _ (by decide)⟩ := by
  split_ifs <;> (congr 1; refine Fin.ext ?_; show _ = l.val % 128; simp only; omega)

end Cert.QkIdeal.Proof

end
-- ==== Proof.QkProj.lean ====
/-
  The queries' and keys' projection: the normalized rows times the weights' columns 0 to 4095, then rotary positions. The first of the eight points of
  a row block normalizes its 1408 rows into a scratch; every point multiplies them with 512 columns of the weights.
-/
module

public import proofs.«01_k».proof.Proof.RopeTable
public import proofs.«01_k».proof.Proof.Gen.QkIdeal.Frame
public import proofs.«01_k».proof.Proof.Gen.QkRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.QkIdeal.Proof

open Cert.QkIdeal Cert.QkIdeal.Gen

variable (m : (ℓ : Loc nD τ sig) → Buf (Elt Ideal) ℓ)

/-- The reference's result as a term over the arguments. -/
abbrev Ref (x0 : FVec Ideal S16896x2048 .f32) (x1 : FVec Ideal S4x2048 .f32) (x2 : FVec Ideal S4x2048x15360 .f32) : FVec Ideal S16896x4096 .bf16 :=
  Cert.QkRefIdeal.Read.val_main_v77 (F := Ideal) x0 x1 x2

/-- The block each window shows at each grid point. -/
theorem idx : ∀ t : Fin cfg0.N, win0_0.index t = ![1, 0, t.val % 8]
    ∧ win0_1.index t = ![t.val / 8, 0]
    ∧ win0_2.index t = ![1, 0, 0]
    ∧ win0_3.index t = ![t.val % 8 / 4, 0, t.val / 8 % 3, 0]
    ∧ win0_4.index t = ![t.val / 8, t.val % 8] :=
  (by decide +kernel : ∀ t : Fin grid0.N, _)

/-- The normalized rows the reference contracts with the weights. -/
abbrev Xn (x0 : FVec Ideal S16896x2048 .f32) (x1 : FVec Ideal S4x2048 .f32) : FVec Ideal S16896x2048 .f32 :=
  Cert.QkRefIdeal.Read.val_main_v14 (F := Ideal) x0 x1

/-- The array row that row `r` of a point's block is. -/
abbrev row (t : Fin cfg0.N) (r : Fin 1408) : Fin 16896 :=
  ⟨t.val / 8 * 1408 + r.val, by have := t.isLt; have h : cfg0.N = 96 := rfl; omega⟩

open Cert.QkRefIdeal.Read in
/-- What the first point of a row block keeps in the scratch: the block's rows, normalized. -/
theorem scratch_first (c : Dev nD) (t : Fin cfg0.N) (r : Fin 1408) (k : Fin 2048) :
    k0_pay1 (iblk m c 1 t) (iblk m c 2 t) (ix2 r k)
      = Xn (m ((c : Thread nD τ).loc main_arg0)) (m ((c : Thread nD τ).loc main_arg1)) (ix2 (row t r) k) := by
  pointwise [k0_pay1, Xn, val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14]
  blk_point [iblk, V, idx t]

/-- At every point the scratch holds the normalized rows of the point's row block. -/
theorem scratch (c : Dev nD) (r : Fin 1408) (k : Fin 2048) : ∀ (n : ℕ) (h : n < cfg0.N), (outsAt0 m c n h).2 (ix2 r k)
      = Xn (m ((c : Thread nD τ).loc main_arg0)) (m ((c : Thread nD τ).loc main_arg1)) (ix2 (row ⟨n, h⟩ r) k) := by
  intro n
  induction n with
  | zero =>
    intro h
    rw [show outsAt0 m c 0 h = _ from outsAt0_A m c ⟨0, h⟩ (Nat.zero_mod _)]
    frame_out
    exact scratch_first m c ⟨0, h⟩ r k
  | succ n ih =>
    intro h
    by_cases h0 : (n + 1) % 8 = 0
    · rw [show outsAt0 m c (n + 1) h = _ from outsAt0_A m c ⟨n + 1, h⟩ h0]
      frame_out
      exact scratch_first m c ⟨n + 1, h⟩ r k
    · rw [show outsAt0 m c (n + 1) h = _ from outsAt0_B m c ⟨n + 1, h⟩ h0]
      frame_out
      refine (ih (Nat.lt_of_succ_lt h)).trans ?_
      congr 2
      refine Fin.ext ?_
      show n / 8 * 1408 + r.val = (n + 1) / 8 * 1408 + r.val
      have : n / 8 = (n + 1) / 8 := by omega
      rw [this]

/-- The rope window's block at a point: the queries' or keys' factors of the point's positions. -/
theorem rope_blk (c : Dev nD) (t : Fin cfg0.N) (s : Fin 3) (r : Fin 1408) (l : Fin 128) :
    iblk m c 3 t (ix4 0 s r l)
      = tab (ix4 (⟨t.val % 8 / 4, by omega⟩ : Fin 2) s (⟨t.val / 8 % 3 * 1408 + r.val, by omega⟩ : Fin 4224) l) := by
  unfold iblk
  rw [← V_tab m c]
  blk_ext [iblk, idx t]

/-- The product of the reference's normalized rows with the whole weights. -/
abbrev Z (x0 : FVec Ideal S16896x2048 .f32) (x1 : FVec Ideal S4x2048 .f32) (x2 : FVec Ideal S4x2048x15360 .f32) :
    FVec Ideal Cert.QkRefIdeal.S16896x15360 .f32 :=
  Cert.QkRefIdeal.Read.val_main_v17 (F := Ideal) x0 x1 x2

open Cert.QkRefIdeal.Read in
/-- One element of a point's product is the reference's product there. -/
theorem dot_at (c : Dev nD) (t : Fin cfg0.N) (x : FVec Ideal S1408x2048 .bf16) (r : Fin 1408) (l : Fin 512)
    (hx : ∀ k, x (ix2 r k) = Xn (m ((c : Thread nD τ).loc main_arg0)) (m ((c : Thread nD τ).loc main_arg1)) (ix2 (row t r) k)) :
    (∑ k : Fin 2048, x (ix2 r k) * iblk m c 0 t (ix3 0 k l) : EReal)
      = Z (m ((c : Thread nD τ).loc main_arg0)) (m ((c : Thread nD τ).loc main_arg1)) (m ((c : Thread nD τ).loc main_arg2))
          (ix2 (row t r) (⟨t.val % 8 * 512 + l.val, by omega⟩ : Fin 15360)) := by
  pointwise [Z, val_main_v15, val_main_v16, val_main_v17]
  simp only [hx, Xn]
  blk_point [iblk, V, idx t]

/-- The rotation as the reference takes it, by column, is the three products with the table's factors. -/
theorem rotation (ZZ : FVec Ideal Cert.QkRefIdeal.S16896x15360 .f32) (CC SS : FVec Ideal S4224x16 .f32)
    (hC : CC = Cos) (hS : SS = Sin) (R : Fin 16896) (J : Fin 4096) (z lo hi : EReal)
    (hz : z = ZZ (ix2 R (⟨J.val, by omega⟩ : Fin 15360)))
    (hlo : J.val % 128 < 32 → 16 ≤ J.val % 128 → lo = ZZ (ix2 R (⟨J.val - 16, by omega⟩ : Fin 15360)))
    (hhi : J.val % 128 < 16 → hi = ZZ (ix2 R (⟨J.val + 16, by omega⟩ : Fin 15360))) :
    (if h : J.val < 2048 then
        (if h1 : J.val % 128 < 16 then
          ZZ (ix2 R (⟨J.val / 256 * 256 + J.val / 128 % 2 * 128 + J.val % 128, by omega⟩ : Fin 15360)) * CC (ix2 (⟨R.val % 4224, Nat.mod_lt _ (by decide)⟩) ⟨J.val % 128, h1⟩)
            - ZZ (ix2 R (⟨J.val / 256 * 256 + J.val / 128 % 2 * 128 + (16 + J.val % 128), by omega⟩ : Fin 15360)) * SS (ix2 (⟨R.val % 4224, Nat.mod_lt _ (by decide)⟩) ⟨J.val % 128, h1⟩)
        else if h2 : J.val % 128 - 16 < 16 then
          ZZ (ix2 R (⟨J.val / 256 * 256 + J.val / 128 % 2 * 128 + (16 + (J.val % 128 - 16)), by omega⟩ : Fin 15360)) * CC (ix2 (⟨R.val % 4224, Nat.mod_lt _ (by decide)⟩) ⟨J.val % 128 - 16, h2⟩)
            + ZZ (ix2 R (⟨J.val / 256 * 256 + J.val / 128 % 2 * 128 + (J.val % 128 - 16), by omega⟩ : Fin 15360)) * SS (ix2 (⟨R.val % 4224, Nat.mod_lt _ (by decide)⟩) ⟨J.val % 128 - 16, h2⟩)
        else ZZ (ix2 R (⟨J.val / 256 * 256 + J.val / 128 % 2 * 128 + (32 + (J.val % 128 - 16 - 16)), by omega⟩ : Fin 15360))) * scale
      else
        if h1 : (J.val - 2048) % 128 < 16 then
          ZZ (ix2 R (⟨2048 + ((J.val - 2048) / 256 * 256 + (J.val - 2048) / 128 % 2 * 128 + (J.val - 2048) % 128), by omega⟩ : Fin 15360)) * CC (ix2 (⟨R.val % 4224, Nat.mod_lt _ (by decide)⟩) ⟨(J.val - 2048) % 128, h1⟩)
            - ZZ (ix2 R (⟨2048 + ((J.val - 2048) / 256 * 256 + (J.val - 2048) / 128 % 2 * 128 + (16 + (J.val - 2048) % 128)), by omega⟩ : Fin 15360)) * SS (ix2 (⟨R.val % 4224, Nat.mod_lt _ (by decide)⟩) ⟨(J.val - 2048) % 128, h1⟩)
        else if h2 : (J.val - 2048) % 128 - 16 < 16 then
          ZZ (ix2 R (⟨2048 + ((J.val - 2048) / 256 * 256 + (J.val - 2048) / 128 % 2 * 128 + (16 + ((J.val - 2048) % 128 - 16))), by omega⟩ : Fin 15360)) * CC (ix2 (⟨R.val % 4224, Nat.mod_lt _ (by decide)⟩) ⟨(J.val - 2048) % 128 - 16, h2⟩)
            + ZZ (ix2 R (⟨2048 + ((J.val - 2048) / 256 * 256 + (J.val - 2048) / 128 % 2 * 128 + ((J.val - 2048) % 128 - 16)), by omega⟩ : Fin 15360)) * SS (ix2 (⟨R.val % 4224, Nat.mod_lt _ (by decide)⟩) ⟨(J.val - 2048) % 128 - 16, h2⟩)
        else ZZ (ix2 R (⟨2048 + ((J.val - 2048) / 256 * 256 + (J.val - 2048) / 128 % 2 * 128 + (32 + ((J.val - 2048) % 128 - 16 - 16))), by omega⟩ : Fin 15360)))
      = if J.val < 2048 then
          (z * factor 0 (⟨R.val % 4224, Nat.mod_lt _ (by decide)⟩) (⟨J.val % 128, Nat.mod_lt _ (by decide)⟩) + lo * factor 1 (⟨R.val % 4224, Nat.mod_lt _ (by decide)⟩) (⟨J.val % 128, Nat.mod_lt _ (by decide)⟩)
            + hi * factor 2 (⟨R.val % 4224, Nat.mod_lt _ (by decide)⟩) (⟨J.val % 128, Nat.mod_lt _ (by decide)⟩)) * scale
        else
          z * factor 0 (⟨R.val % 4224, Nat.mod_lt _ (by decide)⟩) (⟨J.val % 128, Nat.mod_lt _ (by decide)⟩) + lo * factor 1 (⟨R.val % 4224, Nat.mod_lt _ (by decide)⟩) (⟨J.val % 128, Nat.mod_lt _ (by decide)⟩)
            + hi * factor 2 (⟨R.val % 4224, Nat.mod_lt _ (by decide)⟩) (⟨J.val % 128, Nat.mod_lt _ (by decide)⟩) := by
  have zc : ∀ (a b : ℕ) (ha : a < 15360) (hb : b < 15360), a = b →
      ZZ (ix2 R (⟨a, ha⟩ : Fin 15360)) = ZZ (ix2 R (⟨b, hb⟩ : Fin 15360)) := by
    rintro a b ha hb rfl; rfl
  have cc : ∀ (T : FVec Ideal S4224x16 .f32) (p : Fin 4224) (a b : ℕ) (ha : a < 16) (hb : b < 16), a = b →
      T (ix2 p (⟨a, ha⟩ : Fin 16)) = T (ix2 p (⟨b, hb⟩ : Fin 16)) := by
    rintro T p a b ha hb rfl; rfl
  unfold factor
  simp only [← hC, ← hS, Fin.val_zero, Fin.val_one, if_true, show ((2 : Fin 3).val = 0) = False by simp,
    show ((2 : Fin 3).val = 1) = False by simp, if_false, one_ne_zero]
  clear hC hS
  by_cases hJ : J.val < 2048
  · rw [dif_pos hJ, if_pos hJ]
    congr 1
    by_cases h1 : J.val % 128 < 16
    · rw [dif_pos (by omega), dif_pos h1, dif_pos h1, dif_pos h1, rot_lo, hz, hhi h1]
      refine congrArg₂ (· - ·) (congrArg₂ (· * ·) (zc _ _ _ _ ?_) (cc _ _ _ _ _ _ ?_)) (congrArg₂ (· * ·) (zc _ _ _ _ ?_) (cc _ _ _ _ _ _ ?_)) <;> omega
    · by_cases h2 : J.val % 128 - 16 < 16
      · rw [dif_neg (by omega), dif_pos (by omega), dif_neg h1, dif_neg h1, dif_neg h1, dif_pos h2, dif_pos h2, dif_pos h2, mul_zero, add_zero, hz, hlo (by omega) (by omega)]
        refine congrArg₂ (· + ·) (congrArg₂ (· * ·) (zc _ _ _ _ ?_) (cc _ _ _ _ _ _ ?_)) (congrArg₂ (· * ·) (zc _ _ _ _ ?_) (cc _ _ _ _ _ _ ?_)) <;> omega
      · rw [dif_neg (by omega), dif_neg (by omega), dif_neg h1, dif_neg h1, dif_neg h1, dif_neg h2, dif_neg h2, dif_neg h2, mul_zero, mul_zero, add_zero, add_zero, mul_one, hz]
        exact zc _ _ _ _ (by omega)
  · rw [dif_neg hJ, if_neg hJ]
    by_cases h1 : J.val % 128 < 16
    · rw [dif_pos (by omega), dif_pos h1, dif_pos h1, dif_pos h1, rot_lo, hz, hhi h1]
      refine congrArg₂ (· - ·) (congrArg₂ (· * ·) (zc _ _ _ _ ?_) (cc _ _ _ _ _ _ ?_)) (congrArg₂ (· * ·) (zc _ _ _ _ ?_) (cc _ _ _ _ _ _ ?_)) <;> omega
    · by_cases h2 : J.val % 128 - 16 < 16
      · rw [dif_neg (by omega), dif_pos (by omega), dif_neg h1, dif_neg h1, dif_neg h1, dif_pos h2, dif_pos h2, dif_pos h2, mul_zero, add_zero, hz, hlo (by omega) (by omega)]
        refine congrArg₂ (· + ·) (congrArg₂ (· * ·) (zc _ _ _ _ ?_) (cc _ _ _ _ _ _ ?_)) (congrArg₂ (· * ·) (zc _ _ _ _ ?_) (cc _ _ _ _ _ _ ?_)) <;> omega
      · rw [dif_neg (by omega), dif_neg (by omega), dif_neg h1, dif_neg h1, dif_neg h1, dif_neg h2, dif_neg h2, dif_neg h2, mul_zero, mul_zero, add_zero, add_zero, mul_one, hz]
        exact zc _ _ _ _ (by omega)

set_option maxHeartbeats 1000000 in
open Cert.QkRefIdeal.Read in
/-- The reference at an index: the rotation of the product's columns, the queries' scaled. -/
theorem ref_at (x0 : FVec Ideal S16896x2048 .f32) (x1 : FVec Ideal S4x2048 .f32) (x2 : FVec Ideal S4x2048x15360 .f32)
    (R : Fin 16896) (J : Fin 4096) (z lo hi rhs : EReal)
    (hz : z = Z x0 x1 x2 (ix2 R (⟨J.val, by omega⟩ : Fin 15360)))
    (hlo : J.val % 128 < 32 → 16 ≤ J.val % 128 → lo = Z x0 x1 x2 (ix2 R (⟨J.val - 16, by omega⟩ : Fin 15360)))
    (hhi : J.val % 128 < 16 → hi = Z x0 x1 x2 (ix2 R (⟨J.val + 16, by omega⟩ : Fin 15360)))
    (hrhs : rhs = if J.val < 2048 then
          (z * factor 0 (⟨R.val % 4224, Nat.mod_lt _ (by decide)⟩) (⟨J.val % 128, Nat.mod_lt _ (by decide)⟩) + lo * factor 1 (⟨R.val % 4224, Nat.mod_lt _ (by decide)⟩) (⟨J.val % 128, Nat.mod_lt _ (by decide)⟩)
            + hi * factor 2 (⟨R.val % 4224, Nat.mod_lt _ (by decide)⟩) (⟨J.val % 128, Nat.mod_lt _ (by decide)⟩)) * scale
        else
          z * factor 0 (⟨R.val % 4224, Nat.mod_lt _ (by decide)⟩) (⟨J.val % 128, Nat.mod_lt _ (by decide)⟩) + lo * factor 1 (⟨R.val % 4224, Nat.mod_lt _ (by decide)⟩) (⟨J.val % 128, Nat.mod_lt _ (by decide)⟩)
            + hi * factor 2 (⟨R.val % 4224, Nat.mod_lt _ (by decide)⟩) (⟨J.val % 128, Nat.mod_lt _ (by decide)⟩)) :
    Ref x0 x1 x2 (ix2 R J) = rhs := by
  pointwise [Ref, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst_6]
  exact (rotation (val_main_v17 (F := Ideal) x0 x1 x2) (val_main_v34 (F := Ideal)) (val_main_v35 (F := Ideal)) rfl rfl R J z lo hi hz hlo hhi).trans hrhs.symm

set_option maxHeartbeats 1000000 in
/-- Over the normalized rows, one element of the block a point writes is the reference's element there. -/
theorem pay (c : Dev nD) (t : Fin cfg0.N) (x : FVec Ideal S1408x2048 .bf16) (r : Fin 1408) (l : Fin 512)
    (hx : ∀ k, x (ix2 r k) = Xn (m ((c : Thread nD τ).loc main_arg0)) (m ((c : Thread nD τ).loc main_arg1)) (ix2 (row t r) k)) :
    k0_pay2 x (iblk m c 0 t)
        (View.ld (iblk m c 3 t) (Rect.unit ![0, 0, 0, 0] ![1, 1, 1408, 128] inb_S1x3x1408x128_S1x1x1408x128_0_0_0_0))
        (View.ld (iblk m c 3 t) (Rect.unit ![0, 1, 0, 0] ![1, 1, 1408, 128] inb_S1x3x1408x128_S1x1x1408x128_0_1_0_0))
        (View.ld (iblk m c 3 t) (Rect.unit ![0, 2, 0, 0] ![1, 1, 1408, 128] inb_S1x3x1408x128_S1x1x1408x128_0_2_0_0)) (ix2 r l)
      = Ref (m ((c : Thread nD τ).loc main_arg0)) (m ((c : Thread nD τ).loc main_arg1)) (m ((c : Thread nD τ).loc main_arg2)) (((cfg0.win 4).blk t).view.emb (ix2 r l)) := by
  have ht : t.val < 96 := t.isLt
  have e : (((cfg0.win 4).blk t).view.emb (ix2 r l) : S16896x4096.Idx)
      = ix2 (row t r) (⟨t.val % 8 * 512 + l.val, by omega⟩ : Fin 4096) := by blk_ext [idx t]
  have hd : ∀ (a b : ℕ) (ha : a < 512) (hb : b < 15360), t.val % 8 * 512 + a = b →
      (∑ k : Fin 2048, x (ix2 r k) * iblk m c 0 t (ix3 0 k (⟨a, ha⟩ : Fin 512)) : EReal)
        = Z (m ((c : Thread nD τ).loc main_arg0)) (m ((c : Thread nD τ).loc main_arg1)) (m ((c : Thread nD τ).loc main_arg2))
          (ix2 (row t r) (⟨b, hb⟩ : Fin 15360)) := by
    rintro a b ha hb rfl
    exact dot_at m c t x r ⟨a, ha⟩ hx
  rw [e]
  symm
  refine ref_at _ _ _ (row t r) _ _ _ _ _ (hd l.val _ l.isLt _ rfl)
    (fun h h' => hd ((l.val + 512 - 16) % 512) _ (Nat.mod_lt _ (by decide)) _ ?_)
    (fun h => hd ((l.val + 512 - 496) % 512) _ (Nat.mod_lt _ (by decide)) _ ?_) ?_
  · simp only at h h' ⊢; omega
  · simp only at h ⊢; omega
  pointwise [k0_pay2]
  have k0 := copies (fun q => iblk m c 3 t (ix4 0 0 r q)) l
  have k1 := copies (fun q => iblk m c 3 t (ix4 0 1 r q)) l
  have k2 := copies (fun q => iblk m c 3 t (ix4 0 2 r q)) l
  rw [k0, k1, k2]
  simp only [rope_blk, tab_at]
  have ep : (⟨t.val / 8 % 3 * 1408 + r.val, by omega⟩ : Fin 4224) = ⟨(row t r).val % 4224, Nat.mod_lt _ (by decide)⟩ :=
    Fin.ext (by show t.val / 8 % 3 * 1408 + r.val = (t.val / 8 * 1408 + r.val) % 4224; omega)
  have eq : (⟨l.val % 128, Nat.mod_lt _ (by decide)⟩ : Fin 128) = ⟨(t.val % 8 * 512 + l.val) % 128, Nat.mod_lt _ (by decide)⟩ :=
    Fin.ext (by show l.val % 128 = (t.val % 8 * 512 + l.val) % 128; omega)
  rw [ep, eq]
  by_cases h4 : t.val % 8 / 4 < 1
  · rw [if_pos h4, if_pos h4, if_pos h4, if_pos (show t.val % 8 * 512 + l.val < 2048 by omega)]
    exact factor3 _ _ _ _ _ _
  · rw [if_neg h4, if_neg h4, if_neg h4, if_neg (show ¬ t.val % 8 * 512 + l.val < 2048 by omega)]

/-- What a point writes back is the reference's block. -/
theorem point (c : Dev nD) (t : Fin cfg0.N) (y : S1408x512.Idx) :
    (outsAt0 m c t.val t.isLt).1 y = Ref (m ((c : Thread nD τ).loc main_arg0)) (m ((c : Thread nD τ).loc main_arg1)) (m ((c : Thread nD τ).loc main_arg2)) (((cfg0.win 4).blk t).view.emb y) := by
  obtain ⟨r, l, rfl⟩ : ∃ (r : Fin 1408) (l : Fin 512), y = ix2 r l := ⟨_, _, eq_ix2 y⟩
  by_cases h0 : t.val % 8 = 0
  · rw [outsAt0_A m c t h0]
    frame_out
    exact pay m c t _ r l fun k => scratch_first m c t r k
  · rw [outsAt0_B m c t h0]
    frame_out
    have h : t.val - 1 < cfg0.N := Nat.lt_of_le_of_lt (Nat.sub_le _ _) t.isLt
    refine pay m c t _ r l fun k =>
      (congrFun ((Memref.isWhole_whole _).read_unread _) _).trans ((scratch m c r k (t.val - 1) h).trans ?_)
    congr 2
    refine Fin.ext ?_
    show (t.val - 1) / 8 * 1408 + r.val = t.val / 8 * 1408 + r.val
    have : (t.val - 1) / 8 = t.val / 8 := by omega
    rw [this]

/-- The array after the run is the reference's. -/
theorem final (c : Dev nD) : (dats m 0 c).arrAt 4 (cfgs 0).N
    = Ref (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c t y

end Cert.QkIdeal.Proof

end
-- ==== Proof.ValueProj.lean ====
/-
  The values' projection: the normalized rows times the weights' columns 4096 to 6143. The first of the four points of
  a row block normalizes its 1408 rows into a scratch; every point multiplies them with 512 columns of the weights.
-/
module

public import proofs.«01_k».proof.Proof.Gen.VIdeal.Frame
public import proofs.«01_k».proof.Proof.Gen.VRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.VIdeal.Proof

open Cert.VIdeal Cert.VIdeal.Gen

variable (m : (ℓ : Loc nD τ sig) → Buf (Elt Ideal) ℓ)

/-- The reference's result as a term over the arguments. -/
abbrev Ref (x0 : FVec Ideal S16896x2048 .f32) (x1 : FVec Ideal S4x2048 .f32) (x2 : FVec Ideal S4x2048x15360 .f32) : FVec Ideal S16896x2048 .bf16 :=
  Cert.VRefIdeal.Read.val_main_v19 (F := Ideal) x0 x1 x2

/-- The block each window shows at each grid point. -/
theorem idx : ∀ t : Fin cfg0.N, win0_0.index t = ![1, 0, 8 + t.val % 4]
    ∧ win0_1.index t = ![t.val / 4, 0]
    ∧ win0_2.index t = ![1, 0, 0]
    ∧ win0_3.index t = ![t.val / 4, t.val % 4] :=
  (by decide +kernel : ∀ t : Fin grid0.N, _)

/-- The normalized rows the reference contracts with the weights. -/
abbrev Xn (x0 : FVec Ideal S16896x2048 .f32) (x1 : FVec Ideal S4x2048 .f32) : FVec Ideal S16896x2048 .f32 :=
  Cert.VRefIdeal.Read.val_main_v14 (F := Ideal) x0 x1

/-- The array row that row `r` of a point's block is. -/
abbrev row (t : Fin cfg0.N) (r : Fin 1408) : Fin 16896 :=
  ⟨t.val / 4 * 1408 + r.val, by have := t.isLt; have h : cfg0.N = 48 := rfl; omega⟩

open Cert.VRefIdeal.Read in
/-- What the first point of a row block keeps in the scratch: the block's rows, normalized. -/
theorem scratch_first (c : Dev nD) (t : Fin cfg0.N) (r : Fin 1408) (k : Fin 2048) :
    k0_pay1 (iblk m c 1 t) (iblk m c 2 t) (ix2 r k)
      = Xn (m ((c : Thread nD τ).loc main_arg0)) (m ((c : Thread nD τ).loc main_arg1)) (ix2 (row t r) k) := by
  pointwise [k0_pay1, Xn, val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14]
  blk_point [iblk, V, idx t]

/-- At every point the scratch holds the normalized rows of the point's row block. -/
theorem scratch (c : Dev nD) (r : Fin 1408) (k : Fin 2048) : ∀ (n : ℕ) (h : n < cfg0.N), (outsAt0 m c n h).2 (ix2 r k)
      = Xn (m ((c : Thread nD τ).loc main_arg0)) (m ((c : Thread nD τ).loc main_arg1)) (ix2 (row ⟨n, h⟩ r) k) := by
  intro n
  induction n with
  | zero =>
    intro h
    rw [show outsAt0 m c 0 h = _ from outsAt0_A m c ⟨0, h⟩ (Nat.zero_mod _)]
    frame_out
    exact scratch_first m c ⟨0, h⟩ r k
  | succ n ih =>
    intro h
    by_cases h0 : (n + 1) % 4 = 0
    · rw [show outsAt0 m c (n + 1) h = _ from outsAt0_A m c ⟨n + 1, h⟩ h0]
      frame_out
      exact scratch_first m c ⟨n + 1, h⟩ r k
    · rw [show outsAt0 m c (n + 1) h = _ from outsAt0_B m c ⟨n + 1, h⟩ h0]
      frame_out
      refine (ih (Nat.lt_of_succ_lt h)).trans ?_
      congr 2
      refine Fin.ext ?_
      show n / 4 * 1408 + r.val = (n + 1) / 4 * 1408 + r.val
      have : n / 4 = (n + 1) / 4 := by omega
      rw [this]

open Cert.VRefIdeal.Read in
/-- Over the normalized rows, one element of the block a point writes is the reference's element there. -/
theorem pay (c : Dev nD) (t : Fin cfg0.N) (x : FVec Ideal S1408x2048 .bf16) (r : Fin 1408) (l : Fin 512)
    (hx : ∀ k, x (ix2 r k) = Xn (m ((c : Thread nD τ).loc main_arg0)) (m ((c : Thread nD τ).loc main_arg1)) (ix2 (row t r) k)) :
    k0_pay2 x (iblk m c 0 t) (ix2 r l)
      = Ref (m ((c : Thread nD τ).loc main_arg0)) (m ((c : Thread nD τ).loc main_arg1)) (m ((c : Thread nD τ).loc main_arg2)) (((cfg0.win 3).blk t).view.emb (ix2 r l)) := by
  pointwise [k0_pay2, Ref, Xn, val_main_v15, val_main_v16, val_main_v17, val_main_v18, val_main_v19]
  simp only [hx, Xn, Ideal.logistic]
  blk_point [iblk, V, idx t]

/-- What a point writes back is the reference's block. -/
theorem point (c : Dev nD) (t : Fin cfg0.N) (y : S1408x512.Idx) :
    (outsAt0 m c t.val t.isLt).1 y = Ref (m ((c : Thread nD τ).loc main_arg0)) (m ((c : Thread nD τ).loc main_arg1)) (m ((c : Thread nD τ).loc main_arg2)) (((cfg0.win 3).blk t).view.emb y) := by
  obtain ⟨r, l, rfl⟩ : ∃ (r : Fin 1408) (l : Fin 512), y = ix2 r l := ⟨_, _, eq_ix2 y⟩
  by_cases h0 : t.val % 4 = 0
  · rw [outsAt0_A m c t h0]
    frame_out
    exact pay m c t _ r l fun k => scratch_first m c t r k
  · rw [outsAt0_B m c t h0]
    frame_out
    have h : t.val - 1 < cfg0.N := Nat.lt_of_le_of_lt (Nat.sub_le _ _) t.isLt
    refine pay m c t _ r l fun k =>
      (congrFun ((Memref.isWhole_whole _).read_unread _) _).trans ((scratch m c r k (t.val - 1) h).trans ?_)
    congr 2
    refine Fin.ext ?_
    show (t.val - 1) / 4 * 1408 + r.val = t.val / 4 * 1408 + r.val
    have : (t.val - 1) / 4 = t.val / 4 := by omega
    rw [this]

/-- The array after the run is the reference's. -/
theorem final (c : Dev nD) : (dats m 0 c).arrAt 3 (cfgs 0).N
    = Ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.VIdeal.Proof

end
-- ==== Proof.LruInProj.lean ====
/-
  The recurrence inputs' projection: the normalized rows times the weights' columns 6144 to 11263. The first of the ten points of
  a row block normalizes its 1408 rows into a scratch; every point multiplies them with 512 columns of the weights.
-/
module

public import proofs.«01_k».proof.Proof.Gen.LruinIdeal.Frame
public import proofs.«01_k».proof.Proof.Gen.LruinRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LruinIdeal.Proof

open Cert.LruinIdeal Cert.LruinIdeal.Gen

variable (m : (ℓ : Loc nD τ sig) → Buf (Elt Ideal) ℓ)

/-- The reference's result as a term over the arguments. -/
abbrev Ref (x0 : FVec Ideal S16896x2048 .f32) (x1 : FVec Ideal S4x2048 .f32) (x2 : FVec Ideal S4x2048x15360 .f32) : FVec Ideal S16896x5120 .f32 :=
  Cert.LruinRefIdeal.Read.val_main_v18 (F := Ideal) x0 x1 x2

/-- The block each window shows at each grid point. -/
theorem idx : ∀ t : Fin cfg0.N, win0_0.index t = ![1, 0, 12 + t.val % 10]
    ∧ win0_1.index t = ![t.val / 10, 0]
    ∧ win0_2.index t = ![1, 0, 0]
    ∧ win0_3.index t = ![t.val / 10, t.val % 10] :=
  (by decide +kernel : ∀ t : Fin grid0.N, _)

/-- The normalized rows the reference contracts with the weights. -/
abbrev Xn (x0 : FVec Ideal S16896x2048 .f32) (x1 : FVec Ideal S4x2048 .f32) : FVec Ideal S16896x2048 .f32 :=
  Cert.LruinRefIdeal.Read.val_main_v14 (F := Ideal) x0 x1

/-- The array row that row `r` of a point's block is. -/
abbrev row (t : Fin cfg0.N) (r : Fin 1408) : Fin 16896 :=
  ⟨t.val / 10 * 1408 + r.val, by have := t.isLt; have h : cfg0.N = 120 := rfl; omega⟩

open Cert.LruinRefIdeal.Read in
/-- What the first point of a row block keeps in the scratch: the block's rows, normalized. -/
theorem scratch_first (c : Dev nD) (t : Fin cfg0.N) (r : Fin 1408) (k : Fin 2048) :
    k0_pay1 (iblk m c 1 t) (iblk m c 2 t) (ix2 r k)
      = Xn (m ((c : Thread nD τ).loc main_arg0)) (m ((c : Thread nD τ).loc main_arg1)) (ix2 (row t r) k) := by
  pointwise [k0_pay1, Xn, val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14]
  blk_point [iblk, V, idx t]

/-- At every point the scratch holds the normalized rows of the point's row block. -/
theorem scratch (c : Dev nD) (r : Fin 1408) (k : Fin 2048) : ∀ (n : ℕ) (h : n < cfg0.N), (outsAt0 m c n h).2 (ix2 r k)
      = Xn (m ((c : Thread nD τ).loc main_arg0)) (m ((c : Thread nD τ).loc main_arg1)) (ix2 (row ⟨n, h⟩ r) k) := by
  intro n
  induction n with
  | zero =>
    intro h
    rw [show outsAt0 m c 0 h = _ from outsAt0_A m c ⟨0, h⟩ (Nat.zero_mod _)]
    frame_out
    exact scratch_first m c ⟨0, h⟩ r k
  | succ n ih =>
    intro h
    by_cases h0 : (n + 1) % 10 = 0
    · rw [show outsAt0 m c (n + 1) h = _ from outsAt0_A m c ⟨n + 1, h⟩ h0]
      frame_out
      exact scratch_first m c ⟨n + 1, h⟩ r k
    · rw [show outsAt0 m c (n + 1) h = _ from outsAt0_B m c ⟨n + 1, h⟩ h0]
      frame_out
      refine (ih (Nat.lt_of_succ_lt h)).trans ?_
      congr 2
      refine Fin.ext ?_
      show n / 10 * 1408 + r.val = (n + 1) / 10 * 1408 + r.val
      have : n / 10 = (n + 1) / 10 := by omega
      rw [this]

open Cert.LruinRefIdeal.Read in
/-- Over the normalized rows, one element of the block a point writes is the reference's element there. -/
theorem pay (c : Dev nD) (t : Fin cfg0.N) (x : FVec Ideal S1408x2048 .bf16) (r : Fin 1408) (l : Fin 512)
    (hx : ∀ k, x (ix2 r k) = Xn (m ((c : Thread nD τ).loc main_arg0)) (m ((c : Thread nD τ).loc main_arg1)) (ix2 (row t r) k)) :
    k0_pay2 x (iblk m c 0 t) (ix2 r l)
      = Ref (m ((c : Thread nD τ).loc main_arg0)) (m ((c : Thread nD τ).loc main_arg1)) (m ((c : Thread nD τ).loc main_arg2)) (((cfg0.win 3).blk t).view.emb (ix2 r l)) := by
  pointwise [k0_pay2, Ref, Xn, val_main_v15, val_main_v16, val_main_v17, val_main_v18]
  simp only [hx, Xn, Ideal.logistic]
  blk_point [iblk, V, idx t]

/-- What a point writes back is the reference's block. -/
theorem point (c : Dev nD) (t : Fin cfg0.N) (y : S1408x512.Idx) :
    (outsAt0 m c t.val t.isLt).1 y = Ref (m ((c : Thread nD τ).loc main_arg0)) (m ((c : Thread nD τ).loc main_arg1)) (m ((c : Thread nD τ).loc main_arg2)) (((cfg0.win 3).blk t).view.emb y) := by
  obtain ⟨r, l, rfl⟩ : ∃ (r : Fin 1408) (l : Fin 512), y = ix2 r l := ⟨_, _, eq_ix2 y⟩
  by_cases h0 : t.val % 10 = 0
  · rw [outsAt0_A m c t h0]
    frame_out
    exact pay m c t _ r l fun k => scratch_first m c t r k
  · rw [outsAt0_B m c t h0]
    frame_out
    have h : t.val - 1 < cfg0.N := Nat.lt_of_le_of_lt (Nat.sub_le _ _) t.isLt
    refine pay m c t _ r l fun k =>
      (congrFun ((Memref.isWhole_whole _).read_unread _) _).trans ((scratch m c r k (t.val - 1) h).trans ?_)
    congr 2
    refine Fin.ext ?_
    show (t.val - 1) / 10 * 1408 + r.val = t.val / 10 * 1408 + r.val
    have : (t.val - 1) / 10 = t.val / 10 := by omega
    rw [this]

/-- The array after the run is the reference's. -/
theorem final (c : Dev nD) : (dats m 0 c).arrAt 3 (cfgs 0).N
    = Ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point m c t y

end Cert.LruinIdeal.Proof

end
-- ==== Proof.GateProj.lean ====
/-
  The branch gates' projection: the normalized rows times the weights' columns 11264 to 15359, plus a bias, through the sigmoid. The first of the eight points of
  a row block normalizes its 1408 rows into a scratch; every point multiplies them with 512 columns of the weights.
-/
module

public import proofs.«01_k».proof.Proof.Gen.GateIdeal.Frame
public import proofs.«01_k».proof.Proof.Gen.GateRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GateIdeal.Proof

open Cert.GateIdeal Cert.GateIdeal.Gen

variable (m : (ℓ : Loc nD τ sig) → Buf (Elt Ideal) ℓ)

/-- The reference's result as a term over the arguments. -/
abbrev Ref (x0 : FVec Ideal S16896x2048 .f32) (x1 : FVec Ideal S4x2048 .f32) (x2 : FVec Ideal S4x2048x15360 .f32) (x3 : FVec Ideal S4x4096 .f32) : FVec Ideal S16896x4096 .f32 :=
  Cert.GateRefIdeal.Read.val_main_v29 (F := Ideal) x0 x1 x2 x3

/-- The block each window shows at each grid point. -/
theorem idx : ∀ t : Fin cfg0.N, win0_0.index t = ![1, 0, 22 + t.val % 8]
    ∧ win0_1.index t = ![t.val / 8, 0]
    ∧ win0_2.index t = ![1, 0, 0]
    ∧ win0_3.index t = ![1, 0, t.val % 8]
    ∧ win0_4.index t = ![t.val / 8, t.val % 8] :=
  (by decide +kernel : ∀ t : Fin grid0.N, _)

/-- The normalized rows the reference contracts with the weights. -/
abbrev Xn (x0 : FVec Ideal S16896x2048 .f32) (x1 : FVec Ideal S4x2048 .f32) : FVec Ideal S16896x2048 .f32 :=
  Cert.GateRefIdeal.Read.val_main_v14 (F := Ideal) x0 x1

/-- The array row that row `r` of a point's block is. -/
abbrev row (t : Fin cfg0.N) (r : Fin 1408) : Fin 16896 :=
  ⟨t.val / 8 * 1408 + r.val, by have := t.isLt; have h : cfg0.N = 96 := rfl; omega⟩

open Cert.GateRefIdeal.Read in
/-- What the first point of a row block keeps in the scratch: the block's rows, normalized. -/
theorem scratch_first (c : Dev nD) (t : Fin cfg0.N) (r : Fin 1408) (k : Fin 2048) :
    k0_pay1 (iblk m c 1 t) (iblk m c 2 t) (ix2 r k)
      = Xn (m ((c : Thread nD τ).loc main_arg0)) (m ((c : Thread nD τ).loc main_arg1)) (ix2 (row t r) k) := by
  pointwise [k0_pay1, Xn, val_main_v0, val_main_v1, val_main_v2, val_main_cst, val_main_v3, val_main_v4, val_main_cst_0,
    val_main_v5, val_main_v6, val_main_cst_1, val_main_v7, val_main_v8, val_main_v9, val_main_v10, val_main_v11,
    val_main_v12, val_main_v13, val_main_v14]
  blk_point [iblk, V, idx t]

/-- At every point the scratch holds the normalized rows of the point's row block. -/
theorem scratch (c : Dev nD) (r : Fin 1408) (k : Fin 2048) : ∀ (n : ℕ) (h : n < cfg0.N), (outsAt0 m c n h).2 (ix2 r k)
      = Xn (m ((c : Thread nD τ).loc main_arg0)) (m ((c : Thread nD τ).loc main_arg1)) (ix2 (row ⟨n, h⟩ r) k) := by
  intro n
  induction n with
  | zero =>
    intro h
    rw [show outsAt0 m c 0 h = _ from outsAt0_A m c ⟨0, h⟩ (Nat.zero_mod _)]
    frame_out
    exact scratch_first m c ⟨0, h⟩ r k
  | succ n ih =>
    intro h
    by_cases h0 : (n + 1) % 8 = 0
    · rw [show outsAt0 m c (n + 1) h = _ from outsAt0_A m c ⟨n + 1, h⟩ h0]
      frame_out
      exact scratch_first m c ⟨n + 1, h⟩ r k
    · rw [show outsAt0 m c (n + 1) h = _ from outsAt0_B m c ⟨n + 1, h⟩ h0]
      frame_out
      refine (ih (Nat.lt_of_succ_lt h)).trans ?_
      congr 2
      refine Fin.ext ?_
      show n / 8 * 1408 + r.val = (n + 1) / 8 * 1408 + r.val
      have : n / 8 = (n + 1) / 8 := by omega
      rw [this]

open Cert.GateRefIdeal.Read in
/-- Over the normalized rows, one element of the block a point writes is the reference's element there. -/
theorem pay (c : Dev nD) (t : Fin cfg0.N) (x : FVec Ideal S1408x2048 .bf16) (r : Fin 1408) (l : Fin 512)
    (hx : ∀ k, x (ix2 r k) = Xn (m ((c : Thread nD τ).loc main_arg0)) (m ((c : Thread nD τ).loc main_arg1)) (ix2 (row t r) k)) :
    k0_pay2 x (iblk m c 0 t) (iblk m c 3 t) (ix2 r l)
      = Ref (m ((c : Thread nD τ).loc main_arg0)) (m ((c : Thread nD τ).loc main_arg1)) (m ((c : Thread nD τ).loc main_arg2)) (m ((c : Thread nD τ).loc main_arg3)) (((cfg0.win 4).blk t).view.emb (ix2 r l)) := by
  pointwise [k0_pay2, Ref, Xn, val_main_v15, val_main_v16, val_main_v17, val_main_v18, val_main_v19, val_main_v20, val_main_v21,
    val_main_v22, val_main_v23, val_main_v24, val_main_v25, val_main_cst_2, val_main_v26, val_main_v27,
    val_main_cst_3, val_main_v28, val_main_v29]
  simp only [hx, Xn, Ideal.logistic]
  blk_point [iblk, V, idx t]

/-- What a point writes back is the reference's block. -/
theorem point (c : Dev nD) (t : Fin cfg0.N) (y : S1408x512.Idx) :
    (outsAt0 m c t.val t.isLt).1 y = Ref (m ((c : Thread nD τ).loc main_arg0)) (m ((c : Thread nD τ).loc main_arg1)) (m ((c : Thread nD τ).loc main_arg2)) (m ((c : Thread nD τ).loc main_arg3)) (((cfg0.win 4).blk t).view.emb y) := by
  obtain ⟨r, l, rfl⟩ : ∃ (r : Fin 1408) (l : Fin 512), y = ix2 r l := ⟨_, _, eq_ix2 y⟩
  by_cases h0 : t.val % 8 = 0
  · rw [outsAt0_A m c t h0]
    frame_out
    exact pay m c t _ r l fun k => scratch_first m c t r k
  · rw [outsAt0_B m c t h0]
    frame_out
    have h : t.val - 1 < cfg0.N := Nat.lt_of_le_of_lt (Nat.sub_le _ _) t.isLt
    refine pay m c t _ r l fun k =>
      (congrFun ((Memref.isWhole_whole _).read_unread _) _).trans ((scratch m c r k (t.val - 1) h).trans ?_)
    congr 2
    refine Fin.ext ?_
    show (t.val - 1) / 8 * 1408 + r.val = t.val / 8 * 1408 + r.val
    have : (t.val - 1) / 8 = t.val / 8 := by omega
    rw [this]

/-- The array after the run is the reference's. -/
theorem final (c : Dev nD) : (dats m 0 c).arrAt 4 (cfgs 0).N
    = Ref (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  exact point m c t y

end Cert.GateIdeal.Proof

end
-- ==== Proof.LruBlocks.lean ====
/-
  What the recurrence's program reads at each grid point: the activations, the packed parameters, the block-diagonal weights.
-/
module

public import proofs.«01_k».proof.Proof.Gen.LruIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LruIdeal.Proof

open Cert.LruIdeal Cert.LruIdeal.Gen

variable (m : (ℓ : Loc nD τ sig) → Buf (Elt Ideal) ℓ)

/-- The two gates' weights. -/
abbrev inp3 (c : Dev nD) : FVec Ideal S4x16x160x160 .f32 := m ((c : Thread nD τ).loc main_arg3)
abbrev inp5 (c : Dev nD) : FVec Ideal S4x16x160x160 .f32 := m ((c : Thread nD τ).loc main_arg5)

/-- The block each window shows at each grid point. -/
theorem idx : ∀ t : Fin cfg0.N, win0_0.index t = ![t.val / 44 * 11 + t.val % 11, t.val / 11 % 4]
    ∧ win0_1.index t = ![t.val / 44 * 11 + t.val % 11, 4 + t.val / 11 % 4]
    ∧ win0_2.index t = ![1, 0, t.val / 11 % 4]
    ∧ win0_3.index t = ![1, t.val / 11 % 4, 0, 0]
    ∧ win0_4.index t = ![t.val / 44 * 11 + t.val % 11, t.val / 11 % 4] :=
  (by decide +kernel : ∀ t : Fin grid0.N, _)

theorem lt176 (t : Fin cfg0.N) : t.val < 176 := t.isLt

/-- The array column that column `j` of a point's block is. -/
abbrev wide (t : Fin cfg0.N) (j : Fin 640) : Fin 2560 := ⟨t.val / 11 % 4 * 640 + j.val, by omega⟩

/-- The array row that row `r` of a point's block is. -/
abbrev row (t : Fin cfg0.N) (r : Fin 384) : Fin 16896 := ⟨(t.val / 44 * 11 + t.val % 11) * 384 + r.val, by have := lt176 t; omega⟩

theorem x_at (c : Dev nD) (t : Fin cfg0.N) (r : Fin 384) (j : Fin 640) :
    iblk m c 0 t (ix2 r j) = m ((c : Thread nD τ).loc main_arg0) (ix2 (row t r) ⟨(wide t j).val, by omega⟩) := by
  blk_point [iblk, V, idx t]

theorem y_at (c : Dev nD) (t : Fin cfg0.N) (r : Fin 384) (j : Fin 640) :
    iblk m c 1 t (ix2 r j) = m ((c : Thread nD τ).loc main_arg0) (ix2 (row t r) ⟨2560 + (wide t j).val, by omega⟩) := by
  blk_point [iblk, V, idx t]

theorem p_at (c : Dev nD) (t : Fin cfg0.N) (k : Fin 8) (j : Fin 640) :
    iblk m c 2 t (ix3 0 k j) = V m c main_v32 (ix3 1 k (wide t j)) := by
  blk_point [iblk, idx t]

theorem w_at (c : Dev nD) (t : Fin cfg0.N) (k : Fin 640) (l : Fin 1280) :
    iblk m c 3 t (ix4 0 0 k l) = V m c main_v27 (ix4 1 ⟨t.val / 11 % 4, by omega⟩ k l) := by
  blk_point [iblk, idx t]

/-- The packed parameters over the host program's earlier results. -/
theorem pack (G : Valuation τ sig (Elt Ideal)) (p q r s : FVec Ideal S4x1x2560 .f32) (u : FVec Ideal S4x4x2560 .f32)
    (hp : G (Proc.devRef .tc main_v28) = p) (hq : G (Proc.devRef .tc main_v29) = q) (hr : G (Proc.devRef .tc main_v30) = r)
    (hs : G (Proc.devRef .tc main_v31) = s) (hu : G (Proc.devRef .tc main_arg1) = u) :
    (concatenate S4x8x2560 1 [⟨S4x1x2560, (G (Proc.devRef .tc main_v28) : FVec Ideal S4x1x2560 .f32)⟩, ⟨S4x1x2560, (G (Proc.devRef .tc main_v29) : FVec Ideal S4x1x2560 .f32)⟩,
      ⟨S4x1x2560, (G (Proc.devRef .tc main_v30) : FVec Ideal S4x1x2560 .f32)⟩, ⟨S4x1x2560, (G (Proc.devRef .tc main_v31) : FVec Ideal S4x1x2560 .f32)⟩,
      ⟨S4x4x2560, (G (Proc.devRef .tc main_arg1) : FVec Ideal S4x4x2560 .f32)⟩] concatenates_S4x1x2560_S4x1x2560_S4x1x2560_S4x1x2560_S4x4x2560_S4x8x2560_d1 : FVec Ideal S4x8x2560 .f32)
      = concatenate S4x8x2560 1 [⟨S4x1x2560, p⟩, ⟨S4x1x2560, q⟩, ⟨S4x1x2560, r⟩, ⟨S4x1x2560, s⟩, ⟨S4x4x2560, u⟩] concatenates_S4x1x2560_S4x1x2560_S4x1x2560_S4x1x2560_S4x4x2560_S4x8x2560_d1 := by
  rw [hp, hq, hr, hs, hu]

set_option maxHeartbeats 2000000 in
/-- The packed parameters: the four vectors and the four taps, stacked. -/
theorem v32 (c : Dev nD) : V m c main_v32 = (concatenate S4x8x2560 1
    [⟨S4x1x2560, broadcastInDim S4x1x2560 ![0, 2] bcast_S4x2560_S4x1x2560_0_2 (m ((c : Thread nD τ).loc main_arg2) : FVec Ideal S4x2560 .f32)⟩,
     ⟨S4x1x2560, broadcastInDim S4x1x2560 ![0, 2] bcast_S4x2560_S4x1x2560_0_2 (m ((c : Thread nD τ).loc main_arg6) : FVec Ideal S4x2560 .f32)⟩,
     ⟨S4x1x2560, broadcastInDim S4x1x2560 ![0, 2] bcast_S4x2560_S4x1x2560_0_2 (m ((c : Thread nD τ).loc main_arg4) : FVec Ideal S4x2560 .f32)⟩,
     ⟨S4x1x2560, broadcastInDim S4x1x2560 ![0, 2] bcast_S4x2560_S4x1x2560_0_2 (m ((c : Thread nD τ).loc main_arg7) : FVec Ideal S4x2560 .f32)⟩,
     ⟨S4x4x2560, (m ((c : Thread nD τ).loc main_arg1) : FVec Ideal S4x4x2560 .f32)⟩] concatenates_S4x1x2560_S4x1x2560_S4x1x2560_S4x1x2560_S4x4x2560_S4x8x2560_d1 : FVec Ideal S4x8x2560 .f32) := by
  show StableHlo.after hostOps0 _ _ = _
  unfold hostOps0
  simp only [List.flatten_cons, List.flatten_nil, List.append_nil, List.cons_append, List.nil_append, StableHlo.after_cons, StableHlo.after_nil]
  refine (StableHlo.nary_result _ _ _ _ _ _).trans (pack _ _ _ _ _ _ ?_ ?_ ?_ ?_ ?_)
  all_goals
    after_results_simp
    try rfl

/-- Its eight rows. -/
theorem v32_0 (c : Dev nD) (q : Fin 2560) : V m c main_v32 (ix3 1 0 q) = m ((c : Thread nD τ).loc main_arg2) (ix2 1 q) := by
  rw [v32]
  pointwise

theorem v32_1 (c : Dev nD) (q : Fin 2560) : V m c main_v32 (ix3 1 1 q) = m ((c : Thread nD τ).loc main_arg6) (ix2 1 q) := by
  rw [v32]
  pointwise

theorem v32_2 (c : Dev nD) (q : Fin 2560) : V m c main_v32 (ix3 1 2 q) = m ((c : Thread nD τ).loc main_arg4) (ix2 1 q) := by
  rw [v32]
  pointwise

theorem v32_3 (c : Dev nD) (q : Fin 2560) : V m c main_v32 (ix3 1 3 q) = m ((c : Thread nD τ).loc main_arg7) (ix2 1 q) := by
  rw [v32]
  pointwise

theorem v32_4 (c : Dev nD) (q : Fin 2560) : V m c main_v32 (ix3 1 4 q) = m ((c : Thread nD τ).loc main_arg1) (ix3 1 0 q) := by
  rw [v32]
  pointwise

theorem v32_5 (c : Dev nD) (q : Fin 2560) : V m c main_v32 (ix3 1 5 q) = m ((c : Thread nD τ).loc main_arg1) (ix3 1 1 q) := by
  rw [v32]
  pointwise

theorem v32_6 (c : Dev nD) (q : Fin 2560) : V m c main_v32 (ix3 1 6 q) = m ((c : Thread nD τ).loc main_arg1) (ix3 1 2 q) := by
  rw [v32]
  pointwise

theorem v32_7 (c : Dev nD) (q : Fin 2560) : V m c main_v32 (ix3 1 7 q) = m ((c : Thread nD τ).loc main_arg1) (ix3 1 3 q) := by
  rw [v32]
  pointwise

theorem eye (a b : ℕ) (ha : a < 4) (hb : b < 4) :
    (FloatOps.uitofp FTy.f32 (IntOp.cmpi CmpIPredicate.eq (IntOp.addi (BitVec.ofNat 32 a) 0#32) (BitVec.ofNat 32 b)) : Ideal .f32)
      = if a = b then (1 : EReal) else 0 := by
  interval_cases a <;> interval_cases b <;> norm_num [IntOp.cmpi, IntOp.addi, FloatOps.uitofp] <;> rfl

/-- The decay gate's half of the block-diagonal weights, -/
theorem v27_lo (c : Dev nD) (s : Fin 4) (k : Fin 640) (l : Fin 640) : V m c main_v27 (ix4 1 s k ⟨l.val, by omega⟩)
    = (inp5 m c) (ix4 1 ⟨s.val * 4 + k.val / 160, by omega⟩ ⟨k.val % 160, by omega⟩ ⟨l.val % 160, by omega⟩)
      * (if k.val / 160 = l.val / 160 then (1 : EReal) else 0) := by
  rw [← eye _ _ (by omega) (by omega)]
  entry_read
  pointwise

/-- and the input gate's. -/
theorem v27_hi (c : Dev nD) (s : Fin 4) (k : Fin 640) (l : Fin 640) : V m c main_v27 (ix4 1 s k ⟨640 + l.val, by omega⟩)
    = (inp3 m c) (ix4 1 ⟨s.val * 4 + k.val / 160, by omega⟩ ⟨k.val % 160, by omega⟩ ⟨l.val % 160, by omega⟩)
      * (if k.val / 160 = l.val / 160 then (1 : EReal) else 0) := by
  rw [← eye _ _ (by omega) (by omega)]
  entry_read
  pointwise

/-- A sum against a block of a block-diagonal matrix is the sum over the block. -/
theorem block_sum (f w : Fin 640 → EReal) (b : Fin 4) :
    ∑ k : Fin 640, f k * (w k * (if k.val / 160 = b.val then (1 : EReal) else 0))
      = ∑ k : Fin 160, f ⟨b.val * 160 + k.val, by omega⟩ * w ⟨b.val * 160 + k.val, by omega⟩ := by
  rw [← (finProdFinEquiv (m := 4) (n := 160)).sum_comp, Fintype.sum_prod_type, Finset.sum_eq_single b]
  · refine Finset.sum_congr rfl fun k _ => ?_
    have hv : ((finProdFinEquiv (b, k) : Fin (4 * 160)) : ℕ) = k.val + 160 * b.val := rfl
    have hb : (finProdFinEquiv (b, k) : Fin (4 * 160)) = (⟨b.val * 160 + k.val, by omega⟩ : Fin 640) := Fin.ext (by rw [hv]; show _ = b.val * 160 + k.val; omega)
    rw [hb, if_pos (by show (b.val * 160 + k.val) / 160 = b.val; omega), mul_one]
  · intro a _ hab
    refine Finset.sum_eq_zero fun k _ => ?_
    have hv : ((finProdFinEquiv (a, k) : Fin (4 * 160)) : ℕ) = k.val + 160 * a.val := rfl
    rw [if_neg (by rw [hv]; intro h; apply hab; apply Fin.ext; omega), mul_zero, mul_zero]
  · intro h
    exact absurd (Finset.mem_univ b) h

end Cert.LruIdeal.Proof

end
-- ==== Proof.LruMath.lean ====
/-
  The mathematics of the linear recurrence h ↦ a·h + b over the extended reals, with no program in sight: consecutive steps
  compose to one step of the same kind, so a run of steps may be taken in pieces; and the two spellings of 1 − a² agree.
-/
module

public import Idealize.ShloMosaic.PureOps.Ideal

@[expose] public section

noncomputable section

open Idealize.ShloMosaic

namespace Cert.LruMath

/-- `l` steps of the recurrence, started from `h` at step `n`. -/
def run (a b : ℕ → EReal) (n : ℕ) (h : EReal) : ℕ → EReal
  | 0 => h
  | l + 1 => a (n + l) * run a b n h l + b (n + l)

/-- Running on from where a run stopped. -/
theorem run_add (a b : ℕ → EReal) (n : ℕ) (h : EReal) (l k : ℕ) :
    run a b n h (l + k) = run a b (n + l) (run a b n h l) k := by
  induction k with
  | zero => rfl
  | succ k ih =>
    show a (n + (l + k)) * run a b n h (l + k) + b (n + (l + k)) = a (n + l + k) * _ + b (n + l + k)
    rw [ih, Nat.add_assoc]

/-- `A, B` stand for the `l` steps from step `n` on: one step with them is those steps. -/
structure Seg (a b : ℕ → EReal) (n l : ℕ) (A B : EReal) : Prop where
  nonneg : 0 ≤ A
  ne_top : A ≠ ⊤
  step : ∀ h, A * h + B = run a b n h l

/-- One step stands for itself. -/
theorem Seg.one {a b : ℕ → EReal} {n : ℕ} (h0 : 0 ≤ a n) (h1 : a n ≠ ⊤) : Seg a b n 1 (a n) (b n) :=
  ⟨h0, h1, fun _ => rfl⟩

/-- Two adjacent pieces compose. -/
theorem Seg.comp {a b : ℕ → EReal} {n l k : ℕ} {A B C D : EReal} (s : Seg a b n l A B) (r : Seg a b (n + l) k C D) :
    Seg a b n (l + k) (C * A) (C * B + D) where
  nonneg := mul_nonneg r.nonneg s.nonneg
  ne_top := by
    obtain ⟨x, rfl⟩ : ∃ x : ℝ, (x : EReal) = A :=
      ⟨A.toReal, EReal.coe_toReal s.ne_top (ne_bot_of_le_ne_bot (by exact EReal.zero_ne_bot) s.nonneg)⟩
    obtain ⟨y, rfl⟩ : ∃ y : ℝ, (y : EReal) = C :=
      ⟨C.toReal, EReal.coe_toReal r.ne_top (ne_bot_of_le_ne_bot (by exact EReal.zero_ne_bot) r.nonneg)⟩
    rw [← EReal.coe_mul]
    exact EReal.coe_ne_top _
  step h := by
    rw [run_add, ← s.step h, ← r.step, EReal.left_distrib_of_nonneg_of_ne_top r.nonneg r.ne_top, mul_assoc, add_assoc]

/-- The kernel's form of `1 − a²`, with `a = exp x`. -/
theorem one_sub_sq (x : EReal) : (0 - Ideal.tanh x) * (Ideal.exp x * Ideal.exp x + 1) = -(Ideal.expm1 (2 * x)) := by
  unfold Ideal.expm1
  induction x with
  | bot =>
    rw [show (2 : EReal) * ⊥ = ⊥ from EReal.mul_bot_of_pos (by norm_num)]
    simp
  | top =>
    rw [show (2 : EReal) * ⊤ = ⊤ from EReal.mul_top_of_pos (by norm_num)]
    simp only [Ideal.tanh_top, Ideal.exp_top]
    have h1 : (⊤ : EReal) * ⊤ + 1 = ⊤ := by rw [EReal.top_mul_top]; exact EReal.top_add_coe 1
    have h2 : (⊤ : EReal) - 1 = ⊤ := by exact EReal.top_sub_coe 1
    rw [h1, h2]
    have h3 : (0 : EReal) - 1 < 0 := by
      rw [zero_sub];
      have : ((-1 : ℝ) : EReal) < ((0 : ℝ) : EReal) := EReal.coe_lt_coe_iff.mpr (by norm_num)
      simpa using this
    rw [EReal.mul_top_of_neg h3, EReal.neg_top]
  | coe r =>
    rw [show (2 : EReal) * (r : EReal) = ((2 * r : ℝ) : EReal) by rw [EReal.coe_mul]; rfl]
    simp only [Ideal.tanh_coe, Ideal.exp_coe]
    have key : (0 - Real.tanh r) * (Real.exp r * Real.exp r + 1) = -(Real.exp (2 * r) - 1) := by
      have e2 : Real.exp (2 * r) = Real.exp r * Real.exp r := by rw [two_mul, Real.exp_add]
      have en : Real.exp (-r) = (Real.exp r)⁻¹ := Real.exp_neg r
      have hp : Real.exp r ≠ 0 := (Real.exp_pos r).ne'
      have hq : Real.exp r * Real.exp r + 1 ≠ 0 := by positivity
      have hq2 : Real.exp r ^ 2 + 1 ≠ 0 := by positivity
      rw [Real.tanh_eq_sinh_div_cosh, Real.sinh_eq, Real.cosh_eq, e2, en]
      field_simp
      ring
    rw [show (1 : EReal) = ((1 : ℝ) : EReal) from rfl, show (0 : EReal) = ((0 : ℝ) : EReal) from rfl]
    rw [← EReal.coe_sub, ← EReal.coe_mul, ← EReal.coe_add, ← EReal.coe_mul, ← EReal.coe_sub, ← EReal.coe_neg, key]

/-- The logarithm of the decay is at most zero: a nonnegative number times the negated softplus. -/
theorem log_decay_nonpos {r s : EReal} (hr : 0 ≤ r) (hs : 0 ≤ s) : r * -s ≤ 0 := by
  rw [mul_comm, EReal.neg_mul, EReal.neg_le, neg_zero]
  exact mul_nonneg hs hr

/-- The softplus is nonnegative. -/
theorem softplus_nonneg (x : EReal) (y : EReal) : 0 ≤ max x 0 + Ideal.log1p (Ideal.exp y) := by
  refine add_nonneg (le_max_right _ _) ?_
  unfold Ideal.log1p
  induction y with
  | bot =>
    rw [Ideal.exp_bot, add_zero, show (1 : EReal) = ((1 : ℝ) : EReal) from rfl, Ideal.log_coe, if_neg (by norm_num), Real.log_one]
    rfl
  | top => rw [Ideal.exp_top, show (1 : EReal) + ⊤ = ⊤ from EReal.coe_add_top 1, Ideal.log_top]; exact le_top
  | coe r =>
    rw [Ideal.exp_coe, show (1 : EReal) = ((1 : ℝ) : EReal) from rfl, ← EReal.coe_add]
    have h : (1 : ℝ) ≤ 1 + Real.exp r := by linarith [Real.exp_pos r]
    rw [Ideal.log_coe, if_neg (by linarith)]
    exact EReal.coe_nonneg.mpr (Real.log_nonneg h)

/-- The exponential of a nonpositive number is a nonnegative real. -/
theorem exp_decay {x : EReal} (hx : x ≤ 0) : 0 ≤ Ideal.exp x ∧ Ideal.exp x ≠ ⊤ := by
  induction x with
  | bot => simp
  | top => exact absurd hx (by simp)
  | coe r =>
    rw [Ideal.exp_coe]
    exact ⟨by exact_mod_cast (Real.exp_pos r).le, EReal.coe_ne_top _⟩

/-- The logistic function is nonnegative. -/
theorem logistic_nonneg (x : EReal) : 0 ≤ Ideal.logistic x := by
  induction x with
  | bot => simp
  | top => simp
  | coe r =>
    simp only [Ideal.logistic_coe]
    exact_mod_cast (by positivity)

end Cert.LruMath

end
-- ==== Proof.LruRefRun.lean ====
/-
  The reference's loop: one trip takes the state one step of the recurrence on and stores it, so after the 4224 trips row t of the
  stored array is the state after t + 1 steps.
-/
module

public import proofs.«01_k».proof.Proof.LruMath
public import proofs.«01_k».proof.Proof.Gen.LruRefIdeal.Run
public import proofs.«01_k».proof.Proof.Gen.LruRefIdeal.Step
public import Idealize.ShloMosaic.Lib.Pointwise
public import Idealize.ShloMosaic.Lib.WordCmp
public import Idealize.ShloMosaic.Lib.DynamicIndex
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.LruRefIdeal.Proof

open Cert.LruRefIdeal Cert.LruRefIdeal.Gen Cert.LruRefIdeal.Value Cert.LruMath

/-- Column `(p, q)` of a time-major array as a sequence. -/
def col (A : FVec Ideal S4224x4x2560 .f32) (p : Fin 4) (q : Fin 2560) (t : ℕ) : EReal :=
  if h : t < 4224 then A (ix3 ⟨t, h⟩ p q) else 0

variable (A B : FVec Ideal S4224x4x2560 .f32)

/-- What the buffers hold before trip `n`. -/
structure At (V : Valuation τ sig (Elt Ideal)) (n : ℕ) : Prop where
  decay : V (Proc.devRef .tc main_v92_0) = A
  drive : V (Proc.devRef .tc main_v92_1) = B
  count : V (Proc.devRef .tc main_v92_2) = constantI S_ 32 (BitVec.ofNat 32 n)
  state : ∀ p q, (V (Proc.devRef .tc main_v92_3) : FVec Ideal S4x2560 .f32) (ix2 p q) = run (col A p q) (col B p q) 0 0 n
  stored : ∀ (t : Fin 4224) p q, t.val < n →
    (V (Proc.devRef .tc main_v92_4) : FVec Ideal S4224x4x2560 .f32) (ix3 t p q) = run (col A p q) (col B p q) 0 0 (t.val + 1)

variable {A B}

/-- Where a trip reads and writes: its number along the time axis. -/
abbrev here (n : ℕ) : Fin 3 → ℤ := fun k => (((![constantI S_ 32 (BitVec.ofNat 32 n), constantI S_ 32 0#32, constantI S_ 32 0#32] : Fin 3 → (⟨S_, .i32⟩ : BufTy).Contents (Elt Ideal))) k (Shape.Idx.first h_S_)).toInt

theorem here_eq {n : ℕ} (hn : n < 4224) (a : Fin 3) : here n a = ((![n, 0, 0] : Fin 3 → ℕ) a : ℤ) := by
  fin_cases a
  · exact toInt_ofNat_of_lt (by omega)
  · rfl
  · rfl

theorem fits {n : ℕ} (hn : n < 4224) : S4224x4x2560.Slices ![n, 0, 0] S1x4x2560 := by
  refine ⟨rfl, fun a => ?_⟩
  fin_cases a
  · show n + 1 ≤ 4224
    omega
  · show 0 + 4 ≤ 4
    omega
  · show 0 + 2560 ≤ 2560
    omega

/-- One row read at the counter. -/
theorem row_at (X : FVec Ideal S4224x4x2560 .f32) {n : ℕ} (hn : n < 4224) (p : Fin 4) (q : Fin 2560) :
    shapeCast S4x2560 (Host.dynamicSlice S1x4x2560 X (here n) sliceFits_S4224x4x2560_S1x4x2560) shapeCasts_S1x4x2560_S4x2560 (ix2 p q)
      = col X p q n := by
  rw [WordCmp.dynamicSlice_eq_extract S1x4x2560 X (here n) sliceFits_S4224x4x2560_S1x4x2560 ![n, 0, 0] (fits hn) (here_eq hn)]
  pointwise
  unfold col
  rw [dif_pos hn]

/-- One trip's state. -/
theorem state_at (A B : FVec Ideal S4224x4x2560 .f32) (S : FVec Ideal S4x2560 .f32) {n : ℕ} (hn : n < 4224) (p : Fin 4) (q : Fin 2560) :
    addf (mulf (shapeCast S4x2560 (Host.dynamicSlice S1x4x2560 A (here n) sliceFits_S4224x4x2560_S1x4x2560) shapeCasts_S1x4x2560_S4x2560) S)
      (shapeCast S4x2560 (Host.dynamicSlice S1x4x2560 B (here n) sliceFits_S4224x4x2560_S1x4x2560) shapeCasts_S1x4x2560_S4x2560) (ix2 p q)
      = col A p q n * S (ix2 p q) + col B p q n := by
  rw [← row_at A hn p q, ← row_at B hn p q]
  rfl

/-- One trip's array. -/
theorem stored_at (O : FVec Ideal S4224x4x2560 .f32) (S : FVec Ideal S4x2560 .f32) {n : ℕ} (hn : n < 4224) (t : Fin 4224) (p : Fin 4) (q : Fin 2560) :
    Host.dynamicUpdateSlice O (broadcastInDim S1x4x2560 ![1, 2] bcast_S4x2560_S1x4x2560_1_2 S) (here n) updateFits_S4224x4x2560_S1x4x2560 (ix3 t p q)
      = if t.val = n then S (ix2 p q) else O (ix3 t p q) := by
  rw [WordCmp.dynamicUpdateSlice_eq_update O _ (here n) updateFits_S4224x4x2560_S1x4x2560 ![n, 0, 0] (fits hn) (here_eq hn)]
  pointwise
  by_cases h : t.val = n
  · rw [if_pos h]
    rw [dif_pos (by omega)]
  · rw [if_neg h, dif_neg (by omega)]

theorem next_state {V : Valuation τ sig (Elt Ideal)} {n : ℕ} (hn : n < 4224) (h : At A B V n) (p : Fin 4) (q : Fin 2560) :
    (res_main_while0b_v115 V : FVec Ideal S4x2560 .f32) (ix2 p q) = run (col A p q) (col B p q) 0 0 (n + 1) := by
  unfold res_main_while0b_v115
  rw [h.decay, h.drive, h.count]
  refine (state_at A B _ hn p q).trans ?_
  rw [h.state p q]
  show _ = col A p q (0 + n) * _ + col B p q (0 + n)
  rw [Nat.zero_add]

/-- One trip keeps it. -/
theorem At.next {V : Valuation τ sig (Elt Ideal)} {n : ℕ} (hn : n < 4224) (h : At A B V n) : At A B (STEP V) (n + 1) where
  decay := (STEP_main_v92_0 V).trans h.decay
  drive := (STEP_main_v92_1 V).trans h.drive
  count := by
    rw [STEP_main_v92_2 V]
    unfold step_main_v92_2
    rw [h.count]
    funext i
    show BitVec.ofNat 32 n + 1#32 = BitVec.ofNat 32 (n + 1)
    simp only [BitVec.ofNat_add]
  state p q := by
    rw [STEP_main_v92_3 V]
    exact next_state hn h p q
  stored t p q ht := by
    rw [STEP_main_v92_4 V]
    unfold step_main_v92_4
    rw [h.count]
    refine (stored_at (V (Proc.devRef .tc main_v92_4)) (res_main_while0b_v115 V) hn t p q).trans ?_
    by_cases e : t.val = n
    · rw [if_pos e, e]
      exact next_state hn h p q
    · rw [if_neg e]
      exact h.stored t p q (by omega)

end Cert.LruRefIdeal.Proof

end
-- ==== Proof.LruRefGates.lean ====
/-
  The recurrence's decay and drive as the reference computes them, element by element, over its convolved activations; and the result it makes of the stored states.
-/
module

public import proofs.«01_k».proof.Proof.LruRefRun

@[expose] public section

set_option maxRecDepth 16384
set_option maxHeartbeats 1000000

noncomputable section

open Idealize.ShloMosaic Idealize.ShloMosaic.TcCoe Idealize.SL.Sem Idealize.ShloMosaic.StableHlo

namespace Cert.LruMath

/-- The softplus as both programs spell it. -/
def softplus (y : EReal) : EReal := max y 0 + Ideal.log1p (Ideal.exp (-(FloatOps.absf (F := Ideal) (φ := .f32) y : EReal)))

/-- The logarithm of the decay, of the gate's preactivation and the negated parameter. -/
def logA (s y : EReal) : EReal := Ideal.ofBits FTy.f32 1090519040#32 * Ideal.logistic s * -(softplus y)

/-- What a step adds, of the decay's logarithm, the input gate's preactivation and the convolved activation. -/
def drive (l g x : EReal) : EReal := Ideal.sqrt (-(Ideal.expm1 (2 * l))) * (Ideal.logistic g * x)

theorem eight : Ideal.ofBits FTy.f32 1090519040#32 = ((8 : ℝ) : EReal) := by norm_num [Ideal.ofBits, Ideal.ieee, Nat.shiftRight_eq_div_pow, show BitVec.extractLsb' 31 1 1090519040#32 = 0#1 from by decide, show BitVec.extractLsb' 31 1 1073741824#32 = 0#1 from by decide]

theorem two : Ideal.ofBits FTy.f32 1073741824#32 = 2 := by
  rw [show (2 : EReal) = ((2 : ℝ) : EReal) from rfl]
  norm_num [Ideal.ofBits, Ideal.ieee, Nat.shiftRight_eq_div_pow, show BitVec.extractLsb' 31 1 1090519040#32 = 0#1 from by decide, show BitVec.extractLsb' 31 1 1073741824#32 = 0#1 from by decide]

theorem zero_word : (FloatOps.sitofp FTy.f32 0#32 : Ideal .f32) = (0 : EReal) := by norm_num [FloatOps.sitofp]

/-- The decay's logarithm is at most zero. -/
theorem logA_nonpos (s y : EReal) : logA s y ≤ 0 := by
  unfold logA
  refine log_decay_nonpos (mul_nonneg ?_ (logistic_nonneg s)) (softplus_nonneg _ _)
  rw [eight]
  norm_num

end Cert.LruMath

namespace Cert.LruRefIdeal.Proof

open Cert.LruRefIdeal Cert.LruRefIdeal.Gen Cert.LruRefIdeal.Step Cert.LruMath

variable (x0 : FVec Ideal S16896x5120 .f32) (x1 : FVec Ideal S4x4x2560 .f32) (x2 : FVec Ideal S4x2560 .f32) (x3 : FVec Ideal S4x16x160x160 .f32)
  (x4 : FVec Ideal S4x2560 .f32) (x5 : FVec Ideal S4x16x160x160 .f32) (x6 x7 : FVec Ideal S4x2560 .f32)

/-- The convolved activations, the decays and the drives. -/
abbrev Conv : FVec Ideal S4x4224x2560 .f32 := A_main_v36 (F := Ideal) x0 x1 x2 x3 x4 x5 x6 x7
abbrev LogA : FVec Ideal S4x4224x2560 .f32 := A_main_v79 (F := Ideal) x0 x1 x2 x3 x4 x5 x6 x7
abbrev Decay : FVec Ideal S4224x4x2560 .f32 := A_main_v89 (F := Ideal) x0 x1 x2 x3 x4 x5 x6 x7
abbrev Drive : FVec Ideal S4224x4x2560 .f32 := A_main_v90 (F := Ideal) x0 x1 x2 x3 x4 x5 x6 x7

variable (t : Fin 4224) (p : Fin 4) (q : Fin 2560)

theorem log_at : LogA x0 x1 x2 x3 x4 x5 x6 x7 (ix3 p t q)
    = logA (∑ x : Fin 160, x5 (ix4 1 ⟨q.val / 160, by omega⟩ x ⟨q.val % 160, by omega⟩) * Conv x0 x1 x2 x3 x4 x5 x6 x7 (ix3 p t ⟨q.val / 160 * 160 + x.val, by omega⟩) + x6 (ix2 1 q)) (-(x7 (ix2 1 q))) := by
  unfold logA softplus Ideal.logistic LogA Conv
  pointwise [K_main_c, K_main_call0_v0, K_main_cst, K_main_v11, K_main_cst_0, K_main_v50, K_main_cst_1, K_main_v52, K_main_cst_2, K_main_v66, K_main_cst_3, K_main_v68, K_main_cst_4, K_main_v70, K_main_call1_cst, K_main_call1_v0, K_main_call1_v2, K_main_call1_v5, K_main_cst_5, K_main_v81, K_main_cst_6, K_main_v88, K_main_cst_7, K_main_v91, K_main_c_8, A_main_v0, A_main_v1, A_main_v2, A_main_v3, A_main_v4, A_main_v5, A_main_v6, A_main_v7, A_main_v8, A_main_v9, A_main_v10, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v51, A_main_v53, A_main_v54, A_main_v55, A_main_v56, A_main_v57, A_main_v58, A_main_v59, A_main_v60, A_main_v61, A_main_v62, A_main_v63, A_main_v64, A_main_v65, A_main_v67, A_main_v69, A_main_v71, A_main_v72, A_main_v73, A_main_v74, A_main_call1_v1, A_main_call1_v3, A_main_call1_v4, A_main_call1_v6, A_main_call1_v7, A_main_call1_v8, A_main_call1_v9, A_main_call1_v10, A_main_call1_v11, A_main_v75, A_main_v76, A_main_v77, A_main_v78, A_main_v79, A_main_v80, A_main_v82, A_main_v83, A_main_v84, A_main_v85, A_main_v86, A_main_v87, A_main_v89, A_main_v90]
  simp only [ne_eq, not_true_eq_false, if_false]

theorem decay_at : Decay x0 x1 x2 x3 x4 x5 x6 x7 (ix3 t p q) = Ideal.exp (LogA x0 x1 x2 x3 x4 x5 x6 x7 (ix3 p t q)) := by
  unfold LogA Decay
  pointwise [A_main_v89, A_main_v80]

theorem drive_at : Drive x0 x1 x2 x3 x4 x5 x6 x7 (ix3 t p q) = drive (LogA x0 x1 x2 x3 x4 x5 x6 x7 (ix3 p t q))
    (∑ x : Fin 160, x3 (ix4 1 ⟨q.val / 160, by omega⟩ x ⟨q.val % 160, by omega⟩) * Conv x0 x1 x2 x3 x4 x5 x6 x7 (ix3 p t ⟨q.val / 160 * 160 + x.val, by omega⟩) + x4 (ix2 1 q))
    (Conv x0 x1 x2 x3 x4 x5 x6 x7 (ix3 p t q)) := by
  unfold drive Ideal.logistic Ideal.expm1 LogA Conv Drive
  pointwise [K_main_c, K_main_call0_v0, K_main_cst, K_main_v11, K_main_cst_0, K_main_v50, K_main_cst_1, K_main_v52, K_main_cst_2, K_main_v66, K_main_cst_3, K_main_v68, K_main_cst_4, K_main_v70, K_main_call1_cst, K_main_call1_v0, K_main_call1_v2, K_main_call1_v5, K_main_cst_5, K_main_v81, K_main_cst_6, K_main_v88, K_main_cst_7, K_main_v91, K_main_c_8, A_main_v0, A_main_v1, A_main_v2, A_main_v3, A_main_v4, A_main_v5, A_main_v6, A_main_v7, A_main_v8, A_main_v9, A_main_v10, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v51, A_main_v53, A_main_v54, A_main_v55, A_main_v56, A_main_v57, A_main_v58, A_main_v59, A_main_v60, A_main_v61, A_main_v62, A_main_v63, A_main_v64, A_main_v65, A_main_v67, A_main_v69, A_main_v71, A_main_v72, A_main_v73, A_main_v74, A_main_call1_v1, A_main_call1_v3, A_main_call1_v4, A_main_call1_v6, A_main_call1_v7, A_main_call1_v8, A_main_call1_v9, A_main_call1_v10, A_main_call1_v11, A_main_v75, A_main_v76, A_main_v77, A_main_v78, A_main_v80, A_main_v82, A_main_v83, A_main_v84, A_main_v85, A_main_v86, A_main_v87, A_main_v89, A_main_v90]
  rw [two]

/-- The activation `d` rows back, zero before the batch's first row. -/
def back (d : ℕ) : EReal := if h : d ≤ t.val then x0 (ix2 ⟨p.val * 4224 + (t.val - d), by omega⟩ ⟨q.val, by omega⟩) else 0

/-- The convolution: four taps over the rows up to three back. -/
theorem conv_at : Conv x0 x1 x2 x3 x4 x5 x6 x7 (ix3 p t q) = x2 (ix2 1 q) + back x0 t p q 0 * x1 (ix3 1 0 q) + back x0 t p q 1 * x1 (ix3 1 1 q)
    + back x0 t p q 2 * x1 (ix3 1 2 q) + back x0 t p q 3 * x1 (ix3 1 3 q) := by
  unfold Conv
  pointwise [A_main_v36, K_main_c, K_main_call0_v0, K_main_cst, K_main_v11, K_main_cst_0, K_main_v50, K_main_cst_1, K_main_v52, K_main_cst_2, K_main_v66, K_main_cst_3, K_main_v68, K_main_cst_4, K_main_v70, K_main_call1_cst, K_main_call1_v0, K_main_call1_v2, K_main_call1_v5, K_main_cst_5, K_main_v81, K_main_cst_6, K_main_v88, K_main_cst_7, K_main_v91, K_main_c_8, A_main_v0, A_main_v1, A_main_v2, A_main_v3, A_main_v4, A_main_v5, A_main_v6, A_main_v7, A_main_v8, A_main_v9, A_main_v10, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v37, A_main_v38, A_main_v39, A_main_v40, A_main_v41, A_main_v42, A_main_v43, A_main_v44, A_main_v45, A_main_v46, A_main_v47, A_main_v48, A_main_v49, A_main_v51, A_main_v53, A_main_v54, A_main_v55, A_main_v56, A_main_v57, A_main_v58, A_main_v59, A_main_v60, A_main_v61, A_main_v62, A_main_v63, A_main_v64, A_main_v65, A_main_v67, A_main_v69, A_main_v71, A_main_v72, A_main_v73, A_main_v74, A_main_call1_v1, A_main_call1_v3, A_main_call1_v4, A_main_call1_v6, A_main_call1_v7, A_main_call1_v8, A_main_call1_v9, A_main_call1_v10, A_main_call1_v11, A_main_v75, A_main_v76, A_main_v77, A_main_v78, A_main_v79, A_main_v80, A_main_v82, A_main_v83, A_main_v84, A_main_v85, A_main_v86, A_main_v87, A_main_v89, A_main_v90]
  rw [← add_assoc, ← add_assoc, ← add_assoc, zero_word]
  have e1 : (if h : 3 ≤ 2 + t.val ∧ 2 + t.val - 3 < 4224 then x0 (ix2 ⟨p.val * 4224 + (2 + t.val - 3), by omega⟩ ⟨q.val, by omega⟩) else (0 : EReal)) = back x0 t p q 1 := by
    unfold back
    by_cases h : 1 ≤ t.val
    · rw [dif_pos h, dif_pos (by omega)]
      congr 3
      omega
    · rw [dif_neg h, dif_neg (by omega)]
  have e2 : (if h : 3 ≤ 1 + t.val ∧ 1 + t.val - 3 < 4224 then x0 (ix2 ⟨p.val * 4224 + (1 + t.val - 3), by omega⟩ ⟨q.val, by omega⟩) else (0 : EReal)) = back x0 t p q 2 := by
    unfold back
    by_cases h : 2 ≤ t.val
    · rw [dif_pos h, dif_pos (by omega)]
      congr 3
      omega
    · rw [dif_neg h, dif_neg (by omega)]
  have e3 : (if h : 3 ≤ t.val ∧ t.val - 3 < 4224 then x0 (ix2 ⟨p.val * 4224 + (t.val - 3), by omega⟩ ⟨q.val, by omega⟩) else (0 : EReal)) = back x0 t p q 3 := by
    unfold back
    by_cases h : 3 ≤ t.val
    · rw [dif_pos h, dif_pos (by omega)]
    · rw [dif_neg h, dif_neg (by omega)]
  rw [← e1, ← e2, ← e3]
  rfl

end Cert.LruRefIdeal.Proof

end
-- ==== Proof.LruGates.lean ====
/-
  The recurrence's gates as the kernel computes them, element by element: the contraction with the block-diagonal weights is the
  contraction with one block.
-/
module

public import proofs.«01_k».proof.Proof.LruBlocks
public import proofs.«01_k».proof.Proof.LruRefGates

@[expose] public section

set_option maxRecDepth 16384
set_option maxHeartbeats 1000000

noncomputable section

open Idealize.ShloMosaic Idealize.ShloMosaic.TcCoe Idealize.SL.Sem

namespace Cert.LruIdeal.Proof

open Cert.LruIdeal Cert.LruIdeal.Gen Cert.LruMath

variable (m : (ℓ : Loc nD τ sig) → Buf (Elt Ideal) ℓ)

/-- The other arguments. -/
abbrev inp0 (c : Dev nD) : FVec Ideal S16896x5120 .f32 := m ((c : Thread nD τ).loc main_arg0)
abbrev inp1 (c : Dev nD) : FVec Ideal S4x4x2560 .f32 := m ((c : Thread nD τ).loc main_arg1)
abbrev inp2 (c : Dev nD) : FVec Ideal S4x2560 .f32 := m ((c : Thread nD τ).loc main_arg2)
abbrev inp4 (c : Dev nD) : FVec Ideal S4x2560 .f32 := m ((c : Thread nD τ).loc main_arg4)
abbrev inp6 (c : Dev nD) : FVec Ideal S4x2560 .f32 := m ((c : Thread nD τ).loc main_arg6)
abbrev inp7 (c : Dev nD) : FVec Ideal S4x2560 .f32 := m ((c : Thread nD τ).loc main_arg7)

theorem sum_lo (c : Dev nD) (t : Fin cfg0.N) (cv : FVec Ideal S384x640 .f32) (C : Fin 2560 → EReal) (r : Fin 384) (j : Fin 640)
    (h : ∀ x, cv (ix2 r x) = C (wide t x)) :
    ∑ x : Fin 640, cv (ix2 r x) * iblk m c 3 t (ix4 0 0 x ⟨j.val, by omega⟩)
      = ∑ x : Fin 160, inp5 m c (ix4 1 ⟨(wide t j).val / 160, by omega⟩ x ⟨(wide t j).val % 160, by omega⟩) * C ⟨(wide t j).val / 160 * 160 + x.val, by omega⟩ := by
  refine (Finset.sum_congr rfl fun x _ => congrArg₂ (fun a b : EReal => a * b) (h x) ((w_at m c t x _).trans (v27_lo m c ⟨t.val / 11 % 4, by omega⟩ x j))).trans ?_
  refine (block_sum (fun x => C (wide t x)) (fun x => inp5 m c (ix4 1 ⟨t.val / 11 % 4 * 4 + x.val / 160, by omega⟩ ⟨x.val % 160, by omega⟩ ⟨j.val % 160, by omega⟩)) ⟨j.val / 160, by omega⟩).trans ?_
  refine Finset.sum_congr rfl fun x _ => ?_
  rw [mul_comm]
  have e1 : t.val / 11 % 4 * 4 + (j.val / 160 * 160 + x.val) / 160 = (t.val / 11 % 4 * 640 + j.val) / 160 := by omega
  have e2 : (j.val / 160 * 160 + x.val) % 160 = x.val := by omega
  have e3 : j.val % 160 = (t.val / 11 % 4 * 640 + j.val) % 160 := by omega
  have e4 : t.val / 11 % 4 * 640 + (j.val / 160 * 160 + x.val) = (t.val / 11 % 4 * 640 + j.val) / 160 * 160 + x.val := by omega
  simp only [e1, e2, e3, e4, wide]

theorem sum_hi (c : Dev nD) (t : Fin cfg0.N) (cv : FVec Ideal S384x640 .f32) (C : Fin 2560 → EReal) (r : Fin 384) (j : Fin 640)
    (h : ∀ x, cv (ix2 r x) = C (wide t x)) :
    ∑ x : Fin 640, cv (ix2 r x) * iblk m c 3 t (ix4 0 0 x ⟨640 + j.val, by omega⟩)
      = ∑ x : Fin 160, inp3 m c (ix4 1 ⟨(wide t j).val / 160, by omega⟩ x ⟨(wide t j).val % 160, by omega⟩) * C ⟨(wide t j).val / 160 * 160 + x.val, by omega⟩ := by
  refine (Finset.sum_congr rfl fun x _ => congrArg₂ (fun a b : EReal => a * b) (h x) ((w_at m c t x _).trans (v27_hi m c ⟨t.val / 11 % 4, by omega⟩ x j))).trans ?_
  refine (block_sum (fun x => C (wide t x)) (fun x => inp3 m c (ix4 1 ⟨t.val / 11 % 4 * 4 + x.val / 160, by omega⟩ ⟨x.val % 160, by omega⟩ ⟨j.val % 160, by omega⟩)) ⟨j.val / 160, by omega⟩).trans ?_
  refine Finset.sum_congr rfl fun x _ => ?_
  rw [mul_comm]
  have e1 : t.val / 11 % 4 * 4 + (j.val / 160 * 160 + x.val) / 160 = (t.val / 11 % 4 * 640 + j.val) / 160 := by omega
  have e2 : (j.val / 160 * 160 + x.val) % 160 = x.val := by omega
  have e3 : j.val % 160 = (t.val / 11 % 4 * 640 + j.val) % 160 := by omega
  have e4 : t.val / 11 % 4 * 640 + (j.val / 160 * 160 + x.val) = (t.val / 11 % 4 * 640 + j.val) / 160 * 160 + x.val := by omega
  simp only [e1, e2, e3, e4, wide]

theorem kernel_log (P : FVec Ideal S1x8x640 .f32) (cv : FVec Ideal S384x640 .f32) (w : FVec Ideal S1x1x640x1280 .bf16) (r : Fin 384) (j : Fin 640) :
    k0_pay12 (k0_pay6 P) (k0_pay8 P) cv w (ix2 r j)
      = logA (∑ x : Fin 640, cv (ix2 r x) * w (ix4 0 0 x ⟨j.val, by omega⟩) + P (ix3 0 1 j)) (-(P (ix3 0 3 j))) := by
  unfold logA softplus
  pointwise [k0_pay12, k0_pay11, k0_pay6, k0_pay7, k0_pay5, k0_pay8]
  simp only [ne_eq, not_true_eq_false, if_false, zero_sub]

theorem input_bias (P : FVec Ideal S1x8x640 .f32) (j : Fin 640) : k0_pay7 P (ix2 0 j) = P (ix3 0 2 j) := by
  pointwise [k0_pay7, k0_pay5]

theorem kernel_drive (v10 v11 v12 : FVec Ideal S1x640 .f32) (cv : FVec Ideal S384x640 .f32) (w : FVec Ideal S1x1x640x1280 .bf16) (r : Fin 384) (j : Fin 640) :
    k0_pay14 v10 v11 v12 cv w (ix2 r j)
      = drive (k0_pay12 v10 v12 cv w (ix2 r j)) (∑ x : Fin 640, cv (ix2 r x) * w (ix4 0 0 x ⟨640 + j.val, by omega⟩) + v11 (ix2 0 j)) (cv (ix2 r j)) := by
  unfold drive
  rw [← one_sub_sq]
  pointwise [k0_pay14, k0_pay13, k0_pay11]

theorem kernel_decay (v10 v12 : FVec Ideal S1x640 .f32) (cv : FVec Ideal S384x640 .f32) (w : FVec Ideal S1x1x640x1280 .bf16) (r : Fin 384) (j : Fin 640) :
    k0_pay13 v10 v12 cv w (ix2 r j) = Ideal.exp (k0_pay12 v10 v12 cv w (ix2 r j)) := by
  pointwise [k0_pay13]

open Cert.LruRefIdeal.Proof in
/-- Over the reference's convolved activations, the kernel's decays and drives are the reference's. -/
theorem gates (c : Dev nD) (t : Fin cfg0.N) (cv : FVec Ideal S384x640 .f32) (T : Fin 4224) (p : Fin 4) (r : Fin 384) (j : Fin 640)
    (h : ∀ x, cv (ix2 r x) = Conv (inp0 m c) (inp1 m c) (inp2 m c) (inp3 m c) (inp4 m c) (inp5 m c) (inp6 m c) (inp7 m c) (ix3 p T (wide t x))) :
    k0_pay13 (k0_pay6 (iblk m c 2 t)) (k0_pay8 (iblk m c 2 t)) cv (iblk m c 3 t) (ix2 r j)
        = Decay (inp0 m c) (inp1 m c) (inp2 m c) (inp3 m c) (inp4 m c) (inp5 m c) (inp6 m c) (inp7 m c) (ix3 T p (wide t j))
    ∧ k0_pay14 (k0_pay6 (iblk m c 2 t)) (k0_pay7 (iblk m c 2 t)) (k0_pay8 (iblk m c 2 t)) cv (iblk m c 3 t) (ix2 r j)
        = Drive (inp0 m c) (inp1 m c) (inp2 m c) (inp3 m c) (inp4 m c) (inp5 m c) (inp6 m c) (inp7 m c) (ix3 T p (wide t j)) := by
  have hl : k0_pay12 (k0_pay6 (iblk m c 2 t)) (k0_pay8 (iblk m c 2 t)) cv (iblk m c 3 t) (ix2 r j)
      = LogA (inp0 m c) (inp1 m c) (inp2 m c) (inp3 m c) (inp4 m c) (inp5 m c) (inp6 m c) (inp7 m c) (ix3 p T (wide t j)) := by
    refine (kernel_log (iblk m c 2 t) cv (iblk m c 3 t) r j).trans (Eq.trans ?_ (log_at (inp0 m c) (inp1 m c) (inp2 m c) (inp3 m c) (inp4 m c) (inp5 m c) (inp6 m c) (inp7 m c) T p (wide t j)).symm)
    exact congrArg₂ logA (congrArg₂ (fun a b : EReal => a + b) (sum_lo m c t cv (fun q => Conv (inp0 m c) (inp1 m c) (inp2 m c) (inp3 m c) (inp4 m c) (inp5 m c) (inp6 m c) (inp7 m c) (ix3 p T q)) r j h)
      ((p_at m c t 1 j).trans (v32_1 m c _))) (congrArg (fun a : EReal => -a) ((p_at m c t 3 j).trans (v32_3 m c _)))
  constructor
  · refine (kernel_decay _ _ cv (iblk m c 3 t) r j).trans (Eq.trans ?_ (decay_at (inp0 m c) (inp1 m c) (inp2 m c) (inp3 m c) (inp4 m c) (inp5 m c) (inp6 m c) (inp7 m c) T p (wide t j)).symm)
    exact congrArg Ideal.exp hl
  · refine (kernel_drive _ _ _ cv (iblk m c 3 t) r j).trans (Eq.trans ?_ (drive_at (inp0 m c) (inp1 m c) (inp2 m c) (inp3 m c) (inp4 m c) (inp5 m c) (inp6 m c) (inp7 m c) T p (wide t j)).symm)
    rw [hl, h j]
    refine congrArg (fun a : EReal => drive (LogA (inp0 m c) (inp1 m c) (inp2 m c) (inp3 m c) (inp4 m c) (inp5 m c) (inp6 m c) (inp7 m c) (ix3 p T (wide t j))) a (Conv (inp0 m c) (inp1 m c) (inp2 m c) (inp3 m c) (inp4 m c) (inp5 m c) (inp6 m c) (inp7 m c) (ix3 p T (wide t j)))) ?_
    exact congrArg₂ (fun a b : EReal => a + b) (sum_hi m c t cv (fun q => Conv (inp0 m c) (inp1 m c) (inp2 m c) (inp3 m c) (inp4 m c) (inp5 m c) (inp6 m c) (inp7 m c) (ix3 p T q)) r j h)
      ((input_bias (iblk m c 2 t) j).trans ((p_at m c t 2 j).trans (v32_2 m c _)))

open Cert.LruRefIdeal.Proof in
/-- The reference's decays are nonnegative reals. -/
theorem decay_ok (c : Dev nD) (T : Fin 4224) (p : Fin 4) (q : Fin 2560) :
    0 ≤ Decay (inp0 m c) (inp1 m c) (inp2 m c) (inp3 m c) (inp4 m c) (inp5 m c) (inp6 m c) (inp7 m c) (ix3 T p q)
    ∧ Decay (inp0 m c) (inp1 m c) (inp2 m c) (inp3 m c) (inp4 m c) (inp5 m c) (inp6 m c) (inp7 m c) (ix3 T p q) ≠ ⊤ := by
  rw [decay_at, log_at]
  exact exp_decay (logA_nonpos _ _)

end Cert.LruIdeal.Proof

end
-- ==== Proof.LruRows.lean ====
/-
  The kernel's row buffer: eight rows kept from the block before, then the block's 384; a load that starts `d` rows early reads the
  activation `d` rows back.
-/
module

public import proofs.«01_k».proof.Proof.LruGates

@[expose] public section

set_option maxRecDepth 16384
set_option maxHeartbeats 1000000

noncomputable section

open Idealize.ShloMosaic Idealize.ShloMosaic.TcCoe Idealize.SL.Sem

namespace Cert.LruIdeal.Proof

open Cert.LruIdeal Cert.LruIdeal.Gen Cert.LruMath

/-- The buffer's first eight rows and its other 384. -/
abbrev kept : Rect S392x640 := Rect.unit (s := S392x640) ![0, 0] ![8, 640] inb_S392x640_S8x640_0_0
abbrev fresh : Rect S392x640 := Rect.unit (s := S392x640) ![8, 0] ![384, 640] inb_S392x640_S384x640_8_0

theorem kept_at (i : Fin 8) (j : Fin 640) : (ix2 ⟨i.val, by omega⟩ j : S392x640.Idx) = kept.emb (ix2 i j : S8x640.Idx) := by
  funext a; apply Fin.ext
  fin_cases a
  · show i.val = 0 + 1 * i.val; omega
  · show j.val = 0 + 1 * j.val; omega

theorem fresh_at (i : Fin 384) (j : Fin 640) : (ix2 ⟨8 + i.val, by omega⟩ j : S392x640.Idx) = fresh.emb (ix2 i j : S384x640.Idx) := by
  funext a; apply Fin.ext
  fin_cases a
  · show 8 + i.val = 8 + 1 * i.val; omega
  · show j.val = 0 + 1 * j.val; omega

theorem not_fresh (i : Fin 8) (j : Fin 640) : (ix2 ⟨i.val, by omega⟩ j : S392x640.Idx) ∉ fresh.set := by
  intro h
  have h0 : 8 ≤ i.val := (Rect.mem_set_unit.mp h 0).1
  omega

/-- Reading the buffer after the block's rows are stored: its own rows, -/
theorem new_rows (f : cc0_scratch0.ty.Contents (Elt Ideal)) (x : FVec Ideal S384x640 .f32) (L : List (View.Piece (Elt Ideal) S392x640 .f32)) (i : Fin 384) (j : Fin 640) :
    View.read (Elt Ideal) (View.whole cc0_scratch0) ((View.whole cc0_scratch0).writes (Elt Ideal) f (⟨fresh, x⟩ :: L)) (ix2 ⟨8 + i.val, by omega⟩ j) = x (ix2 i j) := by
  rw [fresh_at]
  exact View.read_writes_cons_emb _ _ _ _ _ _

/-- and the rows kept from before. -/
theorem old_rows (f : cc0_scratch0.ty.Contents (Elt Ideal)) (x : FVec Ideal S384x640 .f32) (L : List (View.Piece (Elt Ideal) S392x640 .f32)) (i : Fin 8) (j : Fin 640) :
    View.read (Elt Ideal) (View.whole cc0_scratch0) ((View.whole cc0_scratch0).writes (Elt Ideal) f (⟨fresh, x⟩ :: L)) (ix2 ⟨i.val, by omega⟩ j)
      = View.read (Elt Ideal) (View.whole cc0_scratch0) ((View.whole cc0_scratch0).writes (Elt Ideal) f L) (ix2 ⟨i.val, by omega⟩ j) := by
  rw [View.writes_cons, View.read_slice_write_of_not_mem]
  rw [Rect.map_emb_univ]
  exact not_fresh i j

variable (m : (ℓ : Loc nD τ sig) → Buf (Elt Ideal) ℓ)

theorem tail_rows (x : FVec Ideal S384x640 .f32) (i : Fin 8) (j : Fin 640) : k0_pay10 x (ix2 i j) = x (ix2 ⟨376 + i.val, by omega⟩ j) := by
  pointwise [k0_pay10]

theorem same_rows (x : FVec Ideal S384x640 .f32) : k0_pay4 x = x := by
  funext y
  pointwise [k0_pay4]

/-- After every point the kept rows are the last eight of its block. -/
theorem kept_rows (c : Dev nD) (t : Fin cfg0.N) (i : Fin 8) (j : Fin 640) :
    (outsAt0 m c t.val t.isLt).2.1 (ix2 ⟨i.val, by omega⟩ j) = iblk m c 0 t (ix2 ⟨376 + i.val, by omega⟩ j) := by
  by_cases h0 : t.val % 11 = 0
  · rw [outsAt0_A m c t h0]
    frame_out
    rw [kept_at]
    exact (View.canon_cons_emb _ _ _ _).trans (tail_rows _ i j)
  · rw [outsAt0_B m c t h0]
    frame_out
    rw [kept_at]
    exact (View.canon_cons_emb _ _ _ _).trans (tail_rows _ i j)

/-- The batch a point belongs to and the row's place along the batch. -/
abbrev batch (t : Fin cfg0.N) : Fin 4 := ⟨t.val / 44, by have := lt176 t; omega⟩
abbrev time (t : Fin cfg0.N) (r : Fin 384) : Fin 4224 := ⟨t.val % 11 * 384 + r.val, by omega⟩

open Cert.LruRefIdeal.Proof in
/-- The block's own rows as activations `d` rows back, -/
theorem back_new (c : Dev nD) (t : Fin cfg0.N) (r : Fin 384) (j : Fin 640) (d : ℕ) (h : d ≤ r.val) :
    iblk m c 0 t (ix2 ⟨r.val - d, by omega⟩ j) = back (inp0 m c) (time t r) (batch t) (wide t j) d := by
  have hd : d ≤ t.val % 11 * 384 + r.val := by omega
  unfold back
  rw [dif_pos hd, x_at]
  have e : (t.val / 44 * 11 + t.val % 11) * 384 + (r.val - d) = t.val / 44 * 4224 + (t.val % 11 * 384 + r.val - d) := by omega
  simp only [row, wide, e]

open Cert.LruRefIdeal.Proof in
/-- and the block's before, -/
theorem back_old (c : Dev nD) (t : Fin cfg0.N) (h0 : ¬ t.val % 11 = 0) (r : Fin 384) (j : Fin 640) (d : ℕ) (h : r.val < d) (hd : d ≤ 8) :
    iblk m c 0 ⟨t.val - 1, by have := t.isLt; omega⟩ (ix2 ⟨376 + (8 - d + r.val), by omega⟩ j) = back (inp0 m c) (time t r) (batch t) (wide t j) d := by
  have hd : d ≤ t.val % 11 * 384 + r.val := by omega
  unfold back
  rw [dif_pos hd, x_at]
  have e : ((t.val - 1) / 44 * 11 + (t.val - 1) % 11) * 384 + (376 + (8 - d + r.val)) = t.val / 44 * 4224 + (t.val % 11 * 384 + r.val - d) := by omega
  have e' : (t.val - 1) / 11 % 4 = t.val / 11 % 4 := by omega
  simp only [wide, row, e, e']

open Cert.LruRefIdeal.Proof in
/-- zero before the batch's first. -/
theorem back_none (c : Dev nD) (t : Fin cfg0.N) (h0 : t.val % 11 = 0) (r : Fin 384) (j : Fin 640) (d : ℕ) (h : r.val < d) :
    0 = back (inp0 m c) (time t r) (batch t) (wide t j) d := by
  have hd : ¬ d ≤ t.val % 11 * 384 + r.val := by omega
  unfold back
  rw [dif_neg hd]

open Cert.LruRefIdeal.Proof in
/-- A load of the buffer at a later point of the batch, starting `d` rows early. -/
theorem load_later (c : Dev nD) (t : Fin cfg0.N) (h0 : ¬ t.val % 11 = 0) (d : ℕ) (hd : d ≤ 8) (inb : ∀ a, (![8 - d, 0] : Fin 2 → ℕ) a + (![384, 640] : Fin 2 → ℕ) a ≤ S392x640.size a)
    (f : cc0_scratch0.ty.Contents (Elt Ideal))
    (hf : View.read (Elt Ideal) (View.whole cc0_scratch0) f = (outsAt0 m c (t.val - 1) (Nat.lt_of_le_of_lt (Nat.sub_le _ _) t.isLt)).2.1) (r : Fin 384) (j : Fin 640) :
    View.ld (View.read (Elt Ideal) (View.whole cc0_scratch0) ((View.whole cc0_scratch0).writes (Elt Ideal) f [⟨fresh, k0_pay4 (iblk m c 0 t)⟩]))
      (Rect.unit (s := S392x640) ![8 - d, 0] ![384, 640] inb) (ix2 r j)
      = back (inp0 m c) (time t r) (batch t) (wide t j) d := by
  have hr := r.isLt
  by_cases h : d ≤ r.val
  · rw [← back_new m c t r j d h]
    have e : (Rect.unit (s := S392x640) ![8 - d, 0] ![384, 640] inb).idx (ix2 r j) = ix2 ⟨8 + (r.val - d), by omega⟩ j := by
      funext a; apply Fin.ext
      fin_cases a
      · show 8 - d + 1 * r.val = 8 + (r.val - d); omega
      · show 0 + 1 * j.val = j.val; omega
    refine (congrArg _ e).trans ((new_rows f _ [] ⟨r.val - d, by omega⟩ j).trans ?_)
    rw [same_rows]
  · rw [← back_old m c t h0 r j d (by omega) hd]
    have e : (Rect.unit (s := S392x640) ![8 - d, 0] ![384, 640] inb).idx (ix2 r j) = ix2 ⟨8 - d + r.val, by omega⟩ j := by
      funext a; apply Fin.ext
      fin_cases a
      · show 8 - d + 1 * r.val = 8 - d + r.val; omega
      · show 0 + 1 * j.val = j.val; omega
    refine (congrArg _ e).trans ((old_rows f _ [] ⟨8 - d + r.val, by omega⟩ j).trans ?_)
    rw [View.writes_nil, hf]
    exact kept_rows m c ⟨t.val - 1, _⟩ ⟨8 - d + r.val, by omega⟩ j

open Cert.LruRefIdeal.Proof in
/-- And at the batch's first point, where the kept rows are zeroed. -/
theorem load_first (c : Dev nD) (t : Fin cfg0.N) (h0 : t.val % 11 = 0) (d : ℕ) (hd : d ≤ 8) (inb : ∀ a, (![8 - d, 0] : Fin 2 → ℕ) a + (![384, 640] : Fin 2 → ℕ) a ≤ S392x640.size a)
    (r : Fin 384) (j : Fin 640) :
    (View.whole cc0_scratch0).readCov (Val := Elt Ideal) [⟨fresh, k0_pay4 (iblk m c 0 t)⟩, ⟨kept, k0_pay2 (F := Ideal)⟩]
      (Rect.unit (s := S392x640) ![8 - d, 0] ![384, 640] inb).toLoadRect (ix2 r j)
      = back (inp0 m c) (time t r) (batch t) (wide t j) d := by
  have hr := r.isLt
  by_cases h : d ≤ r.val
  · rw [← back_new m c t r j d h]
    have e : (Rect.unit (s := S392x640) ![8 - d, 0] ![384, 640] inb).idx (ix2 r j) = ix2 ⟨8 + (r.val - d), by omega⟩ j := by
      funext a; apply Fin.ext
      fin_cases a
      · show 8 - d + 1 * r.val = 8 + (r.val - d); omega
      · show 0 + 1 * j.val = j.val; omega
    refine (congrArg _ e).trans ((new_rows (View.whole cc0_scratch0).junk _ _ ⟨r.val - d, by omega⟩ j).trans ?_)
    rw [same_rows]
  · rw [← back_none m c t h0 r j d (by omega)]
    have e : (Rect.unit (s := S392x640) ![8 - d, 0] ![384, 640] inb).idx (ix2 r j) = ix2 ⟨8 - d + r.val, by omega⟩ j := by
      funext a; apply Fin.ext
      fin_cases a
      · show 8 - d + 1 * r.val = 8 - d + r.val; omega
      · show 0 + 1 * j.val = j.val; omega
    refine (congrArg _ e).trans ((old_rows (View.whole cc0_scratch0).junk _ _ ⟨8 - d + r.val, by omega⟩ j).trans ?_)
    rw [kept_at ⟨8 - d + r.val, by omega⟩ j]
    refine (View.read_writes_cons_emb _ _ _ _ _ _).trans ?_
    pointwise [k0_pay2]

open Cert.LruRefIdeal.Proof in
/-- Over loads that read the activations one, two and three rows back, the kernel's convolution is the reference's. -/
theorem conv_ok (c : Dev nD) (t : Fin cfg0.N) (a b d : FVec Ideal S384x640 .f32)
    (ha : ∀ r j, a (ix2 r j) = back (inp0 m c) (time t r) (batch t) (wide t j) 1)
    (hb : ∀ r j, b (ix2 r j) = back (inp0 m c) (time t r) (batch t) (wide t j) 2)
    (hd : ∀ r j, d (ix2 r j) = back (inp0 m c) (time t r) (batch t) (wide t j) 3) (r : Fin 384) (j : Fin 640) :
    k0_pay9 (iblk m c 0 t) (iblk m c 2 t) a b d (ix2 r j)
      = Conv (inp0 m c) (inp1 m c) (inp2 m c) (inp3 m c) (inp4 m c) (inp5 m c) (inp6 m c) (inp7 m c) (ix3 (batch t) (time t r) (wide t j)) := by
  have k9 : ∀ (x : FVec Ideal S384x640 .f32) (P : FVec Ideal S1x8x640 .f32), k0_pay9 x P a b d (ix2 r j)
      = P (ix3 0 0 j) + x (ix2 r j) * P (ix3 0 4 j) + a (ix2 r j) * P (ix3 0 5 j) + b (ix2 r j) * P (ix3 0 6 j) + d (ix2 r j) * P (ix3 0 7 j) := by
    intro x P
    pointwise [k0_pay9, k0_pay5]
  refine (k9 _ _).trans ?_
  rw [conv_at, ha, hb, hd, p_at, p_at, p_at, p_at, p_at, v32_0, v32_4, v32_5, v32_6, v32_7]
  exact congrArg (fun z : EReal => inp2 m c (ix2 1 (wide t j)) + z * inp1 m c (ix3 1 0 (wide t j)) + back (inp0 m c) (time t r) (batch t) (wide t j) 1 * inp1 m c (ix3 1 1 (wide t j))
    + back (inp0 m c) (time t r) (batch t) (wide t j) 2 * inp1 m c (ix3 1 2 (wide t j)) + back (inp0 m c) (time t r) (batch t) (wide t j) 3 * inp1 m c (ix3 1 3 (wide t j)))
    (back_new m c t r j 0 (Nat.zero_le _))

end Cert.LruIdeal.Proof

end
-- ==== Proof.LruScan.lean ====
/-
  Three shift-and-combine rounds inside groups of eight rows: after them row t of the two arrays stands for the steps of the
  recurrence from the start of t's group up to t.
-/
module

public import proofs.«01_k».proof.Proof.LruMath
public import proofs.«01_k».proof.Proof.Gen.LruIdeal.Skeleton
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LruIdeal.Proof

open Cert.LruIdeal Cert.LruIdeal.Gen Cert.LruMath

/-- A row's place in its group, as the program computes it. -/
theorem mod8 (v : ℕ) : IntOp.andi (BitVec.ofNat 32 v) 7#32 = BitVec.ofNat 32 (v % 8) := by
  refine BitVec.eq_of_toNat_eq ?_
  show ((BitVec.ofNat 32 v) &&& 7#32).toNat = _
  rw [BitVec.toNat_and, BitVec.toNat_ofNat, BitVec.toNat_ofNat, BitVec.toNat_ofNat, show (7 % 2 ^ 32 : ℕ) = 2 ^ 3 - 1 from rfl, Nat.and_two_pow_sub_one_eq_mod]
  omega

/-- A row's place in its group, as the program tests it: against one, -/
theorem place1 {α : Type} (v : ℕ) (x y : α) :
    Scalar.select (IntOp.cmpi CmpIPredicate.sge (IntOp.andi (BitVec.ofNat 32 v) 7#32) 1#32) x y = if 1 ≤ v % 8 then x else y := by
  rw [mod8]
  have hlt : v % 8 < 8 := Nat.mod_lt _ (by decide)
  generalize v % 8 = p at hlt ⊢
  interval_cases p <;> rfl

/-- two -/
theorem place2 {α : Type} (v : ℕ) (x y : α) :
    Scalar.select (IntOp.cmpi CmpIPredicate.sge (IntOp.andi (BitVec.ofNat 32 v) 7#32) 2#32) x y = if 2 ≤ v % 8 then x else y := by
  rw [mod8]
  have hlt : v % 8 < 8 := Nat.mod_lt _ (by decide)
  generalize v % 8 = p at hlt ⊢
  interval_cases p <;> rfl

/-- and four. -/
theorem place4 {α : Type} (v : ℕ) (x y : α) :
    Scalar.select (IntOp.cmpi CmpIPredicate.sge (IntOp.andi (BitVec.ofNat 32 v) 7#32) 4#32) x y = if 4 ≤ v % 8 then x else y := by
  rw [mod8]
  have hlt : v % 8 < 8 := Nat.mod_lt _ (by decide)
  generalize v % 8 = p at hlt ⊢
  interval_cases p <;> rfl

/-- The row numbers. -/
abbrev rows : IVec S384x640 32 := iota Kind.tc S384x640 32 [0] iota_S384x640_d0_w32

/-- The row `k` rows up (wrapping, where the program does not look). -/
abbrev up (k : ℕ) (t : Fin 384) : Fin 384 := ⟨(t.val + 384 - k) % 384, Nat.mod_lt _ (by decide)⟩

/-- An entry of a column, as a sequence. -/
def colv (X : FVec Ideal S384x640 .f32) (j : Fin 640) (t : ℕ) : EReal := if h : t < 384 then X (ix2 ⟨t, h⟩ j) else 0

variable (X Y : FVec Ideal S384x640 .f32) (t : Fin 384) (j : Fin 640)

/-- The decays after the first round, -/
theorem a1 : k0_pay18 X rows k0_pay15 (ix2 t j) = if 1 ≤ t.val % 8 then X (ix2 t j) * X (ix2 (up 1 t) j) else X (ix2 t j) := by
  rw [← place1]
  pointwise [k0_pay18, k0_pay17, k0_pay16, k0_pay15]

/-- the second -/
theorem a2 : k0_pay20 X rows k0_pay15 (ix2 t j) = if 2 ≤ t.val % 8
    then k0_pay18 X rows k0_pay15 (ix2 t j) * k0_pay18 X rows k0_pay15 (ix2 (up 2 t) j) else k0_pay18 X rows k0_pay15 (ix2 t j) := by
  rw [← place2]
  pointwise [k0_pay20, k0_pay19, k0_pay16, k0_pay15]

/-- and the third. -/
theorem a3 : k0_pay22 X rows k0_pay15 (ix2 t j) = if 4 ≤ t.val % 8
    then k0_pay20 X rows k0_pay15 (ix2 t j) * k0_pay20 X rows k0_pay15 (ix2 (up 4 t) j) else k0_pay20 X rows k0_pay15 (ix2 t j) := by
  rw [← place4]
  pointwise [k0_pay22, k0_pay21, k0_pay16, k0_pay15]

/-- The inputs after the first round, -/
def in1 : FVec Ideal S384x640 .f32 := fun i => if 1 ≤ (i 0).val % 8 then X i * Y (ix2 (up 1 (i 0)) (i 1)) + Y i else Y i

/-- the second. -/
def in2 : FVec Ideal S384x640 .f32 := fun i => if 2 ≤ (i 0).val % 8
  then k0_pay18 X rows k0_pay15 i * in1 X Y (ix2 (up 2 (i 0)) (i 1)) + in1 X Y i else in1 X Y i

theorem in1_at : in1 X Y (ix2 t j) = if 1 ≤ t.val % 8 then X (ix2 t j) * Y (ix2 (up 1 t) j) + Y (ix2 t j) else Y (ix2 t j) := rfl
theorem in2_at : in2 X Y (ix2 t j) = if 2 ≤ t.val % 8
  then k0_pay18 X rows k0_pay15 (ix2 t j) * in1 X Y (ix2 (up 2 t) j) + in1 X Y (ix2 t j) else in1 X Y (ix2 t j) := rfl

/-- and the third. -/
theorem b3 : k0_pay23 X Y rows k0_pay15 (ix2 t j) = if 4 ≤ t.val % 8
    then k0_pay20 X rows k0_pay15 (ix2 t j) * in2 X Y (ix2 (up 4 t) j) + in2 X Y (ix2 t j) else in2 X Y (ix2 t j) := by
  rw [in2_at, in2_at, in1_at, in1_at, in1_at, in1_at, ← place4, ← place2, ← place2, ← place1, ← place1, ← place1, ← place1]
  pointwise [k0_pay23, k0_pay21, k0_pay19, k0_pay17, k0_pay16, k0_pay15]

variable (hX : ∀ t, 0 ≤ X (ix2 t j) ∧ X (ix2 t j) ≠ ⊤)

include hX

/-- After the first round row `t` stands for at most two steps, -/
theorem seg1 : Seg (colv X j) (colv Y j) (t.val + 1 - min (t.val % 8 + 1) 2) (min (t.val % 8 + 1) 2)
    (k0_pay18 X rows k0_pay15 (ix2 t j)) (in1 X Y (ix2 t j)) := by
  have one : ∀ t : Fin 384, Seg (colv X j) (colv Y j) t.val 1 (X (ix2 t j)) (Y (ix2 t j)) := fun t => by
    have hx : colv X j t.val = X (ix2 t j) := dif_pos t.isLt
    have hy : colv Y j t.val = Y (ix2 t j) := dif_pos t.isLt
    have h := hX t
    rw [← hx] at h
    rw [← hx, ← hy]
    exact Seg.one h.1 h.2
  have hm : t.val % 8 ≤ t.val := Nat.mod_le _ _
  have hl := t.isLt
  rw [a1]
  show Seg _ _ _ _ _ (if 1 ≤ t.val % 8 then X (ix2 t j) * Y (ix2 (up 1 t) j) + Y (ix2 t j) else Y (ix2 t j))
  by_cases h : 1 ≤ t.val % 8
  · rw [if_pos h, if_pos h]
    have e : (up 1 t).val = t.val - 1 := by show (t.val + 384 - 1) % 384 = _; omega
    have s := one (up 1 t)
    have r := one t
    rw [e] at s
    rw [show t.val = t.val - 1 + 1 by omega] at r
    have := s.comp r
    rw [show t.val + 1 - min (t.val % 8 + 1) 2 = t.val - 1 by omega, show min (t.val % 8 + 1) 2 = 1 + 1 by omega]
    exact this
  · rw [if_neg h, if_neg h, show t.val + 1 - min (t.val % 8 + 1) 2 = t.val by omega, show min (t.val % 8 + 1) 2 = 1 by omega]
    exact one t

/-- after the second for at most four, -/
theorem seg2 : Seg (colv X j) (colv Y j) (t.val + 1 - min (t.val % 8 + 1) 4) (min (t.val % 8 + 1) 4)
    (k0_pay20 X rows k0_pay15 (ix2 t j)) (in2 X Y (ix2 t j)) := by
  have hm : t.val % 8 ≤ t.val := Nat.mod_le _ _
  have hl := t.isLt
  rw [a2]
  show Seg _ _ _ _ _ (if 2 ≤ t.val % 8 then k0_pay18 X rows k0_pay15 (ix2 t j) * in1 X Y (ix2 (up 2 t) j) + in1 X Y (ix2 t j) else in1 X Y (ix2 t j))
  have r := seg1 X Y t j hX
  by_cases h : 2 ≤ t.val % 8
  · rw [if_pos h, if_pos h]
    have e : (up 2 t).val = t.val - 2 := by show (t.val + 384 - 2) % 384 = _; omega
    have s := seg1 X Y (up 2 t) j hX
    rw [e] at s
    rw [show t.val + 1 - min (t.val % 8 + 1) 2 = t.val - 2 + 1 - min ((t.val - 2) % 8 + 1) 2 + min ((t.val - 2) % 8 + 1) 2 by omega] at r
    have := s.comp r
    rw [show t.val + 1 - min (t.val % 8 + 1) 4 = t.val - 2 + 1 - min ((t.val - 2) % 8 + 1) 2 by omega,
      show min (t.val % 8 + 1) 4 = min ((t.val - 2) % 8 + 1) 2 + min (t.val % 8 + 1) 2 by omega]
    exact this
  · rw [if_neg h, if_neg h, show min (t.val % 8 + 1) 4 = min (t.val % 8 + 1) 2 by omega]
    exact r

/-- and after the third for all the steps from its group's start. -/
theorem seg3 : Seg (colv X j) (colv Y j) (t.val / 8 * 8) (t.val % 8 + 1)
    (k0_pay22 X rows k0_pay15 (ix2 t j)) (k0_pay23 X Y rows k0_pay15 (ix2 t j)) := by
  have hm : t.val % 8 ≤ t.val := Nat.mod_le _ _
  have hl := t.isLt
  rw [a3, b3]
  have r := seg2 X Y t j hX
  by_cases h : 4 ≤ t.val % 8
  · rw [if_pos h, if_pos h]
    have e : (up 4 t).val = t.val - 4 := by show (t.val + 384 - 4) % 384 = _; omega
    have s := seg2 X Y (up 4 t) j hX
    rw [e] at s
    rw [show t.val + 1 - min (t.val % 8 + 1) 4 = t.val - 4 + 1 - min ((t.val - 4) % 8 + 1) 4 + min ((t.val - 4) % 8 + 1) 4 by omega] at r
    have := s.comp r
    rw [show t.val / 8 * 8 = t.val - 4 + 1 - min ((t.val - 4) % 8 + 1) 4 by omega,
      show t.val % 8 + 1 = min ((t.val - 4) % 8 + 1) 4 + min (t.val % 8 + 1) 4 by omega]
    exact this
  · rw [if_neg h, if_neg h]
    rw [show t.val + 1 - min (t.val % 8 + 1) 4 = t.val / 8 * 8 by omega, show min (t.val % 8 + 1) 4 = t.val % 8 + 1 by omega] at r
    exact r

end Cert.LruIdeal.Proof

end
-- ==== Proof.LruGroups.lean ====
/-
  The forty-eight unrolled groups: each adds its eight rows' composed steps to the state the group before left, so that after
  them row t of the stored block is the recurrence t + 1 steps on from the carried state.
-/
module

public import proofs.«01_k».proof.Proof.LruScan

@[expose] public section

set_option maxRecDepth 16384
set_option backward.proofsInPublic true

noncomputable section

open Idealize.ShloMosaic Idealize.ShloMosaic.TcCoe Idealize.SL.Sem

namespace Cert.LruIdeal.Proof

open Cert.LruIdeal Cert.LruIdeal.Gen Cert.LruMath

/-! Each piece of the groups' code at an index. -/

theorem p24 (v118 : FVec Ideal S1x640 .f32) (v119 : FVec Ideal S8x640 .f32) (k : Fin 8) (j : Fin 640) : k0_pay24 v118 v119 (ix2 k j) = v119 (ix2 k j) * v118 (ix2 (0 : Fin 1) j) := by
  pointwise [k0_pay24]

theorem p25 (v121 : FVec Ideal S8x640 .f32) (v122 : FVec Ideal S8x640 .f32) (k : Fin 8) (j : Fin 640) : k0_pay25 v121 v122 (ix2 k j) = v121 (ix2 k j) + v122 (ix2 k j) := by
  pointwise [k0_pay25]

theorem p26 (v121 : FVec Ideal S8x640 .f32) (v122 : FVec Ideal S8x640 .f32) (k : Fin 8) (j : Fin 640) : k0_pay26 v121 v122 (ix2 k j) = k0_pay25 v121 v122 (ix2 k j) := by
  pointwise [k0_pay26]

theorem p27 (v121 : FVec Ideal S8x640 .f32) (v122 : FVec Ideal S8x640 .f32) (v128 : FVec Ideal S8x640 .f32) (v131 : FVec Ideal S8x640 .f32) (k : Fin 8) (j : Fin 640) : k0_pay27 v121 v122 v128 v131 (ix2 k j) = v128 (ix2 k j) * k0_pay25 v121 v122 (ix2 (7 : Fin 8) j) + v131 (ix2 k j) := by
  pointwise [k0_pay27]

theorem p28 (v121 : FVec Ideal S8x640 .f32) (v122 : FVec Ideal S8x640 .f32) (v128 : FVec Ideal S8x640 .f32) (v131 : FVec Ideal S8x640 .f32) (k : Fin 8) (j : Fin 640) : k0_pay28 v121 v122 v128 v131 (ix2 k j) = k0_pay27 v121 v122 v128 v131 (ix2 k j) := by
  pointwise [k0_pay28]

theorem p29 (v121 : FVec Ideal S8x640 .f32) (v122 : FVec Ideal S8x640 .f32) (v128 : FVec Ideal S8x640 .f32) (v131 : FVec Ideal S8x640 .f32) (v137 : FVec Ideal S8x640 .f32) (v140 : FVec Ideal S8x640 .f32) (k : Fin 8) (j : Fin 640) : k0_pay29 v121 v122 v128 v131 v137 v140 (ix2 k j) = v137 (ix2 k j) * k0_pay27 v121 v122 v128 v131 (ix2 (7 : Fin 8) j) + v140 (ix2 k j) := by
  pointwise [k0_pay29]

theorem p30 (v121 : FVec Ideal S8x640 .f32) (v122 : FVec Ideal S8x640 .f32) (v128 : FVec Ideal S8x640 .f32) (v131 : FVec Ideal S8x640 .f32) (v137 : FVec Ideal S8x640 .f32) (v140 : FVec Ideal S8x640 .f32) (k : Fin 8) (j : Fin 640) : k0_pay30 v121 v122 v128 v131 v137 v140 (ix2 k j) = k0_pay29 v121 v122 v128 v131 v137 v140 (ix2 k j) := by
  pointwise [k0_pay30]

theorem p31 (v121 : FVec Ideal S8x640 .f32) (v122 : FVec Ideal S8x640 .f32) (v128 : FVec Ideal S8x640 .f32) (v131 : FVec Ideal S8x640 .f32) (v137 : FVec Ideal S8x640 .f32) (v140 : FVec Ideal S8x640 .f32) (v146 : FVec Ideal S8x640 .f32) (v149 : FVec Ideal S8x640 .f32) (k : Fin 8) (j : Fin 640) : k0_pay31 v121 v122 v128 v131 v137 v140 v146 v149 (ix2 k j) = v146 (ix2 k j) * k0_pay29 v121 v122 v128 v131 v137 v140 (ix2 (7 : Fin 8) j) + v149 (ix2 k j) := by
  pointwise [k0_pay31]

theorem p32 (v121 : FVec Ideal S8x640 .f32) (v122 : FVec Ideal S8x640 .f32) (v128 : FVec Ideal S8x640 .f32) (v131 : FVec Ideal S8x640 .f32) (v137 : FVec Ideal S8x640 .f32) (v140 : FVec Ideal S8x640 .f32) (v146 : FVec Ideal S8x640 .f32) (v149 : FVec Ideal S8x640 .f32) (k : Fin 8) (j : Fin 640) : k0_pay32 v121 v122 v128 v131 v137 v140 v146 v149 (ix2 k j) = k0_pay31 v121 v122 v128 v131 v137 v140 v146 v149 (ix2 k j) := by
  pointwise [k0_pay32]

theorem p33 (v121 : FVec Ideal S8x640 .f32) (v122 : FVec Ideal S8x640 .f32) (v128 : FVec Ideal S8x640 .f32) (v131 : FVec Ideal S8x640 .f32) (v137 : FVec Ideal S8x640 .f32) (v140 : FVec Ideal S8x640 .f32) (v146 : FVec Ideal S8x640 .f32) (v149 : FVec Ideal S8x640 .f32) (k : Fin 8) (j : Fin 640) : k0_pay33 v121 v122 v128 v131 v137 v140 v146 v149 (ix2 k j) = k0_pay31 v121 v122 v128 v131 v137 v140 v146 v149 (ix2 (7 : Fin 8) j) := by
  pointwise [k0_pay33]

theorem p34 (v155 : FVec Ideal S8x640 .f32) (v156 : FVec Ideal S8x640 .f32) (v158 : FVec Ideal S8x640 .f32) (k : Fin 8) (j : Fin 640) : k0_pay34 v155 v156 v158 (ix2 k j) = v155 (ix2 k j) * v156 (ix2 k j) + v158 (ix2 k j) := by
  pointwise [k0_pay34]

theorem p35 (v155 : FVec Ideal S8x640 .f32) (v156 : FVec Ideal S8x640 .f32) (v158 : FVec Ideal S8x640 .f32) (k : Fin 8) (j : Fin 640) : k0_pay35 v155 v156 v158 (ix2 k j) = k0_pay34 v155 v156 v158 (ix2 k j) := by
  pointwise [k0_pay35]

theorem p36 (v155 : FVec Ideal S8x640 .f32) (v156 : FVec Ideal S8x640 .f32) (v158 : FVec Ideal S8x640 .f32) (v164 : FVec Ideal S8x640 .f32) (v167 : FVec Ideal S8x640 .f32) (k : Fin 8) (j : Fin 640) : k0_pay36 v155 v156 v158 v164 v167 (ix2 k j) = v164 (ix2 k j) * k0_pay34 v155 v156 v158 (ix2 (7 : Fin 8) j) + v167 (ix2 k j) := by
  pointwise [k0_pay36]

theorem p37 (v155 : FVec Ideal S8x640 .f32) (v156 : FVec Ideal S8x640 .f32) (v158 : FVec Ideal S8x640 .f32) (v164 : FVec Ideal S8x640 .f32) (v167 : FVec Ideal S8x640 .f32) (k : Fin 8) (j : Fin 640) : k0_pay37 v155 v156 v158 v164 v167 (ix2 k j) = k0_pay36 v155 v156 v158 v164 v167 (ix2 k j) := by
  pointwise [k0_pay37]

theorem p38 (v155 : FVec Ideal S8x640 .f32) (v156 : FVec Ideal S8x640 .f32) (v158 : FVec Ideal S8x640 .f32) (v164 : FVec Ideal S8x640 .f32) (v167 : FVec Ideal S8x640 .f32) (v173 : FVec Ideal S8x640 .f32) (v176 : FVec Ideal S8x640 .f32) (k : Fin 8) (j : Fin 640) : k0_pay38 v155 v156 v158 v164 v167 v173 v176 (ix2 k j) = v173 (ix2 k j) * k0_pay36 v155 v156 v158 v164 v167 (ix2 (7 : Fin 8) j) + v176 (ix2 k j) := by
  pointwise [k0_pay38]

theorem p39 (v155 : FVec Ideal S8x640 .f32) (v156 : FVec Ideal S8x640 .f32) (v158 : FVec Ideal S8x640 .f32) (v164 : FVec Ideal S8x640 .f32) (v167 : FVec Ideal S8x640 .f32) (v173 : FVec Ideal S8x640 .f32) (v176 : FVec Ideal S8x640 .f32) (k : Fin 8) (j : Fin 640) : k0_pay39 v155 v156 v158 v164 v167 v173 v176 (ix2 k j) = k0_pay38 v155 v156 v158 v164 v167 v173 v176 (ix2 k j) := by
  pointwise [k0_pay39]

theorem p40 (v155 : FVec Ideal S8x640 .f32) (v156 : FVec Ideal S8x640 .f32) (v158 : FVec Ideal S8x640 .f32) (v164 : FVec Ideal S8x640 .f32) (v167 : FVec Ideal S8x640 .f32) (v173 : FVec Ideal S8x640 .f32) (v176 : FVec Ideal S8x640 .f32) (v182 : FVec Ideal S8x640 .f32) (v185 : FVec Ideal S8x640 .f32) (k : Fin 8) (j : Fin 640) : k0_pay40 v155 v156 v158 v164 v167 v173 v176 v182 v185 (ix2 k j) = v182 (ix2 k j) * k0_pay38 v155 v156 v158 v164 v167 v173 v176 (ix2 (7 : Fin 8) j) + v185 (ix2 k j) := by
  pointwise [k0_pay40]

theorem p41 (v155 : FVec Ideal S8x640 .f32) (v156 : FVec Ideal S8x640 .f32) (v158 : FVec Ideal S8x640 .f32) (v164 : FVec Ideal S8x640 .f32) (v167 : FVec Ideal S8x640 .f32) (v173 : FVec Ideal S8x640 .f32) (v176 : FVec Ideal S8x640 .f32) (v182 : FVec Ideal S8x640 .f32) (v185 : FVec Ideal S8x640 .f32) (k : Fin 8) (j : Fin 640) : k0_pay41 v155 v156 v158 v164 v167 v173 v176 v182 v185 (ix2 k j) = k0_pay40 v155 v156 v158 v164 v167 v173 v176 v182 v185 (ix2 k j) := by
  pointwise [k0_pay41]

theorem p42 (v155 : FVec Ideal S8x640 .f32) (v156 : FVec Ideal S8x640 .f32) (v158 : FVec Ideal S8x640 .f32) (v164 : FVec Ideal S8x640 .f32) (v167 : FVec Ideal S8x640 .f32) (v173 : FVec Ideal S8x640 .f32) (v176 : FVec Ideal S8x640 .f32) (v182 : FVec Ideal S8x640 .f32) (v185 : FVec Ideal S8x640 .f32) (j : Fin 640) : k0_pay42 v155 v156 v158 v164 v167 v173 v176 v182 v185 (ix2 (0 : Fin 1) j) = k0_pay40 v155 v156 v158 v164 v167 v173 v176 v182 v185 (ix2 (7 : Fin 8) j) := by
  pointwise [k0_pay42]

theorem p43 (v190 : FVec Ideal S1x640 .f32) (v191 : FVec Ideal S8x640 .f32) (v194 : FVec Ideal S8x640 .f32) (k : Fin 8) (j : Fin 640) : k0_pay43 v190 v191 v194 (ix2 k j) = v191 (ix2 k j) * v190 (ix2 (0 : Fin 1) j) + v194 (ix2 k j) := by
  pointwise [k0_pay43]

theorem p44 (v190 : FVec Ideal S1x640 .f32) (v191 : FVec Ideal S8x640 .f32) (v194 : FVec Ideal S8x640 .f32) (k : Fin 8) (j : Fin 640) : k0_pay44 v190 v191 v194 (ix2 k j) = k0_pay43 v190 v191 v194 (ix2 k j) := by
  pointwise [k0_pay44]

theorem p45 (v190 : FVec Ideal S1x640 .f32) (v191 : FVec Ideal S8x640 .f32) (v194 : FVec Ideal S8x640 .f32) (v200 : FVec Ideal S8x640 .f32) (v203 : FVec Ideal S8x640 .f32) (k : Fin 8) (j : Fin 640) : k0_pay45 v190 v191 v194 v200 v203 (ix2 k j) = v200 (ix2 k j) * k0_pay43 v190 v191 v194 (ix2 (7 : Fin 8) j) + v203 (ix2 k j) := by
  pointwise [k0_pay45]

theorem p46 (v190 : FVec Ideal S1x640 .f32) (v191 : FVec Ideal S8x640 .f32) (v194 : FVec Ideal S8x640 .f32) (v200 : FVec Ideal S8x640 .f32) (v203 : FVec Ideal S8x640 .f32) (k : Fin 8) (j : Fin 640) : k0_pay46 v190 v191 v194 v200 v203 (ix2 k j) = k0_pay45 v190 v191 v194 v200 v203 (ix2 k j) := by
  pointwise [k0_pay46]

theorem p47 (v190 : FVec Ideal S1x640 .f32) (v191 : FVec Ideal S8x640 .f32) (v194 : FVec Ideal S8x640 .f32) (v200 : FVec Ideal S8x640 .f32) (v203 : FVec Ideal S8x640 .f32) (v209 : FVec Ideal S8x640 .f32) (v212 : FVec Ideal S8x640 .f32) (k : Fin 8) (j : Fin 640) : k0_pay47 v190 v191 v194 v200 v203 v209 v212 (ix2 k j) = v209 (ix2 k j) * k0_pay45 v190 v191 v194 v200 v203 (ix2 (7 : Fin 8) j) + v212 (ix2 k j) := by
  pointwise [k0_pay47]

theorem p48 (v190 : FVec Ideal S1x640 .f32) (v191 : FVec Ideal S8x640 .f32) (v194 : FVec Ideal S8x640 .f32) (v200 : FVec Ideal S8x640 .f32) (v203 : FVec Ideal S8x640 .f32) (v209 : FVec Ideal S8x640 .f32) (v212 : FVec Ideal S8x640 .f32) (k : Fin 8) (j : Fin 640) : k0_pay48 v190 v191 v194 v200 v203 v209 v212 (ix2 k j) = k0_pay47 v190 v191 v194 v200 v203 v209 v212 (ix2 k j) := by
  pointwise [k0_pay48]

theorem p49 (v190 : FVec Ideal S1x640 .f32) (v191 : FVec Ideal S8x640 .f32) (v194 : FVec Ideal S8x640 .f32) (v200 : FVec Ideal S8x640 .f32) (v203 : FVec Ideal S8x640 .f32) (v209 : FVec Ideal S8x640 .f32) (v212 : FVec Ideal S8x640 .f32) (v218 : FVec Ideal S8x640 .f32) (v221 : FVec Ideal S8x640 .f32) (k : Fin 8) (j : Fin 640) : k0_pay49 v190 v191 v194 v200 v203 v209 v212 v218 v221 (ix2 k j) = v218 (ix2 k j) * k0_pay47 v190 v191 v194 v200 v203 v209 v212 (ix2 (7 : Fin 8) j) + v221 (ix2 k j) := by
  pointwise [k0_pay49]

theorem p50 (v222 : FVec Ideal S8x640 .f32) (k : Fin 8) (j : Fin 640) : k0_pay50 v222 (ix2 k j) = v222 (ix2 k j) := by
  pointwise [k0_pay50]

theorem p51 (v222 : FVec Ideal S8x640 .f32) (v227 : FVec Ideal S8x640 .f32) (v230 : FVec Ideal S8x640 .f32) (k : Fin 8) (j : Fin 640) : k0_pay51 v222 v227 v230 (ix2 k j) = v227 (ix2 k j) * v222 (ix2 (7 : Fin 8) j) + v230 (ix2 k j) := by
  pointwise [k0_pay51]

theorem p52 (v222 : FVec Ideal S8x640 .f32) (v227 : FVec Ideal S8x640 .f32) (v230 : FVec Ideal S8x640 .f32) (k : Fin 8) (j : Fin 640) : k0_pay52 v222 v227 v230 (ix2 k j) = k0_pay51 v222 v227 v230 (ix2 k j) := by
  pointwise [k0_pay52]

theorem p53 (v222 : FVec Ideal S8x640 .f32) (v227 : FVec Ideal S8x640 .f32) (v230 : FVec Ideal S8x640 .f32) (v236 : FVec Ideal S8x640 .f32) (v239 : FVec Ideal S8x640 .f32) (k : Fin 8) (j : Fin 640) : k0_pay53 v222 v227 v230 v236 v239 (ix2 k j) = v236 (ix2 k j) * k0_pay51 v222 v227 v230 (ix2 (7 : Fin 8) j) + v239 (ix2 k j) := by
  pointwise [k0_pay53]

theorem p54 (v222 : FVec Ideal S8x640 .f32) (v227 : FVec Ideal S8x640 .f32) (v230 : FVec Ideal S8x640 .f32) (v236 : FVec Ideal S8x640 .f32) (v239 : FVec Ideal S8x640 .f32) (k : Fin 8) (j : Fin 640) : k0_pay54 v222 v227 v230 v236 v239 (ix2 k j) = k0_pay53 v222 v227 v230 v236 v239 (ix2 k j) := by
  pointwise [k0_pay54]

theorem p55 (v222 : FVec Ideal S8x640 .f32) (v227 : FVec Ideal S8x640 .f32) (v230 : FVec Ideal S8x640 .f32) (v236 : FVec Ideal S8x640 .f32) (v239 : FVec Ideal S8x640 .f32) (v245 : FVec Ideal S8x640 .f32) (v248 : FVec Ideal S8x640 .f32) (k : Fin 8) (j : Fin 640) : k0_pay55 v222 v227 v230 v236 v239 v245 v248 (ix2 k j) = v245 (ix2 k j) * k0_pay53 v222 v227 v230 v236 v239 (ix2 (7 : Fin 8) j) + v248 (ix2 k j) := by
  pointwise [k0_pay55]

theorem p56 (v222 : FVec Ideal S8x640 .f32) (v227 : FVec Ideal S8x640 .f32) (v230 : FVec Ideal S8x640 .f32) (v236 : FVec Ideal S8x640 .f32) (v239 : FVec Ideal S8x640 .f32) (v245 : FVec Ideal S8x640 .f32) (v248 : FVec Ideal S8x640 .f32) (k : Fin 8) (j : Fin 640) : k0_pay56 v222 v227 v230 v236 v239 v245 v248 (ix2 k j) = k0_pay55 v222 v227 v230 v236 v239 v245 v248 (ix2 k j) := by
  pointwise [k0_pay56]

theorem p57 (v222 : FVec Ideal S8x640 .f32) (v227 : FVec Ideal S8x640 .f32) (v230 : FVec Ideal S8x640 .f32) (v236 : FVec Ideal S8x640 .f32) (v239 : FVec Ideal S8x640 .f32) (v245 : FVec Ideal S8x640 .f32) (v248 : FVec Ideal S8x640 .f32) (v254 : FVec Ideal S8x640 .f32) (k : Fin 8) (j : Fin 640) : k0_pay57 v222 v227 v230 v236 v239 v245 v248 v254 (ix2 k j) = v254 (ix2 k j) * k0_pay55 v222 v227 v230 v236 v239 v245 v248 (ix2 (7 : Fin 8) j) := by
  pointwise [k0_pay57]

theorem p58 (v256 : FVec Ideal S8x640 .f32) (v257 : FVec Ideal S8x640 .f32) (k : Fin 8) (j : Fin 640) : k0_pay58 v256 v257 (ix2 k j) = v256 (ix2 k j) + v257 (ix2 k j) := by
  pointwise [k0_pay58]

theorem p59 (v256 : FVec Ideal S8x640 .f32) (v257 : FVec Ideal S8x640 .f32) (k : Fin 8) (j : Fin 640) : k0_pay59 v256 v257 (ix2 k j) = k0_pay58 v256 v257 (ix2 k j) := by
  pointwise [k0_pay59]

theorem p60 (v256 : FVec Ideal S8x640 .f32) (v257 : FVec Ideal S8x640 .f32) (v263 : FVec Ideal S8x640 .f32) (v266 : FVec Ideal S8x640 .f32) (k : Fin 8) (j : Fin 640) : k0_pay60 v256 v257 v263 v266 (ix2 k j) = v263 (ix2 k j) * k0_pay58 v256 v257 (ix2 (7 : Fin 8) j) + v266 (ix2 k j) := by
  pointwise [k0_pay60]

theorem p61 (v256 : FVec Ideal S8x640 .f32) (v257 : FVec Ideal S8x640 .f32) (v263 : FVec Ideal S8x640 .f32) (v266 : FVec Ideal S8x640 .f32) (k : Fin 8) (j : Fin 640) : k0_pay61 v256 v257 v263 v266 (ix2 k j) = k0_pay60 v256 v257 v263 v266 (ix2 k j) := by
  pointwise [k0_pay61]

theorem p62 (v256 : FVec Ideal S8x640 .f32) (v257 : FVec Ideal S8x640 .f32) (v263 : FVec Ideal S8x640 .f32) (v266 : FVec Ideal S8x640 .f32) (v272 : FVec Ideal S8x640 .f32) (v275 : FVec Ideal S8x640 .f32) (k : Fin 8) (j : Fin 640) : k0_pay62 v256 v257 v263 v266 v272 v275 (ix2 k j) = v272 (ix2 k j) * k0_pay60 v256 v257 v263 v266 (ix2 (7 : Fin 8) j) + v275 (ix2 k j) := by
  pointwise [k0_pay62]

theorem p63 (v256 : FVec Ideal S8x640 .f32) (v257 : FVec Ideal S8x640 .f32) (v263 : FVec Ideal S8x640 .f32) (v266 : FVec Ideal S8x640 .f32) (v272 : FVec Ideal S8x640 .f32) (v275 : FVec Ideal S8x640 .f32) (k : Fin 8) (j : Fin 640) : k0_pay63 v256 v257 v263 v266 v272 v275 (ix2 k j) = k0_pay62 v256 v257 v263 v266 v272 v275 (ix2 k j) := by
  pointwise [k0_pay63]

theorem p64 (v256 : FVec Ideal S8x640 .f32) (v257 : FVec Ideal S8x640 .f32) (v263 : FVec Ideal S8x640 .f32) (v266 : FVec Ideal S8x640 .f32) (v272 : FVec Ideal S8x640 .f32) (v275 : FVec Ideal S8x640 .f32) (v281 : FVec Ideal S8x640 .f32) (v284 : FVec Ideal S8x640 .f32) (k : Fin 8) (j : Fin 640) : k0_pay64 v256 v257 v263 v266 v272 v275 v281 v284 (ix2 k j) = v281 (ix2 k j) * k0_pay62 v256 v257 v263 v266 v272 v275 (ix2 (7 : Fin 8) j) + v284 (ix2 k j) := by
  pointwise [k0_pay64]

theorem p65 (v256 : FVec Ideal S8x640 .f32) (v257 : FVec Ideal S8x640 .f32) (v263 : FVec Ideal S8x640 .f32) (v266 : FVec Ideal S8x640 .f32) (v272 : FVec Ideal S8x640 .f32) (v275 : FVec Ideal S8x640 .f32) (v281 : FVec Ideal S8x640 .f32) (v284 : FVec Ideal S8x640 .f32) (k : Fin 8) (j : Fin 640) : k0_pay65 v256 v257 v263 v266 v272 v275 v281 v284 (ix2 k j) = k0_pay64 v256 v257 v263 v266 v272 v275 v281 v284 (ix2 k j) := by
  pointwise [k0_pay65]

theorem p66 (v256 : FVec Ideal S8x640 .f32) (v257 : FVec Ideal S8x640 .f32) (v263 : FVec Ideal S8x640 .f32) (v266 : FVec Ideal S8x640 .f32) (v272 : FVec Ideal S8x640 .f32) (v275 : FVec Ideal S8x640 .f32) (v281 : FVec Ideal S8x640 .f32) (v284 : FVec Ideal S8x640 .f32) (k : Fin 8) (j : Fin 640) : k0_pay66 v256 v257 v263 v266 v272 v275 v281 v284 (ix2 k j) = k0_pay64 v256 v257 v263 v266 v272 v275 v281 v284 (ix2 (7 : Fin 8) j) := by
  pointwise [k0_pay66]

theorem p67 (v290 : FVec Ideal S8x640 .f32) (v291 : FVec Ideal S8x640 .f32) (v293 : FVec Ideal S8x640 .f32) (k : Fin 8) (j : Fin 640) : k0_pay67 v290 v291 v293 (ix2 k j) = v290 (ix2 k j) * v291 (ix2 k j) + v293 (ix2 k j) := by
  pointwise [k0_pay67]

theorem p68 (v290 : FVec Ideal S8x640 .f32) (v291 : FVec Ideal S8x640 .f32) (v293 : FVec Ideal S8x640 .f32) (k : Fin 8) (j : Fin 640) : k0_pay68 v290 v291 v293 (ix2 k j) = k0_pay67 v290 v291 v293 (ix2 k j) := by
  pointwise [k0_pay68]

theorem p69 (v290 : FVec Ideal S8x640 .f32) (v291 : FVec Ideal S8x640 .f32) (v293 : FVec Ideal S8x640 .f32) (v299 : FVec Ideal S8x640 .f32) (v302 : FVec Ideal S8x640 .f32) (k : Fin 8) (j : Fin 640) : k0_pay69 v290 v291 v293 v299 v302 (ix2 k j) = v299 (ix2 k j) * k0_pay67 v290 v291 v293 (ix2 (7 : Fin 8) j) + v302 (ix2 k j) := by
  pointwise [k0_pay69]

theorem p70 (v290 : FVec Ideal S8x640 .f32) (v291 : FVec Ideal S8x640 .f32) (v293 : FVec Ideal S8x640 .f32) (v299 : FVec Ideal S8x640 .f32) (v302 : FVec Ideal S8x640 .f32) (k : Fin 8) (j : Fin 640) : k0_pay70 v290 v291 v293 v299 v302 (ix2 k j) = k0_pay69 v290 v291 v293 v299 v302 (ix2 k j) := by
  pointwise [k0_pay70]

theorem p71 (v290 : FVec Ideal S8x640 .f32) (v291 : FVec Ideal S8x640 .f32) (v293 : FVec Ideal S8x640 .f32) (v299 : FVec Ideal S8x640 .f32) (v302 : FVec Ideal S8x640 .f32) (v308 : FVec Ideal S8x640 .f32) (v311 : FVec Ideal S8x640 .f32) (k : Fin 8) (j : Fin 640) : k0_pay71 v290 v291 v293 v299 v302 v308 v311 (ix2 k j) = v308 (ix2 k j) * k0_pay69 v290 v291 v293 v299 v302 (ix2 (7 : Fin 8) j) + v311 (ix2 k j) := by
  pointwise [k0_pay71]

theorem p72 (v290 : FVec Ideal S8x640 .f32) (v291 : FVec Ideal S8x640 .f32) (v293 : FVec Ideal S8x640 .f32) (v299 : FVec Ideal S8x640 .f32) (v302 : FVec Ideal S8x640 .f32) (v308 : FVec Ideal S8x640 .f32) (v311 : FVec Ideal S8x640 .f32) (k : Fin 8) (j : Fin 640) : k0_pay72 v290 v291 v293 v299 v302 v308 v311 (ix2 k j) = k0_pay71 v290 v291 v293 v299 v302 v308 v311 (ix2 k j) := by
  pointwise [k0_pay72]

theorem p73 (v290 : FVec Ideal S8x640 .f32) (v291 : FVec Ideal S8x640 .f32) (v293 : FVec Ideal S8x640 .f32) (v299 : FVec Ideal S8x640 .f32) (v302 : FVec Ideal S8x640 .f32) (v308 : FVec Ideal S8x640 .f32) (v311 : FVec Ideal S8x640 .f32) (v317 : FVec Ideal S8x640 .f32) (v320 : FVec Ideal S8x640 .f32) (k : Fin 8) (j : Fin 640) : k0_pay73 v290 v291 v293 v299 v302 v308 v311 v317 v320 (ix2 k j) = v317 (ix2 k j) * k0_pay71 v290 v291 v293 v299 v302 v308 v311 (ix2 (7 : Fin 8) j) + v320 (ix2 k j) := by
  pointwise [k0_pay73]

theorem p74 (v290 : FVec Ideal S8x640 .f32) (v291 : FVec Ideal S8x640 .f32) (v293 : FVec Ideal S8x640 .f32) (v299 : FVec Ideal S8x640 .f32) (v302 : FVec Ideal S8x640 .f32) (v308 : FVec Ideal S8x640 .f32) (v311 : FVec Ideal S8x640 .f32) (v317 : FVec Ideal S8x640 .f32) (v320 : FVec Ideal S8x640 .f32) (k : Fin 8) (j : Fin 640) : k0_pay74 v290 v291 v293 v299 v302 v308 v311 v317 v320 (ix2 k j) = k0_pay73 v290 v291 v293 v299 v302 v308 v311 v317 v320 (ix2 k j) := by
  pointwise [k0_pay74]

theorem p75 (v290 : FVec Ideal S8x640 .f32) (v291 : FVec Ideal S8x640 .f32) (v293 : FVec Ideal S8x640 .f32) (v299 : FVec Ideal S8x640 .f32) (v302 : FVec Ideal S8x640 .f32) (v308 : FVec Ideal S8x640 .f32) (v311 : FVec Ideal S8x640 .f32) (v317 : FVec Ideal S8x640 .f32) (v320 : FVec Ideal S8x640 .f32) (j : Fin 640) : k0_pay75 v290 v291 v293 v299 v302 v308 v311 v317 v320 (ix2 (0 : Fin 1) j) = k0_pay73 v290 v291 v293 v299 v302 v308 v311 v317 v320 (ix2 (7 : Fin 8) j) := by
  pointwise [k0_pay75]

theorem p76 (v325 : FVec Ideal S1x640 .f32) (v326 : FVec Ideal S8x640 .f32) (v329 : FVec Ideal S8x640 .f32) (k : Fin 8) (j : Fin 640) : k0_pay76 v325 v326 v329 (ix2 k j) = v326 (ix2 k j) * v325 (ix2 (0 : Fin 1) j) + v329 (ix2 k j) := by
  pointwise [k0_pay76]

theorem p77 (v325 : FVec Ideal S1x640 .f32) (v326 : FVec Ideal S8x640 .f32) (v329 : FVec Ideal S8x640 .f32) (k : Fin 8) (j : Fin 640) : k0_pay77 v325 v326 v329 (ix2 k j) = k0_pay76 v325 v326 v329 (ix2 k j) := by
  pointwise [k0_pay77]

theorem p78 (v325 : FVec Ideal S1x640 .f32) (v326 : FVec Ideal S8x640 .f32) (v329 : FVec Ideal S8x640 .f32) (v335 : FVec Ideal S8x640 .f32) (v338 : FVec Ideal S8x640 .f32) (k : Fin 8) (j : Fin 640) : k0_pay78 v325 v326 v329 v335 v338 (ix2 k j) = v335 (ix2 k j) * k0_pay76 v325 v326 v329 (ix2 (7 : Fin 8) j) + v338 (ix2 k j) := by
  pointwise [k0_pay78]

theorem p79 (v325 : FVec Ideal S1x640 .f32) (v326 : FVec Ideal S8x640 .f32) (v329 : FVec Ideal S8x640 .f32) (v335 : FVec Ideal S8x640 .f32) (v338 : FVec Ideal S8x640 .f32) (k : Fin 8) (j : Fin 640) : k0_pay79 v325 v326 v329 v335 v338 (ix2 k j) = k0_pay78 v325 v326 v329 v335 v338 (ix2 k j) := by
  pointwise [k0_pay79]

theorem p80 (v325 : FVec Ideal S1x640 .f32) (v326 : FVec Ideal S8x640 .f32) (v329 : FVec Ideal S8x640 .f32) (v335 : FVec Ideal S8x640 .f32) (v338 : FVec Ideal S8x640 .f32) (v344 : FVec Ideal S8x640 .f32) (v347 : FVec Ideal S8x640 .f32) (k : Fin 8) (j : Fin 640) : k0_pay80 v325 v326 v329 v335 v338 v344 v347 (ix2 k j) = v344 (ix2 k j) * k0_pay78 v325 v326 v329 v335 v338 (ix2 (7 : Fin 8) j) + v347 (ix2 k j) := by
  pointwise [k0_pay80]

theorem p81 (v325 : FVec Ideal S1x640 .f32) (v326 : FVec Ideal S8x640 .f32) (v329 : FVec Ideal S8x640 .f32) (v335 : FVec Ideal S8x640 .f32) (v338 : FVec Ideal S8x640 .f32) (v344 : FVec Ideal S8x640 .f32) (v347 : FVec Ideal S8x640 .f32) (k : Fin 8) (j : Fin 640) : k0_pay81 v325 v326 v329 v335 v338 v344 v347 (ix2 k j) = k0_pay80 v325 v326 v329 v335 v338 v344 v347 (ix2 k j) := by
  pointwise [k0_pay81]

theorem p82 (v325 : FVec Ideal S1x640 .f32) (v326 : FVec Ideal S8x640 .f32) (v329 : FVec Ideal S8x640 .f32) (v335 : FVec Ideal S8x640 .f32) (v338 : FVec Ideal S8x640 .f32) (v344 : FVec Ideal S8x640 .f32) (v347 : FVec Ideal S8x640 .f32) (v353 : FVec Ideal S8x640 .f32) (v356 : FVec Ideal S8x640 .f32) (k : Fin 8) (j : Fin 640) : k0_pay82 v325 v326 v329 v335 v338 v344 v347 v353 v356 (ix2 k j) = v353 (ix2 k j) * k0_pay80 v325 v326 v329 v335 v338 v344 v347 (ix2 (7 : Fin 8) j) + v356 (ix2 k j) := by
  pointwise [k0_pay82]

theorem p83 (v357 : FVec Ideal S8x640 .f32) (k : Fin 8) (j : Fin 640) : k0_pay83 v357 (ix2 k j) = v357 (ix2 k j) := by
  pointwise [k0_pay83]

theorem p84 (v357 : FVec Ideal S8x640 .f32) (v362 : FVec Ideal S8x640 .f32) (v365 : FVec Ideal S8x640 .f32) (k : Fin 8) (j : Fin 640) : k0_pay84 v357 v362 v365 (ix2 k j) = v362 (ix2 k j) * v357 (ix2 (7 : Fin 8) j) + v365 (ix2 k j) := by
  pointwise [k0_pay84]

theorem p85 (v357 : FVec Ideal S8x640 .f32) (v362 : FVec Ideal S8x640 .f32) (v365 : FVec Ideal S8x640 .f32) (k : Fin 8) (j : Fin 640) : k0_pay85 v357 v362 v365 (ix2 k j) = k0_pay84 v357 v362 v365 (ix2 k j) := by
  pointwise [k0_pay85]

theorem p86 (v357 : FVec Ideal S8x640 .f32) (v362 : FVec Ideal S8x640 .f32) (v365 : FVec Ideal S8x640 .f32) (v371 : FVec Ideal S8x640 .f32) (v374 : FVec Ideal S8x640 .f32) (k : Fin 8) (j : Fin 640) : k0_pay86 v357 v362 v365 v371 v374 (ix2 k j) = v371 (ix2 k j) * k0_pay84 v357 v362 v365 (ix2 (7 : Fin 8) j) + v374 (ix2 k j) := by
  pointwise [k0_pay86]

theorem p87 (v357 : FVec Ideal S8x640 .f32) (v362 : FVec Ideal S8x640 .f32) (v365 : FVec Ideal S8x640 .f32) (v371 : FVec Ideal S8x640 .f32) (v374 : FVec Ideal S8x640 .f32) (k : Fin 8) (j : Fin 640) : k0_pay87 v357 v362 v365 v371 v374 (ix2 k j) = k0_pay86 v357 v362 v365 v371 v374 (ix2 k j) := by
  pointwise [k0_pay87]

theorem p88 (v357 : FVec Ideal S8x640 .f32) (v362 : FVec Ideal S8x640 .f32) (v365 : FVec Ideal S8x640 .f32) (v371 : FVec Ideal S8x640 .f32) (v374 : FVec Ideal S8x640 .f32) (v380 : FVec Ideal S8x640 .f32) (v383 : FVec Ideal S8x640 .f32) (k : Fin 8) (j : Fin 640) : k0_pay88 v357 v362 v365 v371 v374 v380 v383 (ix2 k j) = v380 (ix2 k j) * k0_pay86 v357 v362 v365 v371 v374 (ix2 (7 : Fin 8) j) + v383 (ix2 k j) := by
  pointwise [k0_pay88]

theorem p89 (v357 : FVec Ideal S8x640 .f32) (v362 : FVec Ideal S8x640 .f32) (v365 : FVec Ideal S8x640 .f32) (v371 : FVec Ideal S8x640 .f32) (v374 : FVec Ideal S8x640 .f32) (v380 : FVec Ideal S8x640 .f32) (v383 : FVec Ideal S8x640 .f32) (k : Fin 8) (j : Fin 640) : k0_pay89 v357 v362 v365 v371 v374 v380 v383 (ix2 k j) = k0_pay88 v357 v362 v365 v371 v374 v380 v383 (ix2 k j) := by
  pointwise [k0_pay89]

theorem p90 (v357 : FVec Ideal S8x640 .f32) (v362 : FVec Ideal S8x640 .f32) (v365 : FVec Ideal S8x640 .f32) (v371 : FVec Ideal S8x640 .f32) (v374 : FVec Ideal S8x640 .f32) (v380 : FVec Ideal S8x640 .f32) (v383 : FVec Ideal S8x640 .f32) (v389 : FVec Ideal S8x640 .f32) (k : Fin 8) (j : Fin 640) : k0_pay90 v357 v362 v365 v371 v374 v380 v383 v389 (ix2 k j) = v389 (ix2 k j) * k0_pay88 v357 v362 v365 v371 v374 v380 v383 (ix2 (7 : Fin 8) j) := by
  pointwise [k0_pay90]

theorem p91 (v391 : FVec Ideal S8x640 .f32) (v392 : FVec Ideal S8x640 .f32) (k : Fin 8) (j : Fin 640) : k0_pay91 v391 v392 (ix2 k j) = v391 (ix2 k j) + v392 (ix2 k j) := by
  pointwise [k0_pay91]

theorem p92 (v391 : FVec Ideal S8x640 .f32) (v392 : FVec Ideal S8x640 .f32) (k : Fin 8) (j : Fin 640) : k0_pay92 v391 v392 (ix2 k j) = k0_pay91 v391 v392 (ix2 k j) := by
  pointwise [k0_pay92]

theorem p93 (v391 : FVec Ideal S8x640 .f32) (v392 : FVec Ideal S8x640 .f32) (v398 : FVec Ideal S8x640 .f32) (v401 : FVec Ideal S8x640 .f32) (k : Fin 8) (j : Fin 640) : k0_pay93 v391 v392 v398 v401 (ix2 k j) = v398 (ix2 k j) * k0_pay91 v391 v392 (ix2 (7 : Fin 8) j) + v401 (ix2 k j) := by
  pointwise [k0_pay93]

theorem p94 (v391 : FVec Ideal S8x640 .f32) (v392 : FVec Ideal S8x640 .f32) (v398 : FVec Ideal S8x640 .f32) (v401 : FVec Ideal S8x640 .f32) (k : Fin 8) (j : Fin 640) : k0_pay94 v391 v392 v398 v401 (ix2 k j) = k0_pay93 v391 v392 v398 v401 (ix2 k j) := by
  pointwise [k0_pay94]

theorem p95 (v391 : FVec Ideal S8x640 .f32) (v392 : FVec Ideal S8x640 .f32) (v398 : FVec Ideal S8x640 .f32) (v401 : FVec Ideal S8x640 .f32) (v407 : FVec Ideal S8x640 .f32) (v410 : FVec Ideal S8x640 .f32) (k : Fin 8) (j : Fin 640) : k0_pay95 v391 v392 v398 v401 v407 v410 (ix2 k j) = v407 (ix2 k j) * k0_pay93 v391 v392 v398 v401 (ix2 (7 : Fin 8) j) + v410 (ix2 k j) := by
  pointwise [k0_pay95]

theorem p96 (v391 : FVec Ideal S8x640 .f32) (v392 : FVec Ideal S8x640 .f32) (v398 : FVec Ideal S8x640 .f32) (v401 : FVec Ideal S8x640 .f32) (v407 : FVec Ideal S8x640 .f32) (v410 : FVec Ideal S8x640 .f32) (k : Fin 8) (j : Fin 640) : k0_pay96 v391 v392 v398 v401 v407 v410 (ix2 k j) = k0_pay95 v391 v392 v398 v401 v407 v410 (ix2 k j) := by
  pointwise [k0_pay96]

theorem p97 (v391 : FVec Ideal S8x640 .f32) (v392 : FVec Ideal S8x640 .f32) (v398 : FVec Ideal S8x640 .f32) (v401 : FVec Ideal S8x640 .f32) (v407 : FVec Ideal S8x640 .f32) (v410 : FVec Ideal S8x640 .f32) (v416 : FVec Ideal S8x640 .f32) (v419 : FVec Ideal S8x640 .f32) (k : Fin 8) (j : Fin 640) : k0_pay97 v391 v392 v398 v401 v407 v410 v416 v419 (ix2 k j) = v416 (ix2 k j) * k0_pay95 v391 v392 v398 v401 v407 v410 (ix2 (7 : Fin 8) j) + v419 (ix2 k j) := by
  pointwise [k0_pay97]

theorem p98 (v391 : FVec Ideal S8x640 .f32) (v392 : FVec Ideal S8x640 .f32) (v398 : FVec Ideal S8x640 .f32) (v401 : FVec Ideal S8x640 .f32) (v407 : FVec Ideal S8x640 .f32) (v410 : FVec Ideal S8x640 .f32) (v416 : FVec Ideal S8x640 .f32) (v419 : FVec Ideal S8x640 .f32) (k : Fin 8) (j : Fin 640) : k0_pay98 v391 v392 v398 v401 v407 v410 v416 v419 (ix2 k j) = k0_pay97 v391 v392 v398 v401 v407 v410 v416 v419 (ix2 k j) := by
  pointwise [k0_pay98]

theorem p99 (v391 : FVec Ideal S8x640 .f32) (v392 : FVec Ideal S8x640 .f32) (v398 : FVec Ideal S8x640 .f32) (v401 : FVec Ideal S8x640 .f32) (v407 : FVec Ideal S8x640 .f32) (v410 : FVec Ideal S8x640 .f32) (v416 : FVec Ideal S8x640 .f32) (v419 : FVec Ideal S8x640 .f32) (k : Fin 8) (j : Fin 640) : k0_pay99 v391 v392 v398 v401 v407 v410 v416 v419 (ix2 k j) = k0_pay97 v391 v392 v398 v401 v407 v410 v416 v419 (ix2 (7 : Fin 8) j) := by
  pointwise [k0_pay99]

theorem p100 (v425 : FVec Ideal S8x640 .f32) (v426 : FVec Ideal S8x640 .f32) (v428 : FVec Ideal S8x640 .f32) (k : Fin 8) (j : Fin 640) : k0_pay100 v425 v426 v428 (ix2 k j) = v425 (ix2 k j) * v426 (ix2 k j) + v428 (ix2 k j) := by
  pointwise [k0_pay100]

theorem p101 (v425 : FVec Ideal S8x640 .f32) (v426 : FVec Ideal S8x640 .f32) (v428 : FVec Ideal S8x640 .f32) (k : Fin 8) (j : Fin 640) : k0_pay101 v425 v426 v428 (ix2 k j) = k0_pay100 v425 v426 v428 (ix2 k j) := by
  pointwise [k0_pay101]

theorem p102 (v425 : FVec Ideal S8x640 .f32) (v426 : FVec Ideal S8x640 .f32) (v428 : FVec Ideal S8x640 .f32) (v434 : FVec Ideal S8x640 .f32) (v437 : FVec Ideal S8x640 .f32) (k : Fin 8) (j : Fin 640) : k0_pay102 v425 v426 v428 v434 v437 (ix2 k j) = v434 (ix2 k j) * k0_pay100 v425 v426 v428 (ix2 (7 : Fin 8) j) + v437 (ix2 k j) := by
  pointwise [k0_pay102]

theorem p103 (v425 : FVec Ideal S8x640 .f32) (v426 : FVec Ideal S8x640 .f32) (v428 : FVec Ideal S8x640 .f32) (v434 : FVec Ideal S8x640 .f32) (v437 : FVec Ideal S8x640 .f32) (k : Fin 8) (j : Fin 640) : k0_pay103 v425 v426 v428 v434 v437 (ix2 k j) = k0_pay102 v425 v426 v428 v434 v437 (ix2 k j) := by
  pointwise [k0_pay103]

theorem p104 (v425 : FVec Ideal S8x640 .f32) (v426 : FVec Ideal S8x640 .f32) (v428 : FVec Ideal S8x640 .f32) (v434 : FVec Ideal S8x640 .f32) (v437 : FVec Ideal S8x640 .f32) (v443 : FVec Ideal S8x640 .f32) (v446 : FVec Ideal S8x640 .f32) (k : Fin 8) (j : Fin 640) : k0_pay104 v425 v426 v428 v434 v437 v443 v446 (ix2 k j) = v443 (ix2 k j) * k0_pay102 v425 v426 v428 v434 v437 (ix2 (7 : Fin 8) j) + v446 (ix2 k j) := by
  pointwise [k0_pay104]

theorem p105 (v425 : FVec Ideal S8x640 .f32) (v426 : FVec Ideal S8x640 .f32) (v428 : FVec Ideal S8x640 .f32) (v434 : FVec Ideal S8x640 .f32) (v437 : FVec Ideal S8x640 .f32) (v443 : FVec Ideal S8x640 .f32) (v446 : FVec Ideal S8x640 .f32) (k : Fin 8) (j : Fin 640) : k0_pay105 v425 v426 v428 v434 v437 v443 v446 (ix2 k j) = k0_pay104 v425 v426 v428 v434 v437 v443 v446 (ix2 k j) := by
  pointwise [k0_pay105]

theorem p106 (v425 : FVec Ideal S8x640 .f32) (v426 : FVec Ideal S8x640 .f32) (v428 : FVec Ideal S8x640 .f32) (v434 : FVec Ideal S8x640 .f32) (v437 : FVec Ideal S8x640 .f32) (v443 : FVec Ideal S8x640 .f32) (v446 : FVec Ideal S8x640 .f32) (v452 : FVec Ideal S8x640 .f32) (v455 : FVec Ideal S8x640 .f32) (k : Fin 8) (j : Fin 640) : k0_pay106 v425 v426 v428 v434 v437 v443 v446 v452 v455 (ix2 k j) = v452 (ix2 k j) * k0_pay104 v425 v426 v428 v434 v437 v443 v446 (ix2 (7 : Fin 8) j) + v455 (ix2 k j) := by
  pointwise [k0_pay106]

theorem p107 (v425 : FVec Ideal S8x640 .f32) (v426 : FVec Ideal S8x640 .f32) (v428 : FVec Ideal S8x640 .f32) (v434 : FVec Ideal S8x640 .f32) (v437 : FVec Ideal S8x640 .f32) (v443 : FVec Ideal S8x640 .f32) (v446 : FVec Ideal S8x640 .f32) (v452 : FVec Ideal S8x640 .f32) (v455 : FVec Ideal S8x640 .f32) (k : Fin 8) (j : Fin 640) : k0_pay107 v425 v426 v428 v434 v437 v443 v446 v452 v455 (ix2 k j) = k0_pay106 v425 v426 v428 v434 v437 v443 v446 v452 v455 (ix2 k j) := by
  pointwise [k0_pay107]

theorem p108 (v425 : FVec Ideal S8x640 .f32) (v426 : FVec Ideal S8x640 .f32) (v428 : FVec Ideal S8x640 .f32) (v434 : FVec Ideal S8x640 .f32) (v437 : FVec Ideal S8x640 .f32) (v443 : FVec Ideal S8x640 .f32) (v446 : FVec Ideal S8x640 .f32) (v452 : FVec Ideal S8x640 .f32) (v455 : FVec Ideal S8x640 .f32) (j : Fin 640) : k0_pay108 v425 v426 v428 v434 v437 v443 v446 v452 v455 (ix2 (0 : Fin 1) j) = k0_pay106 v425 v426 v428 v434 v437 v443 v446 v452 v455 (ix2 (7 : Fin 8) j) := by
  pointwise [k0_pay108]

theorem p109 (v460 : FVec Ideal S1x640 .f32) (v461 : FVec Ideal S8x640 .f32) (v464 : FVec Ideal S8x640 .f32) (k : Fin 8) (j : Fin 640) : k0_pay109 v460 v461 v464 (ix2 k j) = v461 (ix2 k j) * v460 (ix2 (0 : Fin 1) j) + v464 (ix2 k j) := by
  pointwise [k0_pay109]

theorem p110 (v460 : FVec Ideal S1x640 .f32) (v461 : FVec Ideal S8x640 .f32) (v464 : FVec Ideal S8x640 .f32) (k : Fin 8) (j : Fin 640) : k0_pay110 v460 v461 v464 (ix2 k j) = k0_pay109 v460 v461 v464 (ix2 k j) := by
  pointwise [k0_pay110]

theorem p111 (v460 : FVec Ideal S1x640 .f32) (v461 : FVec Ideal S8x640 .f32) (v464 : FVec Ideal S8x640 .f32) (v470 : FVec Ideal S8x640 .f32) (v473 : FVec Ideal S8x640 .f32) (k : Fin 8) (j : Fin 640) : k0_pay111 v460 v461 v464 v470 v473 (ix2 k j) = v470 (ix2 k j) * k0_pay109 v460 v461 v464 (ix2 (7 : Fin 8) j) + v473 (ix2 k j) := by
  pointwise [k0_pay111]

theorem p112 (v460 : FVec Ideal S1x640 .f32) (v461 : FVec Ideal S8x640 .f32) (v464 : FVec Ideal S8x640 .f32) (v470 : FVec Ideal S8x640 .f32) (v473 : FVec Ideal S8x640 .f32) (k : Fin 8) (j : Fin 640) : k0_pay112 v460 v461 v464 v470 v473 (ix2 k j) = k0_pay111 v460 v461 v464 v470 v473 (ix2 k j) := by
  pointwise [k0_pay112]

theorem p113 (v460 : FVec Ideal S1x640 .f32) (v461 : FVec Ideal S8x640 .f32) (v464 : FVec Ideal S8x640 .f32) (v470 : FVec Ideal S8x640 .f32) (v473 : FVec Ideal S8x640 .f32) (v479 : FVec Ideal S8x640 .f32) (v482 : FVec Ideal S8x640 .f32) (k : Fin 8) (j : Fin 640) : k0_pay113 v460 v461 v464 v470 v473 v479 v482 (ix2 k j) = v479 (ix2 k j) * k0_pay111 v460 v461 v464 v470 v473 (ix2 (7 : Fin 8) j) + v482 (ix2 k j) := by
  pointwise [k0_pay113]

theorem p114 (v460 : FVec Ideal S1x640 .f32) (v461 : FVec Ideal S8x640 .f32) (v464 : FVec Ideal S8x640 .f32) (v470 : FVec Ideal S8x640 .f32) (v473 : FVec Ideal S8x640 .f32) (v479 : FVec Ideal S8x640 .f32) (v482 : FVec Ideal S8x640 .f32) (k : Fin 8) (j : Fin 640) : k0_pay114 v460 v461 v464 v470 v473 v479 v482 (ix2 k j) = k0_pay113 v460 v461 v464 v470 v473 v479 v482 (ix2 k j) := by
  pointwise [k0_pay114]

theorem p115 (v460 : FVec Ideal S1x640 .f32) (v461 : FVec Ideal S8x640 .f32) (v464 : FVec Ideal S8x640 .f32) (v470 : FVec Ideal S8x640 .f32) (v473 : FVec Ideal S8x640 .f32) (v479 : FVec Ideal S8x640 .f32) (v482 : FVec Ideal S8x640 .f32) (v488 : FVec Ideal S8x640 .f32) (v491 : FVec Ideal S8x640 .f32) (k : Fin 8) (j : Fin 640) : k0_pay115 v460 v461 v464 v470 v473 v479 v482 v488 v491 (ix2 k j) = v488 (ix2 k j) * k0_pay113 v460 v461 v464 v470 v473 v479 v482 (ix2 (7 : Fin 8) j) + v491 (ix2 k j) := by
  pointwise [k0_pay115]

theorem p116 (v492 : FVec Ideal S8x640 .f32) (k : Fin 8) (j : Fin 640) : k0_pay116 v492 (ix2 k j) = v492 (ix2 k j) := by
  pointwise [k0_pay116]

theorem p117 (v492 : FVec Ideal S8x640 .f32) (v497 : FVec Ideal S8x640 .f32) (v500 : FVec Ideal S8x640 .f32) (k : Fin 8) (j : Fin 640) : k0_pay117 v492 v497 v500 (ix2 k j) = v497 (ix2 k j) * v492 (ix2 (7 : Fin 8) j) + v500 (ix2 k j) := by
  pointwise [k0_pay117]

theorem p118 (v492 : FVec Ideal S8x640 .f32) (v497 : FVec Ideal S8x640 .f32) (v500 : FVec Ideal S8x640 .f32) (k : Fin 8) (j : Fin 640) : k0_pay118 v492 v497 v500 (ix2 k j) = k0_pay117 v492 v497 v500 (ix2 k j) := by
  pointwise [k0_pay118]

theorem p119 (v492 : FVec Ideal S8x640 .f32) (v497 : FVec Ideal S8x640 .f32) (v500 : FVec Ideal S8x640 .f32) (v506 : FVec Ideal S8x640 .f32) (v509 : FVec Ideal S8x640 .f32) (k : Fin 8) (j : Fin 640) : k0_pay119 v492 v497 v500 v506 v509 (ix2 k j) = v506 (ix2 k j) * k0_pay117 v492 v497 v500 (ix2 (7 : Fin 8) j) + v509 (ix2 k j) := by
  pointwise [k0_pay119]

theorem p120 (v492 : FVec Ideal S8x640 .f32) (v497 : FVec Ideal S8x640 .f32) (v500 : FVec Ideal S8x640 .f32) (v506 : FVec Ideal S8x640 .f32) (v509 : FVec Ideal S8x640 .f32) (k : Fin 8) (j : Fin 640) : k0_pay120 v492 v497 v500 v506 v509 (ix2 k j) = k0_pay119 v492 v497 v500 v506 v509 (ix2 k j) := by
  pointwise [k0_pay120]

theorem p121 (v492 : FVec Ideal S8x640 .f32) (v497 : FVec Ideal S8x640 .f32) (v500 : FVec Ideal S8x640 .f32) (v506 : FVec Ideal S8x640 .f32) (v509 : FVec Ideal S8x640 .f32) (v515 : FVec Ideal S8x640 .f32) (v518 : FVec Ideal S8x640 .f32) (k : Fin 8) (j : Fin 640) : k0_pay121 v492 v497 v500 v506 v509 v515 v518 (ix2 k j) = v515 (ix2 k j) * k0_pay119 v492 v497 v500 v506 v509 (ix2 (7 : Fin 8) j) + v518 (ix2 k j) := by
  pointwise [k0_pay121]

theorem p122 (v492 : FVec Ideal S8x640 .f32) (v497 : FVec Ideal S8x640 .f32) (v500 : FVec Ideal S8x640 .f32) (v506 : FVec Ideal S8x640 .f32) (v509 : FVec Ideal S8x640 .f32) (v515 : FVec Ideal S8x640 .f32) (v518 : FVec Ideal S8x640 .f32) (k : Fin 8) (j : Fin 640) : k0_pay122 v492 v497 v500 v506 v509 v515 v518 (ix2 k j) = k0_pay121 v492 v497 v500 v506 v509 v515 v518 (ix2 k j) := by
  pointwise [k0_pay122]

theorem p123 (v492 : FVec Ideal S8x640 .f32) (v497 : FVec Ideal S8x640 .f32) (v500 : FVec Ideal S8x640 .f32) (v506 : FVec Ideal S8x640 .f32) (v509 : FVec Ideal S8x640 .f32) (v515 : FVec Ideal S8x640 .f32) (v518 : FVec Ideal S8x640 .f32) (v524 : FVec Ideal S8x640 .f32) (k : Fin 8) (j : Fin 640) : k0_pay123 v492 v497 v500 v506 v509 v515 v518 v524 (ix2 k j) = v524 (ix2 k j) * k0_pay121 v492 v497 v500 v506 v509 v515 v518 (ix2 (7 : Fin 8) j) := by
  pointwise [k0_pay123]

theorem p124 (v526 : FVec Ideal S8x640 .f32) (v527 : FVec Ideal S8x640 .f32) (k : Fin 8) (j : Fin 640) : k0_pay124 v526 v527 (ix2 k j) = v526 (ix2 k j) + v527 (ix2 k j) := by
  pointwise [k0_pay124]

theorem p125 (v526 : FVec Ideal S8x640 .f32) (v527 : FVec Ideal S8x640 .f32) (k : Fin 8) (j : Fin 640) : k0_pay125 v526 v527 (ix2 k j) = k0_pay124 v526 v527 (ix2 k j) := by
  pointwise [k0_pay125]

theorem p126 (v526 : FVec Ideal S8x640 .f32) (v527 : FVec Ideal S8x640 .f32) (v533 : FVec Ideal S8x640 .f32) (v536 : FVec Ideal S8x640 .f32) (k : Fin 8) (j : Fin 640) : k0_pay126 v526 v527 v533 v536 (ix2 k j) = v533 (ix2 k j) * k0_pay124 v526 v527 (ix2 (7 : Fin 8) j) + v536 (ix2 k j) := by
  pointwise [k0_pay126]

theorem p127 (v526 : FVec Ideal S8x640 .f32) (v527 : FVec Ideal S8x640 .f32) (v533 : FVec Ideal S8x640 .f32) (v536 : FVec Ideal S8x640 .f32) (k : Fin 8) (j : Fin 640) : k0_pay127 v526 v527 v533 v536 (ix2 k j) = k0_pay126 v526 v527 v533 v536 (ix2 k j) := by
  pointwise [k0_pay127]

theorem p128 (v526 : FVec Ideal S8x640 .f32) (v527 : FVec Ideal S8x640 .f32) (v533 : FVec Ideal S8x640 .f32) (v536 : FVec Ideal S8x640 .f32) (v542 : FVec Ideal S8x640 .f32) (v545 : FVec Ideal S8x640 .f32) (k : Fin 8) (j : Fin 640) : k0_pay128 v526 v527 v533 v536 v542 v545 (ix2 k j) = v542 (ix2 k j) * k0_pay126 v526 v527 v533 v536 (ix2 (7 : Fin 8) j) + v545 (ix2 k j) := by
  pointwise [k0_pay128]

theorem p129 (v526 : FVec Ideal S8x640 .f32) (v527 : FVec Ideal S8x640 .f32) (v533 : FVec Ideal S8x640 .f32) (v536 : FVec Ideal S8x640 .f32) (v542 : FVec Ideal S8x640 .f32) (v545 : FVec Ideal S8x640 .f32) (k : Fin 8) (j : Fin 640) : k0_pay129 v526 v527 v533 v536 v542 v545 (ix2 k j) = k0_pay128 v526 v527 v533 v536 v542 v545 (ix2 k j) := by
  pointwise [k0_pay129]

theorem p130 (v526 : FVec Ideal S8x640 .f32) (v527 : FVec Ideal S8x640 .f32) (v533 : FVec Ideal S8x640 .f32) (v536 : FVec Ideal S8x640 .f32) (v542 : FVec Ideal S8x640 .f32) (v545 : FVec Ideal S8x640 .f32) (j : Fin 640) : k0_pay130 v526 v527 v533 v536 v542 v545 (ix2 (0 : Fin 1) j) = k0_pay128 v526 v527 v533 v536 v542 v545 (ix2 (7 : Fin 8) j) := by
  pointwise [k0_pay130]

/-- Eight rows of the stored decays, -/
def ldA (A : FVec Ideal S384x640 .f32) (o : ℕ) (inb : ∀ a, (![o, 0] : Fin 2 → ℕ) a + S8x640.size a ≤ S384x640.size a) : FVec Ideal S8x640 .f32 :=
  (View.whole cc0_scratch2).readCov (Val := Elt Ideal) [⟨Rect.unit (s := S384x640) ![0, 0] S384x640.size inb_S384x640_S384x640_0_0, A⟩] (Rect.unit (s := S384x640) ![o, 0] S8x640.size inb).toLoadRect

/-- and of the stored inputs. -/
def ldB (B : FVec Ideal S384x640 .f32) (o : ℕ) (inb : ∀ a, (![o, 0] : Fin 2 → ℕ) a + S8x640.size a ≤ S384x640.size a) : FVec Ideal S8x640 .f32 :=
  (View.whole cc0_scratch3).readCov (Val := Elt Ideal) [⟨Rect.unit (s := S384x640) ![0, 0] S384x640.size inb_S384x640_S384x640_0_0, B⟩] (Rect.unit (s := S384x640) ![o, 0] S8x640.size inb).toLoadRect

theorem off_zero : (![0, 0] : Fin S384x640.rank → ℕ) = fun _ => 0 := by
  funext a; fin_cases a <;> rfl

/-- A store of the whole array leaves its payload. -/
theorem whole_piece (X : FVec Ideal S384x640 .f32) :
    View.canon (Val := Elt Ideal) (e := .f32) [⟨Rect.unit (s := S384x640) ![0, 0] S384x640.size inb_S384x640_S384x640_0_0, X⟩] = X :=
  by
  rw [View.canon_cons_unit_zero off_zero]

theorem ldA_at (A : FVec Ideal S384x640 .f32) (o : ℕ) (inb : ∀ a, (![o, 0] : Fin 2 → ℕ) a + S8x640.size a ≤ S384x640.size a) (k : Fin 8) (j : Fin 640) (h : o + k.val < 384) :
    ldA A o inb (ix2 k j) = A (ix2 ⟨o + k.val, h⟩ j) := by
  unfold ldA
  rw [View.readCov_eq_canon']
  refine (congrFun (whole_piece A) _).trans ?_
  refine congrArg A ?_
  funext a; apply Fin.ext
  fin_cases a
  · show o + 1 * k.val = o + k.val; omega
  · show 0 + 1 * j.val = j.val; omega

theorem ldB_at (B : FVec Ideal S384x640 .f32) (o : ℕ) (inb : ∀ a, (![o, 0] : Fin 2 → ℕ) a + S8x640.size a ≤ S384x640.size a) (k : Fin 8) (j : Fin 640) (h : o + k.val < 384) :
    ldB B o inb (ix2 k j) = B (ix2 ⟨o + k.val, h⟩ j) := by
  unfold ldB
  rw [View.readCov_eq_canon']
  refine (congrFun (whole_piece B) _).trans ?_
  refine congrArg B ?_
  funext a; apply Fin.ext
  fin_cases a
  · show o + 1 * k.val = o + k.val; omega
  · show 0 + 1 * j.val = j.val; omega

variable (A B : FVec Ideal S384x640 .f32) (c : FVec Ideal S1x640 .f32)

/-! What one stretch of the code hands the next. -/

def v121 (A B : FVec Ideal S384x640 .f32) (c : FVec Ideal S1x640 .f32) : FVec Ideal S8x640 .f32 := k0_pay24 c (ldA A 0 inb_S384x640_S8x640_0_0)
def v122 (A B : FVec Ideal S384x640 .f32) (c : FVec Ideal S1x640 .f32) : FVec Ideal S8x640 .f32 := ldB B 0 inb_S384x640_S8x640_0_0
def v155 (A B : FVec Ideal S384x640 .f32) (c : FVec Ideal S1x640 .f32) : FVec Ideal S8x640 .f32 := ldA A 32 inb_S384x640_S8x640_32_0
def v156 (A B : FVec Ideal S384x640 .f32) (c : FVec Ideal S1x640 .f32) : FVec Ideal S8x640 .f32 := k0_pay33 (v121 A B c) (v122 A B c) (ldA A 8 inb_S384x640_S8x640_8_0) (ldB B 8 inb_S384x640_S8x640_8_0) (ldA A 16 inb_S384x640_S8x640_16_0) (ldB B 16 inb_S384x640_S8x640_16_0) (ldA A 24 inb_S384x640_S8x640_24_0) (ldB B 24 inb_S384x640_S8x640_24_0)
def v190 (A B : FVec Ideal S384x640 .f32) (c : FVec Ideal S1x640 .f32) : FVec Ideal S1x640 .f32 := k0_pay42 (v155 A B c) (v156 A B c) (ldB B 32 inb_S384x640_S8x640_32_0) (ldA A 40 inb_S384x640_S8x640_40_0) (ldB B 40 inb_S384x640_S8x640_40_0) (ldA A 48 inb_S384x640_S8x640_48_0) (ldB B 48 inb_S384x640_S8x640_48_0) (ldA A 56 inb_S384x640_S8x640_56_0) (ldB B 56 inb_S384x640_S8x640_56_0)
def v222 (A B : FVec Ideal S384x640 .f32) (c : FVec Ideal S1x640 .f32) : FVec Ideal S8x640 .f32 := k0_pay49 (v190 A B c) (ldA A 64 inb_S384x640_S8x640_64_0) (ldB B 64 inb_S384x640_S8x640_64_0) (ldA A 72 inb_S384x640_S8x640_72_0) (ldB B 72 inb_S384x640_S8x640_72_0) (ldA A 80 inb_S384x640_S8x640_80_0) (ldB B 80 inb_S384x640_S8x640_80_0) (ldA A 88 inb_S384x640_S8x640_88_0) (ldB B 88 inb_S384x640_S8x640_88_0)
def v256 (A B : FVec Ideal S384x640 .f32) (c : FVec Ideal S1x640 .f32) : FVec Ideal S8x640 .f32 := k0_pay57 (v222 A B c) (ldA A 96 inb_S384x640_S8x640_96_0) (ldB B 96 inb_S384x640_S8x640_96_0) (ldA A 104 inb_S384x640_S8x640_104_0) (ldB B 104 inb_S384x640_S8x640_104_0) (ldA A 112 inb_S384x640_S8x640_112_0) (ldB B 112 inb_S384x640_S8x640_112_0) (ldA A 120 inb_S384x640_S8x640_120_0)
def v257 (A B : FVec Ideal S384x640 .f32) (c : FVec Ideal S1x640 .f32) : FVec Ideal S8x640 .f32 := ldB B 120 inb_S384x640_S8x640_120_0
def v290 (A B : FVec Ideal S384x640 .f32) (c : FVec Ideal S1x640 .f32) : FVec Ideal S8x640 .f32 := ldA A 152 inb_S384x640_S8x640_152_0
def v291 (A B : FVec Ideal S384x640 .f32) (c : FVec Ideal S1x640 .f32) : FVec Ideal S8x640 .f32 := k0_pay66 (v256 A B c) (v257 A B c) (ldA A 128 inb_S384x640_S8x640_128_0) (ldB B 128 inb_S384x640_S8x640_128_0) (ldA A 136 inb_S384x640_S8x640_136_0) (ldB B 136 inb_S384x640_S8x640_136_0) (ldA A 144 inb_S384x640_S8x640_144_0) (ldB B 144 inb_S384x640_S8x640_144_0)
def v325 (A B : FVec Ideal S384x640 .f32) (c : FVec Ideal S1x640 .f32) : FVec Ideal S1x640 .f32 := k0_pay75 (v290 A B c) (v291 A B c) (ldB B 152 inb_S384x640_S8x640_152_0) (ldA A 160 inb_S384x640_S8x640_160_0) (ldB B 160 inb_S384x640_S8x640_160_0) (ldA A 168 inb_S384x640_S8x640_168_0) (ldB B 168 inb_S384x640_S8x640_168_0) (ldA A 176 inb_S384x640_S8x640_176_0) (ldB B 176 inb_S384x640_S8x640_176_0)
def v357 (A B : FVec Ideal S384x640 .f32) (c : FVec Ideal S1x640 .f32) : FVec Ideal S8x640 .f32 := k0_pay82 (v325 A B c) (ldA A 184 inb_S384x640_S8x640_184_0) (ldB B 184 inb_S384x640_S8x640_184_0) (ldA A 192 inb_S384x640_S8x640_192_0) (ldB B 192 inb_S384x640_S8x640_192_0) (ldA A 200 inb_S384x640_S8x640_200_0) (ldB B 200 inb_S384x640_S8x640_200_0) (ldA A 208 inb_S384x640_S8x640_208_0) (ldB B 208 inb_S384x640_S8x640_208_0)
def v391 (A B : FVec Ideal S384x640 .f32) (c : FVec Ideal S1x640 .f32) : FVec Ideal S8x640 .f32 := k0_pay90 (v357 A B c) (ldA A 216 inb_S384x640_S8x640_216_0) (ldB B 216 inb_S384x640_S8x640_216_0) (ldA A 224 inb_S384x640_S8x640_224_0) (ldB B 224 inb_S384x640_S8x640_224_0) (ldA A 232 inb_S384x640_S8x640_232_0) (ldB B 232 inb_S384x640_S8x640_232_0) (ldA A 240 inb_S384x640_S8x640_240_0)
def v392 (A B : FVec Ideal S384x640 .f32) (c : FVec Ideal S1x640 .f32) : FVec Ideal S8x640 .f32 := ldB B 240 inb_S384x640_S8x640_240_0
def v425 (A B : FVec Ideal S384x640 .f32) (c : FVec Ideal S1x640 .f32) : FVec Ideal S8x640 .f32 := ldA A 272 inb_S384x640_S8x640_272_0
def v426 (A B : FVec Ideal S384x640 .f32) (c : FVec Ideal S1x640 .f32) : FVec Ideal S8x640 .f32 := k0_pay99 (v391 A B c) (v392 A B c) (ldA A 248 inb_S384x640_S8x640_248_0) (ldB B 248 inb_S384x640_S8x640_248_0) (ldA A 256 inb_S384x640_S8x640_256_0) (ldB B 256 inb_S384x640_S8x640_256_0) (ldA A 264 inb_S384x640_S8x640_264_0) (ldB B 264 inb_S384x640_S8x640_264_0)
def v460 (A B : FVec Ideal S384x640 .f32) (c : FVec Ideal S1x640 .f32) : FVec Ideal S1x640 .f32 := k0_pay108 (v425 A B c) (v426 A B c) (ldB B 272 inb_S384x640_S8x640_272_0) (ldA A 280 inb_S384x640_S8x640_280_0) (ldB B 280 inb_S384x640_S8x640_280_0) (ldA A 288 inb_S384x640_S8x640_288_0) (ldB B 288 inb_S384x640_S8x640_288_0) (ldA A 296 inb_S384x640_S8x640_296_0) (ldB B 296 inb_S384x640_S8x640_296_0)
def v492 (A B : FVec Ideal S384x640 .f32) (c : FVec Ideal S1x640 .f32) : FVec Ideal S8x640 .f32 := k0_pay115 (v460 A B c) (ldA A 304 inb_S384x640_S8x640_304_0) (ldB B 304 inb_S384x640_S8x640_304_0) (ldA A 312 inb_S384x640_S8x640_312_0) (ldB B 312 inb_S384x640_S8x640_312_0) (ldA A 320 inb_S384x640_S8x640_320_0) (ldB B 320 inb_S384x640_S8x640_320_0) (ldA A 328 inb_S384x640_S8x640_328_0) (ldB B 328 inb_S384x640_S8x640_328_0)
def v526 (A B : FVec Ideal S384x640 .f32) (c : FVec Ideal S1x640 .f32) : FVec Ideal S8x640 .f32 := k0_pay123 (v492 A B c) (ldA A 336 inb_S384x640_S8x640_336_0) (ldB B 336 inb_S384x640_S8x640_336_0) (ldA A 344 inb_S384x640_S8x640_344_0) (ldB B 344 inb_S384x640_S8x640_344_0) (ldA A 352 inb_S384x640_S8x640_352_0) (ldB B 352 inb_S384x640_S8x640_352_0) (ldA A 360 inb_S384x640_S8x640_360_0)
def v527 (A B : FVec Ideal S384x640 .f32) (c : FVec Ideal S1x640 .f32) : FVec Ideal S8x640 .f32 := ldB B 360 inb_S384x640_S8x640_360_0

theorem row_of (x : S8x640.Idx) (j : Fin 640) (h : j.val = (x 1).val) : ∃ k : Fin 8, x = ix2 k j ∧ (x 0).val = k.val := by
  refine ⟨x 0, ?_, rfl⟩
  funext a; apply Fin.ext
  fin_cases a
  · rfl
  · exact h.symm

variable (j : Fin 640) (α β : ℕ → EReal)

/-- One group. -/
theorem group_step (S : ∀ t : Fin 384, Seg α β (t.val / 8 * 8) (t.val % 8 + 1) (A (ix2 t j)) (B (ix2 t j))) {c0 : EReal} (g : ℕ) (k : Fin 8)
    {w p : EReal} {m : ℕ} (hm : m = 8 * g) (hg : 8 * g + k.val < 384) (h : w = A (ix2 ⟨8 * g + k.val, hg⟩ j) * p + B (ix2 ⟨8 * g + k.val, hg⟩ j))
    (hp : p = run α β 0 c0 m) : w = run α β 0 c0 (8 * g + k.val + 1) := by
  have s := (S ⟨8 * g + k.val, hg⟩).step p
  have hk := k.isLt
  rw [h, s, hp, hm, Nat.add_assoc, run_add α β 0, Nat.zero_add]
  show run α β ((8 * g + k.val) / 8 * 8) _ ((8 * g + k.val) % 8 + 1) = _
  rw [show (8 * g + k.val) / 8 * 8 = 8 * g by omega, show (8 * g + k.val) % 8 = k.val by omega]

/-- The same with the state before it put in. -/
theorem group_end (S : ∀ t : Fin 384, Seg α β (t.val / 8 * 8) (t.val % 8 + 1) (A (ix2 t j)) (B (ix2 t j))) {c0 : EReal} (g : ℕ) (k : Fin 8)
    {m : ℕ} (hm : m = 8 * g) (hg : 8 * g + k.val < 384) : A (ix2 ⟨8 * g + k.val, hg⟩ j) * run α β 0 c0 m + B (ix2 ⟨8 * g + k.val, hg⟩ j)
      = run α β 0 c0 (8 * g + k.val + 1) :=
  group_step A B j α β S g k hm hg rfl rfl

variable (S : ∀ t : Fin 384, Seg α β (t.val / 8 * 8) (t.val % 8 + 1) (A (ix2 t j)) (B (ix2 t j)))
include S

theorem h0 (k : Fin 8) : k0_pay25 (v121 A B c) (v122 A B c) (ix2 k j) = run α β 0 (c (ix2 (0 : Fin 1) j)) (8 * 0 + k.val + 1) :=
  group_step A B j α β S 0 k (m := 0) rfl (by omega) (p := c (ix2 (0 : Fin 1) j)) (by
    simp only [p25, p24, v121, v122]
    rw [ldA_at A 0 _ k j (by omega), ldB_at B 0 _ k j (by omega)]) rfl

theorem h1 (k : Fin 8) : k0_pay27 (v121 A B c) (v122 A B c) (ldA A 8 inb_S384x640_S8x640_8_0) (ldB B 8 inb_S384x640_S8x640_8_0) (ix2 k j) = run α β 0 (c (ix2 (0 : Fin 1) j)) (8 * 1 + k.val + 1) := by
  have hp := h0 A B c j α β S (7 : Fin 8)
  simp only [p27, v122] at hp ⊢
  rw [ldA_at A 8 _ k j (by omega), ldB_at B 8 _ k j (by omega), hp]
  exact group_end A B j α β S 1 k (by decide) (by omega)

theorem h2 (k : Fin 8) : k0_pay29 (v121 A B c) (v122 A B c) (ldA A 8 inb_S384x640_S8x640_8_0) (ldB B 8 inb_S384x640_S8x640_8_0) (ldA A 16 inb_S384x640_S8x640_16_0) (ldB B 16 inb_S384x640_S8x640_16_0) (ix2 k j) = run α β 0 (c (ix2 (0 : Fin 1) j)) (8 * 2 + k.val + 1) := by
  have hp := h1 A B c j α β S (7 : Fin 8)
  simp only [p29]
  rw [ldA_at A 16 _ k j (by omega), ldB_at B 16 _ k j (by omega), hp]
  exact group_end A B j α β S 2 k (by decide) (by omega)

theorem h3 (k : Fin 8) : k0_pay31 (v121 A B c) (v122 A B c) (ldA A 8 inb_S384x640_S8x640_8_0) (ldB B 8 inb_S384x640_S8x640_8_0) (ldA A 16 inb_S384x640_S8x640_16_0) (ldB B 16 inb_S384x640_S8x640_16_0) (ldA A 24 inb_S384x640_S8x640_24_0) (ldB B 24 inb_S384x640_S8x640_24_0) (ix2 k j) = run α β 0 (c (ix2 (0 : Fin 1) j)) (8 * 3 + k.val + 1) := by
  have hp := h2 A B c j α β S (7 : Fin 8)
  simp only [p31]
  rw [ldA_at A 24 _ k j (by omega), ldB_at B 24 _ k j (by omega), hp]
  exact group_end A B j α β S 3 k (by decide) (by omega)

theorem h4 (k : Fin 8) : k0_pay34 (v155 A B c) (v156 A B c) (ldB B 32 inb_S384x640_S8x640_32_0) (ix2 k j) = run α β 0 (c (ix2 (0 : Fin 1) j)) (8 * 4 + k.val + 1) := by
  have hp := h3 A B c j α β S (7 : Fin 8)
  simp only [p34, p33, v155, v156] at hp ⊢
  rw [ldA_at A 32 _ k j (by omega), ldB_at B 32 _ k j (by omega), hp]
  exact group_end A B j α β S 4 k (by decide) (by omega)

theorem h5 (k : Fin 8) : k0_pay36 (v155 A B c) (v156 A B c) (ldB B 32 inb_S384x640_S8x640_32_0) (ldA A 40 inb_S384x640_S8x640_40_0) (ldB B 40 inb_S384x640_S8x640_40_0) (ix2 k j) = run α β 0 (c (ix2 (0 : Fin 1) j)) (8 * 5 + k.val + 1) := by
  have hp := h4 A B c j α β S (7 : Fin 8)
  simp only [p36]
  rw [ldA_at A 40 _ k j (by omega), ldB_at B 40 _ k j (by omega), hp]
  exact group_end A B j α β S 5 k (by decide) (by omega)

theorem h6 (k : Fin 8) : k0_pay38 (v155 A B c) (v156 A B c) (ldB B 32 inb_S384x640_S8x640_32_0) (ldA A 40 inb_S384x640_S8x640_40_0) (ldB B 40 inb_S384x640_S8x640_40_0) (ldA A 48 inb_S384x640_S8x640_48_0) (ldB B 48 inb_S384x640_S8x640_48_0) (ix2 k j) = run α β 0 (c (ix2 (0 : Fin 1) j)) (8 * 6 + k.val + 1) := by
  have hp := h5 A B c j α β S (7 : Fin 8)
  simp only [p38]
  rw [ldA_at A 48 _ k j (by omega), ldB_at B 48 _ k j (by omega), hp]
  exact group_end A B j α β S 6 k (by decide) (by omega)

theorem h7 (k : Fin 8) : k0_pay40 (v155 A B c) (v156 A B c) (ldB B 32 inb_S384x640_S8x640_32_0) (ldA A 40 inb_S384x640_S8x640_40_0) (ldB B 40 inb_S384x640_S8x640_40_0) (ldA A 48 inb_S384x640_S8x640_48_0) (ldB B 48 inb_S384x640_S8x640_48_0) (ldA A 56 inb_S384x640_S8x640_56_0) (ldB B 56 inb_S384x640_S8x640_56_0) (ix2 k j) = run α β 0 (c (ix2 (0 : Fin 1) j)) (8 * 7 + k.val + 1) := by
  have hp := h6 A B c j α β S (7 : Fin 8)
  simp only [p40]
  rw [ldA_at A 56 _ k j (by omega), ldB_at B 56 _ k j (by omega), hp]
  exact group_end A B j α β S 7 k (by decide) (by omega)

theorem h8 (k : Fin 8) : k0_pay43 (v190 A B c) (ldA A 64 inb_S384x640_S8x640_64_0) (ldB B 64 inb_S384x640_S8x640_64_0) (ix2 k j) = run α β 0 (c (ix2 (0 : Fin 1) j)) (8 * 8 + k.val + 1) := by
  have hp := h7 A B c j α β S (7 : Fin 8)
  simp only [p43, p42, v190] at hp ⊢
  rw [ldA_at A 64 _ k j (by omega), ldB_at B 64 _ k j (by omega), hp]
  exact group_end A B j α β S 8 k (by decide) (by omega)

theorem h9 (k : Fin 8) : k0_pay45 (v190 A B c) (ldA A 64 inb_S384x640_S8x640_64_0) (ldB B 64 inb_S384x640_S8x640_64_0) (ldA A 72 inb_S384x640_S8x640_72_0) (ldB B 72 inb_S384x640_S8x640_72_0) (ix2 k j) = run α β 0 (c (ix2 (0 : Fin 1) j)) (8 * 9 + k.val + 1) := by
  have hp := h8 A B c j α β S (7 : Fin 8)
  simp only [p45]
  rw [ldA_at A 72 _ k j (by omega), ldB_at B 72 _ k j (by omega), hp]
  exact group_end A B j α β S 9 k (by decide) (by omega)

theorem h10 (k : Fin 8) : k0_pay47 (v190 A B c) (ldA A 64 inb_S384x640_S8x640_64_0) (ldB B 64 inb_S384x640_S8x640_64_0) (ldA A 72 inb_S384x640_S8x640_72_0) (ldB B 72 inb_S384x640_S8x640_72_0) (ldA A 80 inb_S384x640_S8x640_80_0) (ldB B 80 inb_S384x640_S8x640_80_0) (ix2 k j) = run α β 0 (c (ix2 (0 : Fin 1) j)) (8 * 10 + k.val + 1) := by
  have hp := h9 A B c j α β S (7 : Fin 8)
  simp only [p47]
  rw [ldA_at A 80 _ k j (by omega), ldB_at B 80 _ k j (by omega), hp]
  exact group_end A B j α β S 10 k (by decide) (by omega)

theorem h11 (k : Fin 8) : k0_pay49 (v190 A B c) (ldA A 64 inb_S384x640_S8x640_64_0) (ldB B 64 inb_S384x640_S8x640_64_0) (ldA A 72 inb_S384x640_S8x640_72_0) (ldB B 72 inb_S384x640_S8x640_72_0) (ldA A 80 inb_S384x640_S8x640_80_0) (ldB B 80 inb_S384x640_S8x640_80_0) (ldA A 88 inb_S384x640_S8x640_88_0) (ldB B 88 inb_S384x640_S8x640_88_0) (ix2 k j) = run α β 0 (c (ix2 (0 : Fin 1) j)) (8 * 11 + k.val + 1) := by
  have hp := h10 A B c j α β S (7 : Fin 8)
  simp only [p49]
  rw [ldA_at A 88 _ k j (by omega), ldB_at B 88 _ k j (by omega), hp]
  exact group_end A B j α β S 11 k (by decide) (by omega)

theorem h12 (k : Fin 8) : k0_pay51 (v222 A B c) (ldA A 96 inb_S384x640_S8x640_96_0) (ldB B 96 inb_S384x640_S8x640_96_0) (ix2 k j) = run α β 0 (c (ix2 (0 : Fin 1) j)) (8 * 12 + k.val + 1) := by
  have hp := h11 A B c j α β S (7 : Fin 8)
  simp only [p51, v222] at hp ⊢
  rw [ldA_at A 96 _ k j (by omega), ldB_at B 96 _ k j (by omega), hp]
  exact group_end A B j α β S 12 k (by decide) (by omega)

theorem h13 (k : Fin 8) : k0_pay53 (v222 A B c) (ldA A 96 inb_S384x640_S8x640_96_0) (ldB B 96 inb_S384x640_S8x640_96_0) (ldA A 104 inb_S384x640_S8x640_104_0) (ldB B 104 inb_S384x640_S8x640_104_0) (ix2 k j) = run α β 0 (c (ix2 (0 : Fin 1) j)) (8 * 13 + k.val + 1) := by
  have hp := h12 A B c j α β S (7 : Fin 8)
  simp only [p53]
  rw [ldA_at A 104 _ k j (by omega), ldB_at B 104 _ k j (by omega), hp]
  exact group_end A B j α β S 13 k (by decide) (by omega)

theorem h14 (k : Fin 8) : k0_pay55 (v222 A B c) (ldA A 96 inb_S384x640_S8x640_96_0) (ldB B 96 inb_S384x640_S8x640_96_0) (ldA A 104 inb_S384x640_S8x640_104_0) (ldB B 104 inb_S384x640_S8x640_104_0) (ldA A 112 inb_S384x640_S8x640_112_0) (ldB B 112 inb_S384x640_S8x640_112_0) (ix2 k j) = run α β 0 (c (ix2 (0 : Fin 1) j)) (8 * 14 + k.val + 1) := by
  have hp := h13 A B c j α β S (7 : Fin 8)
  simp only [p55]
  rw [ldA_at A 112 _ k j (by omega), ldB_at B 112 _ k j (by omega), hp]
  exact group_end A B j α β S 14 k (by decide) (by omega)

theorem h15 (k : Fin 8) : k0_pay58 (v256 A B c) (v257 A B c) (ix2 k j) = run α β 0 (c (ix2 (0 : Fin 1) j)) (8 * 15 + k.val + 1) := by
  have hp := h14 A B c j α β S (7 : Fin 8)
  simp only [p58, p57, v256, v257] at hp ⊢
  rw [ldA_at A 120 _ k j (by omega), ldB_at B 120 _ k j (by omega), hp]
  exact group_end A B j α β S 15 k (by decide) (by omega)

theorem h16 (k : Fin 8) : k0_pay60 (v256 A B c) (v257 A B c) (ldA A 128 inb_S384x640_S8x640_128_0) (ldB B 128 inb_S384x640_S8x640_128_0) (ix2 k j) = run α β 0 (c (ix2 (0 : Fin 1) j)) (8 * 16 + k.val + 1) := by
  have hp := h15 A B c j α β S (7 : Fin 8)
  simp only [p60, v257] at hp ⊢
  rw [ldA_at A 128 _ k j (by omega), ldB_at B 128 _ k j (by omega), hp]
  exact group_end A B j α β S 16 k (by decide) (by omega)

theorem h17 (k : Fin 8) : k0_pay62 (v256 A B c) (v257 A B c) (ldA A 128 inb_S384x640_S8x640_128_0) (ldB B 128 inb_S384x640_S8x640_128_0) (ldA A 136 inb_S384x640_S8x640_136_0) (ldB B 136 inb_S384x640_S8x640_136_0) (ix2 k j) = run α β 0 (c (ix2 (0 : Fin 1) j)) (8 * 17 + k.val + 1) := by
  have hp := h16 A B c j α β S (7 : Fin 8)
  simp only [p62]
  rw [ldA_at A 136 _ k j (by omega), ldB_at B 136 _ k j (by omega), hp]
  exact group_end A B j α β S 17 k (by decide) (by omega)

theorem h18 (k : Fin 8) : k0_pay64 (v256 A B c) (v257 A B c) (ldA A 128 inb_S384x640_S8x640_128_0) (ldB B 128 inb_S384x640_S8x640_128_0) (ldA A 136 inb_S384x640_S8x640_136_0) (ldB B 136 inb_S384x640_S8x640_136_0) (ldA A 144 inb_S384x640_S8x640_144_0) (ldB B 144 inb_S384x640_S8x640_144_0) (ix2 k j) = run α β 0 (c (ix2 (0 : Fin 1) j)) (8 * 18 + k.val + 1) := by
  have hp := h17 A B c j α β S (7 : Fin 8)
  simp only [p64]
  rw [ldA_at A 144 _ k j (by omega), ldB_at B 144 _ k j (by omega), hp]
  exact group_end A B j α β S 18 k (by decide) (by omega)

theorem h19 (k : Fin 8) : k0_pay67 (v290 A B c) (v291 A B c) (ldB B 152 inb_S384x640_S8x640_152_0) (ix2 k j) = run α β 0 (c (ix2 (0 : Fin 1) j)) (8 * 19 + k.val + 1) := by
  have hp := h18 A B c j α β S (7 : Fin 8)
  simp only [p67, p66, v290, v291] at hp ⊢
  rw [ldA_at A 152 _ k j (by omega), ldB_at B 152 _ k j (by omega), hp]
  exact group_end A B j α β S 19 k (by decide) (by omega)

theorem h20 (k : Fin 8) : k0_pay69 (v290 A B c) (v291 A B c) (ldB B 152 inb_S384x640_S8x640_152_0) (ldA A 160 inb_S384x640_S8x640_160_0) (ldB B 160 inb_S384x640_S8x640_160_0) (ix2 k j) = run α β 0 (c (ix2 (0 : Fin 1) j)) (8 * 20 + k.val + 1) := by
  have hp := h19 A B c j α β S (7 : Fin 8)
  simp only [p69]
  rw [ldA_at A 160 _ k j (by omega), ldB_at B 160 _ k j (by omega), hp]
  exact group_end A B j α β S 20 k (by decide) (by omega)

theorem h21 (k : Fin 8) : k0_pay71 (v290 A B c) (v291 A B c) (ldB B 152 inb_S384x640_S8x640_152_0) (ldA A 160 inb_S384x640_S8x640_160_0) (ldB B 160 inb_S384x640_S8x640_160_0) (ldA A 168 inb_S384x640_S8x640_168_0) (ldB B 168 inb_S384x640_S8x640_168_0) (ix2 k j) = run α β 0 (c (ix2 (0 : Fin 1) j)) (8 * 21 + k.val + 1) := by
  have hp := h20 A B c j α β S (7 : Fin 8)
  simp only [p71]
  rw [ldA_at A 168 _ k j (by omega), ldB_at B 168 _ k j (by omega), hp]
  exact group_end A B j α β S 21 k (by decide) (by omega)

theorem h22 (k : Fin 8) : k0_pay73 (v290 A B c) (v291 A B c) (ldB B 152 inb_S384x640_S8x640_152_0) (ldA A 160 inb_S384x640_S8x640_160_0) (ldB B 160 inb_S384x640_S8x640_160_0) (ldA A 168 inb_S384x640_S8x640_168_0) (ldB B 168 inb_S384x640_S8x640_168_0) (ldA A 176 inb_S384x640_S8x640_176_0) (ldB B 176 inb_S384x640_S8x640_176_0) (ix2 k j) = run α β 0 (c (ix2 (0 : Fin 1) j)) (8 * 22 + k.val + 1) := by
  have hp := h21 A B c j α β S (7 : Fin 8)
  simp only [p73]
  rw [ldA_at A 176 _ k j (by omega), ldB_at B 176 _ k j (by omega), hp]
  exact group_end A B j α β S 22 k (by decide) (by omega)

theorem h23 (k : Fin 8) : k0_pay76 (v325 A B c) (ldA A 184 inb_S384x640_S8x640_184_0) (ldB B 184 inb_S384x640_S8x640_184_0) (ix2 k j) = run α β 0 (c (ix2 (0 : Fin 1) j)) (8 * 23 + k.val + 1) := by
  have hp := h22 A B c j α β S (7 : Fin 8)
  simp only [p76, p75, v325] at hp ⊢
  rw [ldA_at A 184 _ k j (by omega), ldB_at B 184 _ k j (by omega), hp]
  exact group_end A B j α β S 23 k (by decide) (by omega)

theorem h24 (k : Fin 8) : k0_pay78 (v325 A B c) (ldA A 184 inb_S384x640_S8x640_184_0) (ldB B 184 inb_S384x640_S8x640_184_0) (ldA A 192 inb_S384x640_S8x640_192_0) (ldB B 192 inb_S384x640_S8x640_192_0) (ix2 k j) = run α β 0 (c (ix2 (0 : Fin 1) j)) (8 * 24 + k.val + 1) := by
  have hp := h23 A B c j α β S (7 : Fin 8)
  simp only [p78]
  rw [ldA_at A 192 _ k j (by omega), ldB_at B 192 _ k j (by omega), hp]
  exact group_end A B j α β S 24 k (by decide) (by omega)

theorem h25 (k : Fin 8) : k0_pay80 (v325 A B c) (ldA A 184 inb_S384x640_S8x640_184_0) (ldB B 184 inb_S384x640_S8x640_184_0) (ldA A 192 inb_S384x640_S8x640_192_0) (ldB B 192 inb_S384x640_S8x640_192_0) (ldA A 200 inb_S384x640_S8x640_200_0) (ldB B 200 inb_S384x640_S8x640_200_0) (ix2 k j) = run α β 0 (c (ix2 (0 : Fin 1) j)) (8 * 25 + k.val + 1) := by
  have hp := h24 A B c j α β S (7 : Fin 8)
  simp only [p80]
  rw [ldA_at A 200 _ k j (by omega), ldB_at B 200 _ k j (by omega), hp]
  exact group_end A B j α β S 25 k (by decide) (by omega)

theorem h26 (k : Fin 8) : k0_pay82 (v325 A B c) (ldA A 184 inb_S384x640_S8x640_184_0) (ldB B 184 inb_S384x640_S8x640_184_0) (ldA A 192 inb_S384x640_S8x640_192_0) (ldB B 192 inb_S384x640_S8x640_192_0) (ldA A 200 inb_S384x640_S8x640_200_0) (ldB B 200 inb_S384x640_S8x640_200_0) (ldA A 208 inb_S384x640_S8x640_208_0) (ldB B 208 inb_S384x640_S8x640_208_0) (ix2 k j) = run α β 0 (c (ix2 (0 : Fin 1) j)) (8 * 26 + k.val + 1) := by
  have hp := h25 A B c j α β S (7 : Fin 8)
  simp only [p82]
  rw [ldA_at A 208 _ k j (by omega), ldB_at B 208 _ k j (by omega), hp]
  exact group_end A B j α β S 26 k (by decide) (by omega)

theorem h27 (k : Fin 8) : k0_pay84 (v357 A B c) (ldA A 216 inb_S384x640_S8x640_216_0) (ldB B 216 inb_S384x640_S8x640_216_0) (ix2 k j) = run α β 0 (c (ix2 (0 : Fin 1) j)) (8 * 27 + k.val + 1) := by
  have hp := h26 A B c j α β S (7 : Fin 8)
  simp only [p84, v357] at hp ⊢
  rw [ldA_at A 216 _ k j (by omega), ldB_at B 216 _ k j (by omega), hp]
  exact group_end A B j α β S 27 k (by decide) (by omega)

theorem h28 (k : Fin 8) : k0_pay86 (v357 A B c) (ldA A 216 inb_S384x640_S8x640_216_0) (ldB B 216 inb_S384x640_S8x640_216_0) (ldA A 224 inb_S384x640_S8x640_224_0) (ldB B 224 inb_S384x640_S8x640_224_0) (ix2 k j) = run α β 0 (c (ix2 (0 : Fin 1) j)) (8 * 28 + k.val + 1) := by
  have hp := h27 A B c j α β S (7 : Fin 8)
  simp only [p86]
  rw [ldA_at A 224 _ k j (by omega), ldB_at B 224 _ k j (by omega), hp]
  exact group_end A B j α β S 28 k (by decide) (by omega)

theorem h29 (k : Fin 8) : k0_pay88 (v357 A B c) (ldA A 216 inb_S384x640_S8x640_216_0) (ldB B 216 inb_S384x640_S8x640_216_0) (ldA A 224 inb_S384x640_S8x640_224_0) (ldB B 224 inb_S384x640_S8x640_224_0) (ldA A 232 inb_S384x640_S8x640_232_0) (ldB B 232 inb_S384x640_S8x640_232_0) (ix2 k j) = run α β 0 (c (ix2 (0 : Fin 1) j)) (8 * 29 + k.val + 1) := by
  have hp := h28 A B c j α β S (7 : Fin 8)
  simp only [p88]
  rw [ldA_at A 232 _ k j (by omega), ldB_at B 232 _ k j (by omega), hp]
  exact group_end A B j α β S 29 k (by decide) (by omega)

theorem h30 (k : Fin 8) : k0_pay91 (v391 A B c) (v392 A B c) (ix2 k j) = run α β 0 (c (ix2 (0 : Fin 1) j)) (8 * 30 + k.val + 1) := by
  have hp := h29 A B c j α β S (7 : Fin 8)
  simp only [p91, p90, v391, v392] at hp ⊢
  rw [ldA_at A 240 _ k j (by omega), ldB_at B 240 _ k j (by omega), hp]
  exact group_end A B j α β S 30 k (by decide) (by omega)

theorem h31 (k : Fin 8) : k0_pay93 (v391 A B c) (v392 A B c) (ldA A 248 inb_S384x640_S8x640_248_0) (ldB B 248 inb_S384x640_S8x640_248_0) (ix2 k j) = run α β 0 (c (ix2 (0 : Fin 1) j)) (8 * 31 + k.val + 1) := by
  have hp := h30 A B c j α β S (7 : Fin 8)
  simp only [p93, v392] at hp ⊢
  rw [ldA_at A 248 _ k j (by omega), ldB_at B 248 _ k j (by omega), hp]
  exact group_end A B j α β S 31 k (by decide) (by omega)

theorem h32 (k : Fin 8) : k0_pay95 (v391 A B c) (v392 A B c) (ldA A 248 inb_S384x640_S8x640_248_0) (ldB B 248 inb_S384x640_S8x640_248_0) (ldA A 256 inb_S384x640_S8x640_256_0) (ldB B 256 inb_S384x640_S8x640_256_0) (ix2 k j) = run α β 0 (c (ix2 (0 : Fin 1) j)) (8 * 32 + k.val + 1) := by
  have hp := h31 A B c j α β S (7 : Fin 8)
  simp only [p95]
  rw [ldA_at A 256 _ k j (by omega), ldB_at B 256 _ k j (by omega), hp]
  exact group_end A B j α β S 32 k (by decide) (by omega)

theorem h33 (k : Fin 8) : k0_pay97 (v391 A B c) (v392 A B c) (ldA A 248 inb_S384x640_S8x640_248_0) (ldB B 248 inb_S384x640_S8x640_248_0) (ldA A 256 inb_S384x640_S8x640_256_0) (ldB B 256 inb_S384x640_S8x640_256_0) (ldA A 264 inb_S384x640_S8x640_264_0) (ldB B 264 inb_S384x640_S8x640_264_0) (ix2 k j) = run α β 0 (c (ix2 (0 : Fin 1) j)) (8 * 33 + k.val + 1) := by
  have hp := h32 A B c j α β S (7 : Fin 8)
  simp only [p97]
  rw [ldA_at A 264 _ k j (by omega), ldB_at B 264 _ k j (by omega), hp]
  exact group_end A B j α β S 33 k (by decide) (by omega)

theorem h34 (k : Fin 8) : k0_pay100 (v425 A B c) (v426 A B c) (ldB B 272 inb_S384x640_S8x640_272_0) (ix2 k j) = run α β 0 (c (ix2 (0 : Fin 1) j)) (8 * 34 + k.val + 1) := by
  have hp := h33 A B c j α β S (7 : Fin 8)
  simp only [p100, p99, v425, v426] at hp ⊢
  rw [ldA_at A 272 _ k j (by omega), ldB_at B 272 _ k j (by omega), hp]
  exact group_end A B j α β S 34 k (by decide) (by omega)

theorem h35 (k : Fin 8) : k0_pay102 (v425 A B c) (v426 A B c) (ldB B 272 inb_S384x640_S8x640_272_0) (ldA A 280 inb_S384x640_S8x640_280_0) (ldB B 280 inb_S384x640_S8x640_280_0) (ix2 k j) = run α β 0 (c (ix2 (0 : Fin 1) j)) (8 * 35 + k.val + 1) := by
  have hp := h34 A B c j α β S (7 : Fin 8)
  simp only [p102]
  rw [ldA_at A 280 _ k j (by omega), ldB_at B 280 _ k j (by omega), hp]
  exact group_end A B j α β S 35 k (by decide) (by omega)

theorem h36 (k : Fin 8) : k0_pay104 (v425 A B c) (v426 A B c) (ldB B 272 inb_S384x640_S8x640_272_0) (ldA A 280 inb_S384x640_S8x640_280_0) (ldB B 280 inb_S384x640_S8x640_280_0) (ldA A 288 inb_S384x640_S8x640_288_0) (ldB B 288 inb_S384x640_S8x640_288_0) (ix2 k j) = run α β 0 (c (ix2 (0 : Fin 1) j)) (8 * 36 + k.val + 1) := by
  have hp := h35 A B c j α β S (7 : Fin 8)
  simp only [p104]
  rw [ldA_at A 288 _ k j (by omega), ldB_at B 288 _ k j (by omega), hp]
  exact group_end A B j α β S 36 k (by decide) (by omega)

theorem h37 (k : Fin 8) : k0_pay106 (v425 A B c) (v426 A B c) (ldB B 272 inb_S384x640_S8x640_272_0) (ldA A 280 inb_S384x640_S8x640_280_0) (ldB B 280 inb_S384x640_S8x640_280_0) (ldA A 288 inb_S384x640_S8x640_288_0) (ldB B 288 inb_S384x640_S8x640_288_0) (ldA A 296 inb_S384x640_S8x640_296_0) (ldB B 296 inb_S384x640_S8x640_296_0) (ix2 k j) = run α β 0 (c (ix2 (0 : Fin 1) j)) (8 * 37 + k.val + 1) := by
  have hp := h36 A B c j α β S (7 : Fin 8)
  simp only [p106]
  rw [ldA_at A 296 _ k j (by omega), ldB_at B 296 _ k j (by omega), hp]
  exact group_end A B j α β S 37 k (by decide) (by omega)

theorem h38 (k : Fin 8) : k0_pay109 (v460 A B c) (ldA A 304 inb_S384x640_S8x640_304_0) (ldB B 304 inb_S384x640_S8x640_304_0) (ix2 k j) = run α β 0 (c (ix2 (0 : Fin 1) j)) (8 * 38 + k.val + 1) := by
  have hp := h37 A B c j α β S (7 : Fin 8)
  simp only [p109, p108, v460] at hp ⊢
  rw [ldA_at A 304 _ k j (by omega), ldB_at B 304 _ k j (by omega), hp]
  exact group_end A B j α β S 38 k (by decide) (by omega)

theorem h39 (k : Fin 8) : k0_pay111 (v460 A B c) (ldA A 304 inb_S384x640_S8x640_304_0) (ldB B 304 inb_S384x640_S8x640_304_0) (ldA A 312 inb_S384x640_S8x640_312_0) (ldB B 312 inb_S384x640_S8x640_312_0) (ix2 k j) = run α β 0 (c (ix2 (0 : Fin 1) j)) (8 * 39 + k.val + 1) := by
  have hp := h38 A B c j α β S (7 : Fin 8)
  simp only [p111]
  rw [ldA_at A 312 _ k j (by omega), ldB_at B 312 _ k j (by omega), hp]
  exact group_end A B j α β S 39 k (by decide) (by omega)

theorem h40 (k : Fin 8) : k0_pay113 (v460 A B c) (ldA A 304 inb_S384x640_S8x640_304_0) (ldB B 304 inb_S384x640_S8x640_304_0) (ldA A 312 inb_S384x640_S8x640_312_0) (ldB B 312 inb_S384x640_S8x640_312_0) (ldA A 320 inb_S384x640_S8x640_320_0) (ldB B 320 inb_S384x640_S8x640_320_0) (ix2 k j) = run α β 0 (c (ix2 (0 : Fin 1) j)) (8 * 40 + k.val + 1) := by
  have hp := h39 A B c j α β S (7 : Fin 8)
  simp only [p113]
  rw [ldA_at A 320 _ k j (by omega), ldB_at B 320 _ k j (by omega), hp]
  exact group_end A B j α β S 40 k (by decide) (by omega)

theorem h41 (k : Fin 8) : k0_pay115 (v460 A B c) (ldA A 304 inb_S384x640_S8x640_304_0) (ldB B 304 inb_S384x640_S8x640_304_0) (ldA A 312 inb_S384x640_S8x640_312_0) (ldB B 312 inb_S384x640_S8x640_312_0) (ldA A 320 inb_S384x640_S8x640_320_0) (ldB B 320 inb_S384x640_S8x640_320_0) (ldA A 328 inb_S384x640_S8x640_328_0) (ldB B 328 inb_S384x640_S8x640_328_0) (ix2 k j) = run α β 0 (c (ix2 (0 : Fin 1) j)) (8 * 41 + k.val + 1) := by
  have hp := h40 A B c j α β S (7 : Fin 8)
  simp only [p115]
  rw [ldA_at A 328 _ k j (by omega), ldB_at B 328 _ k j (by omega), hp]
  exact group_end A B j α β S 41 k (by decide) (by omega)

theorem h42 (k : Fin 8) : k0_pay117 (v492 A B c) (ldA A 336 inb_S384x640_S8x640_336_0) (ldB B 336 inb_S384x640_S8x640_336_0) (ix2 k j) = run α β 0 (c (ix2 (0 : Fin 1) j)) (8 * 42 + k.val + 1) := by
  have hp := h41 A B c j α β S (7 : Fin 8)
  simp only [p117, v492] at hp ⊢
  rw [ldA_at A 336 _ k j (by omega), ldB_at B 336 _ k j (by omega), hp]
  exact group_end A B j α β S 42 k (by decide) (by omega)

theorem h43 (k : Fin 8) : k0_pay119 (v492 A B c) (ldA A 336 inb_S384x640_S8x640_336_0) (ldB B 336 inb_S384x640_S8x640_336_0) (ldA A 344 inb_S384x640_S8x640_344_0) (ldB B 344 inb_S384x640_S8x640_344_0) (ix2 k j) = run α β 0 (c (ix2 (0 : Fin 1) j)) (8 * 43 + k.val + 1) := by
  have hp := h42 A B c j α β S (7 : Fin 8)
  simp only [p119]
  rw [ldA_at A 344 _ k j (by omega), ldB_at B 344 _ k j (by omega), hp]
  exact group_end A B j α β S 43 k (by decide) (by omega)

theorem h44 (k : Fin 8) : k0_pay121 (v492 A B c) (ldA A 336 inb_S384x640_S8x640_336_0) (ldB B 336 inb_S384x640_S8x640_336_0) (ldA A 344 inb_S384x640_S8x640_344_0) (ldB B 344 inb_S384x640_S8x640_344_0) (ldA A 352 inb_S384x640_S8x640_352_0) (ldB B 352 inb_S384x640_S8x640_352_0) (ix2 k j) = run α β 0 (c (ix2 (0 : Fin 1) j)) (8 * 44 + k.val + 1) := by
  have hp := h43 A B c j α β S (7 : Fin 8)
  simp only [p121]
  rw [ldA_at A 352 _ k j (by omega), ldB_at B 352 _ k j (by omega), hp]
  exact group_end A B j α β S 44 k (by decide) (by omega)

theorem h45 (k : Fin 8) : k0_pay124 (v526 A B c) (v527 A B c) (ix2 k j) = run α β 0 (c (ix2 (0 : Fin 1) j)) (8 * 45 + k.val + 1) := by
  have hp := h44 A B c j α β S (7 : Fin 8)
  simp only [p124, p123, v526, v527] at hp ⊢
  rw [ldA_at A 360 _ k j (by omega), ldB_at B 360 _ k j (by omega), hp]
  exact group_end A B j α β S 45 k (by decide) (by omega)

theorem h46 (k : Fin 8) : k0_pay126 (v526 A B c) (v527 A B c) (ldA A 368 inb_S384x640_S8x640_368_0) (ldB B 368 inb_S384x640_S8x640_368_0) (ix2 k j) = run α β 0 (c (ix2 (0 : Fin 1) j)) (8 * 46 + k.val + 1) := by
  have hp := h45 A B c j α β S (7 : Fin 8)
  simp only [p126, v527] at hp ⊢
  rw [ldA_at A 368 _ k j (by omega), ldB_at B 368 _ k j (by omega), hp]
  exact group_end A B j α β S 46 k (by decide) (by omega)

theorem h47 (k : Fin 8) : k0_pay128 (v526 A B c) (v527 A B c) (ldA A 368 inb_S384x640_S8x640_368_0) (ldB B 368 inb_S384x640_S8x640_368_0) (ldA A 376 inb_S384x640_S8x640_376_0) (ldB B 376 inb_S384x640_S8x640_376_0) (ix2 k j) = run α β 0 (c (ix2 (0 : Fin 1) j)) (8 * 47 + k.val + 1) := by
  have hp := h46 A B c j α β S (7 : Fin 8)
  simp only [p128]
  rw [ldA_at A 376 _ k j (by omega), ldB_at B 376 _ k j (by omega), hp]
  exact group_end A B j α β S 47 k (by decide) (by omega)

/-- The forty-eight stores. -/
def pieces : List (View.Piece (Elt Ideal) S384x640 .f32) :=
  [⟨Rect.unit (s := S384x640) ![376, 0] S8x640.size inb_S384x640_S8x640_376_0, k0_pay129 (v526 A B c) (v527 A B c) (ldA A 368 inb_S384x640_S8x640_368_0) (ldB B 368 inb_S384x640_S8x640_368_0) (ldA A 376 inb_S384x640_S8x640_376_0) (ldB B 376 inb_S384x640_S8x640_376_0)⟩,
   ⟨Rect.unit (s := S384x640) ![368, 0] S8x640.size inb_S384x640_S8x640_368_0, k0_pay127 (v526 A B c) (v527 A B c) (ldA A 368 inb_S384x640_S8x640_368_0) (ldB B 368 inb_S384x640_S8x640_368_0)⟩,
   ⟨Rect.unit (s := S384x640) ![360, 0] S8x640.size inb_S384x640_S8x640_360_0, k0_pay125 (v526 A B c) (v527 A B c)⟩,
   ⟨Rect.unit (s := S384x640) ![352, 0] S8x640.size inb_S384x640_S8x640_352_0, k0_pay122 (v492 A B c) (ldA A 336 inb_S384x640_S8x640_336_0) (ldB B 336 inb_S384x640_S8x640_336_0) (ldA A 344 inb_S384x640_S8x640_344_0) (ldB B 344 inb_S384x640_S8x640_344_0) (ldA A 352 inb_S384x640_S8x640_352_0) (ldB B 352 inb_S384x640_S8x640_352_0)⟩,
   ⟨Rect.unit (s := S384x640) ![344, 0] S8x640.size inb_S384x640_S8x640_344_0, k0_pay120 (v492 A B c) (ldA A 336 inb_S384x640_S8x640_336_0) (ldB B 336 inb_S384x640_S8x640_336_0) (ldA A 344 inb_S384x640_S8x640_344_0) (ldB B 344 inb_S384x640_S8x640_344_0)⟩,
   ⟨Rect.unit (s := S384x640) ![336, 0] S8x640.size inb_S384x640_S8x640_336_0, k0_pay118 (v492 A B c) (ldA A 336 inb_S384x640_S8x640_336_0) (ldB B 336 inb_S384x640_S8x640_336_0)⟩,
   ⟨Rect.unit (s := S384x640) ![328, 0] S8x640.size inb_S384x640_S8x640_328_0, k0_pay116 (v492 A B c)⟩,
   ⟨Rect.unit (s := S384x640) ![320, 0] S8x640.size inb_S384x640_S8x640_320_0, k0_pay114 (v460 A B c) (ldA A 304 inb_S384x640_S8x640_304_0) (ldB B 304 inb_S384x640_S8x640_304_0) (ldA A 312 inb_S384x640_S8x640_312_0) (ldB B 312 inb_S384x640_S8x640_312_0) (ldA A 320 inb_S384x640_S8x640_320_0) (ldB B 320 inb_S384x640_S8x640_320_0)⟩,
   ⟨Rect.unit (s := S384x640) ![312, 0] S8x640.size inb_S384x640_S8x640_312_0, k0_pay112 (v460 A B c) (ldA A 304 inb_S384x640_S8x640_304_0) (ldB B 304 inb_S384x640_S8x640_304_0) (ldA A 312 inb_S384x640_S8x640_312_0) (ldB B 312 inb_S384x640_S8x640_312_0)⟩,
   ⟨Rect.unit (s := S384x640) ![304, 0] S8x640.size inb_S384x640_S8x640_304_0, k0_pay110 (v460 A B c) (ldA A 304 inb_S384x640_S8x640_304_0) (ldB B 304 inb_S384x640_S8x640_304_0)⟩,
   ⟨Rect.unit (s := S384x640) ![296, 0] S8x640.size inb_S384x640_S8x640_296_0, k0_pay107 (v425 A B c) (v426 A B c) (ldB B 272 inb_S384x640_S8x640_272_0) (ldA A 280 inb_S384x640_S8x640_280_0) (ldB B 280 inb_S384x640_S8x640_280_0) (ldA A 288 inb_S384x640_S8x640_288_0) (ldB B 288 inb_S384x640_S8x640_288_0) (ldA A 296 inb_S384x640_S8x640_296_0) (ldB B 296 inb_S384x640_S8x640_296_0)⟩,
   ⟨Rect.unit (s := S384x640) ![288, 0] S8x640.size inb_S384x640_S8x640_288_0, k0_pay105 (v425 A B c) (v426 A B c) (ldB B 272 inb_S384x640_S8x640_272_0) (ldA A 280 inb_S384x640_S8x640_280_0) (ldB B 280 inb_S384x640_S8x640_280_0) (ldA A 288 inb_S384x640_S8x640_288_0) (ldB B 288 inb_S384x640_S8x640_288_0)⟩,
   ⟨Rect.unit (s := S384x640) ![280, 0] S8x640.size inb_S384x640_S8x640_280_0, k0_pay103 (v425 A B c) (v426 A B c) (ldB B 272 inb_S384x640_S8x640_272_0) (ldA A 280 inb_S384x640_S8x640_280_0) (ldB B 280 inb_S384x640_S8x640_280_0)⟩,
   ⟨Rect.unit (s := S384x640) ![272, 0] S8x640.size inb_S384x640_S8x640_272_0, k0_pay101 (v425 A B c) (v426 A B c) (ldB B 272 inb_S384x640_S8x640_272_0)⟩,
   ⟨Rect.unit (s := S384x640) ![264, 0] S8x640.size inb_S384x640_S8x640_264_0, k0_pay98 (v391 A B c) (v392 A B c) (ldA A 248 inb_S384x640_S8x640_248_0) (ldB B 248 inb_S384x640_S8x640_248_0) (ldA A 256 inb_S384x640_S8x640_256_0) (ldB B 256 inb_S384x640_S8x640_256_0) (ldA A 264 inb_S384x640_S8x640_264_0) (ldB B 264 inb_S384x640_S8x640_264_0)⟩,
   ⟨Rect.unit (s := S384x640) ![256, 0] S8x640.size inb_S384x640_S8x640_256_0, k0_pay96 (v391 A B c) (v392 A B c) (ldA A 248 inb_S384x640_S8x640_248_0) (ldB B 248 inb_S384x640_S8x640_248_0) (ldA A 256 inb_S384x640_S8x640_256_0) (ldB B 256 inb_S384x640_S8x640_256_0)⟩,
   ⟨Rect.unit (s := S384x640) ![248, 0] S8x640.size inb_S384x640_S8x640_248_0, k0_pay94 (v391 A B c) (v392 A B c) (ldA A 248 inb_S384x640_S8x640_248_0) (ldB B 248 inb_S384x640_S8x640_248_0)⟩,
   ⟨Rect.unit (s := S384x640) ![240, 0] S8x640.size inb_S384x640_S8x640_240_0, k0_pay92 (v391 A B c) (v392 A B c)⟩,
   ⟨Rect.unit (s := S384x640) ![232, 0] S8x640.size inb_S384x640_S8x640_232_0, k0_pay89 (v357 A B c) (ldA A 216 inb_S384x640_S8x640_216_0) (ldB B 216 inb_S384x640_S8x640_216_0) (ldA A 224 inb_S384x640_S8x640_224_0) (ldB B 224 inb_S384x640_S8x640_224_0) (ldA A 232 inb_S384x640_S8x640_232_0) (ldB B 232 inb_S384x640_S8x640_232_0)⟩,
   ⟨Rect.unit (s := S384x640) ![224, 0] S8x640.size inb_S384x640_S8x640_224_0, k0_pay87 (v357 A B c) (ldA A 216 inb_S384x640_S8x640_216_0) (ldB B 216 inb_S384x640_S8x640_216_0) (ldA A 224 inb_S384x640_S8x640_224_0) (ldB B 224 inb_S384x640_S8x640_224_0)⟩,
   ⟨Rect.unit (s := S384x640) ![216, 0] S8x640.size inb_S384x640_S8x640_216_0, k0_pay85 (v357 A B c) (ldA A 216 inb_S384x640_S8x640_216_0) (ldB B 216 inb_S384x640_S8x640_216_0)⟩,
   ⟨Rect.unit (s := S384x640) ![208, 0] S8x640.size inb_S384x640_S8x640_208_0, k0_pay83 (v357 A B c)⟩,
   ⟨Rect.unit (s := S384x640) ![200, 0] S8x640.size inb_S384x640_S8x640_200_0, k0_pay81 (v325 A B c) (ldA A 184 inb_S384x640_S8x640_184_0) (ldB B 184 inb_S384x640_S8x640_184_0) (ldA A 192 inb_S384x640_S8x640_192_0) (ldB B 192 inb_S384x640_S8x640_192_0) (ldA A 200 inb_S384x640_S8x640_200_0) (ldB B 200 inb_S384x640_S8x640_200_0)⟩,
   ⟨Rect.unit (s := S384x640) ![192, 0] S8x640.size inb_S384x640_S8x640_192_0, k0_pay79 (v325 A B c) (ldA A 184 inb_S384x640_S8x640_184_0) (ldB B 184 inb_S384x640_S8x640_184_0) (ldA A 192 inb_S384x640_S8x640_192_0) (ldB B 192 inb_S384x640_S8x640_192_0)⟩,
   ⟨Rect.unit (s := S384x640) ![184, 0] S8x640.size inb_S384x640_S8x640_184_0, k0_pay77 (v325 A B c) (ldA A 184 inb_S384x640_S8x640_184_0) (ldB B 184 inb_S384x640_S8x640_184_0)⟩,
   ⟨Rect.unit (s := S384x640) ![176, 0] S8x640.size inb_S384x640_S8x640_176_0, k0_pay74 (v290 A B c) (v291 A B c) (ldB B 152 inb_S384x640_S8x640_152_0) (ldA A 160 inb_S384x640_S8x640_160_0) (ldB B 160 inb_S384x640_S8x640_160_0) (ldA A 168 inb_S384x640_S8x640_168_0) (ldB B 168 inb_S384x640_S8x640_168_0) (ldA A 176 inb_S384x640_S8x640_176_0) (ldB B 176 inb_S384x640_S8x640_176_0)⟩,
   ⟨Rect.unit (s := S384x640) ![168, 0] S8x640.size inb_S384x640_S8x640_168_0, k0_pay72 (v290 A B c) (v291 A B c) (ldB B 152 inb_S384x640_S8x640_152_0) (ldA A 160 inb_S384x640_S8x640_160_0) (ldB B 160 inb_S384x640_S8x640_160_0) (ldA A 168 inb_S384x640_S8x640_168_0) (ldB B 168 inb_S384x640_S8x640_168_0)⟩,
   ⟨Rect.unit (s := S384x640) ![160, 0] S8x640.size inb_S384x640_S8x640_160_0, k0_pay70 (v290 A B c) (v291 A B c) (ldB B 152 inb_S384x640_S8x640_152_0) (ldA A 160 inb_S384x640_S8x640_160_0) (ldB B 160 inb_S384x640_S8x640_160_0)⟩,
   ⟨Rect.unit (s := S384x640) ![152, 0] S8x640.size inb_S384x640_S8x640_152_0, k0_pay68 (v290 A B c) (v291 A B c) (ldB B 152 inb_S384x640_S8x640_152_0)⟩,
   ⟨Rect.unit (s := S384x640) ![144, 0] S8x640.size inb_S384x640_S8x640_144_0, k0_pay65 (v256 A B c) (v257 A B c) (ldA A 128 inb_S384x640_S8x640_128_0) (ldB B 128 inb_S384x640_S8x640_128_0) (ldA A 136 inb_S384x640_S8x640_136_0) (ldB B 136 inb_S384x640_S8x640_136_0) (ldA A 144 inb_S384x640_S8x640_144_0) (ldB B 144 inb_S384x640_S8x640_144_0)⟩,
   ⟨Rect.unit (s := S384x640) ![136, 0] S8x640.size inb_S384x640_S8x640_136_0, k0_pay63 (v256 A B c) (v257 A B c) (ldA A 128 inb_S384x640_S8x640_128_0) (ldB B 128 inb_S384x640_S8x640_128_0) (ldA A 136 inb_S384x640_S8x640_136_0) (ldB B 136 inb_S384x640_S8x640_136_0)⟩,
   ⟨Rect.unit (s := S384x640) ![128, 0] S8x640.size inb_S384x640_S8x640_128_0, k0_pay61 (v256 A B c) (v257 A B c) (ldA A 128 inb_S384x640_S8x640_128_0) (ldB B 128 inb_S384x640_S8x640_128_0)⟩,
   ⟨Rect.unit (s := S384x640) ![120, 0] S8x640.size inb_S384x640_S8x640_120_0, k0_pay59 (v256 A B c) (v257 A B c)⟩,
   ⟨Rect.unit (s := S384x640) ![112, 0] S8x640.size inb_S384x640_S8x640_112_0, k0_pay56 (v222 A B c) (ldA A 96 inb_S384x640_S8x640_96_0) (ldB B 96 inb_S384x640_S8x640_96_0) (ldA A 104 inb_S384x640_S8x640_104_0) (ldB B 104 inb_S384x640_S8x640_104_0) (ldA A 112 inb_S384x640_S8x640_112_0) (ldB B 112 inb_S384x640_S8x640_112_0)⟩,
   ⟨Rect.unit (s := S384x640) ![104, 0] S8x640.size inb_S384x640_S8x640_104_0, k0_pay54 (v222 A B c) (ldA A 96 inb_S384x640_S8x640_96_0) (ldB B 96 inb_S384x640_S8x640_96_0) (ldA A 104 inb_S384x640_S8x640_104_0) (ldB B 104 inb_S384x640_S8x640_104_0)⟩,
   ⟨Rect.unit (s := S384x640) ![96, 0] S8x640.size inb_S384x640_S8x640_96_0, k0_pay52 (v222 A B c) (ldA A 96 inb_S384x640_S8x640_96_0) (ldB B 96 inb_S384x640_S8x640_96_0)⟩,
   ⟨Rect.unit (s := S384x640) ![88, 0] S8x640.size inb_S384x640_S8x640_88_0, k0_pay50 (v222 A B c)⟩,
   ⟨Rect.unit (s := S384x640) ![80, 0] S8x640.size inb_S384x640_S8x640_80_0, k0_pay48 (v190 A B c) (ldA A 64 inb_S384x640_S8x640_64_0) (ldB B 64 inb_S384x640_S8x640_64_0) (ldA A 72 inb_S384x640_S8x640_72_0) (ldB B 72 inb_S384x640_S8x640_72_0) (ldA A 80 inb_S384x640_S8x640_80_0) (ldB B 80 inb_S384x640_S8x640_80_0)⟩,
   ⟨Rect.unit (s := S384x640) ![72, 0] S8x640.size inb_S384x640_S8x640_72_0, k0_pay46 (v190 A B c) (ldA A 64 inb_S384x640_S8x640_64_0) (ldB B 64 inb_S384x640_S8x640_64_0) (ldA A 72 inb_S384x640_S8x640_72_0) (ldB B 72 inb_S384x640_S8x640_72_0)⟩,
   ⟨Rect.unit (s := S384x640) ![64, 0] S8x640.size inb_S384x640_S8x640_64_0, k0_pay44 (v190 A B c) (ldA A 64 inb_S384x640_S8x640_64_0) (ldB B 64 inb_S384x640_S8x640_64_0)⟩,
   ⟨Rect.unit (s := S384x640) ![56, 0] S8x640.size inb_S384x640_S8x640_56_0, k0_pay41 (v155 A B c) (v156 A B c) (ldB B 32 inb_S384x640_S8x640_32_0) (ldA A 40 inb_S384x640_S8x640_40_0) (ldB B 40 inb_S384x640_S8x640_40_0) (ldA A 48 inb_S384x640_S8x640_48_0) (ldB B 48 inb_S384x640_S8x640_48_0) (ldA A 56 inb_S384x640_S8x640_56_0) (ldB B 56 inb_S384x640_S8x640_56_0)⟩,
   ⟨Rect.unit (s := S384x640) ![48, 0] S8x640.size inb_S384x640_S8x640_48_0, k0_pay39 (v155 A B c) (v156 A B c) (ldB B 32 inb_S384x640_S8x640_32_0) (ldA A 40 inb_S384x640_S8x640_40_0) (ldB B 40 inb_S384x640_S8x640_40_0) (ldA A 48 inb_S384x640_S8x640_48_0) (ldB B 48 inb_S384x640_S8x640_48_0)⟩,
   ⟨Rect.unit (s := S384x640) ![40, 0] S8x640.size inb_S384x640_S8x640_40_0, k0_pay37 (v155 A B c) (v156 A B c) (ldB B 32 inb_S384x640_S8x640_32_0) (ldA A 40 inb_S384x640_S8x640_40_0) (ldB B 40 inb_S384x640_S8x640_40_0)⟩,
   ⟨Rect.unit (s := S384x640) ![32, 0] S8x640.size inb_S384x640_S8x640_32_0, k0_pay35 (v155 A B c) (v156 A B c) (ldB B 32 inb_S384x640_S8x640_32_0)⟩,
   ⟨Rect.unit (s := S384x640) ![24, 0] S8x640.size inb_S384x640_S8x640_24_0, k0_pay32 (v121 A B c) (v122 A B c) (ldA A 8 inb_S384x640_S8x640_8_0) (ldB B 8 inb_S384x640_S8x640_8_0) (ldA A 16 inb_S384x640_S8x640_16_0) (ldB B 16 inb_S384x640_S8x640_16_0) (ldA A 24 inb_S384x640_S8x640_24_0) (ldB B 24 inb_S384x640_S8x640_24_0)⟩,
   ⟨Rect.unit (s := S384x640) ![16, 0] S8x640.size inb_S384x640_S8x640_16_0, k0_pay30 (v121 A B c) (v122 A B c) (ldA A 8 inb_S384x640_S8x640_8_0) (ldB B 8 inb_S384x640_S8x640_8_0) (ldA A 16 inb_S384x640_S8x640_16_0) (ldB B 16 inb_S384x640_S8x640_16_0)⟩,
   ⟨Rect.unit (s := S384x640) ![8, 0] S8x640.size inb_S384x640_S8x640_8_0, k0_pay28 (v121 A B c) (v122 A B c) (ldA A 8 inb_S384x640_S8x640_8_0) (ldB B 8 inb_S384x640_S8x640_8_0)⟩,
   ⟨Rect.unit (s := S384x640) ![0, 0] S8x640.size inb_S384x640_S8x640_0_0, k0_pay26 (v121 A B c) (v122 A B c)⟩]

/-- The carried state after the block. -/
def carryOut : FVec Ideal S1x640 .f32 := k0_pay130 (v526 A B c) (v527 A B c) (ldA A 368 inb_S384x640_S8x640_368_0) (ldB B 368 inb_S384x640_S8x640_368_0) (ldA A 376 inb_S384x640_S8x640_376_0) (ldB B 376 inb_S384x640_S8x640_376_0)

theorem carryOut_at : carryOut A B c (ix2 (0 : Fin 1) j) = run α β 0 (c (ix2 (0 : Fin 1) j)) 384 := by
  refine Eq.trans ?_ (h47 A B c j α β S (7 : Fin 8))
  simp only [carryOut, p130]

/-- The stored block. -/
theorem stored (t : Fin 384) : (View.whole cc0_scratch4).readCov (Val := Elt Ideal) (pieces A B c) (Rect.unit (s := S384x640) ![0, 0] S384x640.size inb_S384x640_S384x640_0_0).toLoadRect (ix2 t j)
    = run α β 0 (c (ix2 (0 : Fin 1) j)) (t.val + 1) := by
  rw [View.readCov_eq_canon']
  suffices H : ∀ y : S384x640.Idx, y 1 = j → View.canon (Val := Elt Ideal) (pieces A B c) y = run α β 0 (c (ix2 (0 : Fin 1) j)) ((y 0).val + 1) by
    refine (congrArg (View.canon (Val := Elt Ideal) (pieces A B c)) ?_).trans (H (ix2 t j) rfl)
    funext a; apply Fin.ext
    fin_cases a
    · show 0 + 1 * t.val = t.val; omega
    · show 0 + 1 * j.val = j.val; omega
  intro y hy
  unfold pieces
  canon_tiles x z
  · obtain ⟨k, rfl, hk⟩ := row_of x j (by rw [← z1, hy])
    refine (p129 _ _ _ _ _ _ k j).trans ((h47 A B c j α β S k).trans (congrArg (run α β 0 _) (by omega)))
  · obtain ⟨k, rfl, hk⟩ := row_of x j (by rw [← z1, hy])
    refine (p127 _ _ _ _ k j).trans ((h46 A B c j α β S k).trans (congrArg (run α β 0 _) (by omega)))
  · obtain ⟨k, rfl, hk⟩ := row_of x j (by rw [← z1, hy])
    refine (p125 _ _ k j).trans ((h45 A B c j α β S k).trans (congrArg (run α β 0 _) (by omega)))
  · obtain ⟨k, rfl, hk⟩ := row_of x j (by rw [← z1, hy])
    refine (p122 _ _ _ _ _ _ _ k j).trans ((h44 A B c j α β S k).trans (congrArg (run α β 0 _) (by omega)))
  · obtain ⟨k, rfl, hk⟩ := row_of x j (by rw [← z1, hy])
    refine (p120 _ _ _ _ _ k j).trans ((h43 A B c j α β S k).trans (congrArg (run α β 0 _) (by omega)))
  · obtain ⟨k, rfl, hk⟩ := row_of x j (by rw [← z1, hy])
    refine (p118 _ _ _ k j).trans ((h42 A B c j α β S k).trans (congrArg (run α β 0 _) (by omega)))
  · obtain ⟨k, rfl, hk⟩ := row_of x j (by rw [← z1, hy])
    refine (p116 _ k j).trans ((h41 A B c j α β S k).trans (congrArg (run α β 0 _) (by omega)))
  · obtain ⟨k, rfl, hk⟩ := row_of x j (by rw [← z1, hy])
    refine (p114 _ _ _ _ _ _ _ k j).trans ((h40 A B c j α β S k).trans (congrArg (run α β 0 _) (by omega)))
  · obtain ⟨k, rfl, hk⟩ := row_of x j (by rw [← z1, hy])
    refine (p112 _ _ _ _ _ k j).trans ((h39 A B c j α β S k).trans (congrArg (run α β 0 _) (by omega)))
  · obtain ⟨k, rfl, hk⟩ := row_of x j (by rw [← z1, hy])
    refine (p110 _ _ _ k j).trans ((h38 A B c j α β S k).trans (congrArg (run α β 0 _) (by omega)))
  · obtain ⟨k, rfl, hk⟩ := row_of x j (by rw [← z1, hy])
    refine (p107 _ _ _ _ _ _ _ _ _ k j).trans ((h37 A B c j α β S k).trans (congrArg (run α β 0 _) (by omega)))
  · obtain ⟨k, rfl, hk⟩ := row_of x j (by rw [← z1, hy])
    refine (p105 _ _ _ _ _ _ _ k j).trans ((h36 A B c j α β S k).trans (congrArg (run α β 0 _) (by omega)))
  · obtain ⟨k, rfl, hk⟩ := row_of x j (by rw [← z1, hy])
    refine (p103 _ _ _ _ _ k j).trans ((h35 A B c j α β S k).trans (congrArg (run α β 0 _) (by omega)))
  · obtain ⟨k, rfl, hk⟩ := row_of x j (by rw [← z1, hy])
    refine (p101 _ _ _ k j).trans ((h34 A B c j α β S k).trans (congrArg (run α β 0 _) (by omega)))
  · obtain ⟨k, rfl, hk⟩ := row_of x j (by rw [← z1, hy])
    refine (p98 _ _ _ _ _ _ _ _ k j).trans ((h33 A B c j α β S k).trans (congrArg (run α β 0 _) (by omega)))
  · obtain ⟨k, rfl, hk⟩ := row_of x j (by rw [← z1, hy])
    refine (p96 _ _ _ _ _ _ k j).trans ((h32 A B c j α β S k).trans (congrArg (run α β 0 _) (by omega)))
  · obtain ⟨k, rfl, hk⟩ := row_of x j (by rw [← z1, hy])
    refine (p94 _ _ _ _ k j).trans ((h31 A B c j α β S k).trans (congrArg (run α β 0 _) (by omega)))
  · obtain ⟨k, rfl, hk⟩ := row_of x j (by rw [← z1, hy])
    refine (p92 _ _ k j).trans ((h30 A B c j α β S k).trans (congrArg (run α β 0 _) (by omega)))
  · obtain ⟨k, rfl, hk⟩ := row_of x j (by rw [← z1, hy])
    refine (p89 _ _ _ _ _ _ _ k j).trans ((h29 A B c j α β S k).trans (congrArg (run α β 0 _) (by omega)))
  · obtain ⟨k, rfl, hk⟩ := row_of x j (by rw [← z1, hy])
    refine (p87 _ _ _ _ _ k j).trans ((h28 A B c j α β S k).trans (congrArg (run α β 0 _) (by omega)))
  · obtain ⟨k, rfl, hk⟩ := row_of x j (by rw [← z1, hy])
    refine (p85 _ _ _ k j).trans ((h27 A B c j α β S k).trans (congrArg (run α β 0 _) (by omega)))
  · obtain ⟨k, rfl, hk⟩ := row_of x j (by rw [← z1, hy])
    refine (p83 _ k j).trans ((h26 A B c j α β S k).trans (congrArg (run α β 0 _) (by omega)))
  · obtain ⟨k, rfl, hk⟩ := row_of x j (by rw [← z1, hy])
    refine (p81 _ _ _ _ _ _ _ k j).trans ((h25 A B c j α β S k).trans (congrArg (run α β 0 _) (by omega)))
  · obtain ⟨k, rfl, hk⟩ := row_of x j (by rw [← z1, hy])
    refine (p79 _ _ _ _ _ k j).trans ((h24 A B c j α β S k).trans (congrArg (run α β 0 _) (by omega)))
  · obtain ⟨k, rfl, hk⟩ := row_of x j (by rw [← z1, hy])
    refine (p77 _ _ _ k j).trans ((h23 A B c j α β S k).trans (congrArg (run α β 0 _) (by omega)))
  · obtain ⟨k, rfl, hk⟩ := row_of x j (by rw [← z1, hy])
    refine (p74 _ _ _ _ _ _ _ _ _ k j).trans ((h22 A B c j α β S k).trans (congrArg (run α β 0 _) (by omega)))
  · obtain ⟨k, rfl, hk⟩ := row_of x j (by rw [← z1, hy])
    refine (p72 _ _ _ _ _ _ _ k j).trans ((h21 A B c j α β S k).trans (congrArg (run α β 0 _) (by omega)))
  · obtain ⟨k, rfl, hk⟩ := row_of x j (by rw [← z1, hy])
    refine (p70 _ _ _ _ _ k j).trans ((h20 A B c j α β S k).trans (congrArg (run α β 0 _) (by omega)))
  · obtain ⟨k, rfl, hk⟩ := row_of x j (by rw [← z1, hy])
    refine (p68 _ _ _ k j).trans ((h19 A B c j α β S k).trans (congrArg (run α β 0 _) (by omega)))
  · obtain ⟨k, rfl, hk⟩ := row_of x j (by rw [← z1, hy])
    refine (p65 _ _ _ _ _ _ _ _ k j).trans ((h18 A B c j α β S k).trans (congrArg (run α β 0 _) (by omega)))
  · obtain ⟨k, rfl, hk⟩ := row_of x j (by rw [← z1, hy])
    refine (p63 _ _ _ _ _ _ k j).trans ((h17 A B c j α β S k).trans (congrArg (run α β 0 _) (by omega)))
  · obtain ⟨k, rfl, hk⟩ := row_of x j (by rw [← z1, hy])
    refine (p61 _ _ _ _ k j).trans ((h16 A B c j α β S k).trans (congrArg (run α β 0 _) (by omega)))
  · obtain ⟨k, rfl, hk⟩ := row_of x j (by rw [← z1, hy])
    refine (p59 _ _ k j).trans ((h15 A B c j α β S k).trans (congrArg (run α β 0 _) (by omega)))
  · obtain ⟨k, rfl, hk⟩ := row_of x j (by rw [← z1, hy])
    refine (p56 _ _ _ _ _ _ _ k j).trans ((h14 A B c j α β S k).trans (congrArg (run α β 0 _) (by omega)))
  · obtain ⟨k, rfl, hk⟩ := row_of x j (by rw [← z1, hy])
    refine (p54 _ _ _ _ _ k j).trans ((h13 A B c j α β S k).trans (congrArg (run α β 0 _) (by omega)))
  · obtain ⟨k, rfl, hk⟩ := row_of x j (by rw [← z1, hy])
    refine (p52 _ _ _ k j).trans ((h12 A B c j α β S k).trans (congrArg (run α β 0 _) (by omega)))
  · obtain ⟨k, rfl, hk⟩ := row_of x j (by rw [← z1, hy])
    refine (p50 _ k j).trans ((h11 A B c j α β S k).trans (congrArg (run α β 0 _) (by omega)))
  · obtain ⟨k, rfl, hk⟩ := row_of x j (by rw [← z1, hy])
    refine (p48 _ _ _ _ _ _ _ k j).trans ((h10 A B c j α β S k).trans (congrArg (run α β 0 _) (by omega)))
  · obtain ⟨k, rfl, hk⟩ := row_of x j (by rw [← z1, hy])
    refine (p46 _ _ _ _ _ k j).trans ((h9 A B c j α β S k).trans (congrArg (run α β 0 _) (by omega)))
  · obtain ⟨k, rfl, hk⟩ := row_of x j (by rw [← z1, hy])
    refine (p44 _ _ _ k j).trans ((h8 A B c j α β S k).trans (congrArg (run α β 0 _) (by omega)))
  · obtain ⟨k, rfl, hk⟩ := row_of x j (by rw [← z1, hy])
    refine (p41 _ _ _ _ _ _ _ _ _ k j).trans ((h7 A B c j α β S k).trans (congrArg (run α β 0 _) (by omega)))
  · obtain ⟨k, rfl, hk⟩ := row_of x j (by rw [← z1, hy])
    refine (p39 _ _ _ _ _ _ _ k j).trans ((h6 A B c j α β S k).trans (congrArg (run α β 0 _) (by omega)))
  · obtain ⟨k, rfl, hk⟩ := row_of x j (by rw [← z1, hy])
    refine (p37 _ _ _ _ _ k j).trans ((h5 A B c j α β S k).trans (congrArg (run α β 0 _) (by omega)))
  · obtain ⟨k, rfl, hk⟩ := row_of x j (by rw [← z1, hy])
    refine (p35 _ _ _ k j).trans ((h4 A B c j α β S k).trans (congrArg (run α β 0 _) (by omega)))
  · obtain ⟨k, rfl, hk⟩ := row_of x j (by rw [← z1, hy])
    refine (p32 _ _ _ _ _ _ _ _ k j).trans ((h3 A B c j α β S k).trans (congrArg (run α β 0 _) (by omega)))
  · obtain ⟨k, rfl, hk⟩ := row_of x j (by rw [← z1, hy])
    refine (p30 _ _ _ _ _ _ k j).trans ((h2 A B c j α β S k).trans (congrArg (run α β 0 _) (by omega)))
  · obtain ⟨k, rfl, hk⟩ := row_of x j (by rw [← z1, hy])
    refine (p28 _ _ _ _ k j).trans ((h1 A B c j α β S k).trans (congrArg (run α β 0 _) (by omega)))
  · obtain ⟨k, rfl, hk⟩ := row_of x j (by rw [← z1, hy])
    refine (p26 _ _ k j).trans ((h0 A B c j α β S k).trans (congrArg (run α β 0 _) (by omega)))

end Cert.LruIdeal.Proof

end
-- ==== Proof.LruEntry.lean ====
/-
  The reference's loop from its entry: the arrays it starts on, its 4224 trips, and the result made of the stored states.
-/
module

public import proofs.«01_k».proof.Proof.LruRefGates

@[expose] public section

set_option maxRecDepth 65536
set_option maxHeartbeats 1000000

noncomputable section

open Idealize.ShloMosaic Idealize.ShloMosaic.TcCoe Idealize.SL.Sem Idealize.ShloMosaic.StableHlo

namespace Cert.LruRefIdeal.Proof

open Cert.LruRefIdeal Cert.LruRefIdeal.Gen Cert.LruRefIdeal.Step Cert.LruRefIdeal.Value Cert.LruMath

variable (m : (ℓ : Loc nD τ sig) → Buf (Elt Ideal) ℓ) (c : Dev nD)

/-- The decays and drives of a launch. -/
abbrev DecayOf : FVec Ideal S4224x4x2560 .f32 := Decay (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
abbrev DriveOf : FVec Ideal S4224x4x2560 .f32 := Drive (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

set_option maxHeartbeats 2000000 in
theorem entry_decay : entryContents preI m c (Proc.devRef .tc main_v92_0) = DecayOf m c := by
  simp only [entryContents, preI, afterL_cons, afterL_nil]
  after_reads_simp
  rfl

set_option maxHeartbeats 2000000 in
theorem entry_drive : entryContents preI m c (Proc.devRef .tc main_v92_1) = DriveOf m c := by
  simp only [entryContents, preI, afterL_cons, afterL_nil]
  after_reads_simp
  rfl

theorem entry_count : entryContents preI m c (Proc.devRef .tc main_v92_2) = constantI S_ 32 (BitVec.ofNat 32 0) := by
  simp only [entryContents, preI, afterL_cons, afterL_nil]
  after_reads_simp
  try rfl

theorem entry_state : entryContents preI m c (Proc.devRef .tc main_v92_3) = K_main_v88 (F := Ideal) := by
  simp only [entryContents, preI, afterL_cons, afterL_nil]
  after_reads_simp
  rfl

/-- Before the first trip the state is zero and nothing is stored. -/
theorem entry : At (DecayOf m c) (DriveOf m c) (entryContents preI m c) 0 where
  decay := entry_decay m c
  drive := entry_drive m c
  count := entry_count m c
  state p q := by
    rw [entry_state]
    show K_main_v88 (F := Ideal) (ix2 p q) = (0 : EReal)
    pointwise [K_main_v88, K_main_cst_6]
  stored t p q h := absurd h (Nat.not_lt_zero _)

/-- Before trip `n`. -/
theorem trips : ∀ n, n ≤ 4224 → At (DecayOf m c) (DriveOf m c) (STEP^[n] (entryContents preI m c)) n
  | 0, _ => entry m c
  | n + 1, h => by
    rw [Function.iterate_succ_apply']
    exact (trips n (by omega)).next (by omega)

/-- The gated linear unit's second factor. -/
def gelu (y : EReal) : EReal := y * (Ideal.ofBits FTy.f32 0x3F000000#32 * (1 + Ideal.tanh (Ideal.ofBits FTy.f32 0x3F4C422A#32 * (y + Ideal.ofBits FTy.f32 0x3D372713#32 * (y * y * y)))))

/-- The result at a row and a column: the stored state times the gate. -/
theorem result_at (p : Fin 4) (t : Fin 4224) (q : Fin 2560) :
    (out_main_v111 (STEP^[4224] (entryContents preI m c)) : FVec Ideal S16896x2560 .bf16) (ix2 ⟨p.val * 4224 + t.val, by omega⟩ q)
      = run (col (DecayOf m c) p q) (col (DriveOf m c) p q) 0 0 (t.val + 1)
        * gelu ((m ((c : Thread nD τ).loc main_arg0) : FVec Ideal S16896x5120 .f32) (ix2 ⟨p.val * 4224 + t.val, by omega⟩ ⟨2560 + q.val, by omega⟩)) := by
  rw [← (trips m c 4224 (le_refl _)).stored t p q t.isLt]
  unfold out_main_v111
  rw [iter_main_arg0 m c 4224]
  pointwise
  rfl

end Cert.LruRefIdeal.Proof

end
-- ==== Proof.LruPoint.lean ====
/-
  The recurrence, point by point: the carry after a point is the reference's state after the rows so far, and the block a point writes is the
  reference's.
-/
module

public import proofs.«01_k».proof.Proof.LruRows
public import proofs.«01_k».proof.Proof.LruGroups
public import proofs.«01_k».proof.Proof.LruEntry

@[expose] public section

set_option maxRecDepth 16384
set_option maxHeartbeats 1000000

noncomputable section

open Idealize.ShloMosaic Idealize.ShloMosaic.TcCoe Idealize.SL.Sem

namespace Cert.LruMath

/-- Two recurrences whose coefficients agree run alike. -/
theorem run_congr {a b a' b' : ℕ → EReal} {n n' : ℕ} (h : EReal) : ∀ l, (∀ k, k < l → a (n + k) = a' (n' + k) ∧ b (n + k) = b' (n' + k)) →
    run a b n h l = run a' b' n' h l
  | 0, _ => rfl
  | l + 1, e => by
    show a (n + l) * run a b n h l + b (n + l) = a' (n' + l) * run a' b' n' h l + b' (n' + l)
    rw [run_congr h l fun k hk => e k (by omega), (e l (by omega)).1, (e l (by omega)).2]

end Cert.LruMath

namespace Cert.LruIdeal.Proof

open Cert.LruIdeal Cert.LruIdeal.Gen Cert.LruMath Cert.LruRefIdeal.Proof

variable (m : (ℓ : Loc nD τ sig) → Buf (Elt Ideal) ℓ)

/-- The launch's decays and drives. -/
abbrev Da (c : Dev nD) : FVec Ideal Cert.LruRefIdeal.S4224x4x2560 .f32 := Decay (inp0 m c) (inp1 m c) (inp2 m c) (inp3 m c) (inp4 m c) (inp5 m c) (inp6 m c) (inp7 m c)
abbrev Dx (c : Dev nD) : FVec Ideal Cert.LruRefIdeal.S4224x4x2560 .f32 := Drive (inp0 m c) (inp1 m c) (inp2 m c) (inp3 m c) (inp4 m c) (inp5 m c) (inp6 m c) (inp7 m c)

/-- The state of a point's column `j` after `n` rows of its batch. -/
def state (c : Dev nD) (t : Fin cfg0.N) (j : Fin 640) (n : ℕ) : EReal :=
  run (col (Da m c) (batch t) (wide t j)) (col (Dx m c) (batch t) (wide t j)) 0 0 n

/-- A point's decays and drives, of the three shifted loads. -/
abbrev Xk (c : Dev nD) (t : Fin cfg0.N) (a b d : FVec Ideal S384x640 .f32) : FVec Ideal S384x640 .f32 :=
  k0_pay13 (k0_pay6 (iblk m c 2 t)) (k0_pay8 (iblk m c 2 t)) (k0_pay9 (iblk m c 0 t) (iblk m c 2 t) a b d) (iblk m c 3 t)
abbrev Yk (c : Dev nD) (t : Fin cfg0.N) (a b d : FVec Ideal S384x640 .f32) : FVec Ideal S384x640 .f32 :=
  k0_pay14 (k0_pay6 (iblk m c 2 t)) (k0_pay7 (iblk m c 2 t)) (k0_pay8 (iblk m c 2 t)) (k0_pay9 (iblk m c 0 t) (iblk m c 2 t) a b d) (iblk m c 3 t)

section

variable (c : Dev nD) (t : Fin cfg0.N) (a b d : FVec Ideal S384x640 .f32)
  (ha : ∀ r j, a (ix2 r j) = back (inp0 m c) (time t r) (batch t) (wide t j) 1)
  (hb : ∀ r j, b (ix2 r j) = back (inp0 m c) (time t r) (batch t) (wide t j) 2)
  (hd : ∀ r j, d (ix2 r j) = back (inp0 m c) (time t r) (batch t) (wide t j) 3)

include ha hb hd

theorem xy (r : Fin 384) (j : Fin 640) : Xk m c t a b d (ix2 r j) = Da m c (ix3 (time t r) (batch t) (wide t j))
    ∧ Yk m c t a b d (ix2 r j) = Dx m c (ix3 (time t r) (batch t) (wide t j)) :=
  gates m c t _ (time t r) (batch t) r j fun x => conv_ok m c t a b d ha hb hd r x

/-- Running a block's rows from the state before them gives the state after them. -/
theorem run_block (j : Fin 640) (l : ℕ) (hl : l ≤ 384) :
    run (colv (Xk m c t a b d) j) (colv (Yk m c t a b d) j) 0 (state m c t j (t.val % 11 * 384)) l = state m c t j (t.val % 11 * 384 + l) := by
  unfold state
  rw [run_add _ _ 0 0 (t.val % 11 * 384) l]
  refine run_congr _ l fun k hk => ?_
  have h1 : 0 + k < 384 := by omega
  have h2 : 0 + t.val % 11 * 384 + k < 4224 := by omega
  have e : (⟨0 + t.val % 11 * 384 + k, h2⟩ : Fin 4224) = time t ⟨0 + k, h1⟩ := Fin.ext (by show 0 + t.val % 11 * 384 + k = t.val % 11 * 384 + (0 + k); omega)
  unfold colv col
  rw [dif_pos h1, dif_pos h1, dif_pos h2, dif_pos h2, e]
  exact xy m c t a b d ha hb hd ⟨0 + k, h1⟩ j

theorem segs (j : Fin 640) (s : Fin 384) : Seg (colv (Xk m c t a b d) j) (colv (Yk m c t a b d) j) (s.val / 8 * 8) (s.val % 8 + 1)
    (k0_pay22 (Xk m c t a b d) rows k0_pay15 (ix2 s j)) (k0_pay23 (Xk m c t a b d) (Yk m c t a b d) rows k0_pay15 (ix2 s j)) := by
  refine seg3 _ _ s j fun r => ?_
  rw [(xy m c t a b d ha hb hd r j).1]
  exact decay_ok m c _ _ _

variable (cc : FVec Ideal S1x640 .f32) (hc : ∀ j, cc (ix2 0 j) = state m c t j (t.val % 11 * 384))

include hc

theorem carry_after (j : Fin 640) :
    carryOut (k0_pay22 (Xk m c t a b d) rows k0_pay15) (k0_pay23 (Xk m c t a b d) (Yk m c t a b d) rows k0_pay15) cc (ix2 0 j)
      = state m c t j (t.val % 11 * 384 + 384) := by
  rw [carryOut_at _ _ _ j _ _ (segs m c t a b d ha hb hd j), hc]
  exact run_block m c t a b d ha hb hd j 384 (le_refl _)

theorem stored_after (r : Fin 384) (j : Fin 640) :
    (View.whole cc0_scratch4).readCov (Val := Elt Ideal)
      (pieces (k0_pay22 (Xk m c t a b d) rows k0_pay15) (k0_pay23 (Xk m c t a b d) (Yk m c t a b d) rows k0_pay15) cc)
      (Rect.unit (s := S384x640) ![0, 0] S384x640.size inb_S384x640_S384x640_0_0).toLoadRect (ix2 r j)
      = state m c t j (t.val % 11 * 384 + (r.val + 1)) := by
  rw [stored _ _ _ j _ _ (segs m c t a b d ha hb hd j), hc]
  exact run_block m c t a b d ha hb hd j (r.val + 1) (by omega)

end

/-- The carry at a batch's first point is zero. -/
theorem zero_carry (c : Dev nD) (t : Fin cfg0.N) (h0 : t.val % 11 = 0) (j : Fin 640) : k0_pay3 (F := Ideal) (ix2 0 j) = state m c t j (t.val % 11 * 384) := by
  rw [h0]
  show _ = (0 : EReal)
  pointwise [k0_pay3]

/-- The carry after a point, in the first case: -/
theorem carry_first (c : Dev nD) (t : Fin cfg0.N) (h0 : t.val % 11 = 0) (j : Fin 640) :
    (outsAt0 m c t.val t.isLt).2.2 (ix2 0 j) = state m c t j (t.val % 11 * 384 + 384) := by
  rw [outsAt0_A m c t h0]
  frame_out
  exact carry_after m c t _ _ _ (load_first m c t h0 1 (by omega) inb_S392x640_S384x640_7_0) (load_first m c t h0 2 (by omega) inb_S392x640_S384x640_6_0)
    (load_first m c t h0 3 (by omega) inb_S392x640_S384x640_5_0) _ (zero_carry m c t h0) j

/-- A point's state and the one before it, later in the batch. -/
theorem state_before (c : Dev nD) (t : Fin cfg0.N) (h0 : ¬ t.val % 11 = 0) (j : Fin 640) (h : t.val - 1 < cfg0.N) :
    state m c ⟨t.val - 1, h⟩ j ((t.val - 1) % 11 * 384 + 384) = state m c t j (t.val % 11 * 384) := by
  have e1 : (t.val - 1) % 11 * 384 + 384 = t.val % 11 * 384 := by omega
  have e2 : batch ⟨t.val - 1, h⟩ = batch t := Fin.ext (by show (t.val - 1) / 44 = t.val / 44; omega)
  have e3 : wide ⟨t.val - 1, h⟩ j = wide t j := Fin.ext (by show (t.val - 1) / 11 % 4 * 640 + j.val = t.val / 11 % 4 * 640 + j.val; omega)
  unfold state
  rw [e1, e2, e3]

/-- and in the second. -/
theorem carry_next (c : Dev nD) (t : Fin cfg0.N) (h0 : ¬ t.val % 11 = 0)
    (ih : ∀ (j : Fin 640) (h : t.val - 1 < cfg0.N), (outsAt0 m c (t.val - 1) h).2.2 (ix2 0 j) = state m c ⟨t.val - 1, h⟩ j ((t.val - 1) % 11 * 384 + 384)) (j : Fin 640) :
    (outsAt0 m c t.val t.isLt).2.2 (ix2 0 j) = state m c t j (t.val % 11 * 384 + 384) := by
  rw [outsAt0_B m c t h0]
  frame_out
  exact carry_after m c t _ _ _
    (load_later m c t h0 1 (by omega) inb_S392x640_S384x640_7_0 _ ((Memref.isWhole_whole _).read_unread _))
    (load_later m c t h0 2 (by omega) inb_S392x640_S384x640_6_0 _ ((Memref.isWhole_whole _).read_unread _))
    (load_later m c t h0 3 (by omega) inb_S392x640_S384x640_5_0 _ ((Memref.isWhole_whole _).read_unread _)) _
    (fun j => (congrFun ((Memref.isWhole_whole _).read_unread _) _).trans ((ih j _).trans (state_before m c t h0 j _))) j

/-- The carry after every point. -/
theorem carry (c : Dev nD) : ∀ (n : ℕ) (h : n < cfg0.N) (j : Fin 640), (outsAt0 m c n h).2.2 (ix2 0 j) = state m c ⟨n, h⟩ j (n % 11 * 384 + 384) := by
  intro n
  induction n with
  | zero => exact fun h j => carry_first m c ⟨0, h⟩ (Nat.zero_mod _) j
  | succ n ih =>
    intro h j
    by_cases h0 : (n + 1) % 11 = 0
    · exact carry_first m c ⟨n + 1, h⟩ h0 j
    · exact carry_next m c ⟨n + 1, h⟩ h0 (fun j h' => ih h' j) j

theorem gelu_eq (y : EReal) : gelu y = y * (Ideal.ofBits FTy.f32 0x3F000000#32 * (1 + Ideal.tanh (Ideal.ofBits FTy.f32 0x3F4C422A#32 * (y + Ideal.ofBits FTy.f32 0x3D372713#32 * (y * (y * y)))))) := by
  unfold gelu
  rw [mul_assoc y y y]

/-- The gate of a stored state. -/
theorem gate_at (h y : FVec Ideal S384x640 .f32) (r : Fin 384) (j : Fin 640) :
    (k0_pay1 h y (k0_pay131 y) k0_pay132 : FVec Ideal S384x640 .bf16) (ix2 r j) = (h (ix2 r j) * gelu (y (ix2 r j)) : EReal) := by
  rw [gelu_eq]
  pointwise [k0_pay1, k0_pay131, k0_pay132]

/-- What a point writes back: the states of its rows, gated. -/
theorem point_at (c : Dev nD) (t : Fin cfg0.N) (r : Fin 384) (j : Fin 640) :
    (outsAt0 m c t.val t.isLt).1 (ix2 r j) = state m c t j (t.val % 11 * 384 + (r.val + 1)) * gelu (iblk m c 1 t (ix2 r j)) := by
  by_cases h0 : t.val % 11 = 0
  · rw [outsAt0_A m c t h0]
    frame_out
    refine (gate_at _ (iblk m c 1 t) r j).trans (congrArg (fun z : EReal => z * gelu (iblk m c 1 t (ix2 r j))) ?_)
    exact stored_after m c t _ _ _ (load_first m c t h0 1 (by omega) inb_S392x640_S384x640_7_0) (load_first m c t h0 2 (by omega) inb_S392x640_S384x640_6_0)
      (load_first m c t h0 3 (by omega) inb_S392x640_S384x640_5_0) _ (zero_carry m c t h0) r j
  · rw [outsAt0_B m c t h0]
    frame_out
    refine (gate_at _ (iblk m c 1 t) r j).trans (congrArg (fun z : EReal => z * gelu (iblk m c 1 t (ix2 r j))) ?_)
    exact stored_after m c t _ _ _
      (load_later m c t h0 1 (by omega) inb_S392x640_S384x640_7_0 _ ((Memref.isWhole_whole _).read_unread _))
      (load_later m c t h0 2 (by omega) inb_S392x640_S384x640_6_0 _ ((Memref.isWhole_whole _).read_unread _))
      (load_later m c t h0 3 (by omega) inb_S392x640_S384x640_5_0 _ ((Memref.isWhole_whole _).read_unread _)) _
      (fun j => (congrFun ((Memref.isWhole_whole _).read_unread _) _).trans ((carry m c _ _ j).trans (state_before m c t h0 j _))) r j

/-- The result as one array over the launch's arguments. -/
def Res (c : Dev nD) : FVec Ideal S16896x2560 .bf16 := fun y =>
  run (col (Da m c) ⟨(y 0).val / 4224, by have : (y 0).val < 16896 := (y 0).isLt; omega⟩ (y 1)) (col (Dx m c) ⟨(y 0).val / 4224, by have : (y 0).val < 16896 := (y 0).isLt; omega⟩ (y 1)) 0 0 ((y 0).val % 4224 + 1)
    * gelu (inp0 m c (ix2 (y 0) ⟨2560 + (y 1).val, by have : (y 1).val < 2560 := (y 1).isLt; omega⟩))

theorem res_at (c : Dev nD) (R : Fin 16896) (q : Fin 2560) : Res m c (ix2 R q)
    = run (col (Da m c) ⟨R.val / 4224, by omega⟩ q) (col (Dx m c) ⟨R.val / 4224, by omega⟩ q) 0 0 (R.val % 4224 + 1)
      * gelu (inp0 m c (ix2 R ⟨2560 + q.val, by omega⟩)) := rfl

/-- The array after the run. -/
theorem final (c : Dev nD) : (dats m 0 c).arrAt 4 (cfgs 0).N = Res m c := by
  refine (dats m 0 c).arrAt_eq_of_covers 4 _ (by decide +kernel) fun t _ y => ?_
  blk_simp
  rw [after0_4]
  obtain ⟨r, j, rfl⟩ : ∃ (r : Fin 384) (j : Fin 640), y = ix2 r j := ⟨_, _, eq_ix2 y⟩
  refine (point_at m c t r j).trans ?_
  have e : (((cfg0.win 4).blk t).view.emb (ix2 r j)) = (ix2 (row t r) (wide t j) : S16896x2560.Idx) := by
    funext a; apply Fin.ext
    fin_cases a
    · blk_simp [idx t]
      rfl
    · blk_simp [idx t]
      rfl
  rw [y_at]
  refine Eq.trans ?_ (congrArg (Res m c) e).symm
  rw [res_at]
  have hr := r.isLt
  have e1 : ((t.val / 44 * 11 + t.val % 11) * 384 + r.val) / 4224 = t.val / 44 := by omega
  have e2 : ((t.val / 44 * 11 + t.val % 11) * 384 + r.val) % 4224 + 1 = t.val % 11 * 384 + (r.val + 1) := by omega
  simp only [e1, e2]
  rfl

end Cert.LruIdeal.Proof

end
-- ==== Proof.LruClaim.lean ====
/-
  The recurrence's reference leaves the array the kernel leaves.
-/
module

public import proofs.«01_k».proof.Proof.LruPoint

@[expose] public section

set_option maxRecDepth 16384

noncomputable section

open Idealize.ShloMosaic Idealize.ShloMosaic.TcCoe Idealize.SL.Sem Idealize.ShloMosaic.StableHlo

namespace Cert.LruIdeal.Proof

open Cert.LruMath Cert.LruRefIdeal.Proof

/-- On equal arguments the reference's result is the kernel's array. -/
theorem ref_final (m : (ℓ : Loc Cert.LruIdeal.nD Cert.LruIdeal.τ Cert.LruIdeal.sig) → Buf (Elt Ideal) ℓ)
    (m' : (ℓ : Loc Cert.LruRefIdeal.nD Cert.LruRefIdeal.τ Cert.LruRefIdeal.sig) → Buf (Elt Ideal) ℓ) (c : Dev Cert.LruIdeal.nD)
    (h0 : m' ((c : Thread Cert.LruRefIdeal.nD Cert.LruRefIdeal.τ).loc Cert.LruRefIdeal.main_arg0) = inp0 m c)
    (h1 : m' ((c : Thread Cert.LruRefIdeal.nD Cert.LruRefIdeal.τ).loc Cert.LruRefIdeal.main_arg1) = inp1 m c)
    (h2 : m' ((c : Thread Cert.LruRefIdeal.nD Cert.LruRefIdeal.τ).loc Cert.LruRefIdeal.main_arg2) = inp2 m c)
    (h3 : m' ((c : Thread Cert.LruRefIdeal.nD Cert.LruRefIdeal.τ).loc Cert.LruRefIdeal.main_arg3) = inp3 m c)
    (h4 : m' ((c : Thread Cert.LruRefIdeal.nD Cert.LruRefIdeal.τ).loc Cert.LruRefIdeal.main_arg4) = inp4 m c)
    (h5 : m' ((c : Thread Cert.LruRefIdeal.nD Cert.LruRefIdeal.τ).loc Cert.LruRefIdeal.main_arg5) = inp5 m c)
    (h6 : m' ((c : Thread Cert.LruRefIdeal.nD Cert.LruRefIdeal.τ).loc Cert.LruRefIdeal.main_arg6) = inp6 m c)
    (h7 : m' ((c : Thread Cert.LruRefIdeal.nD Cert.LruRefIdeal.τ).loc Cert.LruRefIdeal.main_arg7) = inp7 m c) :
    (Cert.LruRefIdeal.Value.out_main_v111 (F := Ideal) (Cert.LruRefIdeal.Value.STEP^[4224] (entryContents Cert.LruRefIdeal.Value.preI m' c)) : FVec Ideal Cert.LruRefIdeal.S16896x2560 .bf16) = Res m c := by
  funext y
  obtain ⟨R, q, rfl⟩ : ∃ (R : Fin 16896) (q : Fin 2560), y = ix2 R q := ⟨_, _, eq_ix2 y⟩
  have r := result_at m' c ⟨R.val / 4224, by omega⟩ ⟨R.val % 4224, Nat.mod_lt _ (by omega)⟩ q
  have e : (⟨R.val / 4224 * 4224 + R.val % 4224, by omega⟩ : Fin 16896) = R := Fin.ext (by show R.val / 4224 * 4224 + R.val % 4224 = R.val; omega)
  simp only [e] at r
  rw [h0] at r
  refine r.trans ?_
  rw [res_at]
  have ed : DecayOf m' c = Da m c := by
    unfold DecayOf
    rw [h0, h1, h2, h3, h4, h5, h6, h7]
  have ex : DriveOf m' c = Dx m c := by
    unfold DriveOf
    rw [h0, h1, h2, h3, h4, h5, h6, h7]
  rw [ed, ex]

end Cert.LruIdeal.Proof

end
-- ==== Proof.BranchMix.lean ====
/-
  The branch mix: each branch times its weights, gated, the two added. One grid point holds a 1056 × 512 block.
-/
module

public import proofs.«01_k».proof.Proof.Gen.MixIdeal.Frame
public import proofs.«01_k».proof.Proof.Gen.MixRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIdeal.Proof

open Cert.MixIdeal Cert.MixIdeal.Gen

variable (m : (ℓ : Loc nD τ sig) → Buf (Elt Ideal) ℓ)

/-- The reference's result as a term over the arguments. -/
abbrev Ref (x0 : FVec Ideal S16896x2048 .bf16) (x1 : FVec Ideal S16896x2560 .bf16) (x2 : FVec Ideal S4x2048x2048 .f32) (x3 : FVec Ideal S4x2560x2048 .f32) (x4 : FVec Ideal S16896x4096 .f32) : FVec Ideal S16896x2048 .bf16 :=
  Cert.MixRefIdeal.Read.val_main_v13 (F := Ideal) x0 x1 x2 x3 x4

/-- The block each window shows at each grid point. -/
theorem idx : ∀ t : Fin cfg0.N, win0_0.index t = ![1, 0, t.val % 4]
    ∧ win0_1.index t = ![t.val / 4, 0]
    ∧ win0_2.index t = ![t.val / 4, 0]
    ∧ win0_3.index t = ![1, 0, t.val % 4]
    ∧ win0_4.index t = ![t.val / 4, t.val % 4]
    ∧ win0_5.index t = ![t.val / 4, 4 + t.val % 4]
    ∧ win0_6.index t = ![t.val / 4, t.val % 4] :=
  (by decide +kernel : ∀ t : Fin grid0.N, _)

open Cert.MixRefIdeal.Read in
/-- One element of the block a grid point writes is the reference's element there. -/
theorem point (c : Dev nD) (t : Fin cfg0.N) (y) : k0_pay1 (iblk m c 1 t) (iblk m c 0 t) (iblk m c 2 t) (iblk m c 3 t) (iblk m c 4 t) (iblk m c 5 t) y
    = Ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, Ref, val_main_v0, val_main_v1, val_main_v2, val_main_v3, val_main_v4, val_main_v5, val_main_v6,
    val_main_v7, val_main_v8, val_main_v9, val_main_v10, val_main_v11, val_main_v12, val_main_v13]
  blk_point [iblk, V, idx t]

/-- The array after the run is the reference's. -/
theorem final (c : Dev nD) : (dats m 0 c).arrAt 6 (cfgs 0).N
    = Ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MixIdeal.Proof

end
-- ==== Proof.OutProj.lean ====
/-
  The output projection: the hidden state plus the mixed branches times the output weights. One grid point holds a
  1056 × 512 block.
-/
module

public import proofs.«01_k».proof.Proof.Gen.OutIdeal.Frame
public import proofs.«01_k».proof.Proof.Gen.OutRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutIdeal.Proof

open Cert.OutIdeal Cert.OutIdeal.Gen

variable (m : (ℓ : Loc nD τ sig) → Buf (Elt Ideal) ℓ)

/-- The reference's result as a term over the arguments. -/
abbrev Ref (x0 : FVec Ideal S16896x2048 .bf16) (x1 : FVec Ideal S4x2048x2048 .f32) (x2 : FVec Ideal S16896x2048 .f32) : FVec Ideal S16896x2048 .f32 :=
  Cert.OutRefIdeal.Read.val_main_v4 (F := Ideal) x0 x1 x2

/-- The block each window shows at each grid point. -/
theorem idx : ∀ t : Fin cfg0.N, win0_0.index t = ![t.val / 4, 0]
    ∧ win0_1.index t = ![1, 0, t.val % 4]
    ∧ win0_2.index t = ![t.val / 4, t.val % 4]
    ∧ win0_3.index t = ![t.val / 4, t.val % 4] :=
  (by decide +kernel : ∀ t : Fin grid0.N, _)

open Cert.OutRefIdeal.Read in
/-- One element of the block a grid point writes is the reference's element there. -/
theorem point (c : Dev nD) (t : Fin cfg0.N) (y) : k0_pay1 (iblk m c 2 t) (iblk m c 0 t) (iblk m c 1 t) y
    = Ref (m ((c : Thread nD τ).loc main_arg0)) (m ((c : Thread nD τ).loc main_arg1)) (m ((c : Thread nD τ).loc main_arg2)) (((cfg0.win 3).blk t).view.emb y) := by
  pointwise [k0_pay1, Ref, val_main_v0, val_main_v1, val_main_v2, val_main_v3, val_main_v4]
  blk_point [iblk, V, idx t]

/-- The array after the run is the reference's. -/
theorem final (c : Dev nD) : (dats m 0 c).arrAt 3 (cfgs 0).N
    = Ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OutIdeal.Proof

end
-- ==== Proof.FinalNorm.lean ====
/-
  The final normalization: every row of the hidden state divided by its root mean square, times the gain. One grid point
  normalizes 1056 whole rows.
-/
module

public import proofs.«01_k».proof.Proof.Gen.FinalIdeal.Frame
public import proofs.«01_k».proof.Proof.Gen.FinalRefIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FinalIdeal.Proof

open Cert.FinalIdeal Cert.FinalIdeal.Gen

variable (m : (ℓ : Loc nD τ sig) → Buf (Elt Ideal) ℓ)

/-- The reference's result as a term over the hidden state and the gain. -/
abbrev Ref (x0 : FVec Ideal S16896x2048 .f32) (x1 : FVec Ideal S2048 .f32) : FVec Ideal S16896x2048 .f32 :=
  Cert.FinalRefIdeal.Read.val_main_v12 (F := Ideal) x0 x1

/-- The block each window shows at each grid point. -/
theorem idx : ∀ t : Fin cfg0.N, win0_0.index t = ![t.val, 0] ∧ win0_1.index t = ![0, 0] ∧ win0_2.index t = ![t.val, 0] :=
  (by decide +kernel : ∀ t : Fin grid0.N, _)

open Cert.FinalRefIdeal.Read in
/-- One element of the block a grid point writes is the reference's element there. -/
theorem point (c : Dev nD) (t : Fin cfg0.N) (y) : k0_pay1 (iblk m c 0 t) (iblk m c 1 t) y
    = Ref (m ((c : Thread nD τ).loc main_arg0)) (m ((c : Thread nD τ).loc main_arg1)) (((cfg0.win 2).blk t).view.emb y) := by
  pointwise [k0_pay1, Ref, val_main_v0, val_main_v1, val_main_v2, val_main_v3, val_main_v4, val_main_v5, val_main_v6,
    val_main_v7, val_main_v8, val_main_v9, val_main_v10, val_main_v11, val_main_v12, val_main_cst, val_main_cst_0,
    val_main_cst_1]
  blk_point [iblk, V, idx t]

/-- The array after the run is the reference's. -/
theorem final (c : Dev nD) : (dats m 0 c).arrAt 2 (cfgs 0).N
    = Ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalIdeal.Proof

end
-- ==== Proof.Claims.lean ====
/-
  The value claims of the calls: each kernel's run leaves the array its value module computes, and the reference's run
  leaves the same array; and the reference programs' frames.
-/
module

public import proofs.«01_k».proof.Defs
public import proofs.«01_k».proof.Proof.Gen.AttnIdeal.Value
public import proofs.«01_k».proof.Proof.Gen.AttnRefIdeal.Run
public import proofs.«01_k».proof.Proof.Attention
public import proofs.«01_k».proof.Proof.Gen.FfnIdeal.Value
public import proofs.«01_k».proof.Proof.Gen.FfnRefIdeal.Run
public import proofs.«01_k».proof.Proof.FeedForward
public import proofs.«01_k».proof.Proof.Gen.QkIdeal.Value
public import proofs.«01_k».proof.Proof.Gen.QkRefIdeal.Run
public import proofs.«01_k».proof.Proof.QkProj
public import proofs.«01_k».proof.Proof.Gen.VIdeal.Value
public import proofs.«01_k».proof.Proof.Gen.VRefIdeal.Run
public import proofs.«01_k».proof.Proof.ValueProj
public import proofs.«01_k».proof.Proof.Gen.LruinIdeal.Value
public import proofs.«01_k».proof.Proof.Gen.LruinRefIdeal.Run
public import proofs.«01_k».proof.Proof.LruInProj
public import proofs.«01_k».proof.Proof.Gen.GateIdeal.Value
public import proofs.«01_k».proof.Proof.Gen.GateRefIdeal.Run
public import proofs.«01_k».proof.Proof.GateProj
public import proofs.«01_k».proof.Proof.Gen.LruIdeal.Value
public import proofs.«01_k».proof.Proof.Gen.LruRefIdeal.Run
public import proofs.«01_k».proof.Proof.LruClaim
public import proofs.«01_k».proof.Proof.Gen.MixIdeal.Value
public import proofs.«01_k».proof.Proof.Gen.MixRefIdeal.Run
public import proofs.«01_k».proof.Proof.BranchMix
public import proofs.«01_k».proof.Proof.Gen.OutIdeal.Value
public import proofs.«01_k».proof.Proof.Gen.OutRefIdeal.Run
public import proofs.«01_k».proof.Proof.OutProj
public import proofs.«01_k».proof.Proof.Gen.FinalIdeal.Value
public import proofs.«01_k».proof.Proof.Gen.FinalRefIdeal.Run
public import proofs.«01_k».proof.Proof.FinalNorm
public import Idealize.ShloMosaic.Lib.Claim

@[expose] public section

set_option maxRecDepth 16384

noncomputable section

open Idealize.ShloMosaic Idealize.ShloMosaic.TcCoe Idealize.SL.Sem

namespace Cert.Claims

/-- The value claim of the feed-forward call: kernel and reference leave equal arrays. -/
theorem Ffn_algebraic : Cert.algebraic_FfnIdeal_FfnRefIdeal := by
  pair_intro
  · run_from Cert.FfnIdeal.Gen.run_main m g
  · run_from Cert.FfnRefIdeal.Value.run m' g'
    exact (Cert.FfnIdeal.Proof.final m c).symm

/-- The reference of the feed-forward call runs and leaves its arguments unchanged. -/
theorem Ffn_ref_frame : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The value claim of the queries' and keys' projection: kernel and reference leave equal arrays. -/
theorem Qk_algebraic : Cert.algebraic_QkIdeal_QkRefIdeal := by
  pair_intro
  · run_from Cert.QkIdeal.Gen.run_main m g
  · run_from Cert.QkRefIdeal.Value.run m' g'
    refine (Cert.QkRefIdeal.Read.val_main_v77_eq m' c).trans ?_
    rw [(hagree c).1, (hagree c).2.1, (hagree c).2.2]
    exact (Cert.QkIdeal.Proof.final m c).symm

/-- The reference of the queries' and keys' projection runs and leaves its arguments unchanged. -/
theorem Qk_ref_frame : Cert.quiescent_QkRefIdeal := fun m g _ =>
  (θ_run Cert.QkRefIdeal.defs _ _).mono (fun r h => ⟨fun c => (h c).2, sem_eq_zero_of_no_sems (by decide) r.2⟩)
    (Cert.QkRefIdeal.Value.run (F := Ideal) m g)

/-- The value claim of the values' projection: kernel and reference leave equal arrays. -/
theorem V_algebraic : Cert.algebraic_VIdeal_VRefIdeal := by
  pair_intro
  · run_from Cert.VIdeal.Gen.run_main m g
  · run_from Cert.VRefIdeal.Value.run m' g'
    exact (Cert.VIdeal.Proof.final m c).symm

/-- The reference of the values' projection runs and leaves its arguments unchanged. -/
theorem V_ref_frame : Cert.quiescent_VRefIdeal := fun m g _ =>
  (θ_run Cert.VRefIdeal.defs _ _).mono (fun r h => ⟨fun c => (h c).2, sem_eq_zero_of_no_sems (by decide) r.2⟩)
    (Cert.VRefIdeal.Value.run (F := Ideal) m g)

/-- The value claim of the recurrence inputs' projection: kernel and reference leave equal arrays. -/
theorem Lruin_algebraic : Cert.algebraic_LruinIdeal_LruinRefIdeal := by
  pair_intro
  · run_from Cert.LruinIdeal.Gen.run_main m g
  · run_from Cert.LruinRefIdeal.Value.run m' g'
    exact (Cert.LruinIdeal.Proof.final m c).symm

/-- The reference of the recurrence inputs' projection runs and leaves its arguments unchanged. -/
theorem Lruin_ref_frame : Cert.quiescent_LruinRefIdeal := fun m g _ =>
  (θ_run Cert.LruinRefIdeal.defs _ _).mono (fun r h => ⟨fun c => (h c).2, sem_eq_zero_of_no_sems (by decide) r.2⟩)
    (Cert.LruinRefIdeal.Value.run (F := Ideal) m g)

/-- The value claim of the branch gates' projection: kernel and reference leave equal arrays. -/
theorem Gate_algebraic : Cert.algebraic_GateIdeal_GateRefIdeal := by
  pair_intro
  · run_from Cert.GateIdeal.Gen.run_main m g
  · run_from Cert.GateRefIdeal.Value.run m' g'
    exact (Cert.GateIdeal.Proof.final m c).symm

/-- The reference of the branch gates' projection runs and leaves its arguments unchanged. -/
theorem Gate_ref_frame : Cert.quiescent_GateRefIdeal := fun m g _ =>
  (θ_run Cert.GateRefIdeal.defs _ _).mono (fun r h => ⟨fun c => (h c).2, sem_eq_zero_of_no_sems (by decide) r.2⟩)
    (Cert.GateRefIdeal.Value.run (F := Ideal) m g)

/-- The value claim of the recurrence: kernel and reference leave equal arrays. -/
theorem Lru_algebraic : Cert.algebraic_LruIdeal_LruRefIdeal := by
  pair_intro
  · run_from Cert.LruIdeal.Gen.run_main m g
  · have e := fun c => (Cert.LruIdeal.Proof.ref_final m m' c (hagree c).1 (hagree c).2.1 (hagree c).2.2.1 (hagree c).2.2.2.1 (hagree c).2.2.2.2.1
      (hagree c).2.2.2.2.2.1 (hagree c).2.2.2.2.2.2.1 (hagree c).2.2.2.2.2.2.2).trans (Cert.LruIdeal.Proof.final m c).symm
    refine (θ_run Cert.LruRefIdeal.defs _ _).mono (fun r h c => ⟨(h c).1.trans ?_, (h c).2⟩) (Cert.LruRefIdeal.Value.run (F := Ideal) m' g')
    exact e c

/-- The reference of the recurrence runs and leaves its arguments unchanged. -/
theorem Lru_ref_frame : Cert.quiescent_LruRefIdeal := fun m g _ =>
  (θ_run Cert.LruRefIdeal.defs _ _).mono (fun r h => ⟨fun c => (h c).2, sem_eq_zero_of_no_sems (by decide) r.2⟩)
    (Cert.LruRefIdeal.Value.run (F := Ideal) m g)

/-- The value claim of the branch mix: kernel and reference leave equal arrays. -/
theorem Mix_algebraic : Cert.algebraic_MixIdeal_MixRefIdeal := by
  pair_intro
  · run_from Cert.MixIdeal.Gen.run_main m g
  · run_from Cert.MixRefIdeal.Value.run m' g'
    exact (Cert.MixIdeal.Proof.final m c).symm

/-- The reference of the branch mix runs and leaves its arguments unchanged. -/
theorem Mix_ref_frame : Cert.quiescent_MixRefIdeal := fun m g _ =>
  (θ_run Cert.MixRefIdeal.defs _ _).mono (fun r h => ⟨fun c => (h c).2, sem_eq_zero_of_no_sems (by decide) r.2⟩)
    (Cert.MixRefIdeal.Value.run (F := Ideal) m g)

/-- The value claim of the output projection: kernel and reference leave equal arrays. -/
theorem Out_algebraic : Cert.algebraic_OutIdeal_OutRefIdeal := by
  pair_intro
  · run_from Cert.OutIdeal.Gen.run_main m g
  · run_from Cert.OutRefIdeal.Value.run m' g'
    exact (Cert.OutIdeal.Proof.final m c).symm

/-- The reference of the output projection runs and leaves its arguments unchanged. -/
theorem Out_ref_frame : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

/-- The value claim of the final normalization: kernel and reference leave equal arrays. -/
theorem Final_algebraic : Cert.algebraic_FinalIdeal_FinalRefIdeal := by
  pair_intro
  · run_from Cert.FinalIdeal.Gen.run_main m g
  · run_from Cert.FinalRefIdeal.Value.run m' g'
    exact (Cert.FinalIdeal.Proof.final m c).symm

/-- The reference of the final normalization runs and leaves its arguments unchanged. -/
theorem Final_ref_frame : Cert.quiescent_FinalRefIdeal := fun m g _ =>
  (θ_run Cert.FinalRefIdeal.defs _ _).mono (fun r h => ⟨fun c => (h c).2, sem_eq_zero_of_no_sems (by decide) r.2⟩)
    (Cert.FinalRefIdeal.Value.run (F := Ideal) m g)

end Cert.Claims

end
-- ==== Proof.lean ====
/-
  The certificate: the facts of every program, every program's frame, and the calls' value claims.
-/
module

public import proofs.«01_k».proof.Defs
public import proofs.«01_k».proof.Proof.Gen.Attn.Frame
public import proofs.«01_k».proof.Proof.Gen.AttnIdeal.Frame
public import proofs.«01_k».proof.Proof.Gen.AttnRefIdeal
public import proofs.«01_k».proof.Proof.Gen.Ffn.Frame
public import proofs.«01_k».proof.Proof.Gen.FfnIdeal.Frame
public import proofs.«01_k».proof.Proof.Gen.FfnRefIdeal
public import proofs.«01_k».proof.Proof.Gen.Qk.Frame
public import proofs.«01_k».proof.Proof.Gen.QkIdeal.Frame
public import proofs.«01_k».proof.Proof.Gen.QkRefIdeal
public import proofs.«01_k».proof.Proof.Gen.V.Frame
public import proofs.«01_k».proof.Proof.Gen.VIdeal.Frame
public import proofs.«01_k».proof.Proof.Gen.VRefIdeal
public import proofs.«01_k».proof.Proof.Gen.Lruin.Frame
public import proofs.«01_k».proof.Proof.Gen.LruinIdeal.Frame
public import proofs.«01_k».proof.Proof.Gen.LruinRefIdeal
public import proofs.«01_k».proof.Proof.Gen.Gate.Frame
public import proofs.«01_k».proof.Proof.Gen.GateIdeal.Frame
public import proofs.«01_k».proof.Proof.Gen.GateRefIdeal
public import proofs.«01_k».proof.Proof.Gen.Lru.Frame
public import proofs.«01_k».proof.Proof.Gen.LruIdeal.Frame
public import proofs.«01_k».proof.Proof.Gen.LruRefIdeal
public import proofs.«01_k».proof.Proof.Gen.Mix.Frame
public import proofs.«01_k».proof.Proof.Gen.MixIdeal.Frame
public import proofs.«01_k».proof.Proof.Gen.MixRefIdeal
public import proofs.«01_k».proof.Proof.Gen.Out.Frame
public import proofs.«01_k».proof.Proof.Gen.OutIdeal.Frame
public import proofs.«01_k».proof.Proof.Gen.OutRefIdeal
public import proofs.«01_k».proof.Proof.Gen.Final.Frame
public import proofs.«01_k».proof.Proof.Gen.FinalIdeal.Frame
public import proofs.«01_k».proof.Proof.Gen.FinalRefIdeal
public import proofs.«01_k».proof.Proof.Gen.Pre_finite_operands
public import proofs.«01_k».proof.Proof.AttentionClaim
public import proofs.«01_k».proof.Proof.Claims

@[expose] public section

noncomputable section

namespace Cert.Proof

open Idealize.ShloMosaic Idealize.SL.Sem

/-- The calls' frames and value claims, in the statement's order. -/
theorem claim : Cert.Claim :=
  ⟨Cert.Attn.Gen.facts, Cert.AttnIdeal.Gen.facts, Cert.AttnRefIdeal.Gen.facts, Cert.Ffn.Gen.facts,
    Cert.FfnIdeal.Gen.facts, Cert.FfnRefIdeal.Gen.facts, Cert.Qk.Gen.facts, Cert.QkIdeal.Gen.facts,
    Cert.QkRefIdeal.Gen.facts, Cert.V.Gen.facts, Cert.VIdeal.Gen.facts, Cert.VRefIdeal.Gen.facts,
    Cert.Lruin.Gen.facts, Cert.LruinIdeal.Gen.facts, Cert.LruinRefIdeal.Gen.facts, Cert.Gate.Gen.facts,
    Cert.GateIdeal.Gen.facts, Cert.GateRefIdeal.Gen.facts, Cert.Lru.Gen.facts, Cert.LruIdeal.Gen.facts,
    Cert.LruRefIdeal.Gen.facts, Cert.Mix.Gen.facts, Cert.MixIdeal.Gen.facts, Cert.MixRefIdeal.Gen.facts,
    Cert.Out.Gen.facts, Cert.OutIdeal.Gen.facts, Cert.OutRefIdeal.Gen.facts, Cert.Final.Gen.facts,
    Cert.FinalIdeal.Gen.facts, Cert.FinalRefIdeal.Gen.facts, Cert.Pre_finite_operands.Gen.facts,
    fun m g _ => Cert.Attn.Gen.frame m g,
    fun m g _ => Cert.AttnIdeal.Gen.frame m g,
    fun m g _ => Cert.AttnIdeal.Gen.frame m g,
    Cert.Claims.Attn_ref_frame,
    fun m g _ => Cert.Claims.Attn_ref_frame m g trivial,
    fun m g _ => Cert.Ffn.Gen.frame m g,
    fun m g _ => Cert.FfnIdeal.Gen.frame m g,
    Cert.Claims.Ffn_ref_frame,
    fun m g _ => Cert.Qk.Gen.frame m g,
    fun m g _ => Cert.QkIdeal.Gen.frame m g,
    Cert.Claims.Qk_ref_frame,
    fun m g _ => Cert.V.Gen.frame m g,
    fun m g _ => Cert.VIdeal.Gen.frame m g,
    Cert.Claims.V_ref_frame,
    fun m g _ => Cert.Lruin.Gen.frame m g,
    fun m g _ => Cert.LruinIdeal.Gen.frame m g,
    Cert.Claims.Lruin_ref_frame,
    fun m g _ => Cert.Gate.Gen.frame m g,
    fun m g _ => Cert.GateIdeal.Gen.frame m g,
    Cert.Claims.Gate_ref_frame,
    fun m g _ => Cert.Lru.Gen.frame m g,
    fun m g _ => Cert.LruIdeal.Gen.frame m g,
    Cert.Claims.Lru_ref_frame,
    fun m g _ => Cert.Mix.Gen.frame m g,
    fun m g _ => Cert.MixIdeal.Gen.frame m g,
    Cert.Claims.Mix_ref_frame,
    fun m g _ => Cert.Out.Gen.frame m g,
    fun m g _ => Cert.OutIdeal.Gen.frame m g,
    Cert.Claims.Out_ref_frame,
    fun m g _ => Cert.Final.Gen.frame m g,
    fun m g _ => Cert.FinalIdeal.Gen.frame m g,
    Cert.Claims.Final_ref_frame,
    Cert.Claims.Attn_preserves,
    Cert.Claims.Attn_algebraic,
    trivial,
    Cert.Claims.Ffn_algebraic,
    trivial,
    Cert.Claims.Qk_algebraic,
    trivial,
    Cert.Claims.V_algebraic,
    trivial,
    Cert.Claims.Lruin_algebraic,
    trivial,
    Cert.Claims.Gate_algebraic,
    trivial,
    Cert.Claims.Lru_algebraic,
    trivial,
    Cert.Claims.Mix_algebraic,
    trivial,
    Cert.Claims.Out_algebraic,
    trivial,
    Cert.Claims.Final_algebraic⟩

end Cert.Proof

end
